-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))) = (fun _ => 1#1)

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_norm_finite [hPre_norm_finite : Cert.Pre_norm_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_norm_finite [hPre_norm_finite : Cert.Pre_norm_finite.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_norm_finite.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2))) = (fun _ => 1#1)

def Pre_NormGradQd (m : (ℓ : Loc Cert.NormGradQd.nD Cert.NormGradQd.τ Cert.NormGradQd.sig) → Buf (Elt Bits) ℓ) : Prop :=
  True

def Pre_NormGradQdIdeal (m : (ℓ : Loc Cert.NormGradQdIdeal.nD Cert.NormGradQdIdeal.τ Cert.NormGradQdIdeal.sig) → Buf (Elt Ideal) ℓ) : Prop :=
  True

def Pre_NormGradQdIdeal_norm_qd_finite [hPre_norm_qd_finite : Cert.Pre_norm_qd_finite.Facts] (m : (ℓ : Loc Cert.NormGradQdIdeal.nD Cert.NormGradQdIdeal.τ Cert.NormGradQdIdeal.sig) → Buf (Elt Ideal) ℓ) : Prop :=
  ∀ c : Dev Cert.NormGradQdIdeal.nD,
    (Cert.Pre_norm_qd_finite.fn (F := Ideal) (m ((c.tc : Thread Cert.NormGradQdIdeal.nD Cert.NormGradQdIdeal.τ).loc Cert.NormGradQdIdeal.main_arg0)) (m ((c.tc : Thread Cert.NormGradQdIdeal.nD Cert.NormGradQdIdeal.τ).loc Cert.NormGradQdIdeal.main_arg1)) (m ((c.tc : Thread Cert.NormGradQdIdeal.nD Cert.NormGradQdIdeal.τ).loc Cert.NormGradQdIdeal.main_arg2)) (m ((c.tc : Thread Cert.NormGradQdIdeal.nD Cert.NormGradQdIdeal.τ).loc Cert.NormGradQdIdeal.main_arg3)) (m ((c.tc : Thread Cert.NormGradQdIdeal.nD Cert.NormGradQdIdeal.τ).loc Cert.NormGradQdIdeal.main_arg4))) = (fun _ => 1#1)

def Pre_NormGradQdRefIdeal (m : (ℓ : Loc Cert.NormGradQdRefIdeal.nD Cert.NormGradQdRefIdeal.τ Cert.NormGradQdRefIdeal.sig) → Buf (Elt Ideal) ℓ) : Prop :=
  True

def Pre_NormGradQdRefIdeal_norm_qd_finite [hPre_norm_qd_finite : Cert.Pre_norm_qd_finite.Facts] (m : (ℓ : Loc Cert.NormGradQdRefIdeal.nD Cert.NormGradQdRefIdeal.τ Cert.NormGradQdRefIdeal.sig) → Buf (Elt Ideal) ℓ) : Prop :=
  ∀ c : Dev Cert.NormGradQdRefIdeal.nD,
    (Cert.Pre_norm_qd_finite.fn (F := Ideal) (m ((c.tc : Thread Cert.NormGradQdRefIdeal.nD Cert.NormGradQdRefIdeal.τ).loc Cert.NormGradQdRefIdeal.main_arg0)) (m ((c.tc : Thread Cert.NormGradQdRefIdeal.nD Cert.NormGradQdRefIdeal.τ).loc Cert.NormGradQdRefIdeal.main_arg1)) (m ((c.tc : Thread Cert.NormGradQdRefIdeal.nD Cert.NormGradQdRefIdeal.τ).loc Cert.NormGradQdRefIdeal.main_arg2)) (m ((c.tc : Thread Cert.NormGradQdRefIdeal.nD Cert.NormGradQdRefIdeal.τ).loc Cert.NormGradQdRefIdeal.main_arg3)) (m ((c.tc : Thread Cert.NormGradQdRefIdeal.nD Cert.NormGradQdRefIdeal.τ).loc Cert.NormGradQdRefIdeal.main_arg4))) = (fun _ => 1#1)

def Pre_NormGradFfn (m : (ℓ : Loc Cert.NormGradFfn.nD Cert.NormGradFfn.τ Cert.NormGradFfn.sig) → Buf (Elt Bits) ℓ) : Prop :=
  True

def Pre_NormGradFfnIdeal (m : (ℓ : Loc Cert.NormGradFfnIdeal.nD Cert.NormGradFfnIdeal.τ Cert.NormGradFfnIdeal.sig) → Buf (Elt Ideal) ℓ) : Prop :=
  True

def Pre_NormGradFfnIdeal_norm_ffn_finite [hPre_norm_ffn_finite : Cert.Pre_norm_ffn_finite.Facts] (m : (ℓ : Loc Cert.NormGradFfnIdeal.nD Cert.NormGradFfnIdeal.τ Cert.NormGradFfnIdeal.sig) → Buf (Elt Ideal) ℓ) : Prop :=
  ∀ c : Dev Cert.NormGradFfnIdeal.nD,
    (Cert.Pre_norm_ffn_finite.fn (F := Ideal) (m ((c.tc : Thread Cert.NormGradFfnIdeal.nD Cert.NormGradFfnIdeal.τ).loc Cert.NormGradFfnIdeal.main_arg0)) (m ((c.tc : Thread Cert.NormGradFfnIdeal.nD Cert.NormGradFfnIdeal.τ).loc Cert.NormGradFfnIdeal.main_arg1)) (m ((c.tc : Thread Cert.NormGradFfnIdeal.nD Cert.NormGradFfnIdeal.τ).loc Cert.NormGradFfnIdeal.main_arg2)) (m ((c.tc : Thread Cert.NormGradFfnIdeal.nD Cert.NormGradFfnIdeal.τ).loc Cert.NormGradFfnIdeal.main_arg3)) (m ((c.tc : Thread Cert.NormGradFfnIdeal.nD Cert.NormGradFfnIdeal.τ).loc Cert.NormGradFfnIdeal.main_arg4))) = (fun _ => 1#1)

def Pre_NormGradFfnRefIdeal (m : (ℓ : Loc Cert.NormGradFfnRefIdeal.nD Cert.NormGradFfnRefIdeal.τ Cert.NormGradFfnRefIdeal.sig) → Buf (Elt Ideal) ℓ) : Prop :=
  True

def Pre_NormGradFfnRefIdeal_norm_ffn_finite [hPre_norm_ffn_finite : Cert.Pre_norm_ffn_finite.Facts] (m : (ℓ : Loc Cert.NormGradFfnRefIdeal.nD Cert.NormGradFfnRefIdeal.τ Cert.NormGradFfnRefIdeal.sig) → Buf (Elt Ideal) ℓ) : Prop :=
  ∀ c : Dev Cert.NormGradFfnRefIdeal.nD,
    (Cert.Pre_norm_ffn_finite.fn (F := Ideal) (m ((c.tc : Thread Cert.NormGradFfnRefIdeal.nD Cert.NormGradFfnRefIdeal.τ).loc Cert.NormGradFfnRefIdeal.main_arg0)) (m ((c.tc : Thread Cert.NormGradFfnRefIdeal.nD Cert.NormGradFfnRefIdeal.τ).loc Cert.NormGradFfnRefIdeal.main_arg1)) (m ((c.tc : Thread Cert.NormGradFfnRefIdeal.nD Cert.NormGradFfnRefIdeal.τ).loc Cert.NormGradFfnRefIdeal.main_arg2)) (m ((c.tc : Thread Cert.NormGradFfnRefIdeal.nD Cert.NormGradFfnRefIdeal.τ).loc Cert.NormGradFfnRefIdeal.main_arg3)) (m ((c.tc : Thread Cert.NormGradFfnRefIdeal.nD Cert.NormGradFfnRefIdeal.τ).loc Cert.NormGradFfnRefIdeal.main_arg4))) = (fun _ => 1#1)

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowRefIdeal (m : (ℓ : Loc Cert.WindowRefIdeal.nD Cert.WindowRefIdeal.τ Cert.WindowRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_DwFfnOut (m : (ℓ : Loc Cert.DwFfnOut.nD Cert.DwFfnOut.τ Cert.DwFfnOut.sig) → Buf (Elt Bits) ℓ) : Prop :=
  True

def Pre_DwFfnOutIdeal (m : (ℓ : Loc Cert.DwFfnOutIdeal.nD Cert.DwFfnOutIdeal.τ Cert.DwFfnOutIdeal.sig) → Buf (Elt Ideal) ℓ) : Prop :=
  True

def Pre_DwFfnOutRefIdeal (m : (ℓ : Loc Cert.DwFfnOutRefIdeal.nD Cert.DwFfnOutRefIdeal.τ Cert.DwFfnOutRefIdeal.sig) → Buf (Elt Ideal) ℓ) : Prop :=
  True

def Pre_DwFfnIn (m : (ℓ : Loc Cert.DwFfnIn.nD Cert.DwFfnIn.τ Cert.DwFfnIn.sig) → Buf (Elt Bits) ℓ) : Prop :=
  True

def Pre_DwFfnInIdeal (m : (ℓ : Loc Cert.DwFfnInIdeal.nD Cert.DwFfnInIdeal.τ Cert.DwFfnInIdeal.sig) → Buf (Elt Ideal) ℓ) : Prop :=
  True

def Pre_DwFfnInRefIdeal (m : (ℓ : Loc Cert.DwFfnInRefIdeal.nD Cert.DwFfnInRefIdeal.τ Cert.DwFfnInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwInF (m : (ℓ : Loc Cert.DwInF.nD Cert.DwInF.τ Cert.DwInF.sig) → Buf (Elt Bits) ℓ) : Prop :=
  True

def Pre_DwInFIdeal (m : (ℓ : Loc Cert.DwInFIdeal.nD Cert.DwInFIdeal.τ Cert.DwInFIdeal.sig) → Buf (Elt Ideal) ℓ) : Prop :=
  True

def Pre_DwInFRefIdeal (m : (ℓ : Loc Cert.DwInFRefIdeal.nD Cert.DwInFRefIdeal.τ Cert.DwInFRefIdeal.sig) → Buf (Elt Ideal) ℓ) : Prop :=
  True

def Pre_DwInQs (m : (ℓ : Loc Cert.DwInQs.nD Cert.DwInQs.τ Cert.DwInQs.sig) → Buf (Elt Bits) ℓ) : Prop :=
  True

def Pre_DwInQsIdeal (m : (ℓ : Loc Cert.DwInQsIdeal.nD Cert.DwInQsIdeal.τ Cert.DwInQsIdeal.sig) → Buf (Elt Ideal) ℓ) : Prop :=
  True

def Pre_DwInQsRefIdeal (m : (ℓ : Loc Cert.DwInQsRefIdeal.nD Cert.DwInQsRefIdeal.τ Cert.DwInQsRefIdeal.sig) → Buf (Elt Ideal) ℓ) : Prop :=
  True

def Pre_DwInQd (m : (ℓ : Loc Cert.DwInQd.nD Cert.DwInQd.τ Cert.DwInQd.sig) → Buf (Elt Bits) ℓ) : Prop :=
  True

def Pre_DwInQdIdeal (m : (ℓ : Loc Cert.DwInQdIdeal.nD Cert.DwInQdIdeal.τ Cert.DwInQdIdeal.sig) → Buf (Elt Ideal) ℓ) : Prop :=
  True

def Pre_DwInQdRefIdeal (m : (ℓ : Loc Cert.DwInQdRefIdeal.nD Cert.DwInQdRefIdeal.τ Cert.DwInQdRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_DBranchWide (m : (ℓ : Loc Cert.DBranchWide.nD Cert.DBranchWide.τ Cert.DBranchWide.sig) → Buf (Elt Bits) ℓ) : Prop :=
  True

def Pre_DBranchWideIdeal (m : (ℓ : Loc Cert.DBranchWideIdeal.nD Cert.DBranchWideIdeal.τ Cert.DBranchWideIdeal.sig) → Buf (Elt Ideal) ℓ) : Prop :=
  True

def Pre_DBranchWideRefIdeal (m : (ℓ : Loc Cert.DBranchWideRefIdeal.nD Cert.DBranchWideRefIdeal.τ Cert.DBranchWideRefIdeal.sig) → Buf (Elt Ideal) ℓ) : Prop :=
  True

def Pre_DxF (m : (ℓ : Loc Cert.DxF.nD Cert.DxF.τ Cert.DxF.sig) → Buf (Elt Bits) ℓ) : Prop :=
  True

def Pre_DxFIdeal (m : (ℓ : Loc Cert.DxFIdeal.nD Cert.DxFIdeal.τ Cert.DxFIdeal.sig) → Buf (Elt Ideal) ℓ) : Prop :=
  True

def Pre_DxFRefIdeal (m : (ℓ : Loc Cert.DxFRefIdeal.nD Cert.DxFRefIdeal.τ Cert.DxFRefIdeal.sig) → Buf (Elt Ideal) ℓ) : Prop :=
  True

def Pre_DxQs (m : (ℓ : Loc Cert.DxQs.nD Cert.DxQs.τ Cert.DxQs.sig) → Buf (Elt Bits) ℓ) : Prop :=
  True

def Pre_DxQsIdeal (m : (ℓ : Loc Cert.DxQsIdeal.nD Cert.DxQsIdeal.τ Cert.DxQsIdeal.sig) → Buf (Elt Ideal) ℓ) : Prop :=
  True

def Pre_DxQsRefIdeal (m : (ℓ : Loc Cert.DxQsRefIdeal.nD Cert.DxQsRefIdeal.τ Cert.DxQsRefIdeal.sig) → Buf (Elt Ideal) ℓ) : Prop :=
  True

def Pre_DxQd (m : (ℓ : Loc Cert.DxQd.nD Cert.DxQd.τ Cert.DxQd.sig) → Buf (Elt Bits) ℓ) : Prop :=
  True

def Pre_DxQdIdeal (m : (ℓ : Loc Cert.DxQdIdeal.nD Cert.DxQdIdeal.τ Cert.DxQdIdeal.sig) → Buf (Elt Ideal) ℓ) : Prop :=
  True

def Pre_DxQdRefIdeal (m : (ℓ : Loc Cert.DxQdRefIdeal.nD Cert.DxQdRefIdeal.τ Cert.DxQdRefIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFRefIdeal (m : (ℓ : Loc Cert.ProjFRefIdeal.nD Cert.ProjFRefIdeal.τ Cert.ProjFRefIdeal.sig) → Buf (Elt Ideal) ℓ) : Prop :=
  True

def Pre_ProjQs (m : (ℓ : Loc Cert.ProjQs.nD Cert.ProjQs.τ Cert.ProjQs.sig) → Buf (Elt Bits) ℓ) : Prop :=
  True

def Pre_ProjQsIdeal (m : (ℓ : Loc Cert.ProjQsIdeal.nD Cert.ProjQsIdeal.τ Cert.ProjQsIdeal.sig) → Buf (Elt Ideal) ℓ) : Prop :=
  True

def Pre_ProjQsRefIdeal (m : (ℓ : Loc Cert.ProjQsRefIdeal.nD Cert.ProjQsRefIdeal.τ Cert.ProjQsRefIdeal.sig) → Buf (Elt Ideal) ℓ) : Prop :=
  True

def Pre_ProjQd (m : (ℓ : Loc Cert.ProjQd.nD Cert.ProjQd.τ Cert.ProjQd.sig) → Buf (Elt Bits) ℓ) : Prop :=
  True

def Pre_ProjQdIdeal (m : (ℓ : Loc Cert.ProjQdIdeal.nD Cert.ProjQdIdeal.τ Cert.ProjQdIdeal.sig) → Buf (Elt Ideal) ℓ) : Prop :=
  True

def Pre_ProjQdRefIdeal (m : (ℓ : Loc Cert.ProjQdRefIdeal.nD Cert.ProjQdRefIdeal.τ Cert.ProjQdRefIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_BranchMergeRefIdeal (m : (ℓ : Loc Cert.BranchMergeRefIdeal.nD Cert.BranchMergeRefIdeal.τ Cert.BranchMergeRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_WOutNorm (m : (ℓ : Loc Cert.WOutNorm.nD Cert.WOutNorm.τ Cert.WOutNorm.sig) → Buf (Elt Bits) ℓ) : Prop :=
  True

def Pre_WOutNormIdeal (m : (ℓ : Loc Cert.WOutNormIdeal.nD Cert.WOutNormIdeal.τ Cert.WOutNormIdeal.sig) → Buf (Elt Ideal) ℓ) : Prop :=
  True

def Pre_WOutNormRefIdeal (m : (ℓ : Loc Cert.WOutNormRefIdeal.nD Cert.WOutNormRefIdeal.τ Cert.WOutNormRefIdeal.sig) → Buf (Elt Ideal) ℓ) : Prop :=
  True

def Pre_FfnOutNorm (m : (ℓ : Loc Cert.FfnOutNorm.nD Cert.FfnOutNorm.τ Cert.FfnOutNorm.sig) → Buf (Elt Bits) ℓ) : Prop :=
  True

def Pre_FfnOutNormIdeal (m : (ℓ : Loc Cert.FfnOutNormIdeal.nD Cert.FfnOutNormIdeal.τ Cert.FfnOutNormIdeal.sig) → Buf (Elt Ideal) ℓ) : Prop :=
  True

def Pre_FfnOutNormRefIdeal (m : (ℓ : Loc Cert.FfnOutNormRefIdeal.nD Cert.FfnOutNormRefIdeal.τ Cert.FfnOutNormRefIdeal.sig) → Buf (Elt Ideal) ℓ) : Prop :=
  True

def Pre_SumWIn (m : (ℓ : Loc Cert.SumWIn.nD Cert.SumWIn.τ Cert.SumWIn.sig) → Buf (Elt Bits) ℓ) : Prop :=
  True

def Pre_SumWInIdeal (m : (ℓ : Loc Cert.SumWInIdeal.nD Cert.SumWInIdeal.τ Cert.SumWInIdeal.sig) → Buf (Elt Ideal) ℓ) : Prop :=
  True

def Pre_SumWInRefIdeal (m : (ℓ : Loc Cert.SumWInRefIdeal.nD Cert.SumWInRefIdeal.τ Cert.SumWInRefIdeal.sig) → Buf (Elt Ideal) ℓ) : Prop :=
  True

def Pre_SumWFfnIn (m : (ℓ : Loc Cert.SumWFfnIn.nD Cert.SumWFfnIn.τ Cert.SumWFfnIn.sig) → Buf (Elt Bits) ℓ) : Prop :=
  True

def Pre_SumWFfnInIdeal (m : (ℓ : Loc Cert.SumWFfnInIdeal.nD Cert.SumWFfnInIdeal.τ Cert.SumWFfnInIdeal.sig) → Buf (Elt Ideal) ℓ) : Prop :=
  True

def Pre_SumWFfnInRefIdeal (m : (ℓ : Loc Cert.SumWFfnInRefIdeal.nD Cert.SumWFfnInRefIdeal.τ Cert.SumWFfnInRefIdeal.sig) → Buf (Elt Ideal) ℓ) : Prop :=
  True

def Pre_SumWRows (m : (ℓ : Loc Cert.SumWRows.nD Cert.SumWRows.τ Cert.SumWRows.sig) → Buf (Elt Bits) ℓ) : Prop :=
  True

def Pre_SumWRowsIdeal (m : (ℓ : Loc Cert.SumWRowsIdeal.nD Cert.SumWRowsIdeal.τ Cert.SumWRowsIdeal.sig) → Buf (Elt Ideal) ℓ) : Prop :=
  True

def Pre_SumWRowsRefIdeal (m : (ℓ : Loc Cert.SumWRowsRefIdeal.nD Cert.SumWRowsRefIdeal.τ Cert.SumWRowsRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWBranch (m : (ℓ : Loc Cert.AdamWBranch.nD Cert.AdamWBranch.τ Cert.AdamWBranch.sig) → Buf (Elt Bits) ℓ) : Prop :=
  True

def Pre_AdamWBranchIdeal (m : (ℓ : Loc Cert.AdamWBranchIdeal.nD Cert.AdamWBranchIdeal.τ Cert.AdamWBranchIdeal.sig) → Buf (Elt Ideal) ℓ) : Prop :=
  True

def Pre_AdamWBranchRefIdeal (m : (ℓ : Loc Cert.AdamWBranchRefIdeal.nD Cert.AdamWBranchRefIdeal.τ Cert.AdamWBranchRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWFfnIn (m : (ℓ : Loc Cert.AdamWFfnIn.nD Cert.AdamWFfnIn.τ Cert.AdamWFfnIn.sig) → Buf (Elt Bits) ℓ) : Prop :=
  True

def Pre_AdamWFfnInIdeal (m : (ℓ : Loc Cert.AdamWFfnInIdeal.nD Cert.AdamWFfnInIdeal.τ Cert.AdamWFfnInIdeal.sig) → Buf (Elt Ideal) ℓ) : Prop :=
  True

def Pre_AdamWFfnInRefIdeal (m : (ℓ : Loc Cert.AdamWFfnInRefIdeal.nD Cert.AdamWFfnInRefIdeal.τ Cert.AdamWFfnInRefIdeal.sig) → Buf (Elt Ideal) ℓ) : Prop :=
  True

def Pre_AdamWFfnOut (m : (ℓ : Loc Cert.AdamWFfnOut.nD Cert.AdamWFfnOut.τ Cert.AdamWFfnOut.sig) → Buf (Elt Bits) ℓ) : Prop :=
  True

def Pre_AdamWFfnOutIdeal (m : (ℓ : Loc Cert.AdamWFfnOutIdeal.nD Cert.AdamWFfnOutIdeal.τ Cert.AdamWFfnOutIdeal.sig) → Buf (Elt Ideal) ℓ) : Prop :=
  True

def Pre_AdamWFfnOutRefIdeal (m : (ℓ : Loc Cert.AdamWFfnOutRefIdeal.nD Cert.AdamWFfnOutRefIdeal.τ Cert.AdamWFfnOutRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2))
      ∧ r.2.sem = fun _ => 0)

def quiescent_NormGradIdeal_pre_norm_finite [hNormGradIdeal : Cert.NormGradIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_norm_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2))
      ∧ r.2.sem = fun _ => 0)

def quiescent_NormGradRefIdeal_pre_norm_finite [hNormGradRefIdeal : Cert.NormGradRefIdeal.Facts] [hPre_norm_finite : Cert.Pre_norm_finite.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_norm_finite m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2))
      ∧ r.2.sem = fun _ => 0)

def quiescent_NormGradQd [hNormGradQd : Cert.NormGradQd.Facts] : Prop :=
  ∀ (m : (ℓ : Loc Cert.NormGradQd.nD Cert.NormGradQd.τ Cert.NormGradQd.sig) → Buf (Elt Bits) ℓ) (g : Dev Cert.NormGradQd.nD → PrngReg), Pre_NormGradQd m →
    θ_run (Cert.NormGradQd.defs (F := Bits)) (onTc (τ := Cert.NormGradQd.τ) (Cert.NormGradQd.main (F := Bits))) ⟨m, fun _ => 0, g⟩ (fun r => (∀ c : Dev Cert.NormGradQd.nD,
      r.2.mem ((c.tc : Thread Cert.NormGradQd.nD Cert.NormGradQd.τ).loc Cert.NormGradQd.main_arg0) = m ((c.tc : Thread Cert.NormGradQd.nD Cert.NormGradQd.τ).loc Cert.NormGradQd.main_arg0)
      ∧ r.2.mem ((c.tc : Thread Cert.NormGradQd.nD Cert.NormGradQd.τ).loc Cert.NormGradQd.main_arg1) = m ((c.tc : Thread Cert.NormGradQd.nD Cert.NormGradQd.τ).loc Cert.NormGradQd.main_arg1)
      ∧ r.2.mem ((c.tc : Thread Cert.NormGradQd.nD Cert.NormGradQd.τ).loc Cert.NormGradQd.main_arg2) = m ((c.tc : Thread Cert.NormGradQd.nD Cert.NormGradQd.τ).loc Cert.NormGradQd.main_arg2)
      ∧ r.2.mem ((c.tc : Thread Cert.NormGradQd.nD Cert.NormGradQd.τ).loc Cert.NormGradQd.main_arg3) = m ((c.tc : Thread Cert.NormGradQd.nD Cert.NormGradQd.τ).loc Cert.NormGradQd.main_arg3)
      ∧ r.2.mem ((c.tc : Thread Cert.NormGradQd.nD Cert.NormGradQd.τ).loc Cert.NormGradQd.main_arg4) = m ((c.tc : Thread Cert.NormGradQd.nD Cert.NormGradQd.τ).loc Cert.NormGradQd.main_arg4))
      ∧ r.2.sem = fun _ => 0)

def quiescent_NormGradQdIdeal [hNormGradQdIdeal : Cert.NormGradQdIdeal.Facts] : Prop :=
  ∀ (m : (ℓ : Loc Cert.NormGradQdIdeal.nD Cert.NormGradQdIdeal.τ Cert.NormGradQdIdeal.sig) → Buf (Elt Ideal) ℓ) (g : Dev Cert.NormGradQdIdeal.nD → PrngReg), Pre_NormGradQdIdeal m →
    θ_run (Cert.NormGradQdIdeal.defs (F := Ideal)) (onTc (τ := Cert.NormGradQdIdeal.τ) (Cert.NormGradQdIdeal.main (F := Ideal))) ⟨m, fun _ => 0, g⟩ (fun r => (∀ c : Dev Cert.NormGradQdIdeal.nD,
      r.2.mem ((c.tc : Thread Cert.NormGradQdIdeal.nD Cert.NormGradQdIdeal.τ).loc Cert.NormGradQdIdeal.main_arg0) = m ((c.tc : Thread Cert.NormGradQdIdeal.nD Cert.NormGradQdIdeal.τ).loc Cert.NormGradQdIdeal.main_arg0)
      ∧ r.2.mem ((c.tc : Thread Cert.NormGradQdIdeal.nD Cert.NormGradQdIdeal.τ).loc Cert.NormGradQdIdeal.main_arg1) = m ((c.tc : Thread Cert.NormGradQdIdeal.nD Cert.NormGradQdIdeal.τ).loc Cert.NormGradQdIdeal.main_arg1)
      ∧ r.2.mem ((c.tc : Thread Cert.NormGradQdIdeal.nD Cert.NormGradQdIdeal.τ).loc Cert.NormGradQdIdeal.main_arg2) = m ((c.tc : Thread Cert.NormGradQdIdeal.nD Cert.NormGradQdIdeal.τ).loc Cert.NormGradQdIdeal.main_arg2)
      ∧ r.2.mem ((c.tc : Thread Cert.NormGradQdIdeal.nD Cert.NormGradQdIdeal.τ).loc Cert.NormGradQdIdeal.main_arg3) = m ((c.tc : Thread Cert.NormGradQdIdeal.nD Cert.NormGradQdIdeal.τ).loc Cert.NormGradQdIdeal.main_arg3)
      ∧ r.2.mem ((c.tc : Thread Cert.NormGradQdIdeal.nD Cert.NormGradQdIdeal.τ).loc Cert.NormGradQdIdeal.main_arg4) = m ((c.tc : Thread Cert.NormGradQdIdeal.nD Cert.NormGradQdIdeal.τ).loc Cert.NormGradQdIdeal.main_arg4))
      ∧ r.2.sem = fun _ => 0)

def quiescent_NormGradQdIdeal_pre_norm_qd_finite [hNormGradQdIdeal : Cert.NormGradQdIdeal.Facts] [hPre_norm_qd_finite : Cert.Pre_norm_qd_finite.Facts] : Prop :=
  ∀ (m : (ℓ : Loc Cert.NormGradQdIdeal.nD Cert.NormGradQdIdeal.τ Cert.NormGradQdIdeal.sig) → Buf (Elt Ideal) ℓ) (g : Dev Cert.NormGradQdIdeal.nD → PrngReg), Pre_NormGradQdIdeal_norm_qd_finite m →
    θ_run (Cert.NormGradQdIdeal.defs (F := Ideal)) (onTc (τ := Cert.NormGradQdIdeal.τ) (Cert.NormGradQdIdeal.main (F := Ideal))) ⟨m, fun _ => 0, g⟩ (fun r => (∀ c : Dev Cert.NormGradQdIdeal.nD,
      r.2.mem ((c.tc : Thread Cert.NormGradQdIdeal.nD Cert.NormGradQdIdeal.τ).loc Cert.NormGradQdIdeal.main_arg0) = m ((c.tc : Thread Cert.NormGradQdIdeal.nD Cert.NormGradQdIdeal.τ).loc Cert.NormGradQdIdeal.main_arg0)
      ∧ r.2.mem ((c.tc : Thread Cert.NormGradQdIdeal.nD Cert.NormGradQdIdeal.τ).loc Cert.NormGradQdIdeal.main_arg1) = m ((c.tc : Thread Cert.NormGradQdIdeal.nD Cert.NormGradQdIdeal.τ).loc Cert.NormGradQdIdeal.main_arg1)
      ∧ r.2.mem ((c.tc : Thread Cert.NormGradQdIdeal.nD Cert.NormGradQdIdeal.τ).loc Cert.NormGradQdIdeal.main_arg2) = m ((c.tc : Thread Cert.NormGradQdIdeal.nD Cert.NormGradQdIdeal.τ).loc Cert.NormGradQdIdeal.main_arg2)
      ∧ r.2.mem ((c.tc : Thread Cert.NormGradQdIdeal.nD Cert.NormGradQdIdeal.τ).loc Cert.NormGradQdIdeal.main_arg3) = m ((c.tc : Thread Cert.NormGradQdIdeal.nD Cert.NormGradQdIdeal.τ).loc Cert.NormGradQdIdeal.main_arg3)
      ∧ r.2.mem ((c.tc : Thread Cert.NormGradQdIdeal.nD Cert.NormGradQdIdeal.τ).loc Cert.NormGradQdIdeal.main_arg4) = m ((c.tc : Thread Cert.NormGradQdIdeal.nD Cert.NormGradQdIdeal.τ).loc Cert.NormGradQdIdeal.main_arg4))
      ∧ r.2.sem = fun _ => 0)

def quiescent_NormGradQdRefIdeal [hNormGradQdRefIdeal : Cert.NormGradQdRefIdeal.Facts] : Prop :=
  ∀ (m : (ℓ : Loc Cert.NormGradQdRefIdeal.nD Cert.NormGradQdRefIdeal.τ Cert.NormGradQdRefIdeal.sig) → Buf (Elt Ideal) ℓ) (g : Dev Cert.NormGradQdRefIdeal.nD → PrngReg), Pre_NormGradQdRefIdeal m →
    θ_run (Cert.NormGradQdRefIdeal.defs (F := Ideal)) (onTc (τ := Cert.NormGradQdRefIdeal.τ) (Cert.NormGradQdRefIdeal.main (F := Ideal))) ⟨m, fun _ => 0, g⟩ (fun r => (∀ c : Dev Cert.NormGradQdRefIdeal.nD,
      r.2.mem ((c.tc : Thread Cert.NormGradQdRefIdeal.nD Cert.NormGradQdRefIdeal.τ).loc Cert.NormGradQdRefIdeal.main_arg0) = m ((c.tc : Thread Cert.NormGradQdRefIdeal.nD Cert.NormGradQdRefIdeal.τ).loc Cert.NormGradQdRefIdeal.main_arg0)
      ∧ r.2.mem ((c.tc : Thread Cert.NormGradQdRefIdeal.nD Cert.NormGradQdRefIdeal.τ).loc Cert.NormGradQdRefIdeal.main_arg1) = m ((c.tc : Thread Cert.NormGradQdRefIdeal.nD Cert.NormGradQdRefIdeal.τ).loc Cert.NormGradQdRefIdeal.main_arg1)
      ∧ r.2.mem ((c.tc : Thread Cert.NormGradQdRefIdeal.nD Cert.NormGradQdRefIdeal.τ).loc Cert.NormGradQdRefIdeal.main_arg2) = m ((c.tc : Thread Cert.NormGradQdRefIdeal.nD Cert.NormGradQdRefIdeal.τ).loc Cert.NormGradQdRefIdeal.main_arg2)
      ∧ r.2.mem ((c.tc : Thread Cert.NormGradQdRefIdeal.nD Cert.NormGradQdRefIdeal.τ).loc Cert.NormGradQdRefIdeal.main_arg3) = m ((c.tc : Thread Cert.NormGradQdRefIdeal.nD Cert.NormGradQdRefIdeal.τ).loc Cert.NormGradQdRefIdeal.main_arg3)
      ∧ r.2.mem ((c.tc : Thread Cert.NormGradQdRefIdeal.nD Cert.NormGradQdRefIdeal.τ).loc Cert.NormGradQdRefIdeal.main_arg4) = m ((c.tc : Thread Cert.NormGradQdRefIdeal.nD Cert.NormGradQdRefIdeal.τ).loc Cert.NormGradQdRefIdeal.main_arg4))
      ∧ r.2.sem = fun _ => 0)

def quiescent_NormGradQdRefIdeal_pre_norm_qd_finite [hNormGradQdRefIdeal : Cert.NormGradQdRefIdeal.Facts] [hPre_norm_qd_finite : Cert.Pre_norm_qd_finite.Facts] : Prop :=
  ∀ (m : (ℓ : Loc Cert.NormGradQdRefIdeal.nD Cert.NormGradQdRefIdeal.τ Cert.NormGradQdRefIdeal.sig) → Buf (Elt Ideal) ℓ) (g : Dev Cert.NormGradQdRefIdeal.nD → PrngReg), Pre_NormGradQdRefIdeal_norm_qd_finite m →
    θ_run (Cert.NormGradQdRefIdeal.defs (F := Ideal)) (onTc (τ := Cert.NormGradQdRefIdeal.τ) (Cert.NormGradQdRefIdeal.main (F := Ideal))) ⟨m, fun _ => 0, g⟩ (fun r => (∀ c : Dev Cert.NormGradQdRefIdeal.nD,
      r.2.mem ((c.tc : Thread Cert.NormGradQdRefIdeal.nD Cert.NormGradQdRefIdeal.τ).loc Cert.NormGradQdRefIdeal.main_arg0) = m ((c.tc : Thread Cert.NormGradQdRefIdeal.nD Cert.NormGradQdRefIdeal.τ).loc Cert.NormGradQdRefIdeal.main_arg0)
      ∧ r.2.mem ((c.tc : Thread Cert.NormGradQdRefIdeal.nD Cert.NormGradQdRefIdeal.τ).loc Cert.NormGradQdRefIdeal.main_arg1) = m ((c.tc : Thread Cert.NormGradQdRefIdeal.nD Cert.NormGradQdRefIdeal.τ).loc Cert.NormGradQdRefIdeal.main_arg1)
      ∧ r.2.mem ((c.tc : Thread Cert.NormGradQdRefIdeal.nD Cert.NormGradQdRefIdeal.τ).loc Cert.NormGradQdRefIdeal.main_arg2) = m ((c.tc : Thread Cert.NormGradQdRefIdeal.nD Cert.NormGradQdRefIdeal.τ).loc Cert.NormGradQdRefIdeal.main_arg2)
      ∧ r.2.mem ((c.tc : Thread Cert.NormGradQdRefIdeal.nD Cert.NormGradQdRefIdeal.τ).loc Cert.NormGradQdRefIdeal.main_arg3) = m ((c.tc : Thread Cert.NormGradQdRefIdeal.nD Cert.NormGradQdRefIdeal.τ).loc Cert.NormGradQdRefIdeal.main_arg3)
      ∧ r.2.mem ((c.tc : Thread Cert.NormGradQdRefIdeal.nD Cert.NormGradQdRefIdeal.τ).loc Cert.NormGradQdRefIdeal.main_arg4) = m ((c.tc : Thread Cert.NormGradQdRefIdeal.nD Cert.NormGradQdRefIdeal.τ).loc Cert.NormGradQdRefIdeal.main_arg4))
      ∧ r.2.sem = fun _ => 0)

def quiescent_NormGradFfn [hNormGradFfn : Cert.NormGradFfn.Facts] : Prop :=
  ∀ (m : (ℓ : Loc Cert.NormGradFfn.nD Cert.NormGradFfn.τ Cert.NormGradFfn.sig) → Buf (Elt Bits) ℓ) (g : Dev Cert.NormGradFfn.nD → PrngReg), Pre_NormGradFfn m →
    θ_run (Cert.NormGradFfn.defs (F := Bits)) (onTc (τ := Cert.NormGradFfn.τ) (Cert.NormGradFfn.main (F := Bits))) ⟨m, fun _ => 0, g⟩ (fun r => (∀ c : Dev Cert.NormGradFfn.nD,
      r.2.mem ((c.tc : Thread Cert.NormGradFfn.nD Cert.NormGradFfn.τ).loc Cert.NormGradFfn.main_arg0) = m ((c.tc : Thread Cert.NormGradFfn.nD Cert.NormGradFfn.τ).loc Cert.NormGradFfn.main_arg0)
      ∧ r.2.mem ((c.tc : Thread Cert.NormGradFfn.nD Cert.NormGradFfn.τ).loc Cert.NormGradFfn.main_arg1) = m ((c.tc : Thread Cert.NormGradFfn.nD Cert.NormGradFfn.τ).loc Cert.NormGradFfn.main_arg1)
      ∧ r.2.mem ((c.tc : Thread Cert.NormGradFfn.nD Cert.NormGradFfn.τ).loc Cert.NormGradFfn.main_arg2) = m ((c.tc : Thread Cert.NormGradFfn.nD Cert.NormGradFfn.τ).loc Cert.NormGradFfn.main_arg2)
      ∧ r.2.mem ((c.tc : Thread Cert.NormGradFfn.nD Cert.NormGradFfn.τ).loc Cert.NormGradFfn.main_arg3) = m ((c.tc : Thread Cert.NormGradFfn.nD Cert.NormGradFfn.τ).loc Cert.NormGradFfn.main_arg3)
      ∧ r.2.mem ((c.tc : Thread Cert.NormGradFfn.nD Cert.NormGradFfn.τ).loc Cert.NormGradFfn.main_arg4) = m ((c.tc : Thread Cert.NormGradFfn.nD Cert.NormGradFfn.τ).loc Cert.NormGradFfn.main_arg4))
      ∧ r.2.sem = fun _ => 0)

def quiescent_NormGradFfnIdeal [hNormGradFfnIdeal : Cert.NormGradFfnIdeal.Facts] : Prop :=
  ∀ (m : (ℓ : Loc Cert.NormGradFfnIdeal.nD Cert.NormGradFfnIdeal.τ Cert.NormGradFfnIdeal.sig) → Buf (Elt Ideal) ℓ) (g : Dev Cert.NormGradFfnIdeal.nD → PrngReg), Pre_NormGradFfnIdeal m →
    θ_run (Cert.NormGradFfnIdeal.defs (F := Ideal)) (onTc (τ := Cert.NormGradFfnIdeal.τ) (Cert.NormGradFfnIdeal.main (F := Ideal))) ⟨m, fun _ => 0, g⟩ (fun r => (∀ c : Dev Cert.NormGradFfnIdeal.nD,
      r.2.mem ((c.tc : Thread Cert.NormGradFfnIdeal.nD Cert.NormGradFfnIdeal.τ).loc Cert.NormGradFfnIdeal.main_arg0) = m ((c.tc : Thread Cert.NormGradFfnIdeal.nD Cert.NormGradFfnIdeal.τ).loc Cert.NormGradFfnIdeal.main_arg0)
      ∧ r.2.mem ((c.tc : Thread Cert.NormGradFfnIdeal.nD Cert.NormGradFfnIdeal.τ).loc Cert.NormGradFfnIdeal.main_arg1) = m ((c.tc : Thread Cert.NormGradFfnIdeal.nD Cert.NormGradFfnIdeal.τ).loc Cert.NormGradFfnIdeal.main_arg1)
      ∧ r.2.mem ((c.tc : Thread Cert.NormGradFfnIdeal.nD Cert.NormGradFfnIdeal.τ).loc Cert.NormGradFfnIdeal.main_arg2) = m ((c.tc : Thread Cert.NormGradFfnIdeal.nD Cert.NormGradFfnIdeal.τ).loc Cert.NormGradFfnIdeal.main_arg2)
      ∧ r.2.mem ((c.tc : Thread Cert.NormGradFfnIdeal.nD Cert.NormGradFfnIdeal.τ).loc Cert.NormGradFfnIdeal.main_arg3) = m ((c.tc : Thread Cert.NormGradFfnIdeal.nD Cert.NormGradFfnIdeal.τ).loc Cert.NormGradFfnIdeal.main_arg3)
      ∧ r.2.mem ((c.tc : Thread Cert.NormGradFfnIdeal.nD Cert.NormGradFfnIdeal.τ).loc Cert.NormGradFfnIdeal.main_arg4) = m ((c.tc : Thread Cert.NormGradFfnIdeal.nD Cert.NormGradFfnIdeal.τ).loc Cert.NormGradFfnIdeal.main_arg4))
      ∧ r.2.sem = fun _ => 0)

def quiescent_NormGradFfnIdeal_pre_norm_ffn_finite [hNormGradFfnIdeal : Cert.NormGradFfnIdeal.Facts] [hPre_norm_ffn_finite : Cert.Pre_norm_ffn_finite.Facts] : Prop :=
  ∀ (m : (ℓ : Loc Cert.NormGradFfnIdeal.nD Cert.NormGradFfnIdeal.τ Cert.NormGradFfnIdeal.sig) → Buf (Elt Ideal) ℓ) (g : Dev Cert.NormGradFfnIdeal.nD → PrngReg), Pre_NormGradFfnIdeal_norm_ffn_finite m →
    θ_run (Cert.NormGradFfnIdeal.defs (F := Ideal)) (onTc (τ := Cert.NormGradFfnIdeal.τ) (Cert.NormGradFfnIdeal.main (F := Ideal))) ⟨m, fun _ => 0, g⟩ (fun r => (∀ c : Dev Cert.NormGradFfnIdeal.nD,
      r.2.mem ((c.tc : Thread Cert.NormGradFfnIdeal.nD Cert.NormGradFfnIdeal.τ).loc Cert.NormGradFfnIdeal.main_arg0) = m ((c.tc : Thread Cert.NormGradFfnIdeal.nD Cert.NormGradFfnIdeal.τ).loc Cert.NormGradFfnIdeal.main_arg0)
      ∧ r.2.mem ((c.tc : Thread Cert.NormGradFfnIdeal.nD Cert.NormGradFfnIdeal.τ).loc Cert.NormGradFfnIdeal.main_arg1) = m ((c.tc : Thread Cert.NormGradFfnIdeal.nD Cert.NormGradFfnIdeal.τ).loc Cert.NormGradFfnIdeal.main_arg1)
      ∧ r.2.mem ((c.tc : Thread Cert.NormGradFfnIdeal.nD Cert.NormGradFfnIdeal.τ).loc Cert.NormGradFfnIdeal.main_arg2) = m ((c.tc : Thread Cert.NormGradFfnIdeal.nD Cert.NormGradFfnIdeal.τ).loc Cert.NormGradFfnIdeal.main_arg2)
      ∧ r.2.mem ((c.tc : Thread Cert.NormGradFfnIdeal.nD Cert.NormGradFfnIdeal.τ).loc Cert.NormGradFfnIdeal.main_arg3) = m ((c.tc : Thread Cert.NormGradFfnIdeal.nD Cert.NormGradFfnIdeal.τ).loc Cert.NormGradFfnIdeal.main_arg3)
      ∧ r.2.mem ((c.tc : Thread Cert.NormGradFfnIdeal.nD Cert.NormGradFfnIdeal.τ).loc Cert.NormGradFfnIdeal.main_arg4) = m ((c.tc : Thread Cert.NormGradFfnIdeal.nD Cert.NormGradFfnIdeal.τ).loc Cert.NormGradFfnIdeal.main_arg4))
      ∧ r.2.sem = fun _ => 0)

def quiescent_NormGradFfnRefIdeal [hNormGradFfnRefIdeal : Cert.NormGradFfnRefIdeal.Facts] : Prop :=
  ∀ (m : (ℓ : Loc Cert.NormGradFfnRefIdeal.nD Cert.NormGradFfnRefIdeal.τ Cert.NormGradFfnRefIdeal.sig) → Buf (Elt Ideal) ℓ) (g : Dev Cert.NormGradFfnRefIdeal.nD → PrngReg), Pre_NormGradFfnRefIdeal m →
    θ_run (Cert.NormGradFfnRefIdeal.defs (F := Ideal)) (onTc (τ := Cert.NormGradFfnRefIdeal.τ) (Cert.NormGradFfnRefIdeal.main (F := Ideal))) ⟨m, fun _ => 0, g⟩ (fun r => (∀ c : Dev Cert.NormGradFfnRefIdeal.nD,
      r.2.mem ((c.tc : Thread Cert.NormGradFfnRefIdeal.nD Cert.NormGradFfnRefIdeal.τ).loc Cert.NormGradFfnRefIdeal.main_arg0) = m ((c.tc : Thread Cert.NormGradFfnRefIdeal.nD Cert.NormGradFfnRefIdeal.τ).loc Cert.NormGradFfnRefIdeal.main_arg0)
      ∧ r.2.mem ((c.tc : Thread Cert.NormGradFfnRefIdeal.nD Cert.NormGradFfnRefIdeal.τ).loc Cert.NormGradFfnRefIdeal.main_arg1) = m ((c.tc : Thread Cert.NormGradFfnRefIdeal.nD Cert.NormGradFfnRefIdeal.τ).loc Cert.NormGradFfnRefIdeal.main_arg1)
      ∧ r.2.mem ((c.tc : Thread Cert.NormGradFfnRefIdeal.nD Cert.NormGradFfnRefIdeal.τ).loc Cert.NormGradFfnRefIdeal.main_arg2) = m ((c.tc : Thread Cert.NormGradFfnRefIdeal.nD Cert.NormGradFfnRefIdeal.τ).loc Cert.NormGradFfnRefIdeal.main_arg2)
      ∧ r.2.mem ((c.tc : Thread Cert.NormGradFfnRefIdeal.nD Cert.NormGradFfnRefIdeal.τ).loc Cert.NormGradFfnRefIdeal.main_arg3) = m ((c.tc : Thread Cert.NormGradFfnRefIdeal.nD Cert.NormGradFfnRefIdeal.τ).loc Cert.NormGradFfnRefIdeal.main_arg3)
      ∧ r.2.mem ((c.tc : Thread Cert.NormGradFfnRefIdeal.nD Cert.NormGradFfnRefIdeal.τ).loc Cert.NormGradFfnRefIdeal.main_arg4) = m ((c.tc : Thread Cert.NormGradFfnRefIdeal.nD Cert.NormGradFfnRefIdeal.τ).loc Cert.NormGradFfnRefIdeal.main_arg4))
      ∧ r.2.sem = fun _ => 0)

def quiescent_NormGradFfnRefIdeal_pre_norm_ffn_finite [hNormGradFfnRefIdeal : Cert.NormGradFfnRefIdeal.Facts] [hPre_norm_ffn_finite : Cert.Pre_norm_ffn_finite.Facts] : Prop :=
  ∀ (m : (ℓ : Loc Cert.NormGradFfnRefIdeal.nD Cert.NormGradFfnRefIdeal.τ Cert.NormGradFfnRefIdeal.sig) → Buf (Elt Ideal) ℓ) (g : Dev Cert.NormGradFfnRefIdeal.nD → PrngReg), Pre_NormGradFfnRefIdeal_norm_ffn_finite m →
    θ_run (Cert.NormGradFfnRefIdeal.defs (F := Ideal)) (onTc (τ := Cert.NormGradFfnRefIdeal.τ) (Cert.NormGradFfnRefIdeal.main (F := Ideal))) ⟨m, fun _ => 0, g⟩ (fun r => (∀ c : Dev Cert.NormGradFfnRefIdeal.nD,
      r.2.mem ((c.tc : Thread Cert.NormGradFfnRefIdeal.nD Cert.NormGradFfnRefIdeal.τ).loc Cert.NormGradFfnRefIdeal.main_arg0) = m ((c.tc : Thread Cert.NormGradFfnRefIdeal.nD Cert.NormGradFfnRefIdeal.τ).loc Cert.NormGradFfnRefIdeal.main_arg0)
      ∧ r.2.mem ((c.tc : Thread Cert.NormGradFfnRefIdeal.nD Cert.NormGradFfnRefIdeal.τ).loc Cert.NormGradFfnRefIdeal.main_arg1) = m ((c.tc : Thread Cert.NormGradFfnRefIdeal.nD Cert.NormGradFfnRefIdeal.τ).loc Cert.NormGradFfnRefIdeal.main_arg1)
      ∧ r.2.mem ((c.tc : Thread Cert.NormGradFfnRefIdeal.nD Cert.NormGradFfnRefIdeal.τ).loc Cert.NormGradFfnRefIdeal.main_arg2) = m ((c.tc : Thread Cert.NormGradFfnRefIdeal.nD Cert.NormGradFfnRefIdeal.τ).loc Cert.NormGradFfnRefIdeal.main_arg2)
      ∧ r.2.mem ((c.tc : Thread Cert.NormGradFfnRefIdeal.nD Cert.NormGradFfnRefIdeal.τ).loc Cert.NormGradFfnRefIdeal.main_arg3) = m ((c.tc : Thread Cert.NormGradFfnRefIdeal.nD Cert.NormGradFfnRefIdeal.τ).loc Cert.NormGradFfnRefIdeal.main_arg3)
      ∧ r.2.mem ((c.tc : Thread Cert.NormGradFfnRefIdeal.nD Cert.NormGradFfnRefIdeal.τ).loc Cert.NormGradFfnRefIdeal.main_arg4) = m ((c.tc : Thread Cert.NormGradFfnRefIdeal.nD Cert.NormGradFfnRefIdeal.τ).loc Cert.NormGradFfnRefIdeal.main_arg4))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_DwFfnOut [hDwFfnOut : Cert.DwFfnOut.Facts] : Prop :=
  ∀ (m : (ℓ : Loc Cert.DwFfnOut.nD Cert.DwFfnOut.τ Cert.DwFfnOut.sig) → Buf (Elt Bits) ℓ) (g : Dev Cert.DwFfnOut.nD → PrngReg), Pre_DwFfnOut m →
    θ_run (Cert.DwFfnOut.defs (F := Bits)) (onTc (τ := Cert.DwFfnOut.τ) (Cert.DwFfnOut.main (F := Bits))) ⟨m, fun _ => 0, g⟩ (fun r => (∀ c : Dev Cert.DwFfnOut.nD,
      r.2.mem ((c.tc : Thread Cert.DwFfnOut.nD Cert.DwFfnOut.τ).loc Cert.DwFfnOut.main_arg0) = m ((c.tc : Thread Cert.DwFfnOut.nD Cert.DwFfnOut.τ).loc Cert.DwFfnOut.main_arg0)
      ∧ r.2.mem ((c.tc : Thread Cert.DwFfnOut.nD Cert.DwFfnOut.τ).loc Cert.DwFfnOut.main_arg1) = m ((c.tc : Thread Cert.DwFfnOut.nD Cert.DwFfnOut.τ).loc Cert.DwFfnOut.main_arg1))
      ∧ r.2.sem = fun _ => 0)

def quiescent_DwFfnOutIdeal [hDwFfnOutIdeal : Cert.DwFfnOutIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg), Pre_DwFfnOutIdeal m →
    θ_run (Cert.DwFfnOutIdeal.defs (F := Ideal)) (onTc (τ := Cert.DwFfnOutIdeal.τ) (Cert.DwFfnOutIdeal.main (F := Ideal))) ⟨m, fun _ => 0, g⟩ (fun r => (∀ c : Dev Cert.DwFfnOutIdeal.nD,
      r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
      ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ r.2.sem = fun _ => 0)

def quiescent_DwFfnOutRefIdeal [hDwFfnOutRefIdeal : Cert.DwFfnOutRefIdeal.Facts] : Prop :=
  ∀ (m : (ℓ : Loc Cert.DwFfnOutRefIdeal.nD Cert.DwFfnOutRefIdeal.τ Cert.DwFfnOutRefIdeal.sig) → Buf (Elt Ideal) ℓ) (g : Dev Cert.DwFfnOutRefIdeal.nD → PrngReg), Pre_DwFfnOutRefIdeal m →
    θ_run (Cert.DwFfnOutRefIdeal.defs (F := Ideal)) (onTc (τ := Cert.DwFfnOutRefIdeal.τ) (Cert.DwFfnOutRefIdeal.main (F := Ideal))) ⟨m, fun _ => 0, g⟩ (fun r => (∀ c : Dev Cert.DwFfnOutRefIdeal.nD,
      r.2.mem ((c.tc : Thread Cert.DwFfnOutRefIdeal.nD Cert.DwFfnOutRefIdeal.τ).loc Cert.DwFfnOutRefIdeal.main_arg0) = m ((c.tc : Thread Cert.DwFfnOutRefIdeal.nD Cert.DwFfnOutRefIdeal.τ).loc Cert.DwFfnOutRefIdeal.main_arg0)
      ∧ r.2.mem ((c.tc : Thread Cert.DwFfnOutRefIdeal.nD Cert.DwFfnOutRefIdeal.τ).loc Cert.DwFfnOutRefIdeal.main_arg1) = m ((c.tc : Thread Cert.DwFfnOutRefIdeal.nD Cert.DwFfnOutRefIdeal.τ).loc Cert.DwFfnOutRefIdeal.main_arg1))
      ∧ r.2.sem = fun _ => 0)

def quiescent_DwFfnIn [hDwFfnIn : Cert.DwFfnIn.Facts] : Prop :=
  ∀ (m : (ℓ : Loc Cert.DwFfnIn.nD Cert.DwFfnIn.τ Cert.DwFfnIn.sig) → Buf (Elt Bits) ℓ) (g : Dev Cert.DwFfnIn.nD → PrngReg), Pre_DwFfnIn m →
    θ_run (Cert.DwFfnIn.defs (F := Bits)) (onTc (τ := Cert.DwFfnIn.τ) (Cert.DwFfnIn.main (F := Bits))) ⟨m, fun _ => 0, g⟩ (fun r => (∀ c : Dev Cert.DwFfnIn.nD,
      r.2.mem ((c.tc : Thread Cert.DwFfnIn.nD Cert.DwFfnIn.τ).loc Cert.DwFfnIn.main_arg0) = m ((c.tc : Thread Cert.DwFfnIn.nD Cert.DwFfnIn.τ).loc Cert.DwFfnIn.main_arg0)
      ∧ r.2.mem ((c.tc : Thread Cert.DwFfnIn.nD Cert.DwFfnIn.τ).loc Cert.DwFfnIn.main_arg1) = m ((c.tc : Thread Cert.DwFfnIn.nD Cert.DwFfnIn.τ).loc Cert.DwFfnIn.main_arg1))
      ∧ r.2.sem = fun _ => 0)

def quiescent_DwFfnInIdeal [hDwFfnInIdeal : Cert.DwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg), Pre_DwFfnInIdeal m →
    θ_run (Cert.DwFfnInIdeal.defs (F := Ideal)) (onTc (τ := Cert.DwFfnInIdeal.τ) (Cert.DwFfnInIdeal.main (F := Ideal))) ⟨m, fun _ => 0, g⟩ (fun r => (∀ c : Dev Cert.DwFfnInIdeal.nD,
      r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
      ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ r.2.sem = fun _ => 0)

def quiescent_DwFfnInRefIdeal [hDwFfnInRefIdeal : Cert.DwFfnInRefIdeal.Facts] : Prop :=
  ∀ (m : (ℓ : Loc Cert.DwFfnInRefIdeal.nD Cert.DwFfnInRefIdeal.τ Cert.DwFfnInRefIdeal.sig) → Buf (Elt Ideal) ℓ) (g : Dev Cert.DwFfnInRefIdeal.nD → PrngReg), Pre_DwFfnInRefIdeal m →
    θ_run (Cert.DwFfnInRefIdeal.defs (F := Ideal)) (onTc (τ := Cert.DwFfnInRefIdeal.τ) (Cert.DwFfnInRefIdeal.main (F := Ideal))) ⟨m, fun _ => 0, g⟩ (fun r => (∀ c : Dev Cert.DwFfnInRefIdeal.nD,
      r.2.mem ((c.tc : Thread Cert.DwFfnInRefIdeal.nD Cert.DwFfnInRefIdeal.τ).loc Cert.DwFfnInRefIdeal.main_arg0) = m ((c.tc : Thread Cert.DwFfnInRefIdeal.nD Cert.DwFfnInRefIdeal.τ).loc Cert.DwFfnInRefIdeal.main_arg0)
      ∧ r.2.mem ((c.tc : Thread Cert.DwFfnInRefIdeal.nD Cert.DwFfnInRefIdeal.τ).loc Cert.DwFfnInRefIdeal.main_arg1) = m ((c.tc : Thread Cert.DwFfnInRefIdeal.nD Cert.DwFfnInRefIdeal.τ).loc Cert.DwFfnInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwInF [hDwInF : Cert.DwInF.Facts] : Prop :=
  ∀ (m : (ℓ : Loc Cert.DwInF.nD Cert.DwInF.τ Cert.DwInF.sig) → Buf (Elt Bits) ℓ) (g : Dev Cert.DwInF.nD → PrngReg), Pre_DwInF m →
    θ_run (Cert.DwInF.defs (F := Bits)) (onTc (τ := Cert.DwInF.τ) (Cert.DwInF.main (F := Bits))) ⟨m, fun _ => 0, g⟩ (fun r => (∀ c : Dev Cert.DwInF.nD,
      r.2.mem ((c.tc : Thread Cert.DwInF.nD Cert.DwInF.τ).loc Cert.DwInF.main_arg0) = m ((c.tc : Thread Cert.DwInF.nD Cert.DwInF.τ).loc Cert.DwInF.main_arg0)
      ∧ r.2.mem ((c.tc : Thread Cert.DwInF.nD Cert.DwInF.τ).loc Cert.DwInF.main_arg1) = m ((c.tc : Thread Cert.DwInF.nD Cert.DwInF.τ).loc Cert.DwInF.main_arg1))
      ∧ r.2.sem = fun _ => 0)

def quiescent_DwInFIdeal [hDwInFIdeal : Cert.DwInFIdeal.Facts] : Prop :=
  ∀ (m : (ℓ : Loc Cert.DwInFIdeal.nD Cert.DwInFIdeal.τ Cert.DwInFIdeal.sig) → Buf (Elt Ideal) ℓ) (g : Dev Cert.DwInFIdeal.nD → PrngReg), Pre_DwInFIdeal m →
    θ_run (Cert.DwInFIdeal.defs (F := Ideal)) (onTc (τ := Cert.DwInFIdeal.τ) (Cert.DwInFIdeal.main (F := Ideal))) ⟨m, fun _ => 0, g⟩ (fun r => (∀ c : Dev Cert.DwInFIdeal.nD,
      r.2.mem ((c.tc : Thread Cert.DwInFIdeal.nD Cert.DwInFIdeal.τ).loc Cert.DwInFIdeal.main_arg0) = m ((c.tc : Thread Cert.DwInFIdeal.nD Cert.DwInFIdeal.τ).loc Cert.DwInFIdeal.main_arg0)
      ∧ r.2.mem ((c.tc : Thread Cert.DwInFIdeal.nD Cert.DwInFIdeal.τ).loc Cert.DwInFIdeal.main_arg1) = m ((c.tc : Thread Cert.DwInFIdeal.nD Cert.DwInFIdeal.τ).loc Cert.DwInFIdeal.main_arg1))
      ∧ r.2.sem = fun _ => 0)

def quiescent_DwInFRefIdeal [hDwInFRefIdeal : Cert.DwInFRefIdeal.Facts] : Prop :=
  ∀ (m : (ℓ : Loc Cert.DwInFRefIdeal.nD Cert.DwInFRefIdeal.τ Cert.DwInFRefIdeal.sig) → Buf (Elt Ideal) ℓ) (g : Dev Cert.DwInFRefIdeal.nD → PrngReg), Pre_DwInFRefIdeal m →
    θ_run (Cert.DwInFRefIdeal.defs (F := Ideal)) (onTc (τ := Cert.DwInFRefIdeal.τ) (Cert.DwInFRefIdeal.main (F := Ideal))) ⟨m, fun _ => 0, g⟩ (fun r => (∀ c : Dev Cert.DwInFRefIdeal.nD,
      r.2.mem ((c.tc : Thread Cert.DwInFRefIdeal.nD Cert.DwInFRefIdeal.τ).loc Cert.DwInFRefIdeal.main_arg0) = m ((c.tc : Thread Cert.DwInFRefIdeal.nD Cert.DwInFRefIdeal.τ).loc Cert.DwInFRefIdeal.main_arg0)
      ∧ r.2.mem ((c.tc : Thread Cert.DwInFRefIdeal.nD Cert.DwInFRefIdeal.τ).loc Cert.DwInFRefIdeal.main_arg1) = m ((c.tc : Thread Cert.DwInFRefIdeal.nD Cert.DwInFRefIdeal.τ).loc Cert.DwInFRefIdeal.main_arg1))
      ∧ r.2.sem = fun _ => 0)

def quiescent_DwInQs [hDwInQs : Cert.DwInQs.Facts] : Prop :=
  ∀ (m : (ℓ : Loc Cert.DwInQs.nD Cert.DwInQs.τ Cert.DwInQs.sig) → Buf (Elt Bits) ℓ) (g : Dev Cert.DwInQs.nD → PrngReg), Pre_DwInQs m →
    θ_run (Cert.DwInQs.defs (F := Bits)) (onTc (τ := Cert.DwInQs.τ) (Cert.DwInQs.main (F := Bits))) ⟨m, fun _ => 0, g⟩ (fun r => (∀ c : Dev Cert.DwInQs.nD,
      r.2.mem ((c.tc : Thread Cert.DwInQs.nD Cert.DwInQs.τ).loc Cert.DwInQs.main_arg0) = m ((c.tc : Thread Cert.DwInQs.nD Cert.DwInQs.τ).loc Cert.DwInQs.main_arg0)
      ∧ r.2.mem ((c.tc : Thread Cert.DwInQs.nD Cert.DwInQs.τ).loc Cert.DwInQs.main_arg1) = m ((c.tc : Thread Cert.DwInQs.nD Cert.DwInQs.τ).loc Cert.DwInQs.main_arg1))
      ∧ r.2.sem = fun _ => 0)

def quiescent_DwInQsIdeal [hDwInQsIdeal : Cert.DwInQsIdeal.Facts] : Prop :=
  ∀ (m : (ℓ : Loc Cert.DwInQsIdeal.nD Cert.DwInQsIdeal.τ Cert.DwInQsIdeal.sig) → Buf (Elt Ideal) ℓ) (g : Dev Cert.DwInQsIdeal.nD → PrngReg), Pre_DwInQsIdeal m →
    θ_run (Cert.DwInQsIdeal.defs (F := Ideal)) (onTc (τ := Cert.DwInQsIdeal.τ) (Cert.DwInQsIdeal.main (F := Ideal))) ⟨m, fun _ => 0, g⟩ (fun r => (∀ c : Dev Cert.DwInQsIdeal.nD,
      r.2.mem ((c.tc : Thread Cert.DwInQsIdeal.nD Cert.DwInQsIdeal.τ).loc Cert.DwInQsIdeal.main_arg0) = m ((c.tc : Thread Cert.DwInQsIdeal.nD Cert.DwInQsIdeal.τ).loc Cert.DwInQsIdeal.main_arg0)
      ∧ r.2.mem ((c.tc : Thread Cert.DwInQsIdeal.nD Cert.DwInQsIdeal.τ).loc Cert.DwInQsIdeal.main_arg1) = m ((c.tc : Thread Cert.DwInQsIdeal.nD Cert.DwInQsIdeal.τ).loc Cert.DwInQsIdeal.main_arg1))
      ∧ r.2.sem = fun _ => 0)

def quiescent_DwInQsRefIdeal [hDwInQsRefIdeal : Cert.DwInQsRefIdeal.Facts] : Prop :=
  ∀ (m : (ℓ : Loc Cert.DwInQsRefIdeal.nD Cert.DwInQsRefIdeal.τ Cert.DwInQsRefIdeal.sig) → Buf (Elt Ideal) ℓ) (g : Dev Cert.DwInQsRefIdeal.nD → PrngReg), Pre_DwInQsRefIdeal m →
    θ_run (Cert.DwInQsRefIdeal.defs (F := Ideal)) (onTc (τ := Cert.DwInQsRefIdeal.τ) (Cert.DwInQsRefIdeal.main (F := Ideal))) ⟨m, fun _ => 0, g⟩ (fun r => (∀ c : Dev Cert.DwInQsRefIdeal.nD,
      r.2.mem ((c.tc : Thread Cert.DwInQsRefIdeal.nD Cert.DwInQsRefIdeal.τ).loc Cert.DwInQsRefIdeal.main_arg0) = m ((c.tc : Thread Cert.DwInQsRefIdeal.nD Cert.DwInQsRefIdeal.τ).loc Cert.DwInQsRefIdeal.main_arg0)
      ∧ r.2.mem ((c.tc : Thread Cert.DwInQsRefIdeal.nD Cert.DwInQsRefIdeal.τ).loc Cert.DwInQsRefIdeal.main_arg1) = m ((c.tc : Thread Cert.DwInQsRefIdeal.nD Cert.DwInQsRefIdeal.τ).loc Cert.DwInQsRefIdeal.main_arg1))
      ∧ r.2.sem = fun _ => 0)

def quiescent_DwInQd [hDwInQd : Cert.DwInQd.Facts] : Prop :=
  ∀ (m : (ℓ : Loc Cert.DwInQd.nD Cert.DwInQd.τ Cert.DwInQd.sig) → Buf (Elt Bits) ℓ) (g : Dev Cert.DwInQd.nD → PrngReg), Pre_DwInQd m →
    θ_run (Cert.DwInQd.defs (F := Bits)) (onTc (τ := Cert.DwInQd.τ) (Cert.DwInQd.main (F := Bits))) ⟨m, fun _ => 0, g⟩ (fun r => (∀ c : Dev Cert.DwInQd.nD,
      r.2.mem ((c.tc : Thread Cert.DwInQd.nD Cert.DwInQd.τ).loc Cert.DwInQd.main_arg0) = m ((c.tc : Thread Cert.DwInQd.nD Cert.DwInQd.τ).loc Cert.DwInQd.main_arg0)
      ∧ r.2.mem ((c.tc : Thread Cert.DwInQd.nD Cert.DwInQd.τ).loc Cert.DwInQd.main_arg1) = m ((c.tc : Thread Cert.DwInQd.nD Cert.DwInQd.τ).loc Cert.DwInQd.main_arg1))
      ∧ r.2.sem = fun _ => 0)

def quiescent_DwInQdIdeal [hDwInQdIdeal : Cert.DwInQdIdeal.Facts] : Prop :=
  ∀ (m : (ℓ : Loc Cert.DwInQdIdeal.nD Cert.DwInQdIdeal.τ Cert.DwInQdIdeal.sig) → Buf (Elt Ideal) ℓ) (g : Dev Cert.DwInQdIdeal.nD → PrngReg), Pre_DwInQdIdeal m →
    θ_run (Cert.DwInQdIdeal.defs (F := Ideal)) (onTc (τ := Cert.DwInQdIdeal.τ) (Cert.DwInQdIdeal.main (F := Ideal))) ⟨m, fun _ => 0, g⟩ (fun r => (∀ c : Dev Cert.DwInQdIdeal.nD,
      r.2.mem ((c.tc : Thread Cert.DwInQdIdeal.nD Cert.DwInQdIdeal.τ).loc Cert.DwInQdIdeal.main_arg0) = m ((c.tc : Thread Cert.DwInQdIdeal.nD Cert.DwInQdIdeal.τ).loc Cert.DwInQdIdeal.main_arg0)
      ∧ r.2.mem ((c.tc : Thread Cert.DwInQdIdeal.nD Cert.DwInQdIdeal.τ).loc Cert.DwInQdIdeal.main_arg1) = m ((c.tc : Thread Cert.DwInQdIdeal.nD Cert.DwInQdIdeal.τ).loc Cert.DwInQdIdeal.main_arg1))
      ∧ r.2.sem = fun _ => 0)

def quiescent_DwInQdRefIdeal [hDwInQdRefIdeal : Cert.DwInQdRefIdeal.Facts] : Prop :=
  ∀ (m : (ℓ : Loc Cert.DwInQdRefIdeal.nD Cert.DwInQdRefIdeal.τ Cert.DwInQdRefIdeal.sig) → Buf (Elt Ideal) ℓ) (g : Dev Cert.DwInQdRefIdeal.nD → PrngReg), Pre_DwInQdRefIdeal m →
    θ_run (Cert.DwInQdRefIdeal.defs (F := Ideal)) (onTc (τ := Cert.DwInQdRefIdeal.τ) (Cert.DwInQdRefIdeal.main (F := Ideal))) ⟨m, fun _ => 0, g⟩ (fun r => (∀ c : Dev Cert.DwInQdRefIdeal.nD,
      r.2.mem ((c.tc : Thread Cert.DwInQdRefIdeal.nD Cert.DwInQdRefIdeal.τ).loc Cert.DwInQdRefIdeal.main_arg0) = m ((c.tc : Thread Cert.DwInQdRefIdeal.nD Cert.DwInQdRefIdeal.τ).loc Cert.DwInQdRefIdeal.main_arg0)
      ∧ r.2.mem ((c.tc : Thread Cert.DwInQdRefIdeal.nD Cert.DwInQdRefIdeal.τ).loc Cert.DwInQdRefIdeal.main_arg1) = m ((c.tc : Thread Cert.DwInQdRefIdeal.nD Cert.DwInQdRefIdeal.τ).loc Cert.DwInQdRefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_DBranchWide [hDBranchWide : Cert.DBranchWide.Facts] : Prop :=
  ∀ (m : (ℓ : Loc Cert.DBranchWide.nD Cert.DBranchWide.τ Cert.DBranchWide.sig) → Buf (Elt Bits) ℓ) (g : Dev Cert.DBranchWide.nD → PrngReg), Pre_DBranchWide m →
    θ_run (Cert.DBranchWide.defs (F := Bits)) (onTc (τ := Cert.DBranchWide.τ) (Cert.DBranchWide.main (F := Bits))) ⟨m, fun _ => 0, g⟩ (fun r => (∀ c : Dev Cert.DBranchWide.nD,
      r.2.mem ((c.tc : Thread Cert.DBranchWide.nD Cert.DBranchWide.τ).loc Cert.DBranchWide.main_arg0) = m ((c.tc : Thread Cert.DBranchWide.nD Cert.DBranchWide.τ).loc Cert.DBranchWide.main_arg0)
      ∧ r.2.mem ((c.tc : Thread Cert.DBranchWide.nD Cert.DBranchWide.τ).loc Cert.DBranchWide.main_arg1) = m ((c.tc : Thread Cert.DBranchWide.nD Cert.DBranchWide.τ).loc Cert.DBranchWide.main_arg1))
      ∧ r.2.sem = fun _ => 0)

def quiescent_DBranchWideIdeal [hDBranchWideIdeal : Cert.DBranchWideIdeal.Facts] : Prop :=
  ∀ (m : (ℓ : Loc Cert.DBranchWideIdeal.nD Cert.DBranchWideIdeal.τ Cert.DBranchWideIdeal.sig) → Buf (Elt Ideal) ℓ) (g : Dev Cert.DBranchWideIdeal.nD → PrngReg), Pre_DBranchWideIdeal m →
    θ_run (Cert.DBranchWideIdeal.defs (F := Ideal)) (onTc (τ := Cert.DBranchWideIdeal.τ) (Cert.DBranchWideIdeal.main (F := Ideal))) ⟨m, fun _ => 0, g⟩ (fun r => (∀ c : Dev Cert.DBranchWideIdeal.nD,
      r.2.mem ((c.tc : Thread Cert.DBranchWideIdeal.nD Cert.DBranchWideIdeal.τ).loc Cert.DBranchWideIdeal.main_arg0) = m ((c.tc : Thread Cert.DBranchWideIdeal.nD Cert.DBranchWideIdeal.τ).loc Cert.DBranchWideIdeal.main_arg0)
      ∧ r.2.mem ((c.tc : Thread Cert.DBranchWideIdeal.nD Cert.DBranchWideIdeal.τ).loc Cert.DBranchWideIdeal.main_arg1) = m ((c.tc : Thread Cert.DBranchWideIdeal.nD Cert.DBranchWideIdeal.τ).loc Cert.DBranchWideIdeal.main_arg1))
      ∧ r.2.sem = fun _ => 0)

def quiescent_DBranchWideRefIdeal [hDBranchWideRefIdeal : Cert.DBranchWideRefIdeal.Facts] : Prop :=
  ∀ (m : (ℓ : Loc Cert.DBranchWideRefIdeal.nD Cert.DBranchWideRefIdeal.τ Cert.DBranchWideRefIdeal.sig) → Buf (Elt Ideal) ℓ) (g : Dev Cert.DBranchWideRefIdeal.nD → PrngReg), Pre_DBranchWideRefIdeal m →
    θ_run (Cert.DBranchWideRefIdeal.defs (F := Ideal)) (onTc (τ := Cert.DBranchWideRefIdeal.τ) (Cert.DBranchWideRefIdeal.main (F := Ideal))) ⟨m, fun _ => 0, g⟩ (fun r => (∀ c : Dev Cert.DBranchWideRefIdeal.nD,
      r.2.mem ((c.tc : Thread Cert.DBranchWideRefIdeal.nD Cert.DBranchWideRefIdeal.τ).loc Cert.DBranchWideRefIdeal.main_arg0) = m ((c.tc : Thread Cert.DBranchWideRefIdeal.nD Cert.DBranchWideRefIdeal.τ).loc Cert.DBranchWideRefIdeal.main_arg0)
      ∧ r.2.mem ((c.tc : Thread Cert.DBranchWideRefIdeal.nD Cert.DBranchWideRefIdeal.τ).loc Cert.DBranchWideRefIdeal.main_arg1) = m ((c.tc : Thread Cert.DBranchWideRefIdeal.nD Cert.DBranchWideRefIdeal.τ).loc Cert.DBranchWideRefIdeal.main_arg1))
      ∧ r.2.sem = fun _ => 0)

def quiescent_DxF [hDxF : Cert.DxF.Facts] : Prop :=
  ∀ (m : (ℓ : Loc Cert.DxF.nD Cert.DxF.τ Cert.DxF.sig) → Buf (Elt Bits) ℓ) (g : Dev Cert.DxF.nD → PrngReg), Pre_DxF m →
    θ_run (Cert.DxF.defs (F := Bits)) (onTc (τ := Cert.DxF.τ) (Cert.DxF.main (F := Bits))) ⟨m, fun _ => 0, g⟩ (fun r => (∀ c : Dev Cert.DxF.nD,
      r.2.mem ((c.tc : Thread Cert.DxF.nD Cert.DxF.τ).loc Cert.DxF.main_arg0) = m ((c.tc : Thread Cert.DxF.nD Cert.DxF.τ).loc Cert.DxF.main_arg0)
      ∧ r.2.mem ((c.tc : Thread Cert.DxF.nD Cert.DxF.τ).loc Cert.DxF.main_arg1) = m ((c.tc : Thread Cert.DxF.nD Cert.DxF.τ).loc Cert.DxF.main_arg1)
      ∧ r.2.mem ((c.tc : Thread Cert.DxF.nD Cert.DxF.τ).loc Cert.DxF.main_arg2) = m ((c.tc : Thread Cert.DxF.nD Cert.DxF.τ).loc Cert.DxF.main_arg2))
      ∧ r.2.sem = fun _ => 0)

def quiescent_DxFIdeal [hDxFIdeal : Cert.DxFIdeal.Facts] : Prop :=
  ∀ (m : (ℓ : Loc Cert.DxFIdeal.nD Cert.DxFIdeal.τ Cert.DxFIdeal.sig) → Buf (Elt Ideal) ℓ) (g : Dev Cert.DxFIdeal.nD → PrngReg), Pre_DxFIdeal m →
    θ_run (Cert.DxFIdeal.defs (F := Ideal)) (onTc (τ := Cert.DxFIdeal.τ) (Cert.DxFIdeal.main (F := Ideal))) ⟨m, fun _ => 0, g⟩ (fun r => (∀ c : Dev Cert.DxFIdeal.nD,
      r.2.mem ((c.tc : Thread Cert.DxFIdeal.nD Cert.DxFIdeal.τ).loc Cert.DxFIdeal.main_arg0) = m ((c.tc : Thread Cert.DxFIdeal.nD Cert.DxFIdeal.τ).loc Cert.DxFIdeal.main_arg0)
      ∧ r.2.mem ((c.tc : Thread Cert.DxFIdeal.nD Cert.DxFIdeal.τ).loc Cert.DxFIdeal.main_arg1) = m ((c.tc : Thread Cert.DxFIdeal.nD Cert.DxFIdeal.τ).loc Cert.DxFIdeal.main_arg1)
      ∧ r.2.mem ((c.tc : Thread Cert.DxFIdeal.nD Cert.DxFIdeal.τ).loc Cert.DxFIdeal.main_arg2) = m ((c.tc : Thread Cert.DxFIdeal.nD Cert.DxFIdeal.τ).loc Cert.DxFIdeal.main_arg2))
      ∧ r.2.sem = fun _ => 0)

def quiescent_DxFRefIdeal [hDxFRefIdeal : Cert.DxFRefIdeal.Facts] : Prop :=
  ∀ (m : (ℓ : Loc Cert.DxFRefIdeal.nD Cert.DxFRefIdeal.τ Cert.DxFRefIdeal.sig) → Buf (Elt Ideal) ℓ) (g : Dev Cert.DxFRefIdeal.nD → PrngReg), Pre_DxFRefIdeal m →
    θ_run (Cert.DxFRefIdeal.defs (F := Ideal)) (onTc (τ := Cert.DxFRefIdeal.τ) (Cert.DxFRefIdeal.main (F := Ideal))) ⟨m, fun _ => 0, g⟩ (fun r => (∀ c : Dev Cert.DxFRefIdeal.nD,
      r.2.mem ((c.tc : Thread Cert.DxFRefIdeal.nD Cert.DxFRefIdeal.τ).loc Cert.DxFRefIdeal.main_arg0) = m ((c.tc : Thread Cert.DxFRefIdeal.nD Cert.DxFRefIdeal.τ).loc Cert.DxFRefIdeal.main_arg0)
      ∧ r.2.mem ((c.tc : Thread Cert.DxFRefIdeal.nD Cert.DxFRefIdeal.τ).loc Cert.DxFRefIdeal.main_arg1) = m ((c.tc : Thread Cert.DxFRefIdeal.nD Cert.DxFRefIdeal.τ).loc Cert.DxFRefIdeal.main_arg1)
      ∧ r.2.mem ((c.tc : Thread Cert.DxFRefIdeal.nD Cert.DxFRefIdeal.τ).loc Cert.DxFRefIdeal.main_arg2) = m ((c.tc : Thread Cert.DxFRefIdeal.nD Cert.DxFRefIdeal.τ).loc Cert.DxFRefIdeal.main_arg2))
      ∧ r.2.sem = fun _ => 0)

def quiescent_DxQs [hDxQs : Cert.DxQs.Facts] : Prop :=
  ∀ (m : (ℓ : Loc Cert.DxQs.nD Cert.DxQs.τ Cert.DxQs.sig) → Buf (Elt Bits) ℓ) (g : Dev Cert.DxQs.nD → PrngReg), Pre_DxQs m →
    θ_run (Cert.DxQs.defs (F := Bits)) (onTc (τ := Cert.DxQs.τ) (Cert.DxQs.main (F := Bits))) ⟨m, fun _ => 0, g⟩ (fun r => (∀ c : Dev Cert.DxQs.nD,
      r.2.mem ((c.tc : Thread Cert.DxQs.nD Cert.DxQs.τ).loc Cert.DxQs.main_arg0) = m ((c.tc : Thread Cert.DxQs.nD Cert.DxQs.τ).loc Cert.DxQs.main_arg0)
      ∧ r.2.mem ((c.tc : Thread Cert.DxQs.nD Cert.DxQs.τ).loc Cert.DxQs.main_arg1) = m ((c.tc : Thread Cert.DxQs.nD Cert.DxQs.τ).loc Cert.DxQs.main_arg1)
      ∧ r.2.mem ((c.tc : Thread Cert.DxQs.nD Cert.DxQs.τ).loc Cert.DxQs.main_arg2) = m ((c.tc : Thread Cert.DxQs.nD Cert.DxQs.τ).loc Cert.DxQs.main_arg2))
      ∧ r.2.sem = fun _ => 0)

def quiescent_DxQsIdeal [hDxQsIdeal : Cert.DxQsIdeal.Facts] : Prop :=
  ∀ (m : (ℓ : Loc Cert.DxQsIdeal.nD Cert.DxQsIdeal.τ Cert.DxQsIdeal.sig) → Buf (Elt Ideal) ℓ) (g : Dev Cert.DxQsIdeal.nD → PrngReg), Pre_DxQsIdeal m →
    θ_run (Cert.DxQsIdeal.defs (F := Ideal)) (onTc (τ := Cert.DxQsIdeal.τ) (Cert.DxQsIdeal.main (F := Ideal))) ⟨m, fun _ => 0, g⟩ (fun r => (∀ c : Dev Cert.DxQsIdeal.nD,
      r.2.mem ((c.tc : Thread Cert.DxQsIdeal.nD Cert.DxQsIdeal.τ).loc Cert.DxQsIdeal.main_arg0) = m ((c.tc : Thread Cert.DxQsIdeal.nD Cert.DxQsIdeal.τ).loc Cert.DxQsIdeal.main_arg0)
      ∧ r.2.mem ((c.tc : Thread Cert.DxQsIdeal.nD Cert.DxQsIdeal.τ).loc Cert.DxQsIdeal.main_arg1) = m ((c.tc : Thread Cert.DxQsIdeal.nD Cert.DxQsIdeal.τ).loc Cert.DxQsIdeal.main_arg1)
      ∧ r.2.mem ((c.tc : Thread Cert.DxQsIdeal.nD Cert.DxQsIdeal.τ).loc Cert.DxQsIdeal.main_arg2) = m ((c.tc : Thread Cert.DxQsIdeal.nD Cert.DxQsIdeal.τ).loc Cert.DxQsIdeal.main_arg2))
      ∧ r.2.sem = fun _ => 0)

def quiescent_DxQsRefIdeal [hDxQsRefIdeal : Cert.DxQsRefIdeal.Facts] : Prop :=
  ∀ (m : (ℓ : Loc Cert.DxQsRefIdeal.nD Cert.DxQsRefIdeal.τ Cert.DxQsRefIdeal.sig) → Buf (Elt Ideal) ℓ) (g : Dev Cert.DxQsRefIdeal.nD → PrngReg), Pre_DxQsRefIdeal m →
    θ_run (Cert.DxQsRefIdeal.defs (F := Ideal)) (onTc (τ := Cert.DxQsRefIdeal.τ) (Cert.DxQsRefIdeal.main (F := Ideal))) ⟨m, fun _ => 0, g⟩ (fun r => (∀ c : Dev Cert.DxQsRefIdeal.nD,
      r.2.mem ((c.tc : Thread Cert.DxQsRefIdeal.nD Cert.DxQsRefIdeal.τ).loc Cert.DxQsRefIdeal.main_arg0) = m ((c.tc : Thread Cert.DxQsRefIdeal.nD Cert.DxQsRefIdeal.τ).loc Cert.DxQsRefIdeal.main_arg0)
      ∧ r.2.mem ((c.tc : Thread Cert.DxQsRefIdeal.nD Cert.DxQsRefIdeal.τ).loc Cert.DxQsRefIdeal.main_arg1) = m ((c.tc : Thread Cert.DxQsRefIdeal.nD Cert.DxQsRefIdeal.τ).loc Cert.DxQsRefIdeal.main_arg1)
      ∧ r.2.mem ((c.tc : Thread Cert.DxQsRefIdeal.nD Cert.DxQsRefIdeal.τ).loc Cert.DxQsRefIdeal.main_arg2) = m ((c.tc : Thread Cert.DxQsRefIdeal.nD Cert.DxQsRefIdeal.τ).loc Cert.DxQsRefIdeal.main_arg2))
      ∧ r.2.sem = fun _ => 0)

def quiescent_DxQd [hDxQd : Cert.DxQd.Facts] : Prop :=
  ∀ (m : (ℓ : Loc Cert.DxQd.nD Cert.DxQd.τ Cert.DxQd.sig) → Buf (Elt Bits) ℓ) (g : Dev Cert.DxQd.nD → PrngReg), Pre_DxQd m →
    θ_run (Cert.DxQd.defs (F := Bits)) (onTc (τ := Cert.DxQd.τ) (Cert.DxQd.main (F := Bits))) ⟨m, fun _ => 0, g⟩ (fun r => (∀ c : Dev Cert.DxQd.nD,
      r.2.mem ((c.tc : Thread Cert.DxQd.nD Cert.DxQd.τ).loc Cert.DxQd.main_arg0) = m ((c.tc : Thread Cert.DxQd.nD Cert.DxQd.τ).loc Cert.DxQd.main_arg0)
      ∧ r.2.mem ((c.tc : Thread Cert.DxQd.nD Cert.DxQd.τ).loc Cert.DxQd.main_arg1) = m ((c.tc : Thread Cert.DxQd.nD Cert.DxQd.τ).loc Cert.DxQd.main_arg1)
      ∧ r.2.mem ((c.tc : Thread Cert.DxQd.nD Cert.DxQd.τ).loc Cert.DxQd.main_arg2) = m ((c.tc : Thread Cert.DxQd.nD Cert.DxQd.τ).loc Cert.DxQd.main_arg2))
      ∧ r.2.sem = fun _ => 0)

def quiescent_DxQdIdeal [hDxQdIdeal : Cert.DxQdIdeal.Facts] : Prop :=
  ∀ (m : (ℓ : Loc Cert.DxQdIdeal.nD Cert.DxQdIdeal.τ Cert.DxQdIdeal.sig) → Buf (Elt Ideal) ℓ) (g : Dev Cert.DxQdIdeal.nD → PrngReg), Pre_DxQdIdeal m →
    θ_run (Cert.DxQdIdeal.defs (F := Ideal)) (onTc (τ := Cert.DxQdIdeal.τ) (Cert.DxQdIdeal.main (F := Ideal))) ⟨m, fun _ => 0, g⟩ (fun r => (∀ c : Dev Cert.DxQdIdeal.nD,
      r.2.mem ((c.tc : Thread Cert.DxQdIdeal.nD Cert.DxQdIdeal.τ).loc Cert.DxQdIdeal.main_arg0) = m ((c.tc : Thread Cert.DxQdIdeal.nD Cert.DxQdIdeal.τ).loc Cert.DxQdIdeal.main_arg0)
      ∧ r.2.mem ((c.tc : Thread Cert.DxQdIdeal.nD Cert.DxQdIdeal.τ).loc Cert.DxQdIdeal.main_arg1) = m ((c.tc : Thread Cert.DxQdIdeal.nD Cert.DxQdIdeal.τ).loc Cert.DxQdIdeal.main_arg1)
      ∧ r.2.mem ((c.tc : Thread Cert.DxQdIdeal.nD Cert.DxQdIdeal.τ).loc Cert.DxQdIdeal.main_arg2) = m ((c.tc : Thread Cert.DxQdIdeal.nD Cert.DxQdIdeal.τ).loc Cert.DxQdIdeal.main_arg2))
      ∧ r.2.sem = fun _ => 0)

def quiescent_DxQdRefIdeal [hDxQdRefIdeal : Cert.DxQdRefIdeal.Facts] : Prop :=
  ∀ (m : (ℓ : Loc Cert.DxQdRefIdeal.nD Cert.DxQdRefIdeal.τ Cert.DxQdRefIdeal.sig) → Buf (Elt Ideal) ℓ) (g : Dev Cert.DxQdRefIdeal.nD → PrngReg), Pre_DxQdRefIdeal m →
    θ_run (Cert.DxQdRefIdeal.defs (F := Ideal)) (onTc (τ := Cert.DxQdRefIdeal.τ) (Cert.DxQdRefIdeal.main (F := Ideal))) ⟨m, fun _ => 0, g⟩ (fun r => (∀ c : Dev Cert.DxQdRefIdeal.nD,
      r.2.mem ((c.tc : Thread Cert.DxQdRefIdeal.nD Cert.DxQdRefIdeal.τ).loc Cert.DxQdRefIdeal.main_arg0) = m ((c.tc : Thread Cert.DxQdRefIdeal.nD Cert.DxQdRefIdeal.τ).loc Cert.DxQdRefIdeal.main_arg0)
      ∧ r.2.mem ((c.tc : Thread Cert.DxQdRefIdeal.nD Cert.DxQdRefIdeal.τ).loc Cert.DxQdRefIdeal.main_arg1) = m ((c.tc : Thread Cert.DxQdRefIdeal.nD Cert.DxQdRefIdeal.τ).loc Cert.DxQdRefIdeal.main_arg1)
      ∧ r.2.mem ((c.tc : Thread Cert.DxQdRefIdeal.nD Cert.DxQdRefIdeal.τ).loc Cert.DxQdRefIdeal.main_arg2) = m ((c.tc : Thread Cert.DxQdRefIdeal.nD Cert.DxQdRefIdeal.τ).loc Cert.DxQdRefIdeal.main_arg2))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFRefIdeal [hProjFRefIdeal : Cert.ProjFRefIdeal.Facts] : Prop :=
  ∀ (m : (ℓ : Loc Cert.ProjFRefIdeal.nD Cert.ProjFRefIdeal.τ Cert.ProjFRefIdeal.sig) → Buf (Elt Ideal) ℓ) (g : Dev Cert.ProjFRefIdeal.nD → PrngReg), Pre_ProjFRefIdeal m →
    θ_run (Cert.ProjFRefIdeal.defs (F := Ideal)) (onTc (τ := Cert.ProjFRefIdeal.τ) (Cert.ProjFRefIdeal.main (F := Ideal))) ⟨m, fun _ => 0, g⟩ (fun r => (∀ c : Dev Cert.ProjFRefIdeal.nD,
      r.2.mem ((c.tc : Thread Cert.ProjFRefIdeal.nD Cert.ProjFRefIdeal.τ).loc Cert.ProjFRefIdeal.main_arg0) = m ((c.tc : Thread Cert.ProjFRefIdeal.nD Cert.ProjFRefIdeal.τ).loc Cert.ProjFRefIdeal.main_arg0)
      ∧ r.2.mem ((c.tc : Thread Cert.ProjFRefIdeal.nD Cert.ProjFRefIdeal.τ).loc Cert.ProjFRefIdeal.main_arg1) = m ((c.tc : Thread Cert.ProjFRefIdeal.nD Cert.ProjFRefIdeal.τ).loc Cert.ProjFRefIdeal.main_arg1))
      ∧ r.2.sem = fun _ => 0)

def quiescent_ProjQs [hProjQs : Cert.ProjQs.Facts] : Prop :=
  ∀ (m : (ℓ : Loc Cert.ProjQs.nD Cert.ProjQs.τ Cert.ProjQs.sig) → Buf (Elt Bits) ℓ) (g : Dev Cert.ProjQs.nD → PrngReg), Pre_ProjQs m →
    θ_run (Cert.ProjQs.defs (F := Bits)) (onTc (τ := Cert.ProjQs.τ) (Cert.ProjQs.main (F := Bits))) ⟨m, fun _ => 0, g⟩ (fun r => (∀ c : Dev Cert.ProjQs.nD,
      r.2.mem ((c.tc : Thread Cert.ProjQs.nD Cert.ProjQs.τ).loc Cert.ProjQs.main_arg0) = m ((c.tc : Thread Cert.ProjQs.nD Cert.ProjQs.τ).loc Cert.ProjQs.main_arg0)
      ∧ r.2.mem ((c.tc : Thread Cert.ProjQs.nD Cert.ProjQs.τ).loc Cert.ProjQs.main_arg1) = m ((c.tc : Thread Cert.ProjQs.nD Cert.ProjQs.τ).loc Cert.ProjQs.main_arg1))
      ∧ r.2.sem = fun _ => 0)

def quiescent_ProjQsIdeal [hProjQsIdeal : Cert.ProjQsIdeal.Facts] : Prop :=
  ∀ (m : (ℓ : Loc Cert.ProjQsIdeal.nD Cert.ProjQsIdeal.τ Cert.ProjQsIdeal.sig) → Buf (Elt Ideal) ℓ) (g : Dev Cert.ProjQsIdeal.nD → PrngReg), Pre_ProjQsIdeal m →
    θ_run (Cert.ProjQsIdeal.defs (F := Ideal)) (onTc (τ := Cert.ProjQsIdeal.τ) (Cert.ProjQsIdeal.main (F := Ideal))) ⟨m, fun _ => 0, g⟩ (fun r => (∀ c : Dev Cert.ProjQsIdeal.nD,
      r.2.mem ((c.tc : Thread Cert.ProjQsIdeal.nD Cert.ProjQsIdeal.τ).loc Cert.ProjQsIdeal.main_arg0) = m ((c.tc : Thread Cert.ProjQsIdeal.nD Cert.ProjQsIdeal.τ).loc Cert.ProjQsIdeal.main_arg0)
      ∧ r.2.mem ((c.tc : Thread Cert.ProjQsIdeal.nD Cert.ProjQsIdeal.τ).loc Cert.ProjQsIdeal.main_arg1) = m ((c.tc : Thread Cert.ProjQsIdeal.nD Cert.ProjQsIdeal.τ).loc Cert.ProjQsIdeal.main_arg1))
      ∧ r.2.sem = fun _ => 0)

def quiescent_ProjQsRefIdeal [hProjQsRefIdeal : Cert.ProjQsRefIdeal.Facts] : Prop :=
  ∀ (m : (ℓ : Loc Cert.ProjQsRefIdeal.nD Cert.ProjQsRefIdeal.τ Cert.ProjQsRefIdeal.sig) → Buf (Elt Ideal) ℓ) (g : Dev Cert.ProjQsRefIdeal.nD → PrngReg), Pre_ProjQsRefIdeal m →
    θ_run (Cert.ProjQsRefIdeal.defs (F := Ideal)) (onTc (τ := Cert.ProjQsRefIdeal.τ) (Cert.ProjQsRefIdeal.main (F := Ideal))) ⟨m, fun _ => 0, g⟩ (fun r => (∀ c : Dev Cert.ProjQsRefIdeal.nD,
      r.2.mem ((c.tc : Thread Cert.ProjQsRefIdeal.nD Cert.ProjQsRefIdeal.τ).loc Cert.ProjQsRefIdeal.main_arg0) = m ((c.tc : Thread Cert.ProjQsRefIdeal.nD Cert.ProjQsRefIdeal.τ).loc Cert.ProjQsRefIdeal.main_arg0)
      ∧ r.2.mem ((c.tc : Thread Cert.ProjQsRefIdeal.nD Cert.ProjQsRefIdeal.τ).loc Cert.ProjQsRefIdeal.main_arg1) = m ((c.tc : Thread Cert.ProjQsRefIdeal.nD Cert.ProjQsRefIdeal.τ).loc Cert.ProjQsRefIdeal.main_arg1))
      ∧ r.2.sem = fun _ => 0)

def quiescent_ProjQd [hProjQd : Cert.ProjQd.Facts] : Prop :=
  ∀ (m : (ℓ : Loc Cert.ProjQd.nD Cert.ProjQd.τ Cert.ProjQd.sig) → Buf (Elt Bits) ℓ) (g : Dev Cert.ProjQd.nD → PrngReg), Pre_ProjQd m →
    θ_run (Cert.ProjQd.defs (F := Bits)) (onTc (τ := Cert.ProjQd.τ) (Cert.ProjQd.main (F := Bits))) ⟨m, fun _ => 0, g⟩ (fun r => (∀ c : Dev Cert.ProjQd.nD,
      r.2.mem ((c.tc : Thread Cert.ProjQd.nD Cert.ProjQd.τ).loc Cert.ProjQd.main_arg0) = m ((c.tc : Thread Cert.ProjQd.nD Cert.ProjQd.τ).loc Cert.ProjQd.main_arg0)
      ∧ r.2.mem ((c.tc : Thread Cert.ProjQd.nD Cert.ProjQd.τ).loc Cert.ProjQd.main_arg1) = m ((c.tc : Thread Cert.ProjQd.nD Cert.ProjQd.τ).loc Cert.ProjQd.main_arg1))
      ∧ r.2.sem = fun _ => 0)

def quiescent_ProjQdIdeal [hProjQdIdeal : Cert.ProjQdIdeal.Facts] : Prop :=
  ∀ (m : (ℓ : Loc Cert.ProjQdIdeal.nD Cert.ProjQdIdeal.τ Cert.ProjQdIdeal.sig) → Buf (Elt Ideal) ℓ) (g : Dev Cert.ProjQdIdeal.nD → PrngReg), Pre_ProjQdIdeal m →
    θ_run (Cert.ProjQdIdeal.defs (F := Ideal)) (onTc (τ := Cert.ProjQdIdeal.τ) (Cert.ProjQdIdeal.main (F := Ideal))) ⟨m, fun _ => 0, g⟩ (fun r => (∀ c : Dev Cert.ProjQdIdeal.nD,
      r.2.mem ((c.tc : Thread Cert.ProjQdIdeal.nD Cert.ProjQdIdeal.τ).loc Cert.ProjQdIdeal.main_arg0) = m ((c.tc : Thread Cert.ProjQdIdeal.nD Cert.ProjQdIdeal.τ).loc Cert.ProjQdIdeal.main_arg0)
      ∧ r.2.mem ((c.tc : Thread Cert.ProjQdIdeal.nD Cert.ProjQdIdeal.τ).loc Cert.ProjQdIdeal.main_arg1) = m ((c.tc : Thread Cert.ProjQdIdeal.nD Cert.ProjQdIdeal.τ).loc Cert.ProjQdIdeal.main_arg1))
      ∧ r.2.sem = fun _ => 0)

def quiescent_ProjQdRefIdeal [hProjQdRefIdeal : Cert.ProjQdRefIdeal.Facts] : Prop :=
  ∀ (m : (ℓ : Loc Cert.ProjQdRefIdeal.nD Cert.ProjQdRefIdeal.τ Cert.ProjQdRefIdeal.sig) → Buf (Elt Ideal) ℓ) (g : Dev Cert.ProjQdRefIdeal.nD → PrngReg), Pre_ProjQdRefIdeal m →
    θ_run (Cert.ProjQdRefIdeal.defs (F := Ideal)) (onTc (τ := Cert.ProjQdRefIdeal.τ) (Cert.ProjQdRefIdeal.main (F := Ideal))) ⟨m, fun _ => 0, g⟩ (fun r => (∀ c : Dev Cert.ProjQdRefIdeal.nD,
      r.2.mem ((c.tc : Thread Cert.ProjQdRefIdeal.nD Cert.ProjQdRefIdeal.τ).loc Cert.ProjQdRefIdeal.main_arg0) = m ((c.tc : Thread Cert.ProjQdRefIdeal.nD Cert.ProjQdRefIdeal.τ).loc Cert.ProjQdRefIdeal.main_arg0)
      ∧ r.2.mem ((c.tc : Thread Cert.ProjQdRefIdeal.nD Cert.ProjQdRefIdeal.τ).loc Cert.ProjQdRefIdeal.main_arg1) = m ((c.tc : Thread Cert.ProjQdRefIdeal.nD Cert.ProjQdRefIdeal.τ).loc Cert.ProjQdRefIdeal.main_arg1))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3)
      ∧ r.2.mem ((c.tc : Thread Cert.BranchMerge.nD Cert.BranchMerge.τ).loc Cert.BranchMerge.main_arg4) = m ((c.tc : Thread Cert.BranchMerge.nD Cert.BranchMerge.τ).loc Cert.BranchMerge.main_arg4))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
      ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ r.2.sem = fun _ => 0)

def quiescent_BranchMergeRefIdeal [hBranchMergeRefIdeal : Cert.BranchMergeRefIdeal.Facts] : Prop :=
  ∀ (m : (ℓ : Loc Cert.BranchMergeRefIdeal.nD Cert.BranchMergeRefIdeal.τ Cert.BranchMergeRefIdeal.sig) → Buf (Elt Ideal) ℓ) (g : Dev Cert.BranchMergeRefIdeal.nD → PrngReg), Pre_BranchMergeRefIdeal m →
    θ_run (Cert.BranchMergeRefIdeal.defs (F := Ideal)) (onTc (τ := Cert.BranchMergeRefIdeal.τ) (Cert.BranchMergeRefIdeal.main (F := Ideal))) ⟨m, fun _ => 0, g⟩ (fun r => (∀ c : Dev Cert.BranchMergeRefIdeal.nD,
      r.2.mem ((c.tc : Thread Cert.BranchMergeRefIdeal.nD Cert.BranchMergeRefIdeal.τ).loc Cert.BranchMergeRefIdeal.main_arg0) = m ((c.tc : Thread Cert.BranchMergeRefIdeal.nD Cert.BranchMergeRefIdeal.τ).loc Cert.BranchMergeRefIdeal.main_arg0)
      ∧ r.2.mem ((c.tc : Thread Cert.BranchMergeRefIdeal.nD Cert.BranchMergeRefIdeal.τ).loc Cert.BranchMergeRefIdeal.main_arg1) = m ((c.tc : Thread Cert.BranchMergeRefIdeal.nD Cert.BranchMergeRefIdeal.τ).loc Cert.BranchMergeRefIdeal.main_arg1)
      ∧ r.2.mem ((c.tc : Thread Cert.BranchMergeRefIdeal.nD Cert.BranchMergeRefIdeal.τ).loc Cert.BranchMergeRefIdeal.main_arg2) = m ((c.tc : Thread Cert.BranchMergeRefIdeal.nD Cert.BranchMergeRefIdeal.τ).loc Cert.BranchMergeRefIdeal.main_arg2)
      ∧ r.2.mem ((c.tc : Thread Cert.BranchMergeRefIdeal.nD Cert.BranchMergeRefIdeal.τ).loc Cert.BranchMergeRefIdeal.main_arg3) = m ((c.tc : Thread Cert.BranchMergeRefIdeal.nD Cert.BranchMergeRefIdeal.τ).loc Cert.BranchMergeRefIdeal.main_arg3)
      ∧ r.2.mem ((c.tc : Thread Cert.BranchMergeRefIdeal.nD Cert.BranchMergeRefIdeal.τ).loc Cert.BranchMergeRefIdeal.main_arg4) = m ((c.tc : Thread Cert.BranchMergeRefIdeal.nD Cert.BranchMergeRefIdeal.τ).loc Cert.BranchMergeRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_WOutNorm [hWOutNorm : Cert.WOutNorm.Facts] : Prop :=
  ∀ (m : (ℓ : Loc Cert.WOutNorm.nD Cert.WOutNorm.τ Cert.WOutNorm.sig) → Buf (Elt Bits) ℓ) (g : Dev Cert.WOutNorm.nD → PrngReg), Pre_WOutNorm m →
    θ_run (Cert.WOutNorm.defs (F := Bits)) (onTc (τ := Cert.WOutNorm.τ) (Cert.WOutNorm.main (F := Bits))) ⟨m, fun _ => 0, g⟩ (fun r => (∀ c : Dev Cert.WOutNorm.nD,
      r.2.mem ((c.tc : Thread Cert.WOutNorm.nD Cert.WOutNorm.τ).loc Cert.WOutNorm.main_arg0) = m ((c.tc : Thread Cert.WOutNorm.nD Cert.WOutNorm.τ).loc Cert.WOutNorm.main_arg0)
      ∧ r.2.mem ((c.tc : Thread Cert.WOutNorm.nD Cert.WOutNorm.τ).loc Cert.WOutNorm.main_arg1) = m ((c.tc : Thread Cert.WOutNorm.nD Cert.WOutNorm.τ).loc Cert.WOutNorm.main_arg1)
      ∧ r.2.mem ((c.tc : Thread Cert.WOutNorm.nD Cert.WOutNorm.τ).loc Cert.WOutNorm.main_arg2) = m ((c.tc : Thread Cert.WOutNorm.nD Cert.WOutNorm.τ).loc Cert.WOutNorm.main_arg2)
      ∧ r.2.mem ((c.tc : Thread Cert.WOutNorm.nD Cert.WOutNorm.τ).loc Cert.WOutNorm.main_arg3) = m ((c.tc : Thread Cert.WOutNorm.nD Cert.WOutNorm.τ).loc Cert.WOutNorm.main_arg3)
      ∧ r.2.mem ((c.tc : Thread Cert.WOutNorm.nD Cert.WOutNorm.τ).loc Cert.WOutNorm.main_arg4) = m ((c.tc : Thread Cert.WOutNorm.nD Cert.WOutNorm.τ).loc Cert.WOutNorm.main_arg4))
      ∧ r.2.sem = fun _ => 0)

def quiescent_WOutNormIdeal [hWOutNormIdeal : Cert.WOutNormIdeal.Facts] : Prop :=
  ∀ (m : (ℓ : Loc Cert.WOutNormIdeal.nD Cert.WOutNormIdeal.τ Cert.WOutNormIdeal.sig) → Buf (Elt Ideal) ℓ) (g : Dev Cert.WOutNormIdeal.nD → PrngReg), Pre_WOutNormIdeal m →
    θ_run (Cert.WOutNormIdeal.defs (F := Ideal)) (onTc (τ := Cert.WOutNormIdeal.τ) (Cert.WOutNormIdeal.main (F := Ideal))) ⟨m, fun _ => 0, g⟩ (fun r => (∀ c : Dev Cert.WOutNormIdeal.nD,
      r.2.mem ((c.tc : Thread Cert.WOutNormIdeal.nD Cert.WOutNormIdeal.τ).loc Cert.WOutNormIdeal.main_arg0) = m ((c.tc : Thread Cert.WOutNormIdeal.nD Cert.WOutNormIdeal.τ).loc Cert.WOutNormIdeal.main_arg0)
      ∧ r.2.mem ((c.tc : Thread Cert.WOutNormIdeal.nD Cert.WOutNormIdeal.τ).loc Cert.WOutNormIdeal.main_arg1) = m ((c.tc : Thread Cert.WOutNormIdeal.nD Cert.WOutNormIdeal.τ).loc Cert.WOutNormIdeal.main_arg1)
      ∧ r.2.mem ((c.tc : Thread Cert.WOutNormIdeal.nD Cert.WOutNormIdeal.τ).loc Cert.WOutNormIdeal.main_arg2) = m ((c.tc : Thread Cert.WOutNormIdeal.nD Cert.WOutNormIdeal.τ).loc Cert.WOutNormIdeal.main_arg2)
      ∧ r.2.mem ((c.tc : Thread Cert.WOutNormIdeal.nD Cert.WOutNormIdeal.τ).loc Cert.WOutNormIdeal.main_arg3) = m ((c.tc : Thread Cert.WOutNormIdeal.nD Cert.WOutNormIdeal.τ).loc Cert.WOutNormIdeal.main_arg3)
      ∧ r.2.mem ((c.tc : Thread Cert.WOutNormIdeal.nD Cert.WOutNormIdeal.τ).loc Cert.WOutNormIdeal.main_arg4) = m ((c.tc : Thread Cert.WOutNormIdeal.nD Cert.WOutNormIdeal.τ).loc Cert.WOutNormIdeal.main_arg4))
      ∧ r.2.sem = fun _ => 0)

def quiescent_WOutNormRefIdeal [hWOutNormRefIdeal : Cert.WOutNormRefIdeal.Facts] : Prop :=
  ∀ (m : (ℓ : Loc Cert.WOutNormRefIdeal.nD Cert.WOutNormRefIdeal.τ Cert.WOutNormRefIdeal.sig) → Buf (Elt Ideal) ℓ) (g : Dev Cert.WOutNormRefIdeal.nD → PrngReg), Pre_WOutNormRefIdeal m →
    θ_run (Cert.WOutNormRefIdeal.defs (F := Ideal)) (onTc (τ := Cert.WOutNormRefIdeal.τ) (Cert.WOutNormRefIdeal.main (F := Ideal))) ⟨m, fun _ => 0, g⟩ (fun r => (∀ c : Dev Cert.WOutNormRefIdeal.nD,
      r.2.mem ((c.tc : Thread Cert.WOutNormRefIdeal.nD Cert.WOutNormRefIdeal.τ).loc Cert.WOutNormRefIdeal.main_arg0) = m ((c.tc : Thread Cert.WOutNormRefIdeal.nD Cert.WOutNormRefIdeal.τ).loc Cert.WOutNormRefIdeal.main_arg0)
      ∧ r.2.mem ((c.tc : Thread Cert.WOutNormRefIdeal.nD Cert.WOutNormRefIdeal.τ).loc Cert.WOutNormRefIdeal.main_arg1) = m ((c.tc : Thread Cert.WOutNormRefIdeal.nD Cert.WOutNormRefIdeal.τ).loc Cert.WOutNormRefIdeal.main_arg1)
      ∧ r.2.mem ((c.tc : Thread Cert.WOutNormRefIdeal.nD Cert.WOutNormRefIdeal.τ).loc Cert.WOutNormRefIdeal.main_arg2) = m ((c.tc : Thread Cert.WOutNormRefIdeal.nD Cert.WOutNormRefIdeal.τ).loc Cert.WOutNormRefIdeal.main_arg2)
      ∧ r.2.mem ((c.tc : Thread Cert.WOutNormRefIdeal.nD Cert.WOutNormRefIdeal.τ).loc Cert.WOutNormRefIdeal.main_arg3) = m ((c.tc : Thread Cert.WOutNormRefIdeal.nD Cert.WOutNormRefIdeal.τ).loc Cert.WOutNormRefIdeal.main_arg3)
      ∧ r.2.mem ((c.tc : Thread Cert.WOutNormRefIdeal.nD Cert.WOutNormRefIdeal.τ).loc Cert.WOutNormRefIdeal.main_arg4) = m ((c.tc : Thread Cert.WOutNormRefIdeal.nD Cert.WOutNormRefIdeal.τ).loc Cert.WOutNormRefIdeal.main_arg4))
      ∧ r.2.sem = fun _ => 0)

def quiescent_FfnOutNorm [hFfnOutNorm : Cert.FfnOutNorm.Facts] : Prop :=
  ∀ (m : (ℓ : Loc Cert.FfnOutNorm.nD Cert.FfnOutNorm.τ Cert.FfnOutNorm.sig) → Buf (Elt Bits) ℓ) (g : Dev Cert.FfnOutNorm.nD → PrngReg), Pre_FfnOutNorm m →
    θ_run (Cert.FfnOutNorm.defs (F := Bits)) (onTc (τ := Cert.FfnOutNorm.τ) (Cert.FfnOutNorm.main (F := Bits))) ⟨m, fun _ => 0, g⟩ (fun r => (∀ c : Dev Cert.FfnOutNorm.nD,
      r.2.mem ((c.tc : Thread Cert.FfnOutNorm.nD Cert.FfnOutNorm.τ).loc Cert.FfnOutNorm.main_arg0) = m ((c.tc : Thread Cert.FfnOutNorm.nD Cert.FfnOutNorm.τ).loc Cert.FfnOutNorm.main_arg0)
      ∧ r.2.mem ((c.tc : Thread Cert.FfnOutNorm.nD Cert.FfnOutNorm.τ).loc Cert.FfnOutNorm.main_arg1) = m ((c.tc : Thread Cert.FfnOutNorm.nD Cert.FfnOutNorm.τ).loc Cert.FfnOutNorm.main_arg1)
      ∧ r.2.mem ((c.tc : Thread Cert.FfnOutNorm.nD Cert.FfnOutNorm.τ).loc Cert.FfnOutNorm.main_arg2) = m ((c.tc : Thread Cert.FfnOutNorm.nD Cert.FfnOutNorm.τ).loc Cert.FfnOutNorm.main_arg2)
      ∧ r.2.mem ((c.tc : Thread Cert.FfnOutNorm.nD Cert.FfnOutNorm.τ).loc Cert.FfnOutNorm.main_arg3) = m ((c.tc : Thread Cert.FfnOutNorm.nD Cert.FfnOutNorm.τ).loc Cert.FfnOutNorm.main_arg3)
      ∧ r.2.mem ((c.tc : Thread Cert.FfnOutNorm.nD Cert.FfnOutNorm.τ).loc Cert.FfnOutNorm.main_arg4) = m ((c.tc : Thread Cert.FfnOutNorm.nD Cert.FfnOutNorm.τ).loc Cert.FfnOutNorm.main_arg4))
      ∧ r.2.sem = fun _ => 0)

def quiescent_FfnOutNormIdeal [hFfnOutNormIdeal : Cert.FfnOutNormIdeal.Facts] : Prop :=
  ∀ (m : (ℓ : Loc Cert.FfnOutNormIdeal.nD Cert.FfnOutNormIdeal.τ Cert.FfnOutNormIdeal.sig) → Buf (Elt Ideal) ℓ) (g : Dev Cert.FfnOutNormIdeal.nD → PrngReg), Pre_FfnOutNormIdeal m →
    θ_run (Cert.FfnOutNormIdeal.defs (F := Ideal)) (onTc (τ := Cert.FfnOutNormIdeal.τ) (Cert.FfnOutNormIdeal.main (F := Ideal))) ⟨m, fun _ => 0, g⟩ (fun r => (∀ c : Dev Cert.FfnOutNormIdeal.nD,
      r.2.mem ((c.tc : Thread Cert.FfnOutNormIdeal.nD Cert.FfnOutNormIdeal.τ).loc Cert.FfnOutNormIdeal.main_arg0) = m ((c.tc : Thread Cert.FfnOutNormIdeal.nD Cert.FfnOutNormIdeal.τ).loc Cert.FfnOutNormIdeal.main_arg0)
      ∧ r.2.mem ((c.tc : Thread Cert.FfnOutNormIdeal.nD Cert.FfnOutNormIdeal.τ).loc Cert.FfnOutNormIdeal.main_arg1) = m ((c.tc : Thread Cert.FfnOutNormIdeal.nD Cert.FfnOutNormIdeal.τ).loc Cert.FfnOutNormIdeal.main_arg1)
      ∧ r.2.mem ((c.tc : Thread Cert.FfnOutNormIdeal.nD Cert.FfnOutNormIdeal.τ).loc Cert.FfnOutNormIdeal.main_arg2) = m ((c.tc : Thread Cert.FfnOutNormIdeal.nD Cert.FfnOutNormIdeal.τ).loc Cert.FfnOutNormIdeal.main_arg2)
      ∧ r.2.mem ((c.tc : Thread Cert.FfnOutNormIdeal.nD Cert.FfnOutNormIdeal.τ).loc Cert.FfnOutNormIdeal.main_arg3) = m ((c.tc : Thread Cert.FfnOutNormIdeal.nD Cert.FfnOutNormIdeal.τ).loc Cert.FfnOutNormIdeal.main_arg3)
      ∧ r.2.mem ((c.tc : Thread Cert.FfnOutNormIdeal.nD Cert.FfnOutNormIdeal.τ).loc Cert.FfnOutNormIdeal.main_arg4) = m ((c.tc : Thread Cert.FfnOutNormIdeal.nD Cert.FfnOutNormIdeal.τ).loc Cert.FfnOutNormIdeal.main_arg4))
      ∧ r.2.sem = fun _ => 0)

def quiescent_FfnOutNormRefIdeal [hFfnOutNormRefIdeal : Cert.FfnOutNormRefIdeal.Facts] : Prop :=
  ∀ (m : (ℓ : Loc Cert.FfnOutNormRefIdeal.nD Cert.FfnOutNormRefIdeal.τ Cert.FfnOutNormRefIdeal.sig) → Buf (Elt Ideal) ℓ) (g : Dev Cert.FfnOutNormRefIdeal.nD → PrngReg), Pre_FfnOutNormRefIdeal m →
    θ_run (Cert.FfnOutNormRefIdeal.defs (F := Ideal)) (onTc (τ := Cert.FfnOutNormRefIdeal.τ) (Cert.FfnOutNormRefIdeal.main (F := Ideal))) ⟨m, fun _ => 0, g⟩ (fun r => (∀ c : Dev Cert.FfnOutNormRefIdeal.nD,
      r.2.mem ((c.tc : Thread Cert.FfnOutNormRefIdeal.nD Cert.FfnOutNormRefIdeal.τ).loc Cert.FfnOutNormRefIdeal.main_arg0) = m ((c.tc : Thread Cert.FfnOutNormRefIdeal.nD Cert.FfnOutNormRefIdeal.τ).loc Cert.FfnOutNormRefIdeal.main_arg0)
      ∧ r.2.mem ((c.tc : Thread Cert.FfnOutNormRefIdeal.nD Cert.FfnOutNormRefIdeal.τ).loc Cert.FfnOutNormRefIdeal.main_arg1) = m ((c.tc : Thread Cert.FfnOutNormRefIdeal.nD Cert.FfnOutNormRefIdeal.τ).loc Cert.FfnOutNormRefIdeal.main_arg1)
      ∧ r.2.mem ((c.tc : Thread Cert.FfnOutNormRefIdeal.nD Cert.FfnOutNormRefIdeal.τ).loc Cert.FfnOutNormRefIdeal.main_arg2) = m ((c.tc : Thread Cert.FfnOutNormRefIdeal.nD Cert.FfnOutNormRefIdeal.τ).loc Cert.FfnOutNormRefIdeal.main_arg2)
      ∧ r.2.mem ((c.tc : Thread Cert.FfnOutNormRefIdeal.nD Cert.FfnOutNormRefIdeal.τ).loc Cert.FfnOutNormRefIdeal.main_arg3) = m ((c.tc : Thread Cert.FfnOutNormRefIdeal.nD Cert.FfnOutNormRefIdeal.τ).loc Cert.FfnOutNormRefIdeal.main_arg3)
      ∧ r.2.mem ((c.tc : Thread Cert.FfnOutNormRefIdeal.nD Cert.FfnOutNormRefIdeal.τ).loc Cert.FfnOutNormRefIdeal.main_arg4) = m ((c.tc : Thread Cert.FfnOutNormRefIdeal.nD Cert.FfnOutNormRefIdeal.τ).loc Cert.FfnOutNormRefIdeal.main_arg4))
      ∧ r.2.sem = fun _ => 0)

def quiescent_SumWIn [hSumWIn : Cert.SumWIn.Facts] : Prop :=
  ∀ (m : (ℓ : Loc Cert.SumWIn.nD Cert.SumWIn.τ Cert.SumWIn.sig) → Buf (Elt Bits) ℓ) (g : Dev Cert.SumWIn.nD → PrngReg), Pre_SumWIn m →
    θ_run (Cert.SumWIn.defs (F := Bits)) (onTc (τ := Cert.SumWIn.τ) (Cert.SumWIn.main (F := Bits))) ⟨m, fun _ => 0, g⟩ (fun r => (∀ c : Dev Cert.SumWIn.nD,
      r.2.mem ((c.tc : Thread Cert.SumWIn.nD Cert.SumWIn.τ).loc Cert.SumWIn.main_arg0) = m ((c.tc : Thread Cert.SumWIn.nD Cert.SumWIn.τ).loc Cert.SumWIn.main_arg0))
      ∧ r.2.sem = fun _ => 0)

def quiescent_SumWInIdeal [hSumWInIdeal : Cert.SumWInIdeal.Facts] : Prop :=
  ∀ (m : (ℓ : Loc Cert.SumWInIdeal.nD Cert.SumWInIdeal.τ Cert.SumWInIdeal.sig) → Buf (Elt Ideal) ℓ) (g : Dev Cert.SumWInIdeal.nD → PrngReg), Pre_SumWInIdeal m →
    θ_run (Cert.SumWInIdeal.defs (F := Ideal)) (onTc (τ := Cert.SumWInIdeal.τ) (Cert.SumWInIdeal.main (F := Ideal))) ⟨m, fun _ => 0, g⟩ (fun r => (∀ c : Dev Cert.SumWInIdeal.nD,
      r.2.mem ((c.tc : Thread Cert.SumWInIdeal.nD Cert.SumWInIdeal.τ).loc Cert.SumWInIdeal.main_arg0) = m ((c.tc : Thread Cert.SumWInIdeal.nD Cert.SumWInIdeal.τ).loc Cert.SumWInIdeal.main_arg0))
      ∧ r.2.sem = fun _ => 0)

def quiescent_SumWInRefIdeal [hSumWInRefIdeal : Cert.SumWInRefIdeal.Facts] : Prop :=
  ∀ (m : (ℓ : Loc Cert.SumWInRefIdeal.nD Cert.SumWInRefIdeal.τ Cert.SumWInRefIdeal.sig) → Buf (Elt Ideal) ℓ) (g : Dev Cert.SumWInRefIdeal.nD → PrngReg), Pre_SumWInRefIdeal m →
    θ_run (Cert.SumWInRefIdeal.defs (F := Ideal)) (onTc (τ := Cert.SumWInRefIdeal.τ) (Cert.SumWInRefIdeal.main (F := Ideal))) ⟨m, fun _ => 0, g⟩ (fun r => (∀ c : Dev Cert.SumWInRefIdeal.nD,
      r.2.mem ((c.tc : Thread Cert.SumWInRefIdeal.nD Cert.SumWInRefIdeal.τ).loc Cert.SumWInRefIdeal.main_arg0) = m ((c.tc : Thread Cert.SumWInRefIdeal.nD Cert.SumWInRefIdeal.τ).loc Cert.SumWInRefIdeal.main_arg0))
      ∧ r.2.sem = fun _ => 0)

def quiescent_SumWFfnIn [hSumWFfnIn : Cert.SumWFfnIn.Facts] : Prop :=
  ∀ (m : (ℓ : Loc Cert.SumWFfnIn.nD Cert.SumWFfnIn.τ Cert.SumWFfnIn.sig) → Buf (Elt Bits) ℓ) (g : Dev Cert.SumWFfnIn.nD → PrngReg), Pre_SumWFfnIn m →
    θ_run (Cert.SumWFfnIn.defs (F := Bits)) (onTc (τ := Cert.SumWFfnIn.τ) (Cert.SumWFfnIn.main (F := Bits))) ⟨m, fun _ => 0, g⟩ (fun r => (∀ c : Dev Cert.SumWFfnIn.nD,
      r.2.mem ((c.tc : Thread Cert.SumWFfnIn.nD Cert.SumWFfnIn.τ).loc Cert.SumWFfnIn.main_arg0) = m ((c.tc : Thread Cert.SumWFfnIn.nD Cert.SumWFfnIn.τ).loc Cert.SumWFfnIn.main_arg0))
      ∧ r.2.sem = fun _ => 0)

def quiescent_SumWFfnInIdeal [hSumWFfnInIdeal : Cert.SumWFfnInIdeal.Facts] : Prop :=
  ∀ (m : (ℓ : Loc Cert.SumWFfnInIdeal.nD Cert.SumWFfnInIdeal.τ Cert.SumWFfnInIdeal.sig) → Buf (Elt Ideal) ℓ) (g : Dev Cert.SumWFfnInIdeal.nD → PrngReg), Pre_SumWFfnInIdeal m →
    θ_run (Cert.SumWFfnInIdeal.defs (F := Ideal)) (onTc (τ := Cert.SumWFfnInIdeal.τ) (Cert.SumWFfnInIdeal.main (F := Ideal))) ⟨m, fun _ => 0, g⟩ (fun r => (∀ c : Dev Cert.SumWFfnInIdeal.nD,
      r.2.mem ((c.tc : Thread Cert.SumWFfnInIdeal.nD Cert.SumWFfnInIdeal.τ).loc Cert.SumWFfnInIdeal.main_arg0) = m ((c.tc : Thread Cert.SumWFfnInIdeal.nD Cert.SumWFfnInIdeal.τ).loc Cert.SumWFfnInIdeal.main_arg0))
      ∧ r.2.sem = fun _ => 0)

def quiescent_SumWFfnInRefIdeal [hSumWFfnInRefIdeal : Cert.SumWFfnInRefIdeal.Facts] : Prop :=
  ∀ (m : (ℓ : Loc Cert.SumWFfnInRefIdeal.nD Cert.SumWFfnInRefIdeal.τ Cert.SumWFfnInRefIdeal.sig) → Buf (Elt Ideal) ℓ) (g : Dev Cert.SumWFfnInRefIdeal.nD → PrngReg), Pre_SumWFfnInRefIdeal m →
    θ_run (Cert.SumWFfnInRefIdeal.defs (F := Ideal)) (onTc (τ := Cert.SumWFfnInRefIdeal.τ) (Cert.SumWFfnInRefIdeal.main (F := Ideal))) ⟨m, fun _ => 0, g⟩ (fun r => (∀ c : Dev Cert.SumWFfnInRefIdeal.nD,
      r.2.mem ((c.tc : Thread Cert.SumWFfnInRefIdeal.nD Cert.SumWFfnInRefIdeal.τ).loc Cert.SumWFfnInRefIdeal.main_arg0) = m ((c.tc : Thread Cert.SumWFfnInRefIdeal.nD Cert.SumWFfnInRefIdeal.τ).loc Cert.SumWFfnInRefIdeal.main_arg0))
      ∧ r.2.sem = fun _ => 0)

def quiescent_SumWRows [hSumWRows : Cert.SumWRows.Facts] : Prop :=
  ∀ (m : (ℓ : Loc Cert.SumWRows.nD Cert.SumWRows.τ Cert.SumWRows.sig) → Buf (Elt Bits) ℓ) (g : Dev Cert.SumWRows.nD → PrngReg), Pre_SumWRows m →
    θ_run (Cert.SumWRows.defs (F := Bits)) (onTc (τ := Cert.SumWRows.τ) (Cert.SumWRows.main (F := Bits))) ⟨m, fun _ => 0, g⟩ (fun r => (∀ c : Dev Cert.SumWRows.nD,
      r.2.mem ((c.tc : Thread Cert.SumWRows.nD Cert.SumWRows.τ).loc Cert.SumWRows.main_arg0) = m ((c.tc : Thread Cert.SumWRows.nD Cert.SumWRows.τ).loc Cert.SumWRows.main_arg0))
      ∧ r.2.sem = fun _ => 0)

def quiescent_SumWRowsIdeal [hSumWRowsIdeal : Cert.SumWRowsIdeal.Facts] : Prop :=
  ∀ (m : (ℓ : Loc Cert.SumWRowsIdeal.nD Cert.SumWRowsIdeal.τ Cert.SumWRowsIdeal.sig) → Buf (Elt Ideal) ℓ) (g : Dev Cert.SumWRowsIdeal.nD → PrngReg), Pre_SumWRowsIdeal m →
    θ_run (Cert.SumWRowsIdeal.defs (F := Ideal)) (onTc (τ := Cert.SumWRowsIdeal.τ) (Cert.SumWRowsIdeal.main (F := Ideal))) ⟨m, fun _ => 0, g⟩ (fun r => (∀ c : Dev Cert.SumWRowsIdeal.nD,
      r.2.mem ((c.tc : Thread Cert.SumWRowsIdeal.nD Cert.SumWRowsIdeal.τ).loc Cert.SumWRowsIdeal.main_arg0) = m ((c.tc : Thread Cert.SumWRowsIdeal.nD Cert.SumWRowsIdeal.τ).loc Cert.SumWRowsIdeal.main_arg0))
      ∧ r.2.sem = fun _ => 0)

def quiescent_SumWRowsRefIdeal [hSumWRowsRefIdeal : Cert.SumWRowsRefIdeal.Facts] : Prop :=
  ∀ (m : (ℓ : Loc Cert.SumWRowsRefIdeal.nD Cert.SumWRowsRefIdeal.τ Cert.SumWRowsRefIdeal.sig) → Buf (Elt Ideal) ℓ) (g : Dev Cert.SumWRowsRefIdeal.nD → PrngReg), Pre_SumWRowsRefIdeal m →
    θ_run (Cert.SumWRowsRefIdeal.defs (F := Ideal)) (onTc (τ := Cert.SumWRowsRefIdeal.τ) (Cert.SumWRowsRefIdeal.main (F := Ideal))) ⟨m, fun _ => 0, g⟩ (fun r => (∀ c : Dev Cert.SumWRowsRefIdeal.nD,
      r.2.mem ((c.tc : Thread Cert.SumWRowsRefIdeal.nD Cert.SumWRowsRefIdeal.τ).loc Cert.SumWRowsRefIdeal.main_arg0) = m ((c.tc : Thread Cert.SumWRowsRefIdeal.nD Cert.SumWRowsRefIdeal.τ).loc Cert.SumWRowsRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWBranch [hAdamWBranch : Cert.AdamWBranch.Facts] : Prop :=
  ∀ (m : (ℓ : Loc Cert.AdamWBranch.nD Cert.AdamWBranch.τ Cert.AdamWBranch.sig) → Buf (Elt Bits) ℓ) (g : Dev Cert.AdamWBranch.nD → PrngReg), Pre_AdamWBranch m →
    θ_run (Cert.AdamWBranch.defs (F := Bits)) (onTc (τ := Cert.AdamWBranch.τ) (Cert.AdamWBranch.main (F := Bits))) ⟨m, fun _ => 0, g⟩ (fun r => (∀ c : Dev Cert.AdamWBranch.nD,
      r.2.mem ((c.tc : Thread Cert.AdamWBranch.nD Cert.AdamWBranch.τ).loc Cert.AdamWBranch.main_arg0) = m ((c.tc : Thread Cert.AdamWBranch.nD Cert.AdamWBranch.τ).loc Cert.AdamWBranch.main_arg0)
      ∧ r.2.mem ((c.tc : Thread Cert.AdamWBranch.nD Cert.AdamWBranch.τ).loc Cert.AdamWBranch.main_arg1) = m ((c.tc : Thread Cert.AdamWBranch.nD Cert.AdamWBranch.τ).loc Cert.AdamWBranch.main_arg1)
      ∧ r.2.mem ((c.tc : Thread Cert.AdamWBranch.nD Cert.AdamWBranch.τ).loc Cert.AdamWBranch.main_arg2) = m ((c.tc : Thread Cert.AdamWBranch.nD Cert.AdamWBranch.τ).loc Cert.AdamWBranch.main_arg2)
      ∧ r.2.mem ((c.tc : Thread Cert.AdamWBranch.nD Cert.AdamWBranch.τ).loc Cert.AdamWBranch.main_arg3) = m ((c.tc : Thread Cert.AdamWBranch.nD Cert.AdamWBranch.τ).loc Cert.AdamWBranch.main_arg3))
      ∧ r.2.sem = fun _ => 0)

def quiescent_AdamWBranchIdeal [hAdamWBranchIdeal : Cert.AdamWBranchIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg), Pre_AdamWBranchIdeal m →
    θ_run (Cert.AdamWBranchIdeal.defs (F := Ideal)) (onTc (τ := Cert.AdamWBranchIdeal.τ) (Cert.AdamWBranchIdeal.main (F := Ideal))) ⟨m, fun _ => 0, g⟩ (fun r => (∀ c : Dev Cert.AdamWBranchIdeal.nD,
      r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
      ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
      ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
      ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ r.2.sem = fun _ => 0)

def quiescent_AdamWBranchRefIdeal [hAdamWBranchRefIdeal : Cert.AdamWBranchRefIdeal.Facts] : Prop :=
  ∀ (m : (ℓ : Loc Cert.AdamWBranchRefIdeal.nD Cert.AdamWBranchRefIdeal.τ Cert.AdamWBranchRefIdeal.sig) → Buf (Elt Ideal) ℓ) (g : Dev Cert.AdamWBranchRefIdeal.nD → PrngReg), Pre_AdamWBranchRefIdeal m →
    θ_run (Cert.AdamWBranchRefIdeal.defs (F := Ideal)) (onTc (τ := Cert.AdamWBranchRefIdeal.τ) (Cert.AdamWBranchRefIdeal.main (F := Ideal))) ⟨m, fun _ => 0, g⟩ (fun r => (∀ c : Dev Cert.AdamWBranchRefIdeal.nD,
      r.2.mem ((c.tc : Thread Cert.AdamWBranchRefIdeal.nD Cert.AdamWBranchRefIdeal.τ).loc Cert.AdamWBranchRefIdeal.main_arg0) = m ((c.tc : Thread Cert.AdamWBranchRefIdeal.nD Cert.AdamWBranchRefIdeal.τ).loc Cert.AdamWBranchRefIdeal.main_arg0)
      ∧ r.2.mem ((c.tc : Thread Cert.AdamWBranchRefIdeal.nD Cert.AdamWBranchRefIdeal.τ).loc Cert.AdamWBranchRefIdeal.main_arg1) = m ((c.tc : Thread Cert.AdamWBranchRefIdeal.nD Cert.AdamWBranchRefIdeal.τ).loc Cert.AdamWBranchRefIdeal.main_arg1)
      ∧ r.2.mem ((c.tc : Thread Cert.AdamWBranchRefIdeal.nD Cert.AdamWBranchRefIdeal.τ).loc Cert.AdamWBranchRefIdeal.main_arg2) = m ((c.tc : Thread Cert.AdamWBranchRefIdeal.nD Cert.AdamWBranchRefIdeal.τ).loc Cert.AdamWBranchRefIdeal.main_arg2)
      ∧ r.2.mem ((c.tc : Thread Cert.AdamWBranchRefIdeal.nD Cert.AdamWBranchRefIdeal.τ).loc Cert.AdamWBranchRefIdeal.main_arg3) = m ((c.tc : Thread Cert.AdamWBranchRefIdeal.nD Cert.AdamWBranchRefIdeal.τ).loc Cert.AdamWBranchRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWFfnIn [hAdamWFfnIn : Cert.AdamWFfnIn.Facts] : Prop :=
  ∀ (m : (ℓ : Loc Cert.AdamWFfnIn.nD Cert.AdamWFfnIn.τ Cert.AdamWFfnIn.sig) → Buf (Elt Bits) ℓ) (g : Dev Cert.AdamWFfnIn.nD → PrngReg), Pre_AdamWFfnIn m →
    θ_run (Cert.AdamWFfnIn.defs (F := Bits)) (onTc (τ := Cert.AdamWFfnIn.τ) (Cert.AdamWFfnIn.main (F := Bits))) ⟨m, fun _ => 0, g⟩ (fun r => (∀ c : Dev Cert.AdamWFfnIn.nD,
      r.2.mem ((c.tc : Thread Cert.AdamWFfnIn.nD Cert.AdamWFfnIn.τ).loc Cert.AdamWFfnIn.main_arg0) = m ((c.tc : Thread Cert.AdamWFfnIn.nD Cert.AdamWFfnIn.τ).loc Cert.AdamWFfnIn.main_arg0)
      ∧ r.2.mem ((c.tc : Thread Cert.AdamWFfnIn.nD Cert.AdamWFfnIn.τ).loc Cert.AdamWFfnIn.main_arg1) = m ((c.tc : Thread Cert.AdamWFfnIn.nD Cert.AdamWFfnIn.τ).loc Cert.AdamWFfnIn.main_arg1)
      ∧ r.2.mem ((c.tc : Thread Cert.AdamWFfnIn.nD Cert.AdamWFfnIn.τ).loc Cert.AdamWFfnIn.main_arg2) = m ((c.tc : Thread Cert.AdamWFfnIn.nD Cert.AdamWFfnIn.τ).loc Cert.AdamWFfnIn.main_arg2)
      ∧ r.2.mem ((c.tc : Thread Cert.AdamWFfnIn.nD Cert.AdamWFfnIn.τ).loc Cert.AdamWFfnIn.main_arg3) = m ((c.tc : Thread Cert.AdamWFfnIn.nD Cert.AdamWFfnIn.τ).loc Cert.AdamWFfnIn.main_arg3))
      ∧ r.2.sem = fun _ => 0)

def quiescent_AdamWFfnInIdeal [hAdamWFfnInIdeal : Cert.AdamWFfnInIdeal.Facts] : Prop :=
  ∀ (m : (ℓ : Loc Cert.AdamWFfnInIdeal.nD Cert.AdamWFfnInIdeal.τ Cert.AdamWFfnInIdeal.sig) → Buf (Elt Ideal) ℓ) (g : Dev Cert.AdamWFfnInIdeal.nD → PrngReg), Pre_AdamWFfnInIdeal m →
    θ_run (Cert.AdamWFfnInIdeal.defs (F := Ideal)) (onTc (τ := Cert.AdamWFfnInIdeal.τ) (Cert.AdamWFfnInIdeal.main (F := Ideal))) ⟨m, fun _ => 0, g⟩ (fun r => (∀ c : Dev Cert.AdamWFfnInIdeal.nD,
      r.2.mem ((c.tc : Thread Cert.AdamWFfnInIdeal.nD Cert.AdamWFfnInIdeal.τ).loc Cert.AdamWFfnInIdeal.main_arg0) = m ((c.tc : Thread Cert.AdamWFfnInIdeal.nD Cert.AdamWFfnInIdeal.τ).loc Cert.AdamWFfnInIdeal.main_arg0)
      ∧ r.2.mem ((c.tc : Thread Cert.AdamWFfnInIdeal.nD Cert.AdamWFfnInIdeal.τ).loc Cert.AdamWFfnInIdeal.main_arg1) = m ((c.tc : Thread Cert.AdamWFfnInIdeal.nD Cert.AdamWFfnInIdeal.τ).loc Cert.AdamWFfnInIdeal.main_arg1)
      ∧ r.2.mem ((c.tc : Thread Cert.AdamWFfnInIdeal.nD Cert.AdamWFfnInIdeal.τ).loc Cert.AdamWFfnInIdeal.main_arg2) = m ((c.tc : Thread Cert.AdamWFfnInIdeal.nD Cert.AdamWFfnInIdeal.τ).loc Cert.AdamWFfnInIdeal.main_arg2)
      ∧ r.2.mem ((c.tc : Thread Cert.AdamWFfnInIdeal.nD Cert.AdamWFfnInIdeal.τ).loc Cert.AdamWFfnInIdeal.main_arg3) = m ((c.tc : Thread Cert.AdamWFfnInIdeal.nD Cert.AdamWFfnInIdeal.τ).loc Cert.AdamWFfnInIdeal.main_arg3))
      ∧ r.2.sem = fun _ => 0)

def quiescent_AdamWFfnInRefIdeal [hAdamWFfnInRefIdeal : Cert.AdamWFfnInRefIdeal.Facts] : Prop :=
  ∀ (m : (ℓ : Loc Cert.AdamWFfnInRefIdeal.nD Cert.AdamWFfnInRefIdeal.τ Cert.AdamWFfnInRefIdeal.sig) → Buf (Elt Ideal) ℓ) (g : Dev Cert.AdamWFfnInRefIdeal.nD → PrngReg), Pre_AdamWFfnInRefIdeal m →
    θ_run (Cert.AdamWFfnInRefIdeal.defs (F := Ideal)) (onTc (τ := Cert.AdamWFfnInRefIdeal.τ) (Cert.AdamWFfnInRefIdeal.main (F := Ideal))) ⟨m, fun _ => 0, g⟩ (fun r => (∀ c : Dev Cert.AdamWFfnInRefIdeal.nD,
      r.2.mem ((c.tc : Thread Cert.AdamWFfnInRefIdeal.nD Cert.AdamWFfnInRefIdeal.τ).loc Cert.AdamWFfnInRefIdeal.main_arg0) = m ((c.tc : Thread Cert.AdamWFfnInRefIdeal.nD Cert.AdamWFfnInRefIdeal.τ).loc Cert.AdamWFfnInRefIdeal.main_arg0)
      ∧ r.2.mem ((c.tc : Thread Cert.AdamWFfnInRefIdeal.nD Cert.AdamWFfnInRefIdeal.τ).loc Cert.AdamWFfnInRefIdeal.main_arg1) = m ((c.tc : Thread Cert.AdamWFfnInRefIdeal.nD Cert.AdamWFfnInRefIdeal.τ).loc Cert.AdamWFfnInRefIdeal.main_arg1)
      ∧ r.2.mem ((c.tc : Thread Cert.AdamWFfnInRefIdeal.nD Cert.AdamWFfnInRefIdeal.τ).loc Cert.AdamWFfnInRefIdeal.main_arg2) = m ((c.tc : Thread Cert.AdamWFfnInRefIdeal.nD Cert.AdamWFfnInRefIdeal.τ).loc Cert.AdamWFfnInRefIdeal.main_arg2)
      ∧ r.2.mem ((c.tc : Thread Cert.AdamWFfnInRefIdeal.nD Cert.AdamWFfnInRefIdeal.τ).loc Cert.AdamWFfnInRefIdeal.main_arg3) = m ((c.tc : Thread Cert.AdamWFfnInRefIdeal.nD Cert.AdamWFfnInRefIdeal.τ).loc Cert.AdamWFfnInRefIdeal.main_arg3))
      ∧ r.2.sem = fun _ => 0)

def quiescent_AdamWFfnOut [hAdamWFfnOut : Cert.AdamWFfnOut.Facts] : Prop :=
  ∀ (m : (ℓ : Loc Cert.AdamWFfnOut.nD Cert.AdamWFfnOut.τ Cert.AdamWFfnOut.sig) → Buf (Elt Bits) ℓ) (g : Dev Cert.AdamWFfnOut.nD → PrngReg), Pre_AdamWFfnOut m →
    θ_run (Cert.AdamWFfnOut.defs (F := Bits)) (onTc (τ := Cert.AdamWFfnOut.τ) (Cert.AdamWFfnOut.main (F := Bits))) ⟨m, fun _ => 0, g⟩ (fun r => (∀ c : Dev Cert.AdamWFfnOut.nD,
      r.2.mem ((c.tc : Thread Cert.AdamWFfnOut.nD Cert.AdamWFfnOut.τ).loc Cert.AdamWFfnOut.main_arg0) = m ((c.tc : Thread Cert.AdamWFfnOut.nD Cert.AdamWFfnOut.τ).loc Cert.AdamWFfnOut.main_arg0)
      ∧ r.2.mem ((c.tc : Thread Cert.AdamWFfnOut.nD Cert.AdamWFfnOut.τ).loc Cert.AdamWFfnOut.main_arg1) = m ((c.tc : Thread Cert.AdamWFfnOut.nD Cert.AdamWFfnOut.τ).loc Cert.AdamWFfnOut.main_arg1)
      ∧ r.2.mem ((c.tc : Thread Cert.AdamWFfnOut.nD Cert.AdamWFfnOut.τ).loc Cert.AdamWFfnOut.main_arg2) = m ((c.tc : Thread Cert.AdamWFfnOut.nD Cert.AdamWFfnOut.τ).loc Cert.AdamWFfnOut.main_arg2)
      ∧ r.2.mem ((c.tc : Thread Cert.AdamWFfnOut.nD Cert.AdamWFfnOut.τ).loc Cert.AdamWFfnOut.main_arg3) = m ((c.tc : Thread Cert.AdamWFfnOut.nD Cert.AdamWFfnOut.τ).loc Cert.AdamWFfnOut.main_arg3))
      ∧ r.2.sem = fun _ => 0)

def quiescent_AdamWFfnOutIdeal [hAdamWFfnOutIdeal : Cert.AdamWFfnOutIdeal.Facts] : Prop :=
  ∀ (m : (ℓ : Loc Cert.AdamWFfnOutIdeal.nD Cert.AdamWFfnOutIdeal.τ Cert.AdamWFfnOutIdeal.sig) → Buf (Elt Ideal) ℓ) (g : Dev Cert.AdamWFfnOutIdeal.nD → PrngReg), Pre_AdamWFfnOutIdeal m →
    θ_run (Cert.AdamWFfnOutIdeal.defs (F := Ideal)) (onTc (τ := Cert.AdamWFfnOutIdeal.τ) (Cert.AdamWFfnOutIdeal.main (F := Ideal))) ⟨m, fun _ => 0, g⟩ (fun r => (∀ c : Dev Cert.AdamWFfnOutIdeal.nD,
      r.2.mem ((c.tc : Thread Cert.AdamWFfnOutIdeal.nD Cert.AdamWFfnOutIdeal.τ).loc Cert.AdamWFfnOutIdeal.main_arg0) = m ((c.tc : Thread Cert.AdamWFfnOutIdeal.nD Cert.AdamWFfnOutIdeal.τ).loc Cert.AdamWFfnOutIdeal.main_arg0)
      ∧ r.2.mem ((c.tc : Thread Cert.AdamWFfnOutIdeal.nD Cert.AdamWFfnOutIdeal.τ).loc Cert.AdamWFfnOutIdeal.main_arg1) = m ((c.tc : Thread Cert.AdamWFfnOutIdeal.nD Cert.AdamWFfnOutIdeal.τ).loc Cert.AdamWFfnOutIdeal.main_arg1)
      ∧ r.2.mem ((c.tc : Thread Cert.AdamWFfnOutIdeal.nD Cert.AdamWFfnOutIdeal.τ).loc Cert.AdamWFfnOutIdeal.main_arg2) = m ((c.tc : Thread Cert.AdamWFfnOutIdeal.nD Cert.AdamWFfnOutIdeal.τ).loc Cert.AdamWFfnOutIdeal.main_arg2)
      ∧ r.2.mem ((c.tc : Thread Cert.AdamWFfnOutIdeal.nD Cert.AdamWFfnOutIdeal.τ).loc Cert.AdamWFfnOutIdeal.main_arg3) = m ((c.tc : Thread Cert.AdamWFfnOutIdeal.nD Cert.AdamWFfnOutIdeal.τ).loc Cert.AdamWFfnOutIdeal.main_arg3))
      ∧ r.2.sem = fun _ => 0)

def quiescent_AdamWFfnOutRefIdeal [hAdamWFfnOutRefIdeal : Cert.AdamWFfnOutRefIdeal.Facts] : Prop :=
  ∀ (m : (ℓ : Loc Cert.AdamWFfnOutRefIdeal.nD Cert.AdamWFfnOutRefIdeal.τ Cert.AdamWFfnOutRefIdeal.sig) → Buf (Elt Ideal) ℓ) (g : Dev Cert.AdamWFfnOutRefIdeal.nD → PrngReg), Pre_AdamWFfnOutRefIdeal m →
    θ_run (Cert.AdamWFfnOutRefIdeal.defs (F := Ideal)) (onTc (τ := Cert.AdamWFfnOutRefIdeal.τ) (Cert.AdamWFfnOutRefIdeal.main (F := Ideal))) ⟨m, fun _ => 0, g⟩ (fun r => (∀ c : Dev Cert.AdamWFfnOutRefIdeal.nD,
      r.2.mem ((c.tc : Thread Cert.AdamWFfnOutRefIdeal.nD Cert.AdamWFfnOutRefIdeal.τ).loc Cert.AdamWFfnOutRefIdeal.main_arg0) = m ((c.tc : Thread Cert.AdamWFfnOutRefIdeal.nD Cert.AdamWFfnOutRefIdeal.τ).loc Cert.AdamWFfnOutRefIdeal.main_arg0)
      ∧ r.2.mem ((c.tc : Thread Cert.AdamWFfnOutRefIdeal.nD Cert.AdamWFfnOutRefIdeal.τ).loc Cert.AdamWFfnOutRefIdeal.main_arg1) = m ((c.tc : Thread Cert.AdamWFfnOutRefIdeal.nD Cert.AdamWFfnOutRefIdeal.τ).loc Cert.AdamWFfnOutRefIdeal.main_arg1)
      ∧ r.2.mem ((c.tc : Thread Cert.AdamWFfnOutRefIdeal.nD Cert.AdamWFfnOutRefIdeal.τ).loc Cert.AdamWFfnOutRefIdeal.main_arg2) = m ((c.tc : Thread Cert.AdamWFfnOutRefIdeal.nD Cert.AdamWFfnOutRefIdeal.τ).loc Cert.AdamWFfnOutRefIdeal.main_arg2)
      ∧ r.2.mem ((c.tc : Thread Cert.AdamWFfnOutRefIdeal.nD Cert.AdamWFfnOutRefIdeal.τ).loc Cert.AdamWFfnOutRefIdeal.main_arg3) = m ((c.tc : Thread Cert.AdamWFfnOutRefIdeal.nD Cert.AdamWFfnOutRefIdeal.τ).loc Cert.AdamWFfnOutRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v36) = v0 c
          ∧ r.2.mem ((c.tc : Thread Cert.MergeRefIdeal.nD Cert.MergeRefIdeal.τ).loc Cert.MergeRefIdeal.main_v37) = v1 c
          ∧ r.2.mem ((c.tc : Thread Cert.MergeRefIdeal.nD Cert.MergeRefIdeal.τ).loc Cert.MergeRefIdeal.main_v38) = v2 c
          ∧ r.2.mem ((c.tc : Thread Cert.MergeRefIdeal.nD Cert.MergeRefIdeal.τ).loc Cert.MergeRefIdeal.main_v39) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Swiglu_SwigluIdeal : Prop :=
  True

def algebraic_SwigluIdeal_SwigluRefIdeal_pre_swiglu_finite [hSwigluIdeal : Cert.SwigluIdeal.Facts] [hSwigluRefIdeal : Cert.SwigluRefIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_swiglu_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v12) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_NormGrad_NormGradIdeal : Prop :=
  True

def algebraic_NormGradIdeal_NormGradRefIdeal_pre_norm_finite [hNormGradIdeal : Cert.NormGradIdeal.Facts] [hNormGradRefIdeal : Cert.NormGradRefIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_norm_finite m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)) (v2 : (c : Dev Cert.NormGradIdeal.nD) → Buf (Elt Ideal) ((c.tc : Thread Cert.NormGradIdeal.nD Cert.NormGradIdeal.τ).loc Cert.NormGradIdeal.main_v1_2)) (v3 : (c : Dev Cert.NormGradIdeal.nD) → Buf (Elt Ideal) ((c.tc : Thread Cert.NormGradIdeal.nD Cert.NormGradIdeal.τ).loc Cert.NormGradIdeal.main_v1_3)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_v1_2) = v2 c
          ∧ r.2.mem ((c.tc : Thread Cert.NormGradIdeal.nD Cert.NormGradIdeal.τ).loc Cert.NormGradIdeal.main_v1_3) = v3 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v63) = v0 c
          ∧ r.2.mem ((c.tc : Thread Cert.NormGradRefIdeal.nD Cert.NormGradRefIdeal.τ).loc Cert.NormGradRefIdeal.main_v64) = v1 c
          ∧ r.2.mem ((c.tc : Thread Cert.NormGradRefIdeal.nD Cert.NormGradRefIdeal.τ).loc Cert.NormGradRefIdeal.main_v65) = v2 c
          ∧ r.2.mem ((c.tc : Thread Cert.NormGradRefIdeal.nD Cert.NormGradRefIdeal.τ).loc Cert.NormGradRefIdeal.main_v66) = v3 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2))

def preserves_NormGradQd_NormGradQdIdeal : Prop :=
  True

def algebraic_NormGradQdIdeal_NormGradQdRefIdeal_pre_norm_qd_finite [hNormGradQdIdeal : Cert.NormGradQdIdeal.Facts] [hNormGradQdRefIdeal : Cert.NormGradQdRefIdeal.Facts] [hPre_norm_qd_finite : Cert.Pre_norm_qd_finite.Facts] : Prop :=
  ∀ (m : (ℓ : Loc Cert.NormGradQdIdeal.nD Cert.NormGradQdIdeal.τ Cert.NormGradQdIdeal.sig) → Buf (Elt Ideal) ℓ) (g : Dev Cert.NormGradQdIdeal.nD → PrngReg)
    (m' : (ℓ : Loc Cert.NormGradQdRefIdeal.nD Cert.NormGradQdRefIdeal.τ Cert.NormGradQdRefIdeal.sig) → Buf (Elt Ideal) ℓ) (g' : Dev Cert.NormGradQdRefIdeal.nD → PrngReg), Pre_NormGradQdIdeal_norm_qd_finite m →
    (∀ c : Dev Cert.NormGradQdIdeal.nD,
      m' ((c.tc : Thread Cert.NormGradQdRefIdeal.nD Cert.NormGradQdRefIdeal.τ).loc Cert.NormGradQdRefIdeal.main_arg0) = m ((c.tc : Thread Cert.NormGradQdIdeal.nD Cert.NormGradQdIdeal.τ).loc Cert.NormGradQdIdeal.main_arg0)
      ∧ m' ((c.tc : Thread Cert.NormGradQdRefIdeal.nD Cert.NormGradQdRefIdeal.τ).loc Cert.NormGradQdRefIdeal.main_arg1) = m ((c.tc : Thread Cert.NormGradQdIdeal.nD Cert.NormGradQdIdeal.τ).loc Cert.NormGradQdIdeal.main_arg1)
      ∧ m' ((c.tc : Thread Cert.NormGradQdRefIdeal.nD Cert.NormGradQdRefIdeal.τ).loc Cert.NormGradQdRefIdeal.main_arg2) = m ((c.tc : Thread Cert.NormGradQdIdeal.nD Cert.NormGradQdIdeal.τ).loc Cert.NormGradQdIdeal.main_arg2)
      ∧ m' ((c.tc : Thread Cert.NormGradQdRefIdeal.nD Cert.NormGradQdRefIdeal.τ).loc Cert.NormGradQdRefIdeal.main_arg3) = m ((c.tc : Thread Cert.NormGradQdIdeal.nD Cert.NormGradQdIdeal.τ).loc Cert.NormGradQdIdeal.main_arg3)
      ∧ m' ((c.tc : Thread Cert.NormGradQdRefIdeal.nD Cert.NormGradQdRefIdeal.τ).loc Cert.NormGradQdRefIdeal.main_arg4) = m ((c.tc : Thread Cert.NormGradQdIdeal.nD Cert.NormGradQdIdeal.τ).loc Cert.NormGradQdIdeal.main_arg4)) →
    ∃ (v0 : (c : Dev Cert.NormGradQdIdeal.nD) → Buf (Elt Ideal) ((c.tc : Thread Cert.NormGradQdIdeal.nD Cert.NormGradQdIdeal.τ).loc Cert.NormGradQdIdeal.main_v1_0)) (v1 : (c : Dev Cert.NormGradQdIdeal.nD) → Buf (Elt Ideal) ((c.tc : Thread Cert.NormGradQdIdeal.nD Cert.NormGradQdIdeal.τ).loc Cert.NormGradQdIdeal.main_v1_1)) (v2 : (c : Dev Cert.NormGradQdIdeal.nD) → Buf (Elt Ideal) ((c.tc : Thread Cert.NormGradQdIdeal.nD Cert.NormGradQdIdeal.τ).loc Cert.NormGradQdIdeal.main_v1_2)) (v3 : (c : Dev Cert.NormGradQdIdeal.nD) → Buf (Elt Ideal) ((c.tc : Thread Cert.NormGradQdIdeal.nD Cert.NormGradQdIdeal.τ).loc Cert.NormGradQdIdeal.main_v1_3)),
      θ_run (Cert.NormGradQdIdeal.defs (F := Ideal)) (onTc (τ := Cert.NormGradQdIdeal.τ) (Cert.NormGradQdIdeal.main (F := Ideal))) ⟨m, fun _ => 0, g⟩ (fun r => ∀ c : Dev Cert.NormGradQdIdeal.nD,
          r.2.mem ((c.tc : Thread Cert.NormGradQdIdeal.nD Cert.NormGradQdIdeal.τ).loc Cert.NormGradQdIdeal.main_v1_0) = v0 c
          ∧ r.2.mem ((c.tc : Thread Cert.NormGradQdIdeal.nD Cert.NormGradQdIdeal.τ).loc Cert.NormGradQdIdeal.main_v1_1) = v1 c
          ∧ r.2.mem ((c.tc : Thread Cert.NormGradQdIdeal.nD Cert.NormGradQdIdeal.τ).loc Cert.NormGradQdIdeal.main_v1_2) = v2 c
          ∧ r.2.mem ((c.tc : Thread Cert.NormGradQdIdeal.nD Cert.NormGradQdIdeal.τ).loc Cert.NormGradQdIdeal.main_v1_3) = v3 c
          ∧ r.2.mem ((c.tc : Thread Cert.NormGradQdIdeal.nD Cert.NormGradQdIdeal.τ).loc Cert.NormGradQdIdeal.main_arg0) = m ((c.tc : Thread Cert.NormGradQdIdeal.nD Cert.NormGradQdIdeal.τ).loc Cert.NormGradQdIdeal.main_arg0)
          ∧ r.2.mem ((c.tc : Thread Cert.NormGradQdIdeal.nD Cert.NormGradQdIdeal.τ).loc Cert.NormGradQdIdeal.main_arg1) = m ((c.tc : Thread Cert.NormGradQdIdeal.nD Cert.NormGradQdIdeal.τ).loc Cert.NormGradQdIdeal.main_arg1)
          ∧ r.2.mem ((c.tc : Thread Cert.NormGradQdIdeal.nD Cert.NormGradQdIdeal.τ).loc Cert.NormGradQdIdeal.main_arg2) = m ((c.tc : Thread Cert.NormGradQdIdeal.nD Cert.NormGradQdIdeal.τ).loc Cert.NormGradQdIdeal.main_arg2)
          ∧ r.2.mem ((c.tc : Thread Cert.NormGradQdIdeal.nD Cert.NormGradQdIdeal.τ).loc Cert.NormGradQdIdeal.main_arg3) = m ((c.tc : Thread Cert.NormGradQdIdeal.nD Cert.NormGradQdIdeal.τ).loc Cert.NormGradQdIdeal.main_arg3)
          ∧ r.2.mem ((c.tc : Thread Cert.NormGradQdIdeal.nD Cert.NormGradQdIdeal.τ).loc Cert.NormGradQdIdeal.main_arg4) = m ((c.tc : Thread Cert.NormGradQdIdeal.nD Cert.NormGradQdIdeal.τ).loc Cert.NormGradQdIdeal.main_arg4))
      ∧ θ_run (Cert.NormGradQdRefIdeal.defs (F := Ideal)) (onTc (τ := Cert.NormGradQdRefIdeal.τ) (Cert.NormGradQdRefIdeal.main (F := Ideal))) ⟨m', fun _ => 0, g'⟩ (fun r => ∀ c : Dev Cert.NormGradQdRefIdeal.nD,
          r.2.mem ((c.tc : Thread Cert.NormGradQdRefIdeal.nD Cert.NormGradQdRefIdeal.τ).loc Cert.NormGradQdRefIdeal.main_v68) = v0 c
          ∧ r.2.mem ((c.tc : Thread Cert.NormGradQdRefIdeal.nD Cert.NormGradQdRefIdeal.τ).loc Cert.NormGradQdRefIdeal.main_v69) = v1 c
          ∧ r.2.mem ((c.tc : Thread Cert.NormGradQdRefIdeal.nD Cert.NormGradQdRefIdeal.τ).loc Cert.NormGradQdRefIdeal.main_v70) = v2 c
          ∧ r.2.mem ((c.tc : Thread Cert.NormGradQdRefIdeal.nD Cert.NormGradQdRefIdeal.τ).loc Cert.NormGradQdRefIdeal.main_v71) = v3 c
          ∧ r.2.mem ((c.tc : Thread Cert.NormGradQdRefIdeal.nD Cert.NormGradQdRefIdeal.τ).loc Cert.NormGradQdRefIdeal.main_arg0) = m' ((c.tc : Thread Cert.NormGradQdRefIdeal.nD Cert.NormGradQdRefIdeal.τ).loc Cert.NormGradQdRefIdeal.main_arg0)
          ∧ r.2.mem ((c.tc : Thread Cert.NormGradQdRefIdeal.nD Cert.NormGradQdRefIdeal.τ).loc Cert.NormGradQdRefIdeal.main_arg1) = m' ((c.tc : Thread Cert.NormGradQdRefIdeal.nD Cert.NormGradQdRefIdeal.τ).loc Cert.NormGradQdRefIdeal.main_arg1)
          ∧ r.2.mem ((c.tc : Thread Cert.NormGradQdRefIdeal.nD Cert.NormGradQdRefIdeal.τ).loc Cert.NormGradQdRefIdeal.main_arg2) = m' ((c.tc : Thread Cert.NormGradQdRefIdeal.nD Cert.NormGradQdRefIdeal.τ).loc Cert.NormGradQdRefIdeal.main_arg2)
          ∧ r.2.mem ((c.tc : Thread Cert.NormGradQdRefIdeal.nD Cert.NormGradQdRefIdeal.τ).loc Cert.NormGradQdRefIdeal.main_arg3) = m' ((c.tc : Thread Cert.NormGradQdRefIdeal.nD Cert.NormGradQdRefIdeal.τ).loc Cert.NormGradQdRefIdeal.main_arg3)
          ∧ r.2.mem ((c.tc : Thread Cert.NormGradQdRefIdeal.nD Cert.NormGradQdRefIdeal.τ).loc Cert.NormGradQdRefIdeal.main_arg4) = m' ((c.tc : Thread Cert.NormGradQdRefIdeal.nD Cert.NormGradQdRefIdeal.τ).loc Cert.NormGradQdRefIdeal.main_arg4))

def preserves_NormGradFfn_NormGradFfnIdeal : Prop :=
  True

def algebraic_NormGradFfnIdeal_NormGradFfnRefIdeal_pre_norm_ffn_finite [hNormGradFfnIdeal : Cert.NormGradFfnIdeal.Facts] [hNormGradFfnRefIdeal : Cert.NormGradFfnRefIdeal.Facts] [hPre_norm_ffn_finite : Cert.Pre_norm_ffn_finite.Facts] : Prop :=
  ∀ (m : (ℓ : Loc Cert.NormGradFfnIdeal.nD Cert.NormGradFfnIdeal.τ Cert.NormGradFfnIdeal.sig) → Buf (Elt Ideal) ℓ) (g : Dev Cert.NormGradFfnIdeal.nD → PrngReg)
    (m' : (ℓ : Loc Cert.NormGradFfnRefIdeal.nD Cert.NormGradFfnRefIdeal.τ Cert.NormGradFfnRefIdeal.sig) → Buf (Elt Ideal) ℓ) (g' : Dev Cert.NormGradFfnRefIdeal.nD → PrngReg), Pre_NormGradFfnIdeal_norm_ffn_finite m →
    (∀ c : Dev Cert.NormGradFfnIdeal.nD,
      m' ((c.tc : Thread Cert.NormGradFfnRefIdeal.nD Cert.NormGradFfnRefIdeal.τ).loc Cert.NormGradFfnRefIdeal.main_arg0) = m ((c.tc : Thread Cert.NormGradFfnIdeal.nD Cert.NormGradFfnIdeal.τ).loc Cert.NormGradFfnIdeal.main_arg0)
      ∧ m' ((c.tc : Thread Cert.NormGradFfnRefIdeal.nD Cert.NormGradFfnRefIdeal.τ).loc Cert.NormGradFfnRefIdeal.main_arg1) = m ((c.tc : Thread Cert.NormGradFfnIdeal.nD Cert.NormGradFfnIdeal.τ).loc Cert.NormGradFfnIdeal.main_arg1)
      ∧ m' ((c.tc : Thread Cert.NormGradFfnRefIdeal.nD Cert.NormGradFfnRefIdeal.τ).loc Cert.NormGradFfnRefIdeal.main_arg2) = m ((c.tc : Thread Cert.NormGradFfnIdeal.nD Cert.NormGradFfnIdeal.τ).loc Cert.NormGradFfnIdeal.main_arg2)
      ∧ m' ((c.tc : Thread Cert.NormGradFfnRefIdeal.nD Cert.NormGradFfnRefIdeal.τ).loc Cert.NormGradFfnRefIdeal.main_arg3) = m ((c.tc : Thread Cert.NormGradFfnIdeal.nD Cert.NormGradFfnIdeal.τ).loc Cert.NormGradFfnIdeal.main_arg3)
      ∧ m' ((c.tc : Thread Cert.NormGradFfnRefIdeal.nD Cert.NormGradFfnRefIdeal.τ).loc Cert.NormGradFfnRefIdeal.main_arg4) = m ((c.tc : Thread Cert.NormGradFfnIdeal.nD Cert.NormGradFfnIdeal.τ).loc Cert.NormGradFfnIdeal.main_arg4)) →
    ∃ (v0 : (c : Dev Cert.NormGradFfnIdeal.nD) → Buf (Elt Ideal) ((c.tc : Thread Cert.NormGradFfnIdeal.nD Cert.NormGradFfnIdeal.τ).loc Cert.NormGradFfnIdeal.main_v1_0)) (v1 : (c : Dev Cert.NormGradFfnIdeal.nD) → Buf (Elt Ideal) ((c.tc : Thread Cert.NormGradFfnIdeal.nD Cert.NormGradFfnIdeal.τ).loc Cert.NormGradFfnIdeal.main_v1_1)) (v2 : (c : Dev Cert.NormGradFfnIdeal.nD) → Buf (Elt Ideal) ((c.tc : Thread Cert.NormGradFfnIdeal.nD Cert.NormGradFfnIdeal.τ).loc Cert.NormGradFfnIdeal.main_v1_2)) (v3 : (c : Dev Cert.NormGradFfnIdeal.nD) → Buf (Elt Ideal) ((c.tc : Thread Cert.NormGradFfnIdeal.nD Cert.NormGradFfnIdeal.τ).loc Cert.NormGradFfnIdeal.main_v1_3)),
      θ_run (Cert.NormGradFfnIdeal.defs (F := Ideal)) (onTc (τ := Cert.NormGradFfnIdeal.τ) (Cert.NormGradFfnIdeal.main (F := Ideal))) ⟨m, fun _ => 0, g⟩ (fun r => ∀ c : Dev Cert.NormGradFfnIdeal.nD,
          r.2.mem ((c.tc : Thread Cert.NormGradFfnIdeal.nD Cert.NormGradFfnIdeal.τ).loc Cert.NormGradFfnIdeal.main_v1_0) = v0 c
          ∧ r.2.mem ((c.tc : Thread Cert.NormGradFfnIdeal.nD Cert.NormGradFfnIdeal.τ).loc Cert.NormGradFfnIdeal.main_v1_1) = v1 c
          ∧ r.2.mem ((c.tc : Thread Cert.NormGradFfnIdeal.nD Cert.NormGradFfnIdeal.τ).loc Cert.NormGradFfnIdeal.main_v1_2) = v2 c
          ∧ r.2.mem ((c.tc : Thread Cert.NormGradFfnIdeal.nD Cert.NormGradFfnIdeal.τ).loc Cert.NormGradFfnIdeal.main_v1_3) = v3 c
          ∧ r.2.mem ((c.tc : Thread Cert.NormGradFfnIdeal.nD Cert.NormGradFfnIdeal.τ).loc Cert.NormGradFfnIdeal.main_arg0) = m ((c.tc : Thread Cert.NormGradFfnIdeal.nD Cert.NormGradFfnIdeal.τ).loc Cert.NormGradFfnIdeal.main_arg0)
          ∧ r.2.mem ((c.tc : Thread Cert.NormGradFfnIdeal.nD Cert.NormGradFfnIdeal.τ).loc Cert.NormGradFfnIdeal.main_arg1) = m ((c.tc : Thread Cert.NormGradFfnIdeal.nD Cert.NormGradFfnIdeal.τ).loc Cert.NormGradFfnIdeal.main_arg1)
          ∧ r.2.mem ((c.tc : Thread Cert.NormGradFfnIdeal.nD Cert.NormGradFfnIdeal.τ).loc Cert.NormGradFfnIdeal.main_arg2) = m ((c.tc : Thread Cert.NormGradFfnIdeal.nD Cert.NormGradFfnIdeal.τ).loc Cert.NormGradFfnIdeal.main_arg2)
          ∧ r.2.mem ((c.tc : Thread Cert.NormGradFfnIdeal.nD Cert.NormGradFfnIdeal.τ).loc Cert.NormGradFfnIdeal.main_arg3) = m ((c.tc : Thread Cert.NormGradFfnIdeal.nD Cert.NormGradFfnIdeal.τ).loc Cert.NormGradFfnIdeal.main_arg3)
          ∧ r.2.mem ((c.tc : Thread Cert.NormGradFfnIdeal.nD Cert.NormGradFfnIdeal.τ).loc Cert.NormGradFfnIdeal.main_arg4) = m ((c.tc : Thread Cert.NormGradFfnIdeal.nD Cert.NormGradFfnIdeal.τ).loc Cert.NormGradFfnIdeal.main_arg4))
      ∧ θ_run (Cert.NormGradFfnRefIdeal.defs (F := Ideal)) (onTc (τ := Cert.NormGradFfnRefIdeal.τ) (Cert.NormGradFfnRefIdeal.main (F := Ideal))) ⟨m', fun _ => 0, g'⟩ (fun r => ∀ c : Dev Cert.NormGradFfnRefIdeal.nD,
          r.2.mem ((c.tc : Thread Cert.NormGradFfnRefIdeal.nD Cert.NormGradFfnRefIdeal.τ).loc Cert.NormGradFfnRefIdeal.main_v71) = v0 c
          ∧ r.2.mem ((c.tc : Thread Cert.NormGradFfnRefIdeal.nD Cert.NormGradFfnRefIdeal.τ).loc Cert.NormGradFfnRefIdeal.main_v72) = v1 c
          ∧ r.2.mem ((c.tc : Thread Cert.NormGradFfnRefIdeal.nD Cert.NormGradFfnRefIdeal.τ).loc Cert.NormGradFfnRefIdeal.main_v73) = v2 c
          ∧ r.2.mem ((c.tc : Thread Cert.NormGradFfnRefIdeal.nD Cert.NormGradFfnRefIdeal.τ).loc Cert.NormGradFfnRefIdeal.main_v74) = v3 c
          ∧ r.2.mem ((c.tc : Thread Cert.NormGradFfnRefIdeal.nD Cert.NormGradFfnRefIdeal.τ).loc Cert.NormGradFfnRefIdeal.main_arg0) = m' ((c.tc : Thread Cert.NormGradFfnRefIdeal.nD Cert.NormGradFfnRefIdeal.τ).loc Cert.NormGradFfnRefIdeal.main_arg0)
          ∧ r.2.mem ((c.tc : Thread Cert.NormGradFfnRefIdeal.nD Cert.NormGradFfnRefIdeal.τ).loc Cert.NormGradFfnRefIdeal.main_arg1) = m' ((c.tc : Thread Cert.NormGradFfnRefIdeal.nD Cert.NormGradFfnRefIdeal.τ).loc Cert.NormGradFfnRefIdeal.main_arg1)
          ∧ r.2.mem ((c.tc : Thread Cert.NormGradFfnRefIdeal.nD Cert.NormGradFfnRefIdeal.τ).loc Cert.NormGradFfnRefIdeal.main_arg2) = m' ((c.tc : Thread Cert.NormGradFfnRefIdeal.nD Cert.NormGradFfnRefIdeal.τ).loc Cert.NormGradFfnRefIdeal.main_arg2)
          ∧ r.2.mem ((c.tc : Thread Cert.NormGradFfnRefIdeal.nD Cert.NormGradFfnRefIdeal.τ).loc Cert.NormGradFfnRefIdeal.main_arg3) = m' ((c.tc : Thread Cert.NormGradFfnRefIdeal.nD Cert.NormGradFfnRefIdeal.τ).loc Cert.NormGradFfnRefIdeal.main_arg3)
          ∧ r.2.mem ((c.tc : Thread Cert.NormGradFfnRefIdeal.nD Cert.NormGradFfnRefIdeal.τ).loc Cert.NormGradFfnRefIdeal.main_arg4) = m' ((c.tc : Thread Cert.NormGradFfnRefIdeal.nD Cert.NormGradFfnRefIdeal.τ).loc Cert.NormGradFfnRefIdeal.main_arg4))

def preserves_Window_WindowIdeal : Prop :=
  IdealRules.named_const.Statement Cert.WindowIdeal.κ "mask" .f32 0xF149F2CA#32 ⊥

def algebraic_WindowIdeal_WindowRefIdeal [hWindowIdeal : Cert.WindowIdeal.Facts] [hWindowRefIdeal : Cert.WindowRefIdeal.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)) →
    ∃ (v0 : (c : Dev Cert.WindowIdeal.nD) → Buf (Elt Ideal) ((c.tc : Thread Cert.WindowIdeal.nD Cert.WindowIdeal.τ).loc Cert.WindowIdeal.main_v0_0)) (v1 : (c : Dev Cert.WindowIdeal.nD) → Buf (Elt Ideal) ((c.tc : Thread Cert.WindowIdeal.nD Cert.WindowIdeal.τ).loc Cert.WindowIdeal.main_v0_1)) (v2 : (c : Dev Cert.WindowIdeal.nD) → Buf (Elt Ideal) ((c.tc : Thread Cert.WindowIdeal.nD Cert.WindowIdeal.τ).loc Cert.WindowIdeal.main_v0_2)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v0_0) = v0 c
          ∧ r.2.mem ((c.tc : Thread Cert.WindowIdeal.nD Cert.WindowIdeal.τ).loc Cert.WindowIdeal.main_v0_1) = v1 c
          ∧ r.2.mem ((c.tc : Thread Cert.WindowIdeal.nD Cert.WindowIdeal.τ).loc Cert.WindowIdeal.main_v0_2) = v2 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v76) = v0 c
          ∧ r.2.mem ((c.tc : Thread Cert.WindowRefIdeal.nD Cert.WindowRefIdeal.τ).loc Cert.WindowRefIdeal.main_v79) = v1 c
          ∧ r.2.mem ((c.tc : Thread Cert.WindowRefIdeal.nD Cert.WindowRefIdeal.τ).loc Cert.WindowRefIdeal.main_v80) = v2 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_DwFfnOut_DwFfnOutIdeal : Prop :=
  True

def algebraic_DwFfnOutIdeal_DwFfnOutRefIdeal [hDwFfnOutIdeal : Cert.DwFfnOutIdeal.Facts] [hDwFfnOutRefIdeal : Cert.DwFfnOutRefIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg)
    (m' : (ℓ : Loc Cert.DwFfnOutRefIdeal.nD Cert.DwFfnOutRefIdeal.τ Cert.DwFfnOutRefIdeal.sig) → Buf (Elt Ideal) ℓ) (g' : Dev Cert.DwFfnOutRefIdeal.nD → PrngReg), Pre_DwFfnOutIdeal m →
    (∀ c : Dev Cert.DwFfnOutIdeal.nD,
      m' ((c.tc : Thread Cert.DwFfnOutRefIdeal.nD Cert.DwFfnOutRefIdeal.τ).loc Cert.DwFfnOutRefIdeal.main_arg0) = m ((c.tc : Thread Cert.DwFfnOutIdeal.nD Cert.DwFfnOutIdeal.τ).loc Cert.DwFfnOutIdeal.main_arg0)
      ∧ m' ((c.tc : Thread Cert.DwFfnOutRefIdeal.nD Cert.DwFfnOutRefIdeal.τ).loc Cert.DwFfnOutRefIdeal.main_arg1) = m ((c.tc : Thread Cert.DwFfnOutIdeal.nD Cert.DwFfnOutIdeal.τ).loc Cert.DwFfnOutIdeal.main_arg1)) →
    ∃ (v0 : (c : Dev Cert.DwFfnOutIdeal.nD) → Buf (Elt Ideal) ((c.tc : Thread Cert.DwFfnOutIdeal.nD Cert.DwFfnOutIdeal.τ).loc Cert.DwFfnOutIdeal.main_v0)),
      θ_run (Cert.DwFfnOutIdeal.defs (F := Ideal)) (onTc (τ := Cert.DwFfnOutIdeal.τ) (Cert.DwFfnOutIdeal.main (F := Ideal))) ⟨m, fun _ => 0, g⟩ (fun r => ∀ c : Dev Cert.DwFfnOutIdeal.nD,
          r.2.mem ((c.tc : Thread Cert.DwFfnOutIdeal.nD Cert.DwFfnOutIdeal.τ).loc Cert.DwFfnOutIdeal.main_v0) = v0 c
          ∧ r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
          ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ θ_run (Cert.DwFfnOutRefIdeal.defs (F := Ideal)) (onTc (τ := Cert.DwFfnOutRefIdeal.τ) (Cert.DwFfnOutRefIdeal.main (F := Ideal))) ⟨m', fun _ => 0, g'⟩ (fun r => ∀ c : Dev Cert.DwFfnOutRefIdeal.nD,
          r.2.mem ((c.tc : Thread Cert.DwFfnOutRefIdeal.nD Cert.DwFfnOutRefIdeal.τ).loc Cert.DwFfnOutRefIdeal.main_v6) = v0 c
          ∧ r.2.mem ((c.tc : Thread Cert.DwFfnOutRefIdeal.nD Cert.DwFfnOutRefIdeal.τ).loc Cert.DwFfnOutRefIdeal.main_arg0) = m' ((c.tc : Thread Cert.DwFfnOutRefIdeal.nD Cert.DwFfnOutRefIdeal.τ).loc Cert.DwFfnOutRefIdeal.main_arg0)
          ∧ r.2.mem ((c.tc : Thread Cert.DwFfnOutRefIdeal.nD Cert.DwFfnOutRefIdeal.τ).loc Cert.DwFfnOutRefIdeal.main_arg1) = m' ((c.tc : Thread Cert.DwFfnOutRefIdeal.nD Cert.DwFfnOutRefIdeal.τ).loc Cert.DwFfnOutRefIdeal.main_arg1))

def preserves_DwFfnIn_DwFfnInIdeal : Prop :=
  True

def algebraic_DwFfnInIdeal_DwFfnInRefIdeal [hDwFfnInIdeal : Cert.DwFfnInIdeal.Facts] [hDwFfnInRefIdeal : Cert.DwFfnInRefIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg)
    (m' : (ℓ : Loc Cert.DwFfnInRefIdeal.nD Cert.DwFfnInRefIdeal.τ Cert.DwFfnInRefIdeal.sig) → Buf (Elt Ideal) ℓ) (g' : Dev Cert.DwFfnInRefIdeal.nD → PrngReg), Pre_DwFfnInIdeal m →
    (∀ c : Dev Cert.DwFfnInIdeal.nD,
      m' ((c.tc : Thread Cert.DwFfnInRefIdeal.nD Cert.DwFfnInRefIdeal.τ).loc Cert.DwFfnInRefIdeal.main_arg0) = m ((c.tc : Thread Cert.DwFfnInIdeal.nD Cert.DwFfnInIdeal.τ).loc Cert.DwFfnInIdeal.main_arg0)
      ∧ m' ((c.tc : Thread Cert.DwFfnInRefIdeal.nD Cert.DwFfnInRefIdeal.τ).loc Cert.DwFfnInRefIdeal.main_arg1) = m ((c.tc : Thread Cert.DwFfnInIdeal.nD Cert.DwFfnInIdeal.τ).loc Cert.DwFfnInIdeal.main_arg1)) →
    ∃ (v0 : (c : Dev Cert.DwFfnInIdeal.nD) → Buf (Elt Ideal) ((c.tc : Thread Cert.DwFfnInIdeal.nD Cert.DwFfnInIdeal.τ).loc Cert.DwFfnInIdeal.main_v0)),
      θ_run (Cert.DwFfnInIdeal.defs (F := Ideal)) (onTc (τ := Cert.DwFfnInIdeal.τ) (Cert.DwFfnInIdeal.main (F := Ideal))) ⟨m, fun _ => 0, g⟩ (fun r => ∀ c : Dev Cert.DwFfnInIdeal.nD,
          r.2.mem ((c.tc : Thread Cert.DwFfnInIdeal.nD Cert.DwFfnInIdeal.τ).loc Cert.DwFfnInIdeal.main_v0) = v0 c
          ∧ r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
          ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ θ_run (Cert.DwFfnInRefIdeal.defs (F := Ideal)) (onTc (τ := Cert.DwFfnInRefIdeal.τ) (Cert.DwFfnInRefIdeal.main (F := Ideal))) ⟨m', fun _ => 0, g'⟩ (fun r => ∀ c : Dev Cert.DwFfnInRefIdeal.nD,
          r.2.mem ((c.tc : Thread Cert.DwFfnInRefIdeal.nD Cert.DwFfnInRefIdeal.τ).loc Cert.DwFfnInRefIdeal.main_v6) = v0 c
          ∧ r.2.mem ((c.tc : Thread Cert.DwFfnInRefIdeal.nD Cert.DwFfnInRefIdeal.τ).loc Cert.DwFfnInRefIdeal.main_arg0) = m' ((c.tc : Thread Cert.DwFfnInRefIdeal.nD Cert.DwFfnInRefIdeal.τ).loc Cert.DwFfnInRefIdeal.main_arg0)
          ∧ r.2.mem ((c.tc : Thread Cert.DwFfnInRefIdeal.nD Cert.DwFfnInRefIdeal.τ).loc Cert.DwFfnInRefIdeal.main_arg1) = m' ((c.tc : Thread Cert.DwFfnInRefIdeal.nD Cert.DwFfnInRefIdeal.τ).loc Cert.DwFfnInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwInF_DwInFIdeal : Prop :=
  True

def algebraic_DwInFIdeal_DwInFRefIdeal [hDwInFIdeal : Cert.DwInFIdeal.Facts] [hDwInFRefIdeal : Cert.DwInFRefIdeal.Facts] : Prop :=
  ∀ (m : (ℓ : Loc Cert.DwInFIdeal.nD Cert.DwInFIdeal.τ Cert.DwInFIdeal.sig) → Buf (Elt Ideal) ℓ) (g : Dev Cert.DwInFIdeal.nD → PrngReg)
    (m' : (ℓ : Loc Cert.DwInFRefIdeal.nD Cert.DwInFRefIdeal.τ Cert.DwInFRefIdeal.sig) → Buf (Elt Ideal) ℓ) (g' : Dev Cert.DwInFRefIdeal.nD → PrngReg), Pre_DwInFIdeal m →
    (∀ c : Dev Cert.DwInFIdeal.nD,
      m' ((c.tc : Thread Cert.DwInFRefIdeal.nD Cert.DwInFRefIdeal.τ).loc Cert.DwInFRefIdeal.main_arg0) = m ((c.tc : Thread Cert.DwInFIdeal.nD Cert.DwInFIdeal.τ).loc Cert.DwInFIdeal.main_arg0)
      ∧ m' ((c.tc : Thread Cert.DwInFRefIdeal.nD Cert.DwInFRefIdeal.τ).loc Cert.DwInFRefIdeal.main_arg1) = m ((c.tc : Thread Cert.DwInFIdeal.nD Cert.DwInFIdeal.τ).loc Cert.DwInFIdeal.main_arg1)) →
    ∃ (v0 : (c : Dev Cert.DwInFIdeal.nD) → Buf (Elt Ideal) ((c.tc : Thread Cert.DwInFIdeal.nD Cert.DwInFIdeal.τ).loc Cert.DwInFIdeal.main_v0)),
      θ_run (Cert.DwInFIdeal.defs (F := Ideal)) (onTc (τ := Cert.DwInFIdeal.τ) (Cert.DwInFIdeal.main (F := Ideal))) ⟨m, fun _ => 0, g⟩ (fun r => ∀ c : Dev Cert.DwInFIdeal.nD,
          r.2.mem ((c.tc : Thread Cert.DwInFIdeal.nD Cert.DwInFIdeal.τ).loc Cert.DwInFIdeal.main_v0) = v0 c
          ∧ r.2.mem ((c.tc : Thread Cert.DwInFIdeal.nD Cert.DwInFIdeal.τ).loc Cert.DwInFIdeal.main_arg0) = m ((c.tc : Thread Cert.DwInFIdeal.nD Cert.DwInFIdeal.τ).loc Cert.DwInFIdeal.main_arg0)
          ∧ r.2.mem ((c.tc : Thread Cert.DwInFIdeal.nD Cert.DwInFIdeal.τ).loc Cert.DwInFIdeal.main_arg1) = m ((c.tc : Thread Cert.DwInFIdeal.nD Cert.DwInFIdeal.τ).loc Cert.DwInFIdeal.main_arg1))
      ∧ θ_run (Cert.DwInFRefIdeal.defs (F := Ideal)) (onTc (τ := Cert.DwInFRefIdeal.τ) (Cert.DwInFRefIdeal.main (F := Ideal))) ⟨m', fun _ => 0, g'⟩ (fun r => ∀ c : Dev Cert.DwInFRefIdeal.nD,
          r.2.mem ((c.tc : Thread Cert.DwInFRefIdeal.nD Cert.DwInFRefIdeal.τ).loc Cert.DwInFRefIdeal.main_v6) = v0 c
          ∧ r.2.mem ((c.tc : Thread Cert.DwInFRefIdeal.nD Cert.DwInFRefIdeal.τ).loc Cert.DwInFRefIdeal.main_arg0) = m' ((c.tc : Thread Cert.DwInFRefIdeal.nD Cert.DwInFRefIdeal.τ).loc Cert.DwInFRefIdeal.main_arg0)
          ∧ r.2.mem ((c.tc : Thread Cert.DwInFRefIdeal.nD Cert.DwInFRefIdeal.τ).loc Cert.DwInFRefIdeal.main_arg1) = m' ((c.tc : Thread Cert.DwInFRefIdeal.nD Cert.DwInFRefIdeal.τ).loc Cert.DwInFRefIdeal.main_arg1))

def preserves_DwInQs_DwInQsIdeal : Prop :=
  True

def algebraic_DwInQsIdeal_DwInQsRefIdeal [hDwInQsIdeal : Cert.DwInQsIdeal.Facts] [hDwInQsRefIdeal : Cert.DwInQsRefIdeal.Facts] : Prop :=
  ∀ (m : (ℓ : Loc Cert.DwInQsIdeal.nD Cert.DwInQsIdeal.τ Cert.DwInQsIdeal.sig) → Buf (Elt Ideal) ℓ) (g : Dev Cert.DwInQsIdeal.nD → PrngReg)
    (m' : (ℓ : Loc Cert.DwInQsRefIdeal.nD Cert.DwInQsRefIdeal.τ Cert.DwInQsRefIdeal.sig) → Buf (Elt Ideal) ℓ) (g' : Dev Cert.DwInQsRefIdeal.nD → PrngReg), Pre_DwInQsIdeal m →
    (∀ c : Dev Cert.DwInQsIdeal.nD,
      m' ((c.tc : Thread Cert.DwInQsRefIdeal.nD Cert.DwInQsRefIdeal.τ).loc Cert.DwInQsRefIdeal.main_arg0) = m ((c.tc : Thread Cert.DwInQsIdeal.nD Cert.DwInQsIdeal.τ).loc Cert.DwInQsIdeal.main_arg0)
      ∧ m' ((c.tc : Thread Cert.DwInQsRefIdeal.nD Cert.DwInQsRefIdeal.τ).loc Cert.DwInQsRefIdeal.main_arg1) = m ((c.tc : Thread Cert.DwInQsIdeal.nD Cert.DwInQsIdeal.τ).loc Cert.DwInQsIdeal.main_arg1)) →
    ∃ (v0 : (c : Dev Cert.DwInQsIdeal.nD) → Buf (Elt Ideal) ((c.tc : Thread Cert.DwInQsIdeal.nD Cert.DwInQsIdeal.τ).loc Cert.DwInQsIdeal.main_v0)),
      θ_run (Cert.DwInQsIdeal.defs (F := Ideal)) (onTc (τ := Cert.DwInQsIdeal.τ) (Cert.DwInQsIdeal.main (F := Ideal))) ⟨m, fun _ => 0, g⟩ (fun r => ∀ c : Dev Cert.DwInQsIdeal.nD,
          r.2.mem ((c.tc : Thread Cert.DwInQsIdeal.nD Cert.DwInQsIdeal.τ).loc Cert.DwInQsIdeal.main_v0) = v0 c
          ∧ r.2.mem ((c.tc : Thread Cert.DwInQsIdeal.nD Cert.DwInQsIdeal.τ).loc Cert.DwInQsIdeal.main_arg0) = m ((c.tc : Thread Cert.DwInQsIdeal.nD Cert.DwInQsIdeal.τ).loc Cert.DwInQsIdeal.main_arg0)
          ∧ r.2.mem ((c.tc : Thread Cert.DwInQsIdeal.nD Cert.DwInQsIdeal.τ).loc Cert.DwInQsIdeal.main_arg1) = m ((c.tc : Thread Cert.DwInQsIdeal.nD Cert.DwInQsIdeal.τ).loc Cert.DwInQsIdeal.main_arg1))
      ∧ θ_run (Cert.DwInQsRefIdeal.defs (F := Ideal)) (onTc (τ := Cert.DwInQsRefIdeal.τ) (Cert.DwInQsRefIdeal.main (F := Ideal))) ⟨m', fun _ => 0, g'⟩ (fun r => ∀ c : Dev Cert.DwInQsRefIdeal.nD,
          r.2.mem ((c.tc : Thread Cert.DwInQsRefIdeal.nD Cert.DwInQsRefIdeal.τ).loc Cert.DwInQsRefIdeal.main_v6) = v0 c
          ∧ r.2.mem ((c.tc : Thread Cert.DwInQsRefIdeal.nD Cert.DwInQsRefIdeal.τ).loc Cert.DwInQsRefIdeal.main_arg0) = m' ((c.tc : Thread Cert.DwInQsRefIdeal.nD Cert.DwInQsRefIdeal.τ).loc Cert.DwInQsRefIdeal.main_arg0)
          ∧ r.2.mem ((c.tc : Thread Cert.DwInQsRefIdeal.nD Cert.DwInQsRefIdeal.τ).loc Cert.DwInQsRefIdeal.main_arg1) = m' ((c.tc : Thread Cert.DwInQsRefIdeal.nD Cert.DwInQsRefIdeal.τ).loc Cert.DwInQsRefIdeal.main_arg1))

def preserves_DwInQd_DwInQdIdeal : Prop :=
  True

def algebraic_DwInQdIdeal_DwInQdRefIdeal [hDwInQdIdeal : Cert.DwInQdIdeal.Facts] [hDwInQdRefIdeal : Cert.DwInQdRefIdeal.Facts] : Prop :=
  ∀ (m : (ℓ : Loc Cert.DwInQdIdeal.nD Cert.DwInQdIdeal.τ Cert.DwInQdIdeal.sig) → Buf (Elt Ideal) ℓ) (g : Dev Cert.DwInQdIdeal.nD → PrngReg)
    (m' : (ℓ : Loc Cert.DwInQdRefIdeal.nD Cert.DwInQdRefIdeal.τ Cert.DwInQdRefIdeal.sig) → Buf (Elt Ideal) ℓ) (g' : Dev Cert.DwInQdRefIdeal.nD → PrngReg), Pre_DwInQdIdeal m →
    (∀ c : Dev Cert.DwInQdIdeal.nD,
      m' ((c.tc : Thread Cert.DwInQdRefIdeal.nD Cert.DwInQdRefIdeal.τ).loc Cert.DwInQdRefIdeal.main_arg0) = m ((c.tc : Thread Cert.DwInQdIdeal.nD Cert.DwInQdIdeal.τ).loc Cert.DwInQdIdeal.main_arg0)
      ∧ m' ((c.tc : Thread Cert.DwInQdRefIdeal.nD Cert.DwInQdRefIdeal.τ).loc Cert.DwInQdRefIdeal.main_arg1) = m ((c.tc : Thread Cert.DwInQdIdeal.nD Cert.DwInQdIdeal.τ).loc Cert.DwInQdIdeal.main_arg1)) →
    ∃ (v0 : (c : Dev Cert.DwInQdIdeal.nD) → Buf (Elt Ideal) ((c.tc : Thread Cert.DwInQdIdeal.nD Cert.DwInQdIdeal.τ).loc Cert.DwInQdIdeal.main_v0)),
      θ_run (Cert.DwInQdIdeal.defs (F := Ideal)) (onTc (τ := Cert.DwInQdIdeal.τ) (Cert.DwInQdIdeal.main (F := Ideal))) ⟨m, fun _ => 0, g⟩ (fun r => ∀ c : Dev Cert.DwInQdIdeal.nD,
          r.2.mem ((c.tc : Thread Cert.DwInQdIdeal.nD Cert.DwInQdIdeal.τ).loc Cert.DwInQdIdeal.main_v0) = v0 c
          ∧ r.2.mem ((c.tc : Thread Cert.DwInQdIdeal.nD Cert.DwInQdIdeal.τ).loc Cert.DwInQdIdeal.main_arg0) = m ((c.tc : Thread Cert.DwInQdIdeal.nD Cert.DwInQdIdeal.τ).loc Cert.DwInQdIdeal.main_arg0)
          ∧ r.2.mem ((c.tc : Thread Cert.DwInQdIdeal.nD Cert.DwInQdIdeal.τ).loc Cert.DwInQdIdeal.main_arg1) = m ((c.tc : Thread Cert.DwInQdIdeal.nD Cert.DwInQdIdeal.τ).loc Cert.DwInQdIdeal.main_arg1))
      ∧ θ_run (Cert.DwInQdRefIdeal.defs (F := Ideal)) (onTc (τ := Cert.DwInQdRefIdeal.τ) (Cert.DwInQdRefIdeal.main (F := Ideal))) ⟨m', fun _ => 0, g'⟩ (fun r => ∀ c : Dev Cert.DwInQdRefIdeal.nD,
          r.2.mem ((c.tc : Thread Cert.DwInQdRefIdeal.nD Cert.DwInQdRefIdeal.τ).loc Cert.DwInQdRefIdeal.main_v6) = v0 c
          ∧ r.2.mem ((c.tc : Thread Cert.DwInQdRefIdeal.nD Cert.DwInQdRefIdeal.τ).loc Cert.DwInQdRefIdeal.main_arg0) = m' ((c.tc : Thread Cert.DwInQdRefIdeal.nD Cert.DwInQdRefIdeal.τ).loc Cert.DwInQdRefIdeal.main_arg0)
          ∧ r.2.mem ((c.tc : Thread Cert.DwInQdRefIdeal.nD Cert.DwInQdRefIdeal.τ).loc Cert.DwInQdRefIdeal.main_arg1) = m' ((c.tc : Thread Cert.DwInQdRefIdeal.nD Cert.DwInQdRefIdeal.τ).loc Cert.DwInQdRefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v0)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v5) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_DBranchWide_DBranchWideIdeal : Prop :=
  True

def algebraic_DBranchWideIdeal_DBranchWideRefIdeal [hDBranchWideIdeal : Cert.DBranchWideIdeal.Facts] [hDBranchWideRefIdeal : Cert.DBranchWideRefIdeal.Facts] : Prop :=
  ∀ (m : (ℓ : Loc Cert.DBranchWideIdeal.nD Cert.DBranchWideIdeal.τ Cert.DBranchWideIdeal.sig) → Buf (Elt Ideal) ℓ) (g : Dev Cert.DBranchWideIdeal.nD → PrngReg)
    (m' : (ℓ : Loc Cert.DBranchWideRefIdeal.nD Cert.DBranchWideRefIdeal.τ Cert.DBranchWideRefIdeal.sig) → Buf (Elt Ideal) ℓ) (g' : Dev Cert.DBranchWideRefIdeal.nD → PrngReg), Pre_DBranchWideIdeal m →
    (∀ c : Dev Cert.DBranchWideIdeal.nD,
      m' ((c.tc : Thread Cert.DBranchWideRefIdeal.nD Cert.DBranchWideRefIdeal.τ).loc Cert.DBranchWideRefIdeal.main_arg0) = m ((c.tc : Thread Cert.DBranchWideIdeal.nD Cert.DBranchWideIdeal.τ).loc Cert.DBranchWideIdeal.main_arg0)
      ∧ m' ((c.tc : Thread Cert.DBranchWideRefIdeal.nD Cert.DBranchWideRefIdeal.τ).loc Cert.DBranchWideRefIdeal.main_arg1) = m ((c.tc : Thread Cert.DBranchWideIdeal.nD Cert.DBranchWideIdeal.τ).loc Cert.DBranchWideIdeal.main_arg1)) →
    ∃ (v0 : (c : Dev Cert.DBranchWideIdeal.nD) → Buf (Elt Ideal) ((c.tc : Thread Cert.DBranchWideIdeal.nD Cert.DBranchWideIdeal.τ).loc Cert.DBranchWideIdeal.main_v0)),
      θ_run (Cert.DBranchWideIdeal.defs (F := Ideal)) (onTc (τ := Cert.DBranchWideIdeal.τ) (Cert.DBranchWideIdeal.main (F := Ideal))) ⟨m, fun _ => 0, g⟩ (fun r => ∀ c : Dev Cert.DBranchWideIdeal.nD,
          r.2.mem ((c.tc : Thread Cert.DBranchWideIdeal.nD Cert.DBranchWideIdeal.τ).loc Cert.DBranchWideIdeal.main_v0) = v0 c
          ∧ r.2.mem ((c.tc : Thread Cert.DBranchWideIdeal.nD Cert.DBranchWideIdeal.τ).loc Cert.DBranchWideIdeal.main_arg0) = m ((c.tc : Thread Cert.DBranchWideIdeal.nD Cert.DBranchWideIdeal.τ).loc Cert.DBranchWideIdeal.main_arg0)
          ∧ r.2.mem ((c.tc : Thread Cert.DBranchWideIdeal.nD Cert.DBranchWideIdeal.τ).loc Cert.DBranchWideIdeal.main_arg1) = m ((c.tc : Thread Cert.DBranchWideIdeal.nD Cert.DBranchWideIdeal.τ).loc Cert.DBranchWideIdeal.main_arg1))
      ∧ θ_run (Cert.DBranchWideRefIdeal.defs (F := Ideal)) (onTc (τ := Cert.DBranchWideRefIdeal.τ) (Cert.DBranchWideRefIdeal.main (F := Ideal))) ⟨m', fun _ => 0, g'⟩ (fun r => ∀ c : Dev Cert.DBranchWideRefIdeal.nD,
          r.2.mem ((c.tc : Thread Cert.DBranchWideRefIdeal.nD Cert.DBranchWideRefIdeal.τ).loc Cert.DBranchWideRefIdeal.main_v4) = v0 c
          ∧ r.2.mem ((c.tc : Thread Cert.DBranchWideRefIdeal.nD Cert.DBranchWideRefIdeal.τ).loc Cert.DBranchWideRefIdeal.main_arg0) = m' ((c.tc : Thread Cert.DBranchWideRefIdeal.nD Cert.DBranchWideRefIdeal.τ).loc Cert.DBranchWideRefIdeal.main_arg0)
          ∧ r.2.mem ((c.tc : Thread Cert.DBranchWideRefIdeal.nD Cert.DBranchWideRefIdeal.τ).loc Cert.DBranchWideRefIdeal.main_arg1) = m' ((c.tc : Thread Cert.DBranchWideRefIdeal.nD Cert.DBranchWideRefIdeal.τ).loc Cert.DBranchWideRefIdeal.main_arg1))

def preserves_DxF_DxFIdeal : Prop :=
  True

def algebraic_DxFIdeal_DxFRefIdeal [hDxFIdeal : Cert.DxFIdeal.Facts] [hDxFRefIdeal : Cert.DxFRefIdeal.Facts] : Prop :=
  ∀ (m : (ℓ : Loc Cert.DxFIdeal.nD Cert.DxFIdeal.τ Cert.DxFIdeal.sig) → Buf (Elt Ideal) ℓ) (g : Dev Cert.DxFIdeal.nD → PrngReg)
    (m' : (ℓ : Loc Cert.DxFRefIdeal.nD Cert.DxFRefIdeal.τ Cert.DxFRefIdeal.sig) → Buf (Elt Ideal) ℓ) (g' : Dev Cert.DxFRefIdeal.nD → PrngReg), Pre_DxFIdeal m →
    (∀ c : Dev Cert.DxFIdeal.nD,
      m' ((c.tc : Thread Cert.DxFRefIdeal.nD Cert.DxFRefIdeal.τ).loc Cert.DxFRefIdeal.main_arg0) = m ((c.tc : Thread Cert.DxFIdeal.nD Cert.DxFIdeal.τ).loc Cert.DxFIdeal.main_arg0)
      ∧ m' ((c.tc : Thread Cert.DxFRefIdeal.nD Cert.DxFRefIdeal.τ).loc Cert.DxFRefIdeal.main_arg1) = m ((c.tc : Thread Cert.DxFIdeal.nD Cert.DxFIdeal.τ).loc Cert.DxFIdeal.main_arg1)
      ∧ m' ((c.tc : Thread Cert.DxFRefIdeal.nD Cert.DxFRefIdeal.τ).loc Cert.DxFRefIdeal.main_arg2) = m ((c.tc : Thread Cert.DxFIdeal.nD Cert.DxFIdeal.τ).loc Cert.DxFIdeal.main_arg2)) →
    ∃ (v0 : (c : Dev Cert.DxFIdeal.nD) → Buf (Elt Ideal) ((c.tc : Thread Cert.DxFIdeal.nD Cert.DxFIdeal.τ).loc Cert.DxFIdeal.main_v0)),
      θ_run (Cert.DxFIdeal.defs (F := Ideal)) (onTc (τ := Cert.DxFIdeal.τ) (Cert.DxFIdeal.main (F := Ideal))) ⟨m, fun _ => 0, g⟩ (fun r => ∀ c : Dev Cert.DxFIdeal.nD,
          r.2.mem ((c.tc : Thread Cert.DxFIdeal.nD Cert.DxFIdeal.τ).loc Cert.DxFIdeal.main_v0) = v0 c
          ∧ r.2.mem ((c.tc : Thread Cert.DxFIdeal.nD Cert.DxFIdeal.τ).loc Cert.DxFIdeal.main_arg0) = m ((c.tc : Thread Cert.DxFIdeal.nD Cert.DxFIdeal.τ).loc Cert.DxFIdeal.main_arg0)
          ∧ r.2.mem ((c.tc : Thread Cert.DxFIdeal.nD Cert.DxFIdeal.τ).loc Cert.DxFIdeal.main_arg1) = m ((c.tc : Thread Cert.DxFIdeal.nD Cert.DxFIdeal.τ).loc Cert.DxFIdeal.main_arg1)
          ∧ r.2.mem ((c.tc : Thread Cert.DxFIdeal.nD Cert.DxFIdeal.τ).loc Cert.DxFIdeal.main_arg2) = m ((c.tc : Thread Cert.DxFIdeal.nD Cert.DxFIdeal.τ).loc Cert.DxFIdeal.main_arg2))
      ∧ θ_run (Cert.DxFRefIdeal.defs (F := Ideal)) (onTc (τ := Cert.DxFRefIdeal.τ) (Cert.DxFRefIdeal.main (F := Ideal))) ⟨m', fun _ => 0, g'⟩ (fun r => ∀ c : Dev Cert.DxFRefIdeal.nD,
          r.2.mem ((c.tc : Thread Cert.DxFRefIdeal.nD Cert.DxFRefIdeal.τ).loc Cert.DxFRefIdeal.main_v9) = v0 c
          ∧ r.2.mem ((c.tc : Thread Cert.DxFRefIdeal.nD Cert.DxFRefIdeal.τ).loc Cert.DxFRefIdeal.main_arg0) = m' ((c.tc : Thread Cert.DxFRefIdeal.nD Cert.DxFRefIdeal.τ).loc Cert.DxFRefIdeal.main_arg0)
          ∧ r.2.mem ((c.tc : Thread Cert.DxFRefIdeal.nD Cert.DxFRefIdeal.τ).loc Cert.DxFRefIdeal.main_arg1) = m' ((c.tc : Thread Cert.DxFRefIdeal.nD Cert.DxFRefIdeal.τ).loc Cert.DxFRefIdeal.main_arg1)
          ∧ r.2.mem ((c.tc : Thread Cert.DxFRefIdeal.nD Cert.DxFRefIdeal.τ).loc Cert.DxFRefIdeal.main_arg2) = m' ((c.tc : Thread Cert.DxFRefIdeal.nD Cert.DxFRefIdeal.τ).loc Cert.DxFRefIdeal.main_arg2))

def preserves_DxQs_DxQsIdeal : Prop :=
  True

def algebraic_DxQsIdeal_DxQsRefIdeal [hDxQsIdeal : Cert.DxQsIdeal.Facts] [hDxQsRefIdeal : Cert.DxQsRefIdeal.Facts] : Prop :=
  ∀ (m : (ℓ : Loc Cert.DxQsIdeal.nD Cert.DxQsIdeal.τ Cert.DxQsIdeal.sig) → Buf (Elt Ideal) ℓ) (g : Dev Cert.DxQsIdeal.nD → PrngReg)
    (m' : (ℓ : Loc Cert.DxQsRefIdeal.nD Cert.DxQsRefIdeal.τ Cert.DxQsRefIdeal.sig) → Buf (Elt Ideal) ℓ) (g' : Dev Cert.DxQsRefIdeal.nD → PrngReg), Pre_DxQsIdeal m →
    (∀ c : Dev Cert.DxQsIdeal.nD,
      m' ((c.tc : Thread Cert.DxQsRefIdeal.nD Cert.DxQsRefIdeal.τ).loc Cert.DxQsRefIdeal.main_arg0) = m ((c.tc : Thread Cert.DxQsIdeal.nD Cert.DxQsIdeal.τ).loc Cert.DxQsIdeal.main_arg0)
      ∧ m' ((c.tc : Thread Cert.DxQsRefIdeal.nD Cert.DxQsRefIdeal.τ).loc Cert.DxQsRefIdeal.main_arg1) = m ((c.tc : Thread Cert.DxQsIdeal.nD Cert.DxQsIdeal.τ).loc Cert.DxQsIdeal.main_arg1)
      ∧ m' ((c.tc : Thread Cert.DxQsRefIdeal.nD Cert.DxQsRefIdeal.τ).loc Cert.DxQsRefIdeal.main_arg2) = m ((c.tc : Thread Cert.DxQsIdeal.nD Cert.DxQsIdeal.τ).loc Cert.DxQsIdeal.main_arg2)) →
    ∃ (v0 : (c : Dev Cert.DxQsIdeal.nD) → Buf (Elt Ideal) ((c.tc : Thread Cert.DxQsIdeal.nD Cert.DxQsIdeal.τ).loc Cert.DxQsIdeal.main_v0)),
      θ_run (Cert.DxQsIdeal.defs (F := Ideal)) (onTc (τ := Cert.DxQsIdeal.τ) (Cert.DxQsIdeal.main (F := Ideal))) ⟨m, fun _ => 0, g⟩ (fun r => ∀ c : Dev Cert.DxQsIdeal.nD,
          r.2.mem ((c.tc : Thread Cert.DxQsIdeal.nD Cert.DxQsIdeal.τ).loc Cert.DxQsIdeal.main_v0) = v0 c
          ∧ r.2.mem ((c.tc : Thread Cert.DxQsIdeal.nD Cert.DxQsIdeal.τ).loc Cert.DxQsIdeal.main_arg0) = m ((c.tc : Thread Cert.DxQsIdeal.nD Cert.DxQsIdeal.τ).loc Cert.DxQsIdeal.main_arg0)
          ∧ r.2.mem ((c.tc : Thread Cert.DxQsIdeal.nD Cert.DxQsIdeal.τ).loc Cert.DxQsIdeal.main_arg1) = m ((c.tc : Thread Cert.DxQsIdeal.nD Cert.DxQsIdeal.τ).loc Cert.DxQsIdeal.main_arg1)
          ∧ r.2.mem ((c.tc : Thread Cert.DxQsIdeal.nD Cert.DxQsIdeal.τ).loc Cert.DxQsIdeal.main_arg2) = m ((c.tc : Thread Cert.DxQsIdeal.nD Cert.DxQsIdeal.τ).loc Cert.DxQsIdeal.main_arg2))
      ∧ θ_run (Cert.DxQsRefIdeal.defs (F := Ideal)) (onTc (τ := Cert.DxQsRefIdeal.τ) (Cert.DxQsRefIdeal.main (F := Ideal))) ⟨m', fun _ => 0, g'⟩ (fun r => ∀ c : Dev Cert.DxQsRefIdeal.nD,
          r.2.mem ((c.tc : Thread Cert.DxQsRefIdeal.nD Cert.DxQsRefIdeal.τ).loc Cert.DxQsRefIdeal.main_v5) = v0 c
          ∧ r.2.mem ((c.tc : Thread Cert.DxQsRefIdeal.nD Cert.DxQsRefIdeal.τ).loc Cert.DxQsRefIdeal.main_arg0) = m' ((c.tc : Thread Cert.DxQsRefIdeal.nD Cert.DxQsRefIdeal.τ).loc Cert.DxQsRefIdeal.main_arg0)
          ∧ r.2.mem ((c.tc : Thread Cert.DxQsRefIdeal.nD Cert.DxQsRefIdeal.τ).loc Cert.DxQsRefIdeal.main_arg1) = m' ((c.tc : Thread Cert.DxQsRefIdeal.nD Cert.DxQsRefIdeal.τ).loc Cert.DxQsRefIdeal.main_arg1)
          ∧ r.2.mem ((c.tc : Thread Cert.DxQsRefIdeal.nD Cert.DxQsRefIdeal.τ).loc Cert.DxQsRefIdeal.main_arg2) = m' ((c.tc : Thread Cert.DxQsRefIdeal.nD Cert.DxQsRefIdeal.τ).loc Cert.DxQsRefIdeal.main_arg2))

def preserves_DxQd_DxQdIdeal : Prop :=
  True

def algebraic_DxQdIdeal_DxQdRefIdeal [hDxQdIdeal : Cert.DxQdIdeal.Facts] [hDxQdRefIdeal : Cert.DxQdRefIdeal.Facts] : Prop :=
  ∀ (m : (ℓ : Loc Cert.DxQdIdeal.nD Cert.DxQdIdeal.τ Cert.DxQdIdeal.sig) → Buf (Elt Ideal) ℓ) (g : Dev Cert.DxQdIdeal.nD → PrngReg)
    (m' : (ℓ : Loc Cert.DxQdRefIdeal.nD Cert.DxQdRefIdeal.τ Cert.DxQdRefIdeal.sig) → Buf (Elt Ideal) ℓ) (g' : Dev Cert.DxQdRefIdeal.nD → PrngReg), Pre_DxQdIdeal m →
    (∀ c : Dev Cert.DxQdIdeal.nD,
      m' ((c.tc : Thread Cert.DxQdRefIdeal.nD Cert.DxQdRefIdeal.τ).loc Cert.DxQdRefIdeal.main_arg0) = m ((c.tc : Thread Cert.DxQdIdeal.nD Cert.DxQdIdeal.τ).loc Cert.DxQdIdeal.main_arg0)
      ∧ m' ((c.tc : Thread Cert.DxQdRefIdeal.nD Cert.DxQdRefIdeal.τ).loc Cert.DxQdRefIdeal.main_arg1) = m ((c.tc : Thread Cert.DxQdIdeal.nD Cert.DxQdIdeal.τ).loc Cert.DxQdIdeal.main_arg1)
      ∧ m' ((c.tc : Thread Cert.DxQdRefIdeal.nD Cert.DxQdRefIdeal.τ).loc Cert.DxQdRefIdeal.main_arg2) = m ((c.tc : Thread Cert.DxQdIdeal.nD Cert.DxQdIdeal.τ).loc Cert.DxQdIdeal.main_arg2)) →
    ∃ (v0 : (c : Dev Cert.DxQdIdeal.nD) → Buf (Elt Ideal) ((c.tc : Thread Cert.DxQdIdeal.nD Cert.DxQdIdeal.τ).loc Cert.DxQdIdeal.main_v0)),
      θ_run (Cert.DxQdIdeal.defs (F := Ideal)) (onTc (τ := Cert.DxQdIdeal.τ) (Cert.DxQdIdeal.main (F := Ideal))) ⟨m, fun _ => 0, g⟩ (fun r => ∀ c : Dev Cert.DxQdIdeal.nD,
          r.2.mem ((c.tc : Thread Cert.DxQdIdeal.nD Cert.DxQdIdeal.τ).loc Cert.DxQdIdeal.main_v0) = v0 c
          ∧ r.2.mem ((c.tc : Thread Cert.DxQdIdeal.nD Cert.DxQdIdeal.τ).loc Cert.DxQdIdeal.main_arg0) = m ((c.tc : Thread Cert.DxQdIdeal.nD Cert.DxQdIdeal.τ).loc Cert.DxQdIdeal.main_arg0)
          ∧ r.2.mem ((c.tc : Thread Cert.DxQdIdeal.nD Cert.DxQdIdeal.τ).loc Cert.DxQdIdeal.main_arg1) = m ((c.tc : Thread Cert.DxQdIdeal.nD Cert.DxQdIdeal.τ).loc Cert.DxQdIdeal.main_arg1)
          ∧ r.2.mem ((c.tc : Thread Cert.DxQdIdeal.nD Cert.DxQdIdeal.τ).loc Cert.DxQdIdeal.main_arg2) = m ((c.tc : Thread Cert.DxQdIdeal.nD Cert.DxQdIdeal.τ).loc Cert.DxQdIdeal.main_arg2))
      ∧ θ_run (Cert.DxQdRefIdeal.defs (F := Ideal)) (onTc (τ := Cert.DxQdRefIdeal.τ) (Cert.DxQdRefIdeal.main (F := Ideal))) ⟨m', fun _ => 0, g'⟩ (fun r => ∀ c : Dev Cert.DxQdRefIdeal.nD,
          r.2.mem ((c.tc : Thread Cert.DxQdRefIdeal.nD Cert.DxQdRefIdeal.τ).loc Cert.DxQdRefIdeal.main_v5) = v0 c
          ∧ r.2.mem ((c.tc : Thread Cert.DxQdRefIdeal.nD Cert.DxQdRefIdeal.τ).loc Cert.DxQdRefIdeal.main_arg0) = m' ((c.tc : Thread Cert.DxQdRefIdeal.nD Cert.DxQdRefIdeal.τ).loc Cert.DxQdRefIdeal.main_arg0)
          ∧ r.2.mem ((c.tc : Thread Cert.DxQdRefIdeal.nD Cert.DxQdRefIdeal.τ).loc Cert.DxQdRefIdeal.main_arg1) = m' ((c.tc : Thread Cert.DxQdRefIdeal.nD Cert.DxQdRefIdeal.τ).loc Cert.DxQdRefIdeal.main_arg1)
          ∧ r.2.mem ((c.tc : Thread Cert.DxQdRefIdeal.nD Cert.DxQdRefIdeal.τ).loc Cert.DxQdRefIdeal.main_arg2) = m' ((c.tc : Thread Cert.DxQdRefIdeal.nD Cert.DxQdRefIdeal.τ).loc Cert.DxQdRefIdeal.main_arg2))

def preserves_ProjF_ProjFIdeal : Prop :=
  True

def algebraic_ProjFIdeal_ProjFRefIdeal [hProjFIdeal : Cert.ProjFIdeal.Facts] [hProjFRefIdeal : Cert.ProjFRefIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFRefIdeal.nD Cert.ProjFRefIdeal.τ Cert.ProjFRefIdeal.sig) → Buf (Elt Ideal) ℓ) (g' : Dev Cert.ProjFRefIdeal.nD → PrngReg), Pre_ProjFIdeal m →
    (∀ c : Dev Cert.ProjFIdeal.nD,
      m' ((c.tc : Thread Cert.ProjFRefIdeal.nD Cert.ProjFRefIdeal.τ).loc Cert.ProjFRefIdeal.main_arg0) = m ((c.tc : Thread Cert.ProjFIdeal.nD Cert.ProjFIdeal.τ).loc Cert.ProjFIdeal.main_arg0)
      ∧ m' ((c.tc : Thread Cert.ProjFRefIdeal.nD Cert.ProjFRefIdeal.τ).loc Cert.ProjFRefIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v0)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v0) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFRefIdeal.defs (F := Ideal)) (onTc (τ := Cert.ProjFRefIdeal.τ) (Cert.ProjFRefIdeal.main (F := Ideal))) ⟨m', fun _ => 0, g'⟩ (fun r => ∀ c : Dev Cert.ProjFRefIdeal.nD,
          r.2.mem ((c.tc : Thread Cert.ProjFRefIdeal.nD Cert.ProjFRefIdeal.τ).loc Cert.ProjFRefIdeal.main_v3) = v0 c
          ∧ r.2.mem ((c.tc : Thread Cert.ProjFRefIdeal.nD Cert.ProjFRefIdeal.τ).loc Cert.ProjFRefIdeal.main_arg0) = m' ((c.tc : Thread Cert.ProjFRefIdeal.nD Cert.ProjFRefIdeal.τ).loc Cert.ProjFRefIdeal.main_arg0)
          ∧ r.2.mem ((c.tc : Thread Cert.ProjFRefIdeal.nD Cert.ProjFRefIdeal.τ).loc Cert.ProjFRefIdeal.main_arg1) = m' ((c.tc : Thread Cert.ProjFRefIdeal.nD Cert.ProjFRefIdeal.τ).loc Cert.ProjFRefIdeal.main_arg1))

def preserves_ProjQs_ProjQsIdeal : Prop :=
  True

def algebraic_ProjQsIdeal_ProjQsRefIdeal [hProjQsIdeal : Cert.ProjQsIdeal.Facts] [hProjQsRefIdeal : Cert.ProjQsRefIdeal.Facts] : Prop :=
  ∀ (m : (ℓ : Loc Cert.ProjQsIdeal.nD Cert.ProjQsIdeal.τ Cert.ProjQsIdeal.sig) → Buf (Elt Ideal) ℓ) (g : Dev Cert.ProjQsIdeal.nD → PrngReg)
    (m' : (ℓ : Loc Cert.ProjQsRefIdeal.nD Cert.ProjQsRefIdeal.τ Cert.ProjQsRefIdeal.sig) → Buf (Elt Ideal) ℓ) (g' : Dev Cert.ProjQsRefIdeal.nD → PrngReg), Pre_ProjQsIdeal m →
    (∀ c : Dev Cert.ProjQsIdeal.nD,
      m' ((c.tc : Thread Cert.ProjQsRefIdeal.nD Cert.ProjQsRefIdeal.τ).loc Cert.ProjQsRefIdeal.main_arg0) = m ((c.tc : Thread Cert.ProjQsIdeal.nD Cert.ProjQsIdeal.τ).loc Cert.ProjQsIdeal.main_arg0)
      ∧ m' ((c.tc : Thread Cert.ProjQsRefIdeal.nD Cert.ProjQsRefIdeal.τ).loc Cert.ProjQsRefIdeal.main_arg1) = m ((c.tc : Thread Cert.ProjQsIdeal.nD Cert.ProjQsIdeal.τ).loc Cert.ProjQsIdeal.main_arg1)) →
    ∃ (v0 : (c : Dev Cert.ProjQsIdeal.nD) → Buf (Elt Ideal) ((c.tc : Thread Cert.ProjQsIdeal.nD Cert.ProjQsIdeal.τ).loc Cert.ProjQsIdeal.main_v0)),
      θ_run (Cert.ProjQsIdeal.defs (F := Ideal)) (onTc (τ := Cert.ProjQsIdeal.τ) (Cert.ProjQsIdeal.main (F := Ideal))) ⟨m, fun _ => 0, g⟩ (fun r => ∀ c : Dev Cert.ProjQsIdeal.nD,
          r.2.mem ((c.tc : Thread Cert.ProjQsIdeal.nD Cert.ProjQsIdeal.τ).loc Cert.ProjQsIdeal.main_v0) = v0 c
          ∧ r.2.mem ((c.tc : Thread Cert.ProjQsIdeal.nD Cert.ProjQsIdeal.τ).loc Cert.ProjQsIdeal.main_arg0) = m ((c.tc : Thread Cert.ProjQsIdeal.nD Cert.ProjQsIdeal.τ).loc Cert.ProjQsIdeal.main_arg0)
          ∧ r.2.mem ((c.tc : Thread Cert.ProjQsIdeal.nD Cert.ProjQsIdeal.τ).loc Cert.ProjQsIdeal.main_arg1) = m ((c.tc : Thread Cert.ProjQsIdeal.nD Cert.ProjQsIdeal.τ).loc Cert.ProjQsIdeal.main_arg1))
      ∧ θ_run (Cert.ProjQsRefIdeal.defs (F := Ideal)) (onTc (τ := Cert.ProjQsRefIdeal.τ) (Cert.ProjQsRefIdeal.main (F := Ideal))) ⟨m', fun _ => 0, g'⟩ (fun r => ∀ c : Dev Cert.ProjQsRefIdeal.nD,
          r.2.mem ((c.tc : Thread Cert.ProjQsRefIdeal.nD Cert.ProjQsRefIdeal.τ).loc Cert.ProjQsRefIdeal.main_v3) = v0 c
          ∧ r.2.mem ((c.tc : Thread Cert.ProjQsRefIdeal.nD Cert.ProjQsRefIdeal.τ).loc Cert.ProjQsRefIdeal.main_arg0) = m' ((c.tc : Thread Cert.ProjQsRefIdeal.nD Cert.ProjQsRefIdeal.τ).loc Cert.ProjQsRefIdeal.main_arg0)
          ∧ r.2.mem ((c.tc : Thread Cert.ProjQsRefIdeal.nD Cert.ProjQsRefIdeal.τ).loc Cert.ProjQsRefIdeal.main_arg1) = m' ((c.tc : Thread Cert.ProjQsRefIdeal.nD Cert.ProjQsRefIdeal.τ).loc Cert.ProjQsRefIdeal.main_arg1))

def preserves_ProjQd_ProjQdIdeal : Prop :=
  True

def algebraic_ProjQdIdeal_ProjQdRefIdeal [hProjQdIdeal : Cert.ProjQdIdeal.Facts] [hProjQdRefIdeal : Cert.ProjQdRefIdeal.Facts] : Prop :=
  ∀ (m : (ℓ : Loc Cert.ProjQdIdeal.nD Cert.ProjQdIdeal.τ Cert.ProjQdIdeal.sig) → Buf (Elt Ideal) ℓ) (g : Dev Cert.ProjQdIdeal.nD → PrngReg)
    (m' : (ℓ : Loc Cert.ProjQdRefIdeal.nD Cert.ProjQdRefIdeal.τ Cert.ProjQdRefIdeal.sig) → Buf (Elt Ideal) ℓ) (g' : Dev Cert.ProjQdRefIdeal.nD → PrngReg), Pre_ProjQdIdeal m →
    (∀ c : Dev Cert.ProjQdIdeal.nD,
      m' ((c.tc : Thread Cert.ProjQdRefIdeal.nD Cert.ProjQdRefIdeal.τ).loc Cert.ProjQdRefIdeal.main_arg0) = m ((c.tc : Thread Cert.ProjQdIdeal.nD Cert.ProjQdIdeal.τ).loc Cert.ProjQdIdeal.main_arg0)
      ∧ m' ((c.tc : Thread Cert.ProjQdRefIdeal.nD Cert.ProjQdRefIdeal.τ).loc Cert.ProjQdRefIdeal.main_arg1) = m ((c.tc : Thread Cert.ProjQdIdeal.nD Cert.ProjQdIdeal.τ).loc Cert.ProjQdIdeal.main_arg1)) →
    ∃ (v0 : (c : Dev Cert.ProjQdIdeal.nD) → Buf (Elt Ideal) ((c.tc : Thread Cert.ProjQdIdeal.nD Cert.ProjQdIdeal.τ).loc Cert.ProjQdIdeal.main_v0)),
      θ_run (Cert.ProjQdIdeal.defs (F := Ideal)) (onTc (τ := Cert.ProjQdIdeal.τ) (Cert.ProjQdIdeal.main (F := Ideal))) ⟨m, fun _ => 0, g⟩ (fun r => ∀ c : Dev Cert.ProjQdIdeal.nD,
          r.2.mem ((c.tc : Thread Cert.ProjQdIdeal.nD Cert.ProjQdIdeal.τ).loc Cert.ProjQdIdeal.main_v0) = v0 c
          ∧ r.2.mem ((c.tc : Thread Cert.ProjQdIdeal.nD Cert.ProjQdIdeal.τ).loc Cert.ProjQdIdeal.main_arg0) = m ((c.tc : Thread Cert.ProjQdIdeal.nD Cert.ProjQdIdeal.τ).loc Cert.ProjQdIdeal.main_arg0)
          ∧ r.2.mem ((c.tc : Thread Cert.ProjQdIdeal.nD Cert.ProjQdIdeal.τ).loc Cert.ProjQdIdeal.main_arg1) = m ((c.tc : Thread Cert.ProjQdIdeal.nD Cert.ProjQdIdeal.τ).loc Cert.ProjQdIdeal.main_arg1))
      ∧ θ_run (Cert.ProjQdRefIdeal.defs (F := Ideal)) (onTc (τ := Cert.ProjQdRefIdeal.τ) (Cert.ProjQdRefIdeal.main (F := Ideal))) ⟨m', fun _ => 0, g'⟩ (fun r => ∀ c : Dev Cert.ProjQdRefIdeal.nD,
          r.2.mem ((c.tc : Thread Cert.ProjQdRefIdeal.nD Cert.ProjQdRefIdeal.τ).loc Cert.ProjQdRefIdeal.main_v2) = v0 c
          ∧ r.2.mem ((c.tc : Thread Cert.ProjQdRefIdeal.nD Cert.ProjQdRefIdeal.τ).loc Cert.ProjQdRefIdeal.main_arg0) = m' ((c.tc : Thread Cert.ProjQdRefIdeal.nD Cert.ProjQdRefIdeal.τ).loc Cert.ProjQdRefIdeal.main_arg0)
          ∧ r.2.mem ((c.tc : Thread Cert.ProjQdRefIdeal.nD Cert.ProjQdRefIdeal.τ).loc Cert.ProjQdRefIdeal.main_arg1) = m' ((c.tc : Thread Cert.ProjQdRefIdeal.nD Cert.ProjQdRefIdeal.τ).loc Cert.ProjQdRefIdeal.main_arg1))

def preserves_BranchMerge_BranchMergeIdeal : Prop :=
  True

def algebraic_BranchMergeIdeal_BranchMergeRefIdeal [hBranchMergeIdeal : Cert.BranchMergeIdeal.Facts] [hBranchMergeRefIdeal : Cert.BranchMergeRefIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.BranchMergeRefIdeal.nD Cert.BranchMergeRefIdeal.τ Cert.BranchMergeRefIdeal.sig) → Buf (Elt Ideal) ℓ) (g' : Dev Cert.BranchMergeRefIdeal.nD → PrngReg), Pre_BranchMergeIdeal m →
    (∀ c : Dev Cert.BranchMergeIdeal.nD,
      m' ((c.tc : Thread Cert.BranchMergeRefIdeal.nD Cert.BranchMergeRefIdeal.τ).loc Cert.BranchMergeRefIdeal.main_arg0) = m ((c.tc : Thread Cert.BranchMergeIdeal.nD Cert.BranchMergeIdeal.τ).loc Cert.BranchMergeIdeal.main_arg0)
      ∧ m' ((c.tc : Thread Cert.BranchMergeRefIdeal.nD Cert.BranchMergeRefIdeal.τ).loc Cert.BranchMergeRefIdeal.main_arg1) = m ((c.tc : Thread Cert.BranchMergeIdeal.nD Cert.BranchMergeIdeal.τ).loc Cert.BranchMergeIdeal.main_arg1)
      ∧ m' ((c.tc : Thread Cert.BranchMergeRefIdeal.nD Cert.BranchMergeRefIdeal.τ).loc Cert.BranchMergeRefIdeal.main_arg2) = m ((c.tc : Thread Cert.BranchMergeIdeal.nD Cert.BranchMergeIdeal.τ).loc Cert.BranchMergeIdeal.main_arg2)
      ∧ m' ((c.tc : Thread Cert.BranchMergeRefIdeal.nD Cert.BranchMergeRefIdeal.τ).loc Cert.BranchMergeRefIdeal.main_arg3) = m ((c.tc : Thread Cert.BranchMergeIdeal.nD Cert.BranchMergeIdeal.τ).loc Cert.BranchMergeIdeal.main_arg3)
      ∧ m' ((c.tc : Thread Cert.BranchMergeRefIdeal.nD Cert.BranchMergeRefIdeal.τ).loc Cert.BranchMergeRefIdeal.main_arg4) = m ((c.tc : Thread Cert.BranchMergeIdeal.nD Cert.BranchMergeIdeal.τ).loc Cert.BranchMergeIdeal.main_arg4)) →
    ∃ (v0 : (c : Dev Cert.BranchMergeIdeal.nD) → Buf (Elt Ideal) ((c.tc : Thread Cert.BranchMergeIdeal.nD Cert.BranchMergeIdeal.τ).loc Cert.BranchMergeIdeal.main_v0_0)) (v1 : (c : Dev Cert.BranchMergeIdeal.nD) → Buf (Elt Ideal) ((c.tc : Thread Cert.BranchMergeIdeal.nD Cert.BranchMergeIdeal.τ).loc Cert.BranchMergeIdeal.main_v0_1)) (v2 : (c : Dev Cert.BranchMergeIdeal.nD) → Buf (Elt Ideal) ((c.tc : Thread Cert.BranchMergeIdeal.nD Cert.BranchMergeIdeal.τ).loc Cert.BranchMergeIdeal.main_v0_2)) (v3 : (c : Dev Cert.BranchMergeIdeal.nD) → Buf (Elt Ideal) ((c.tc : Thread Cert.BranchMergeIdeal.nD Cert.BranchMergeIdeal.τ).loc Cert.BranchMergeIdeal.main_v0_3)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v0_0) = v0 c
          ∧ r.2.mem ((c.tc : Thread Cert.BranchMergeIdeal.nD Cert.BranchMergeIdeal.τ).loc Cert.BranchMergeIdeal.main_v0_1) = v1 c
          ∧ r.2.mem ((c.tc : Thread Cert.BranchMergeIdeal.nD Cert.BranchMergeIdeal.τ).loc Cert.BranchMergeIdeal.main_v0_2) = v2 c
          ∧ r.2.mem ((c.tc : Thread Cert.BranchMergeIdeal.nD Cert.BranchMergeIdeal.τ).loc Cert.BranchMergeIdeal.main_v0_3) = v3 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
          ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ θ_run (Cert.BranchMergeRefIdeal.defs (F := Ideal)) (onTc (τ := Cert.BranchMergeRefIdeal.τ) (Cert.BranchMergeRefIdeal.main (F := Ideal))) ⟨m', fun _ => 0, g'⟩ (fun r => ∀ c : Dev Cert.BranchMergeRefIdeal.nD,
          r.2.mem ((c.tc : Thread Cert.BranchMergeRefIdeal.nD Cert.BranchMergeRefIdeal.τ).loc Cert.BranchMergeRefIdeal.main_v25) = v0 c
          ∧ r.2.mem ((c.tc : Thread Cert.BranchMergeRefIdeal.nD Cert.BranchMergeRefIdeal.τ).loc Cert.BranchMergeRefIdeal.main_v26) = v1 c
          ∧ r.2.mem ((c.tc : Thread Cert.BranchMergeRefIdeal.nD Cert.BranchMergeRefIdeal.τ).loc Cert.BranchMergeRefIdeal.main_v27) = v2 c
          ∧ r.2.mem ((c.tc : Thread Cert.BranchMergeRefIdeal.nD Cert.BranchMergeRefIdeal.τ).loc Cert.BranchMergeRefIdeal.main_v28) = v3 c
          ∧ r.2.mem ((c.tc : Thread Cert.BranchMergeRefIdeal.nD Cert.BranchMergeRefIdeal.τ).loc Cert.BranchMergeRefIdeal.main_arg0) = m' ((c.tc : Thread Cert.BranchMergeRefIdeal.nD Cert.BranchMergeRefIdeal.τ).loc Cert.BranchMergeRefIdeal.main_arg0)
          ∧ r.2.mem ((c.tc : Thread Cert.BranchMergeRefIdeal.nD Cert.BranchMergeRefIdeal.τ).loc Cert.BranchMergeRefIdeal.main_arg1) = m' ((c.tc : Thread Cert.BranchMergeRefIdeal.nD Cert.BranchMergeRefIdeal.τ).loc Cert.BranchMergeRefIdeal.main_arg1)
          ∧ r.2.mem ((c.tc : Thread Cert.BranchMergeRefIdeal.nD Cert.BranchMergeRefIdeal.τ).loc Cert.BranchMergeRefIdeal.main_arg2) = m' ((c.tc : Thread Cert.BranchMergeRefIdeal.nD Cert.BranchMergeRefIdeal.τ).loc Cert.BranchMergeRefIdeal.main_arg2)
          ∧ r.2.mem ((c.tc : Thread Cert.BranchMergeRefIdeal.nD Cert.BranchMergeRefIdeal.τ).loc Cert.BranchMergeRefIdeal.main_arg3) = m' ((c.tc : Thread Cert.BranchMergeRefIdeal.nD Cert.BranchMergeRefIdeal.τ).loc Cert.BranchMergeRefIdeal.main_arg3)
          ∧ r.2.mem ((c.tc : Thread Cert.BranchMergeRefIdeal.nD Cert.BranchMergeRefIdeal.τ).loc Cert.BranchMergeRefIdeal.main_arg4) = m' ((c.tc : Thread Cert.BranchMergeRefIdeal.nD Cert.BranchMergeRefIdeal.τ).loc Cert.BranchMergeRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v8) = v1 c
          ∧ r.2.mem ((c.tc : Thread Cert.FfnInRefIdeal.nD Cert.FfnInRefIdeal.τ).loc Cert.FfnInRefIdeal.main_v9) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_WOutNorm_WOutNormIdeal : Prop :=
  True

def algebraic_WOutNormIdeal_WOutNormRefIdeal [hWOutNormIdeal : Cert.WOutNormIdeal.Facts] [hWOutNormRefIdeal : Cert.WOutNormRefIdeal.Facts] : Prop :=
  ∀ (m : (ℓ : Loc Cert.WOutNormIdeal.nD Cert.WOutNormIdeal.τ Cert.WOutNormIdeal.sig) → Buf (Elt Ideal) ℓ) (g : Dev Cert.WOutNormIdeal.nD → PrngReg)
    (m' : (ℓ : Loc Cert.WOutNormRefIdeal.nD Cert.WOutNormRefIdeal.τ Cert.WOutNormRefIdeal.sig) → Buf (Elt Ideal) ℓ) (g' : Dev Cert.WOutNormRefIdeal.nD → PrngReg), Pre_WOutNormIdeal m →
    (∀ c : Dev Cert.WOutNormIdeal.nD,
      m' ((c.tc : Thread Cert.WOutNormRefIdeal.nD Cert.WOutNormRefIdeal.τ).loc Cert.WOutNormRefIdeal.main_arg0) = m ((c.tc : Thread Cert.WOutNormIdeal.nD Cert.WOutNormIdeal.τ).loc Cert.WOutNormIdeal.main_arg0)
      ∧ m' ((c.tc : Thread Cert.WOutNormRefIdeal.nD Cert.WOutNormRefIdeal.τ).loc Cert.WOutNormRefIdeal.main_arg1) = m ((c.tc : Thread Cert.WOutNormIdeal.nD Cert.WOutNormIdeal.τ).loc Cert.WOutNormIdeal.main_arg1)
      ∧ m' ((c.tc : Thread Cert.WOutNormRefIdeal.nD Cert.WOutNormRefIdeal.τ).loc Cert.WOutNormRefIdeal.main_arg2) = m ((c.tc : Thread Cert.WOutNormIdeal.nD Cert.WOutNormIdeal.τ).loc Cert.WOutNormIdeal.main_arg2)
      ∧ m' ((c.tc : Thread Cert.WOutNormRefIdeal.nD Cert.WOutNormRefIdeal.τ).loc Cert.WOutNormRefIdeal.main_arg3) = m ((c.tc : Thread Cert.WOutNormIdeal.nD Cert.WOutNormIdeal.τ).loc Cert.WOutNormIdeal.main_arg3)
      ∧ m' ((c.tc : Thread Cert.WOutNormRefIdeal.nD Cert.WOutNormRefIdeal.τ).loc Cert.WOutNormRefIdeal.main_arg4) = m ((c.tc : Thread Cert.WOutNormIdeal.nD Cert.WOutNormIdeal.τ).loc Cert.WOutNormIdeal.main_arg4)) →
    ∃ (v0 : (c : Dev Cert.WOutNormIdeal.nD) → Buf (Elt Ideal) ((c.tc : Thread Cert.WOutNormIdeal.nD Cert.WOutNormIdeal.τ).loc Cert.WOutNormIdeal.main_v2_0)) (v1 : (c : Dev Cert.WOutNormIdeal.nD) → Buf (Elt Ideal) ((c.tc : Thread Cert.WOutNormIdeal.nD Cert.WOutNormIdeal.τ).loc Cert.WOutNormIdeal.main_v2_1)) (v2 : (c : Dev Cert.WOutNormIdeal.nD) → Buf (Elt Ideal) ((c.tc : Thread Cert.WOutNormIdeal.nD Cert.WOutNormIdeal.τ).loc Cert.WOutNormIdeal.main_v2_2)),
      θ_run (Cert.WOutNormIdeal.defs (F := Ideal)) (onTc (τ := Cert.WOutNormIdeal.τ) (Cert.WOutNormIdeal.main (F := Ideal))) ⟨m, fun _ => 0, g⟩ (fun r => ∀ c : Dev Cert.WOutNormIdeal.nD,
          r.2.mem ((c.tc : Thread Cert.WOutNormIdeal.nD Cert.WOutNormIdeal.τ).loc Cert.WOutNormIdeal.main_v2_0) = v0 c
          ∧ r.2.mem ((c.tc : Thread Cert.WOutNormIdeal.nD Cert.WOutNormIdeal.τ).loc Cert.WOutNormIdeal.main_v2_1) = v1 c
          ∧ r.2.mem ((c.tc : Thread Cert.WOutNormIdeal.nD Cert.WOutNormIdeal.τ).loc Cert.WOutNormIdeal.main_v2_2) = v2 c
          ∧ r.2.mem ((c.tc : Thread Cert.WOutNormIdeal.nD Cert.WOutNormIdeal.τ).loc Cert.WOutNormIdeal.main_arg0) = m ((c.tc : Thread Cert.WOutNormIdeal.nD Cert.WOutNormIdeal.τ).loc Cert.WOutNormIdeal.main_arg0)
          ∧ r.2.mem ((c.tc : Thread Cert.WOutNormIdeal.nD Cert.WOutNormIdeal.τ).loc Cert.WOutNormIdeal.main_arg1) = m ((c.tc : Thread Cert.WOutNormIdeal.nD Cert.WOutNormIdeal.τ).loc Cert.WOutNormIdeal.main_arg1)
          ∧ r.2.mem ((c.tc : Thread Cert.WOutNormIdeal.nD Cert.WOutNormIdeal.τ).loc Cert.WOutNormIdeal.main_arg2) = m ((c.tc : Thread Cert.WOutNormIdeal.nD Cert.WOutNormIdeal.τ).loc Cert.WOutNormIdeal.main_arg2)
          ∧ r.2.mem ((c.tc : Thread Cert.WOutNormIdeal.nD Cert.WOutNormIdeal.τ).loc Cert.WOutNormIdeal.main_arg3) = m ((c.tc : Thread Cert.WOutNormIdeal.nD Cert.WOutNormIdeal.τ).loc Cert.WOutNormIdeal.main_arg3)
          ∧ r.2.mem ((c.tc : Thread Cert.WOutNormIdeal.nD Cert.WOutNormIdeal.τ).loc Cert.WOutNormIdeal.main_arg4) = m ((c.tc : Thread Cert.WOutNormIdeal.nD Cert.WOutNormIdeal.τ).loc Cert.WOutNormIdeal.main_arg4))
      ∧ θ_run (Cert.WOutNormRefIdeal.defs (F := Ideal)) (onTc (τ := Cert.WOutNormRefIdeal.τ) (Cert.WOutNormRefIdeal.main (F := Ideal))) ⟨m', fun _ => 0, g'⟩ (fun r => ∀ c : Dev Cert.WOutNormRefIdeal.nD,
          r.2.mem ((c.tc : Thread Cert.WOutNormRefIdeal.nD Cert.WOutNormRefIdeal.τ).loc Cert.WOutNormRefIdeal.main_v29) = v0 c
          ∧ r.2.mem ((c.tc : Thread Cert.WOutNormRefIdeal.nD Cert.WOutNormRefIdeal.τ).loc Cert.WOutNormRefIdeal.main_v30) = v1 c
          ∧ r.2.mem ((c.tc : Thread Cert.WOutNormRefIdeal.nD Cert.WOutNormRefIdeal.τ).loc Cert.WOutNormRefIdeal.main_v5) = v2 c
          ∧ r.2.mem ((c.tc : Thread Cert.WOutNormRefIdeal.nD Cert.WOutNormRefIdeal.τ).loc Cert.WOutNormRefIdeal.main_arg0) = m' ((c.tc : Thread Cert.WOutNormRefIdeal.nD Cert.WOutNormRefIdeal.τ).loc Cert.WOutNormRefIdeal.main_arg0)
          ∧ r.2.mem ((c.tc : Thread Cert.WOutNormRefIdeal.nD Cert.WOutNormRefIdeal.τ).loc Cert.WOutNormRefIdeal.main_arg1) = m' ((c.tc : Thread Cert.WOutNormRefIdeal.nD Cert.WOutNormRefIdeal.τ).loc Cert.WOutNormRefIdeal.main_arg1)
          ∧ r.2.mem ((c.tc : Thread Cert.WOutNormRefIdeal.nD Cert.WOutNormRefIdeal.τ).loc Cert.WOutNormRefIdeal.main_arg2) = m' ((c.tc : Thread Cert.WOutNormRefIdeal.nD Cert.WOutNormRefIdeal.τ).loc Cert.WOutNormRefIdeal.main_arg2)
          ∧ r.2.mem ((c.tc : Thread Cert.WOutNormRefIdeal.nD Cert.WOutNormRefIdeal.τ).loc Cert.WOutNormRefIdeal.main_arg3) = m' ((c.tc : Thread Cert.WOutNormRefIdeal.nD Cert.WOutNormRefIdeal.τ).loc Cert.WOutNormRefIdeal.main_arg3)
          ∧ r.2.mem ((c.tc : Thread Cert.WOutNormRefIdeal.nD Cert.WOutNormRefIdeal.τ).loc Cert.WOutNormRefIdeal.main_arg4) = m' ((c.tc : Thread Cert.WOutNormRefIdeal.nD Cert.WOutNormRefIdeal.τ).loc Cert.WOutNormRefIdeal.main_arg4))

def preserves_FfnOutNorm_FfnOutNormIdeal : Prop :=
  True

def algebraic_FfnOutNormIdeal_FfnOutNormRefIdeal [hFfnOutNormIdeal : Cert.FfnOutNormIdeal.Facts] [hFfnOutNormRefIdeal : Cert.FfnOutNormRefIdeal.Facts] : Prop :=
  ∀ (m : (ℓ : Loc Cert.FfnOutNormIdeal.nD Cert.FfnOutNormIdeal.τ Cert.FfnOutNormIdeal.sig) → Buf (Elt Ideal) ℓ) (g : Dev Cert.FfnOutNormIdeal.nD → PrngReg)
    (m' : (ℓ : Loc Cert.FfnOutNormRefIdeal.nD Cert.FfnOutNormRefIdeal.τ Cert.FfnOutNormRefIdeal.sig) → Buf (Elt Ideal) ℓ) (g' : Dev Cert.FfnOutNormRefIdeal.nD → PrngReg), Pre_FfnOutNormIdeal m →
    (∀ c : Dev Cert.FfnOutNormIdeal.nD,
      m' ((c.tc : Thread Cert.FfnOutNormRefIdeal.nD Cert.FfnOutNormRefIdeal.τ).loc Cert.FfnOutNormRefIdeal.main_arg0) = m ((c.tc : Thread Cert.FfnOutNormIdeal.nD Cert.FfnOutNormIdeal.τ).loc Cert.FfnOutNormIdeal.main_arg0)
      ∧ m' ((c.tc : Thread Cert.FfnOutNormRefIdeal.nD Cert.FfnOutNormRefIdeal.τ).loc Cert.FfnOutNormRefIdeal.main_arg1) = m ((c.tc : Thread Cert.FfnOutNormIdeal.nD Cert.FfnOutNormIdeal.τ).loc Cert.FfnOutNormIdeal.main_arg1)
      ∧ m' ((c.tc : Thread Cert.FfnOutNormRefIdeal.nD Cert.FfnOutNormRefIdeal.τ).loc Cert.FfnOutNormRefIdeal.main_arg2) = m ((c.tc : Thread Cert.FfnOutNormIdeal.nD Cert.FfnOutNormIdeal.τ).loc Cert.FfnOutNormIdeal.main_arg2)
      ∧ m' ((c.tc : Thread Cert.FfnOutNormRefIdeal.nD Cert.FfnOutNormRefIdeal.τ).loc Cert.FfnOutNormRefIdeal.main_arg3) = m ((c.tc : Thread Cert.FfnOutNormIdeal.nD Cert.FfnOutNormIdeal.τ).loc Cert.FfnOutNormIdeal.main_arg3)
      ∧ m' ((c.tc : Thread Cert.FfnOutNormRefIdeal.nD Cert.FfnOutNormRefIdeal.τ).loc Cert.FfnOutNormRefIdeal.main_arg4) = m ((c.tc : Thread Cert.FfnOutNormIdeal.nD Cert.FfnOutNormIdeal.τ).loc Cert.FfnOutNormIdeal.main_arg4)) →
    ∃ (v0 : (c : Dev Cert.FfnOutNormIdeal.nD) → Buf (Elt Ideal) ((c.tc : Thread Cert.FfnOutNormIdeal.nD Cert.FfnOutNormIdeal.τ).loc Cert.FfnOutNormIdeal.main_v2_0)) (v1 : (c : Dev Cert.FfnOutNormIdeal.nD) → Buf (Elt Ideal) ((c.tc : Thread Cert.FfnOutNormIdeal.nD Cert.FfnOutNormIdeal.τ).loc Cert.FfnOutNormIdeal.main_v2_1)) (v2 : (c : Dev Cert.FfnOutNormIdeal.nD) → Buf (Elt Ideal) ((c.tc : Thread Cert.FfnOutNormIdeal.nD Cert.FfnOutNormIdeal.τ).loc Cert.FfnOutNormIdeal.main_v2_2)),
      θ_run (Cert.FfnOutNormIdeal.defs (F := Ideal)) (onTc (τ := Cert.FfnOutNormIdeal.τ) (Cert.FfnOutNormIdeal.main (F := Ideal))) ⟨m, fun _ => 0, g⟩ (fun r => ∀ c : Dev Cert.FfnOutNormIdeal.nD,
          r.2.mem ((c.tc : Thread Cert.FfnOutNormIdeal.nD Cert.FfnOutNormIdeal.τ).loc Cert.FfnOutNormIdeal.main_v2_0) = v0 c
          ∧ r.2.mem ((c.tc : Thread Cert.FfnOutNormIdeal.nD Cert.FfnOutNormIdeal.τ).loc Cert.FfnOutNormIdeal.main_v2_1) = v1 c
          ∧ r.2.mem ((c.tc : Thread Cert.FfnOutNormIdeal.nD Cert.FfnOutNormIdeal.τ).loc Cert.FfnOutNormIdeal.main_v2_2) = v2 c
          ∧ r.2.mem ((c.tc : Thread Cert.FfnOutNormIdeal.nD Cert.FfnOutNormIdeal.τ).loc Cert.FfnOutNormIdeal.main_arg0) = m ((c.tc : Thread Cert.FfnOutNormIdeal.nD Cert.FfnOutNormIdeal.τ).loc Cert.FfnOutNormIdeal.main_arg0)
          ∧ r.2.mem ((c.tc : Thread Cert.FfnOutNormIdeal.nD Cert.FfnOutNormIdeal.τ).loc Cert.FfnOutNormIdeal.main_arg1) = m ((c.tc : Thread Cert.FfnOutNormIdeal.nD Cert.FfnOutNormIdeal.τ).loc Cert.FfnOutNormIdeal.main_arg1)
          ∧ r.2.mem ((c.tc : Thread Cert.FfnOutNormIdeal.nD Cert.FfnOutNormIdeal.τ).loc Cert.FfnOutNormIdeal.main_arg2) = m ((c.tc : Thread Cert.FfnOutNormIdeal.nD Cert.FfnOutNormIdeal.τ).loc Cert.FfnOutNormIdeal.main_arg2)
          ∧ r.2.mem ((c.tc : Thread Cert.FfnOutNormIdeal.nD Cert.FfnOutNormIdeal.τ).loc Cert.FfnOutNormIdeal.main_arg3) = m ((c.tc : Thread Cert.FfnOutNormIdeal.nD Cert.FfnOutNormIdeal.τ).loc Cert.FfnOutNormIdeal.main_arg3)
          ∧ r.2.mem ((c.tc : Thread Cert.FfnOutNormIdeal.nD Cert.FfnOutNormIdeal.τ).loc Cert.FfnOutNormIdeal.main_arg4) = m ((c.tc : Thread Cert.FfnOutNormIdeal.nD Cert.FfnOutNormIdeal.τ).loc Cert.FfnOutNormIdeal.main_arg4))
      ∧ θ_run (Cert.FfnOutNormRefIdeal.defs (F := Ideal)) (onTc (τ := Cert.FfnOutNormRefIdeal.τ) (Cert.FfnOutNormRefIdeal.main (F := Ideal))) ⟨m', fun _ => 0, g'⟩ (fun r => ∀ c : Dev Cert.FfnOutNormRefIdeal.nD,
          r.2.mem ((c.tc : Thread Cert.FfnOutNormRefIdeal.nD Cert.FfnOutNormRefIdeal.τ).loc Cert.FfnOutNormRefIdeal.main_v29) = v0 c
          ∧ r.2.mem ((c.tc : Thread Cert.FfnOutNormRefIdeal.nD Cert.FfnOutNormRefIdeal.τ).loc Cert.FfnOutNormRefIdeal.main_v30) = v1 c
          ∧ r.2.mem ((c.tc : Thread Cert.FfnOutNormRefIdeal.nD Cert.FfnOutNormRefIdeal.τ).loc Cert.FfnOutNormRefIdeal.main_v5) = v2 c
          ∧ r.2.mem ((c.tc : Thread Cert.FfnOutNormRefIdeal.nD Cert.FfnOutNormRefIdeal.τ).loc Cert.FfnOutNormRefIdeal.main_arg0) = m' ((c.tc : Thread Cert.FfnOutNormRefIdeal.nD Cert.FfnOutNormRefIdeal.τ).loc Cert.FfnOutNormRefIdeal.main_arg0)
          ∧ r.2.mem ((c.tc : Thread Cert.FfnOutNormRefIdeal.nD Cert.FfnOutNormRefIdeal.τ).loc Cert.FfnOutNormRefIdeal.main_arg1) = m' ((c.tc : Thread Cert.FfnOutNormRefIdeal.nD Cert.FfnOutNormRefIdeal.τ).loc Cert.FfnOutNormRefIdeal.main_arg1)
          ∧ r.2.mem ((c.tc : Thread Cert.FfnOutNormRefIdeal.nD Cert.FfnOutNormRefIdeal.τ).loc Cert.FfnOutNormRefIdeal.main_arg2) = m' ((c.tc : Thread Cert.FfnOutNormRefIdeal.nD Cert.FfnOutNormRefIdeal.τ).loc Cert.FfnOutNormRefIdeal.main_arg2)
          ∧ r.2.mem ((c.tc : Thread Cert.FfnOutNormRefIdeal.nD Cert.FfnOutNormRefIdeal.τ).loc Cert.FfnOutNormRefIdeal.main_arg3) = m' ((c.tc : Thread Cert.FfnOutNormRefIdeal.nD Cert.FfnOutNormRefIdeal.τ).loc Cert.FfnOutNormRefIdeal.main_arg3)
          ∧ r.2.mem ((c.tc : Thread Cert.FfnOutNormRefIdeal.nD Cert.FfnOutNormRefIdeal.τ).loc Cert.FfnOutNormRefIdeal.main_arg4) = m' ((c.tc : Thread Cert.FfnOutNormRefIdeal.nD Cert.FfnOutNormRefIdeal.τ).loc Cert.FfnOutNormRefIdeal.main_arg4))

def preserves_SumWIn_SumWInIdeal : Prop :=
  True

def algebraic_SumWInIdeal_SumWInRefIdeal [hSumWInIdeal : Cert.SumWInIdeal.Facts] [hSumWInRefIdeal : Cert.SumWInRefIdeal.Facts] : Prop :=
  ∀ (m : (ℓ : Loc Cert.SumWInIdeal.nD Cert.SumWInIdeal.τ Cert.SumWInIdeal.sig) → Buf (Elt Ideal) ℓ) (g : Dev Cert.SumWInIdeal.nD → PrngReg)
    (m' : (ℓ : Loc Cert.SumWInRefIdeal.nD Cert.SumWInRefIdeal.τ Cert.SumWInRefIdeal.sig) → Buf (Elt Ideal) ℓ) (g' : Dev Cert.SumWInRefIdeal.nD → PrngReg), Pre_SumWInIdeal m →
    (∀ c : Dev Cert.SumWInIdeal.nD,
      m' ((c.tc : Thread Cert.SumWInRefIdeal.nD Cert.SumWInRefIdeal.τ).loc Cert.SumWInRefIdeal.main_arg0) = m ((c.tc : Thread Cert.SumWInIdeal.nD Cert.SumWInIdeal.τ).loc Cert.SumWInIdeal.main_arg0)) →
    ∃ (v0 : (c : Dev Cert.SumWInIdeal.nD) → Buf (Elt Ideal) ((c.tc : Thread Cert.SumWInIdeal.nD Cert.SumWInIdeal.τ).loc Cert.SumWInIdeal.main_v0)),
      θ_run (Cert.SumWInIdeal.defs (F := Ideal)) (onTc (τ := Cert.SumWInIdeal.τ) (Cert.SumWInIdeal.main (F := Ideal))) ⟨m, fun _ => 0, g⟩ (fun r => ∀ c : Dev Cert.SumWInIdeal.nD,
          r.2.mem ((c.tc : Thread Cert.SumWInIdeal.nD Cert.SumWInIdeal.τ).loc Cert.SumWInIdeal.main_v0) = v0 c
          ∧ r.2.mem ((c.tc : Thread Cert.SumWInIdeal.nD Cert.SumWInIdeal.τ).loc Cert.SumWInIdeal.main_arg0) = m ((c.tc : Thread Cert.SumWInIdeal.nD Cert.SumWInIdeal.τ).loc Cert.SumWInIdeal.main_arg0))
      ∧ θ_run (Cert.SumWInRefIdeal.defs (F := Ideal)) (onTc (τ := Cert.SumWInRefIdeal.τ) (Cert.SumWInRefIdeal.main (F := Ideal))) ⟨m', fun _ => 0, g'⟩ (fun r => ∀ c : Dev Cert.SumWInRefIdeal.nD,
          r.2.mem ((c.tc : Thread Cert.SumWInRefIdeal.nD Cert.SumWInRefIdeal.τ).loc Cert.SumWInRefIdeal.main_v1) = v0 c
          ∧ r.2.mem ((c.tc : Thread Cert.SumWInRefIdeal.nD Cert.SumWInRefIdeal.τ).loc Cert.SumWInRefIdeal.main_arg0) = m' ((c.tc : Thread Cert.SumWInRefIdeal.nD Cert.SumWInRefIdeal.τ).loc Cert.SumWInRefIdeal.main_arg0))

def preserves_SumWFfnIn_SumWFfnInIdeal : Prop :=
  True

def algebraic_SumWFfnInIdeal_SumWFfnInRefIdeal [hSumWFfnInIdeal : Cert.SumWFfnInIdeal.Facts] [hSumWFfnInRefIdeal : Cert.SumWFfnInRefIdeal.Facts] : Prop :=
  ∀ (m : (ℓ : Loc Cert.SumWFfnInIdeal.nD Cert.SumWFfnInIdeal.τ Cert.SumWFfnInIdeal.sig) → Buf (Elt Ideal) ℓ) (g : Dev Cert.SumWFfnInIdeal.nD → PrngReg)
    (m' : (ℓ : Loc Cert.SumWFfnInRefIdeal.nD Cert.SumWFfnInRefIdeal.τ Cert.SumWFfnInRefIdeal.sig) → Buf (Elt Ideal) ℓ) (g' : Dev Cert.SumWFfnInRefIdeal.nD → PrngReg), Pre_SumWFfnInIdeal m →
    (∀ c : Dev Cert.SumWFfnInIdeal.nD,
      m' ((c.tc : Thread Cert.SumWFfnInRefIdeal.nD Cert.SumWFfnInRefIdeal.τ).loc Cert.SumWFfnInRefIdeal.main_arg0) = m ((c.tc : Thread Cert.SumWFfnInIdeal.nD Cert.SumWFfnInIdeal.τ).loc Cert.SumWFfnInIdeal.main_arg0)) →
    ∃ (v0 : (c : Dev Cert.SumWFfnInIdeal.nD) → Buf (Elt Ideal) ((c.tc : Thread Cert.SumWFfnInIdeal.nD Cert.SumWFfnInIdeal.τ).loc Cert.SumWFfnInIdeal.main_v0)),
      θ_run (Cert.SumWFfnInIdeal.defs (F := Ideal)) (onTc (τ := Cert.SumWFfnInIdeal.τ) (Cert.SumWFfnInIdeal.main (F := Ideal))) ⟨m, fun _ => 0, g⟩ (fun r => ∀ c : Dev Cert.SumWFfnInIdeal.nD,
          r.2.mem ((c.tc : Thread Cert.SumWFfnInIdeal.nD Cert.SumWFfnInIdeal.τ).loc Cert.SumWFfnInIdeal.main_v0) = v0 c
          ∧ r.2.mem ((c.tc : Thread Cert.SumWFfnInIdeal.nD Cert.SumWFfnInIdeal.τ).loc Cert.SumWFfnInIdeal.main_arg0) = m ((c.tc : Thread Cert.SumWFfnInIdeal.nD Cert.SumWFfnInIdeal.τ).loc Cert.SumWFfnInIdeal.main_arg0))
      ∧ θ_run (Cert.SumWFfnInRefIdeal.defs (F := Ideal)) (onTc (τ := Cert.SumWFfnInRefIdeal.τ) (Cert.SumWFfnInRefIdeal.main (F := Ideal))) ⟨m', fun _ => 0, g'⟩ (fun r => ∀ c : Dev Cert.SumWFfnInRefIdeal.nD,
          r.2.mem ((c.tc : Thread Cert.SumWFfnInRefIdeal.nD Cert.SumWFfnInRefIdeal.τ).loc Cert.SumWFfnInRefIdeal.main_v1) = v0 c
          ∧ r.2.mem ((c.tc : Thread Cert.SumWFfnInRefIdeal.nD Cert.SumWFfnInRefIdeal.τ).loc Cert.SumWFfnInRefIdeal.main_arg0) = m' ((c.tc : Thread Cert.SumWFfnInRefIdeal.nD Cert.SumWFfnInRefIdeal.τ).loc Cert.SumWFfnInRefIdeal.main_arg0))

def preserves_SumWRows_SumWRowsIdeal : Prop :=
  True

def algebraic_SumWRowsIdeal_SumWRowsRefIdeal [hSumWRowsIdeal : Cert.SumWRowsIdeal.Facts] [hSumWRowsRefIdeal : Cert.SumWRowsRefIdeal.Facts] : Prop :=
  ∀ (m : (ℓ : Loc Cert.SumWRowsIdeal.nD Cert.SumWRowsIdeal.τ Cert.SumWRowsIdeal.sig) → Buf (Elt Ideal) ℓ) (g : Dev Cert.SumWRowsIdeal.nD → PrngReg)
    (m' : (ℓ : Loc Cert.SumWRowsRefIdeal.nD Cert.SumWRowsRefIdeal.τ Cert.SumWRowsRefIdeal.sig) → Buf (Elt Ideal) ℓ) (g' : Dev Cert.SumWRowsRefIdeal.nD → PrngReg), Pre_SumWRowsIdeal m →
    (∀ c : Dev Cert.SumWRowsIdeal.nD,
      m' ((c.tc : Thread Cert.SumWRowsRefIdeal.nD Cert.SumWRowsRefIdeal.τ).loc Cert.SumWRowsRefIdeal.main_arg0) = m ((c.tc : Thread Cert.SumWRowsIdeal.nD Cert.SumWRowsIdeal.τ).loc Cert.SumWRowsIdeal.main_arg0)) →
    ∃ (v0 : (c : Dev Cert.SumWRowsIdeal.nD) → Buf (Elt Ideal) ((c.tc : Thread Cert.SumWRowsIdeal.nD Cert.SumWRowsIdeal.τ).loc Cert.SumWRowsIdeal.main_v0)),
      θ_run (Cert.SumWRowsIdeal.defs (F := Ideal)) (onTc (τ := Cert.SumWRowsIdeal.τ) (Cert.SumWRowsIdeal.main (F := Ideal))) ⟨m, fun _ => 0, g⟩ (fun r => ∀ c : Dev Cert.SumWRowsIdeal.nD,
          r.2.mem ((c.tc : Thread Cert.SumWRowsIdeal.nD Cert.SumWRowsIdeal.τ).loc Cert.SumWRowsIdeal.main_v0) = v0 c
          ∧ r.2.mem ((c.tc : Thread Cert.SumWRowsIdeal.nD Cert.SumWRowsIdeal.τ).loc Cert.SumWRowsIdeal.main_arg0) = m ((c.tc : Thread Cert.SumWRowsIdeal.nD Cert.SumWRowsIdeal.τ).loc Cert.SumWRowsIdeal.main_arg0))
      ∧ θ_run (Cert.SumWRowsRefIdeal.defs (F := Ideal)) (onTc (τ := Cert.SumWRowsRefIdeal.τ) (Cert.SumWRowsRefIdeal.main (F := Ideal))) ⟨m', fun _ => 0, g'⟩ (fun r => ∀ c : Dev Cert.SumWRowsRefIdeal.nD,
          r.2.mem ((c.tc : Thread Cert.SumWRowsRefIdeal.nD Cert.SumWRowsRefIdeal.τ).loc Cert.SumWRowsRefIdeal.main_v1) = v0 c
          ∧ r.2.mem ((c.tc : Thread Cert.SumWRowsRefIdeal.nD Cert.SumWRowsRefIdeal.τ).loc Cert.SumWRowsRefIdeal.main_arg0) = m' ((c.tc : Thread Cert.SumWRowsRefIdeal.nD Cert.SumWRowsRefIdeal.τ).loc Cert.SumWRowsRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWBranch_AdamWBranchIdeal : Prop :=
  True

def algebraic_AdamWBranchIdeal_AdamWBranchRefIdeal [hAdamWBranchIdeal : Cert.AdamWBranchIdeal.Facts] [hAdamWBranchRefIdeal : Cert.AdamWBranchRefIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg)
    (m' : (ℓ : Loc Cert.AdamWBranchRefIdeal.nD Cert.AdamWBranchRefIdeal.τ Cert.AdamWBranchRefIdeal.sig) → Buf (Elt Ideal) ℓ) (g' : Dev Cert.AdamWBranchRefIdeal.nD → PrngReg), Pre_AdamWBranchIdeal m →
    (∀ c : Dev Cert.AdamWBranchIdeal.nD,
      m' ((c.tc : Thread Cert.AdamWBranchRefIdeal.nD Cert.AdamWBranchRefIdeal.τ).loc Cert.AdamWBranchRefIdeal.main_arg0) = m ((c.tc : Thread Cert.AdamWBranchIdeal.nD Cert.AdamWBranchIdeal.τ).loc Cert.AdamWBranchIdeal.main_arg0)
      ∧ m' ((c.tc : Thread Cert.AdamWBranchRefIdeal.nD Cert.AdamWBranchRefIdeal.τ).loc Cert.AdamWBranchRefIdeal.main_arg1) = m ((c.tc : Thread Cert.AdamWBranchIdeal.nD Cert.AdamWBranchIdeal.τ).loc Cert.AdamWBranchIdeal.main_arg1)
      ∧ m' ((c.tc : Thread Cert.AdamWBranchRefIdeal.nD Cert.AdamWBranchRefIdeal.τ).loc Cert.AdamWBranchRefIdeal.main_arg2) = m ((c.tc : Thread Cert.AdamWBranchIdeal.nD Cert.AdamWBranchIdeal.τ).loc Cert.AdamWBranchIdeal.main_arg2)
      ∧ m' ((c.tc : Thread Cert.AdamWBranchRefIdeal.nD Cert.AdamWBranchRefIdeal.τ).loc Cert.AdamWBranchRefIdeal.main_arg3) = m ((c.tc : Thread Cert.AdamWBranchIdeal.nD Cert.AdamWBranchIdeal.τ).loc Cert.AdamWBranchIdeal.main_arg3)) →
    ∃ (v0 : (c : Dev Cert.AdamWBranchIdeal.nD) → Buf (Elt Ideal) ((c.tc : Thread Cert.AdamWBranchIdeal.nD Cert.AdamWBranchIdeal.τ).loc Cert.AdamWBranchIdeal.main_v0_0)) (v1 : (c : Dev Cert.AdamWBranchIdeal.nD) → Buf (Elt Ideal) ((c.tc : Thread Cert.AdamWBranchIdeal.nD Cert.AdamWBranchIdeal.τ).loc Cert.AdamWBranchIdeal.main_v0_1)) (v2 : (c : Dev Cert.AdamWBranchIdeal.nD) → Buf (Elt Ideal) ((c.tc : Thread Cert.AdamWBranchIdeal.nD Cert.AdamWBranchIdeal.τ).loc Cert.AdamWBranchIdeal.main_v0_2)),
      θ_run (Cert.AdamWBranchIdeal.defs (F := Ideal)) (onTc (τ := Cert.AdamWBranchIdeal.τ) (Cert.AdamWBranchIdeal.main (F := Ideal))) ⟨m, fun _ => 0, g⟩ (fun r => ∀ c : Dev Cert.AdamWBranchIdeal.nD,
          r.2.mem ((c.tc : Thread Cert.AdamWBranchIdeal.nD Cert.AdamWBranchIdeal.τ).loc Cert.AdamWBranchIdeal.main_v0_0) = v0 c
          ∧ r.2.mem ((c.tc : Thread Cert.AdamWBranchIdeal.nD Cert.AdamWBranchIdeal.τ).loc Cert.AdamWBranchIdeal.main_v0_1) = v1 c
          ∧ r.2.mem ((c.tc : Thread Cert.AdamWBranchIdeal.nD Cert.AdamWBranchIdeal.τ).loc Cert.AdamWBranchIdeal.main_v0_2) = v2 c
          ∧ r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
          ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
          ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
          ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ θ_run (Cert.AdamWBranchRefIdeal.defs (F := Ideal)) (onTc (τ := Cert.AdamWBranchRefIdeal.τ) (Cert.AdamWBranchRefIdeal.main (F := Ideal))) ⟨m', fun _ => 0, g'⟩ (fun r => ∀ c : Dev Cert.AdamWBranchRefIdeal.nD,
          r.2.mem ((c.tc : Thread Cert.AdamWBranchRefIdeal.nD Cert.AdamWBranchRefIdeal.τ).loc Cert.AdamWBranchRefIdeal.main_v23) = v0 c
          ∧ r.2.mem ((c.tc : Thread Cert.AdamWBranchRefIdeal.nD Cert.AdamWBranchRefIdeal.τ).loc Cert.AdamWBranchRefIdeal.main_v4) = v1 c
          ∧ r.2.mem ((c.tc : Thread Cert.AdamWBranchRefIdeal.nD Cert.AdamWBranchRefIdeal.τ).loc Cert.AdamWBranchRefIdeal.main_v10) = v2 c
          ∧ r.2.mem ((c.tc : Thread Cert.AdamWBranchRefIdeal.nD Cert.AdamWBranchRefIdeal.τ).loc Cert.AdamWBranchRefIdeal.main_arg0) = m' ((c.tc : Thread Cert.AdamWBranchRefIdeal.nD Cert.AdamWBranchRefIdeal.τ).loc Cert.AdamWBranchRefIdeal.main_arg0)
          ∧ r.2.mem ((c.tc : Thread Cert.AdamWBranchRefIdeal.nD Cert.AdamWBranchRefIdeal.τ).loc Cert.AdamWBranchRefIdeal.main_arg1) = m' ((c.tc : Thread Cert.AdamWBranchRefIdeal.nD Cert.AdamWBranchRefIdeal.τ).loc Cert.AdamWBranchRefIdeal.main_arg1)
          ∧ r.2.mem ((c.tc : Thread Cert.AdamWBranchRefIdeal.nD Cert.AdamWBranchRefIdeal.τ).loc Cert.AdamWBranchRefIdeal.main_arg2) = m' ((c.tc : Thread Cert.AdamWBranchRefIdeal.nD Cert.AdamWBranchRefIdeal.τ).loc Cert.AdamWBranchRefIdeal.main_arg2)
          ∧ r.2.mem ((c.tc : Thread Cert.AdamWBranchRefIdeal.nD Cert.AdamWBranchRefIdeal.τ).loc Cert.AdamWBranchRefIdeal.main_arg3) = m' ((c.tc : Thread Cert.AdamWBranchRefIdeal.nD Cert.AdamWBranchRefIdeal.τ).loc Cert.AdamWBranchRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v23) = v0 c
          ∧ r.2.mem ((c.tc : Thread Cert.AdamWOutRefIdeal.nD Cert.AdamWOutRefIdeal.τ).loc Cert.AdamWOutRefIdeal.main_v4) = v1 c
          ∧ r.2.mem ((c.tc : Thread Cert.AdamWOutRefIdeal.nD Cert.AdamWOutRefIdeal.τ).loc Cert.AdamWOutRefIdeal.main_v10) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWFfnIn_AdamWFfnInIdeal : Prop :=
  True

def algebraic_AdamWFfnInIdeal_AdamWFfnInRefIdeal [hAdamWFfnInIdeal : Cert.AdamWFfnInIdeal.Facts] [hAdamWFfnInRefIdeal : Cert.AdamWFfnInRefIdeal.Facts] : Prop :=
  ∀ (m : (ℓ : Loc Cert.AdamWFfnInIdeal.nD Cert.AdamWFfnInIdeal.τ Cert.AdamWFfnInIdeal.sig) → Buf (Elt Ideal) ℓ) (g : Dev Cert.AdamWFfnInIdeal.nD → PrngReg)
    (m' : (ℓ : Loc Cert.AdamWFfnInRefIdeal.nD Cert.AdamWFfnInRefIdeal.τ Cert.AdamWFfnInRefIdeal.sig) → Buf (Elt Ideal) ℓ) (g' : Dev Cert.AdamWFfnInRefIdeal.nD → PrngReg), Pre_AdamWFfnInIdeal m →
    (∀ c : Dev Cert.AdamWFfnInIdeal.nD,
      m' ((c.tc : Thread Cert.AdamWFfnInRefIdeal.nD Cert.AdamWFfnInRefIdeal.τ).loc Cert.AdamWFfnInRefIdeal.main_arg0) = m ((c.tc : Thread Cert.AdamWFfnInIdeal.nD Cert.AdamWFfnInIdeal.τ).loc Cert.AdamWFfnInIdeal.main_arg0)
      ∧ m' ((c.tc : Thread Cert.AdamWFfnInRefIdeal.nD Cert.AdamWFfnInRefIdeal.τ).loc Cert.AdamWFfnInRefIdeal.main_arg1) = m ((c.tc : Thread Cert.AdamWFfnInIdeal.nD Cert.AdamWFfnInIdeal.τ).loc Cert.AdamWFfnInIdeal.main_arg1)
      ∧ m' ((c.tc : Thread Cert.AdamWFfnInRefIdeal.nD Cert.AdamWFfnInRefIdeal.τ).loc Cert.AdamWFfnInRefIdeal.main_arg2) = m ((c.tc : Thread Cert.AdamWFfnInIdeal.nD Cert.AdamWFfnInIdeal.τ).loc Cert.AdamWFfnInIdeal.main_arg2)
      ∧ m' ((c.tc : Thread Cert.AdamWFfnInRefIdeal.nD Cert.AdamWFfnInRefIdeal.τ).loc Cert.AdamWFfnInRefIdeal.main_arg3) = m ((c.tc : Thread Cert.AdamWFfnInIdeal.nD Cert.AdamWFfnInIdeal.τ).loc Cert.AdamWFfnInIdeal.main_arg3)) →
    ∃ (v0 : (c : Dev Cert.AdamWFfnInIdeal.nD) → Buf (Elt Ideal) ((c.tc : Thread Cert.AdamWFfnInIdeal.nD Cert.AdamWFfnInIdeal.τ).loc Cert.AdamWFfnInIdeal.main_v0_0)) (v1 : (c : Dev Cert.AdamWFfnInIdeal.nD) → Buf (Elt Ideal) ((c.tc : Thread Cert.AdamWFfnInIdeal.nD Cert.AdamWFfnInIdeal.τ).loc Cert.AdamWFfnInIdeal.main_v0_1)) (v2 : (c : Dev Cert.AdamWFfnInIdeal.nD) → Buf (Elt Ideal) ((c.tc : Thread Cert.AdamWFfnInIdeal.nD Cert.AdamWFfnInIdeal.τ).loc Cert.AdamWFfnInIdeal.main_v0_2)),
      θ_run (Cert.AdamWFfnInIdeal.defs (F := Ideal)) (onTc (τ := Cert.AdamWFfnInIdeal.τ) (Cert.AdamWFfnInIdeal.main (F := Ideal))) ⟨m, fun _ => 0, g⟩ (fun r => ∀ c : Dev Cert.AdamWFfnInIdeal.nD,
          r.2.mem ((c.tc : Thread Cert.AdamWFfnInIdeal.nD Cert.AdamWFfnInIdeal.τ).loc Cert.AdamWFfnInIdeal.main_v0_0) = v0 c
          ∧ r.2.mem ((c.tc : Thread Cert.AdamWFfnInIdeal.nD Cert.AdamWFfnInIdeal.τ).loc Cert.AdamWFfnInIdeal.main_v0_1) = v1 c
          ∧ r.2.mem ((c.tc : Thread Cert.AdamWFfnInIdeal.nD Cert.AdamWFfnInIdeal.τ).loc Cert.AdamWFfnInIdeal.main_v0_2) = v2 c
          ∧ r.2.mem ((c.tc : Thread Cert.AdamWFfnInIdeal.nD Cert.AdamWFfnInIdeal.τ).loc Cert.AdamWFfnInIdeal.main_arg0) = m ((c.tc : Thread Cert.AdamWFfnInIdeal.nD Cert.AdamWFfnInIdeal.τ).loc Cert.AdamWFfnInIdeal.main_arg0)
          ∧ r.2.mem ((c.tc : Thread Cert.AdamWFfnInIdeal.nD Cert.AdamWFfnInIdeal.τ).loc Cert.AdamWFfnInIdeal.main_arg1) = m ((c.tc : Thread Cert.AdamWFfnInIdeal.nD Cert.AdamWFfnInIdeal.τ).loc Cert.AdamWFfnInIdeal.main_arg1)
          ∧ r.2.mem ((c.tc : Thread Cert.AdamWFfnInIdeal.nD Cert.AdamWFfnInIdeal.τ).loc Cert.AdamWFfnInIdeal.main_arg2) = m ((c.tc : Thread Cert.AdamWFfnInIdeal.nD Cert.AdamWFfnInIdeal.τ).loc Cert.AdamWFfnInIdeal.main_arg2)
          ∧ r.2.mem ((c.tc : Thread Cert.AdamWFfnInIdeal.nD Cert.AdamWFfnInIdeal.τ).loc Cert.AdamWFfnInIdeal.main_arg3) = m ((c.tc : Thread Cert.AdamWFfnInIdeal.nD Cert.AdamWFfnInIdeal.τ).loc Cert.AdamWFfnInIdeal.main_arg3))
      ∧ θ_run (Cert.AdamWFfnInRefIdeal.defs (F := Ideal)) (onTc (τ := Cert.AdamWFfnInRefIdeal.τ) (Cert.AdamWFfnInRefIdeal.main (F := Ideal))) ⟨m', fun _ => 0, g'⟩ (fun r => ∀ c : Dev Cert.AdamWFfnInRefIdeal.nD,
          r.2.mem ((c.tc : Thread Cert.AdamWFfnInRefIdeal.nD Cert.AdamWFfnInRefIdeal.τ).loc Cert.AdamWFfnInRefIdeal.main_v23) = v0 c
          ∧ r.2.mem ((c.tc : Thread Cert.AdamWFfnInRefIdeal.nD Cert.AdamWFfnInRefIdeal.τ).loc Cert.AdamWFfnInRefIdeal.main_v4) = v1 c
          ∧ r.2.mem ((c.tc : Thread Cert.AdamWFfnInRefIdeal.nD Cert.AdamWFfnInRefIdeal.τ).loc Cert.AdamWFfnInRefIdeal.main_v10) = v2 c
          ∧ r.2.mem ((c.tc : Thread Cert.AdamWFfnInRefIdeal.nD Cert.AdamWFfnInRefIdeal.τ).loc Cert.AdamWFfnInRefIdeal.main_arg0) = m' ((c.tc : Thread Cert.AdamWFfnInRefIdeal.nD Cert.AdamWFfnInRefIdeal.τ).loc Cert.AdamWFfnInRefIdeal.main_arg0)
          ∧ r.2.mem ((c.tc : Thread Cert.AdamWFfnInRefIdeal.nD Cert.AdamWFfnInRefIdeal.τ).loc Cert.AdamWFfnInRefIdeal.main_arg1) = m' ((c.tc : Thread Cert.AdamWFfnInRefIdeal.nD Cert.AdamWFfnInRefIdeal.τ).loc Cert.AdamWFfnInRefIdeal.main_arg1)
          ∧ r.2.mem ((c.tc : Thread Cert.AdamWFfnInRefIdeal.nD Cert.AdamWFfnInRefIdeal.τ).loc Cert.AdamWFfnInRefIdeal.main_arg2) = m' ((c.tc : Thread Cert.AdamWFfnInRefIdeal.nD Cert.AdamWFfnInRefIdeal.τ).loc Cert.AdamWFfnInRefIdeal.main_arg2)
          ∧ r.2.mem ((c.tc : Thread Cert.AdamWFfnInRefIdeal.nD Cert.AdamWFfnInRefIdeal.τ).loc Cert.AdamWFfnInRefIdeal.main_arg3) = m' ((c.tc : Thread Cert.AdamWFfnInRefIdeal.nD Cert.AdamWFfnInRefIdeal.τ).loc Cert.AdamWFfnInRefIdeal.main_arg3))

def preserves_AdamWFfnOut_AdamWFfnOutIdeal : Prop :=
  True

def algebraic_AdamWFfnOutIdeal_AdamWFfnOutRefIdeal [hAdamWFfnOutIdeal : Cert.AdamWFfnOutIdeal.Facts] [hAdamWFfnOutRefIdeal : Cert.AdamWFfnOutRefIdeal.Facts] : Prop :=
  ∀ (m : (ℓ : Loc Cert.AdamWFfnOutIdeal.nD Cert.AdamWFfnOutIdeal.τ Cert.AdamWFfnOutIdeal.sig) → Buf (Elt Ideal) ℓ) (g : Dev Cert.AdamWFfnOutIdeal.nD → PrngReg)
    (m' : (ℓ : Loc Cert.AdamWFfnOutRefIdeal.nD Cert.AdamWFfnOutRefIdeal.τ Cert.AdamWFfnOutRefIdeal.sig) → Buf (Elt Ideal) ℓ) (g' : Dev Cert.AdamWFfnOutRefIdeal.nD → PrngReg), Pre_AdamWFfnOutIdeal m →
    (∀ c : Dev Cert.AdamWFfnOutIdeal.nD,
      m' ((c.tc : Thread Cert.AdamWFfnOutRefIdeal.nD Cert.AdamWFfnOutRefIdeal.τ).loc Cert.AdamWFfnOutRefIdeal.main_arg0) = m ((c.tc : Thread Cert.AdamWFfnOutIdeal.nD Cert.AdamWFfnOutIdeal.τ).loc Cert.AdamWFfnOutIdeal.main_arg0)
      ∧ m' ((c.tc : Thread Cert.AdamWFfnOutRefIdeal.nD Cert.AdamWFfnOutRefIdeal.τ).loc Cert.AdamWFfnOutRefIdeal.main_arg1) = m ((c.tc : Thread Cert.AdamWFfnOutIdeal.nD Cert.AdamWFfnOutIdeal.τ).loc Cert.AdamWFfnOutIdeal.main_arg1)
      ∧ m' ((c.tc : Thread Cert.AdamWFfnOutRefIdeal.nD Cert.AdamWFfnOutRefIdeal.τ).loc Cert.AdamWFfnOutRefIdeal.main_arg2) = m ((c.tc : Thread Cert.AdamWFfnOutIdeal.nD Cert.AdamWFfnOutIdeal.τ).loc Cert.AdamWFfnOutIdeal.main_arg2)
      ∧ m' ((c.tc : Thread Cert.AdamWFfnOutRefIdeal.nD Cert.AdamWFfnOutRefIdeal.τ).loc Cert.AdamWFfnOutRefIdeal.main_arg3) = m ((c.tc : Thread Cert.AdamWFfnOutIdeal.nD Cert.AdamWFfnOutIdeal.τ).loc Cert.AdamWFfnOutIdeal.main_arg3)) →
    ∃ (v0 : (c : Dev Cert.AdamWFfnOutIdeal.nD) → Buf (Elt Ideal) ((c.tc : Thread Cert.AdamWFfnOutIdeal.nD Cert.AdamWFfnOutIdeal.τ).loc Cert.AdamWFfnOutIdeal.main_v0_0)) (v1 : (c : Dev Cert.AdamWFfnOutIdeal.nD) → Buf (Elt Ideal) ((c.tc : Thread Cert.AdamWFfnOutIdeal.nD Cert.AdamWFfnOutIdeal.τ).loc Cert.AdamWFfnOutIdeal.main_v0_1)) (v2 : (c : Dev Cert.AdamWFfnOutIdeal.nD) → Buf (Elt Ideal) ((c.tc : Thread Cert.AdamWFfnOutIdeal.nD Cert.AdamWFfnOutIdeal.τ).loc Cert.AdamWFfnOutIdeal.main_v0_2)),
      θ_run (Cert.AdamWFfnOutIdeal.defs (F := Ideal)) (onTc (τ := Cert.AdamWFfnOutIdeal.τ) (Cert.AdamWFfnOutIdeal.main (F := Ideal))) ⟨m, fun _ => 0, g⟩ (fun r => ∀ c : Dev Cert.AdamWFfnOutIdeal.nD,
          r.2.mem ((c.tc : Thread Cert.AdamWFfnOutIdeal.nD Cert.AdamWFfnOutIdeal.τ).loc Cert.AdamWFfnOutIdeal.main_v0_0) = v0 c
          ∧ r.2.mem ((c.tc : Thread Cert.AdamWFfnOutIdeal.nD Cert.AdamWFfnOutIdeal.τ).loc Cert.AdamWFfnOutIdeal.main_v0_1) = v1 c
          ∧ r.2.mem ((c.tc : Thread Cert.AdamWFfnOutIdeal.nD Cert.AdamWFfnOutIdeal.τ).loc Cert.AdamWFfnOutIdeal.main_v0_2) = v2 c
          ∧ r.2.mem ((c.tc : Thread Cert.AdamWFfnOutIdeal.nD Cert.AdamWFfnOutIdeal.τ).loc Cert.AdamWFfnOutIdeal.main_arg0) = m ((c.tc : Thread Cert.AdamWFfnOutIdeal.nD Cert.AdamWFfnOutIdeal.τ).loc Cert.AdamWFfnOutIdeal.main_arg0)
          ∧ r.2.mem ((c.tc : Thread Cert.AdamWFfnOutIdeal.nD Cert.AdamWFfnOutIdeal.τ).loc Cert.AdamWFfnOutIdeal.main_arg1) = m ((c.tc : Thread Cert.AdamWFfnOutIdeal.nD Cert.AdamWFfnOutIdeal.τ).loc Cert.AdamWFfnOutIdeal.main_arg1)
          ∧ r.2.mem ((c.tc : Thread Cert.AdamWFfnOutIdeal.nD Cert.AdamWFfnOutIdeal.τ).loc Cert.AdamWFfnOutIdeal.main_arg2) = m ((c.tc : Thread Cert.AdamWFfnOutIdeal.nD Cert.AdamWFfnOutIdeal.τ).loc Cert.AdamWFfnOutIdeal.main_arg2)
          ∧ r.2.mem ((c.tc : Thread Cert.AdamWFfnOutIdeal.nD Cert.AdamWFfnOutIdeal.τ).loc Cert.AdamWFfnOutIdeal.main_arg3) = m ((c.tc : Thread Cert.AdamWFfnOutIdeal.nD Cert.AdamWFfnOutIdeal.τ).loc Cert.AdamWFfnOutIdeal.main_arg3))
      ∧ θ_run (Cert.AdamWFfnOutRefIdeal.defs (F := Ideal)) (onTc (τ := Cert.AdamWFfnOutRefIdeal.τ) (Cert.AdamWFfnOutRefIdeal.main (F := Ideal))) ⟨m', fun _ => 0, g'⟩ (fun r => ∀ c : Dev Cert.AdamWFfnOutRefIdeal.nD,
          r.2.mem ((c.tc : Thread Cert.AdamWFfnOutRefIdeal.nD Cert.AdamWFfnOutRefIdeal.τ).loc Cert.AdamWFfnOutRefIdeal.main_v23) = v0 c
          ∧ r.2.mem ((c.tc : Thread Cert.AdamWFfnOutRefIdeal.nD Cert.AdamWFfnOutRefIdeal.τ).loc Cert.AdamWFfnOutRefIdeal.main_v4) = v1 c
          ∧ r.2.mem ((c.tc : Thread Cert.AdamWFfnOutRefIdeal.nD Cert.AdamWFfnOutRefIdeal.τ).loc Cert.AdamWFfnOutRefIdeal.main_v10) = v2 c
          ∧ r.2.mem ((c.tc : Thread Cert.AdamWFfnOutRefIdeal.nD Cert.AdamWFfnOutRefIdeal.τ).loc Cert.AdamWFfnOutRefIdeal.main_arg0) = m' ((c.tc : Thread Cert.AdamWFfnOutRefIdeal.nD Cert.AdamWFfnOutRefIdeal.τ).loc Cert.AdamWFfnOutRefIdeal.main_arg0)
          ∧ r.2.mem ((c.tc : Thread Cert.AdamWFfnOutRefIdeal.nD Cert.AdamWFfnOutRefIdeal.τ).loc Cert.AdamWFfnOutRefIdeal.main_arg1) = m' ((c.tc : Thread Cert.AdamWFfnOutRefIdeal.nD Cert.AdamWFfnOutRefIdeal.τ).loc Cert.AdamWFfnOutRefIdeal.main_arg1)
          ∧ r.2.mem ((c.tc : Thread Cert.AdamWFfnOutRefIdeal.nD Cert.AdamWFfnOutRefIdeal.τ).loc Cert.AdamWFfnOutRefIdeal.main_arg2) = m' ((c.tc : Thread Cert.AdamWFfnOutRefIdeal.nD Cert.AdamWFfnOutRefIdeal.τ).loc Cert.AdamWFfnOutRefIdeal.main_arg2)
          ∧ r.2.mem ((c.tc : Thread Cert.AdamWFfnOutRefIdeal.nD Cert.AdamWFfnOutRefIdeal.τ).loc Cert.AdamWFfnOutRefIdeal.main_arg3) = m' ((c.tc : Thread Cert.AdamWFfnOutRefIdeal.nD Cert.AdamWFfnOutRefIdeal.τ).loc Cert.AdamWFfnOutRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v23) = v0 c
          ∧ r.2.mem ((c.tc : Thread Cert.AdamConvWRefIdeal.nD Cert.AdamConvWRefIdeal.τ).loc Cert.AdamConvWRefIdeal.main_v4) = v1 c
          ∧ r.2.mem ((c.tc : Thread Cert.AdamConvWRefIdeal.nD Cert.AdamConvWRefIdeal.τ).loc Cert.AdamConvWRefIdeal.main_v10) = v2 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hMerge : Cert.Merge.Facts) (hMergeIdeal : Cert.MergeIdeal.Facts) (hMergeRefIdeal : Cert.MergeRefIdeal.Facts) (hSwiglu : Cert.Swiglu.Facts) (hSwigluIdeal : Cert.SwigluIdeal.Facts) (hSwigluRefIdeal : Cert.SwigluRefIdeal.Facts) (hNormGrad : Cert.NormGrad.Facts) (hNormGradIdeal : Cert.NormGradIdeal.Facts) (hNormGradRefIdeal : Cert.NormGradRefIdeal.Facts) (hNormGradQd : Cert.NormGradQd.Facts) (hNormGradQdIdeal : Cert.NormGradQdIdeal.Facts) (hNormGradQdRefIdeal : Cert.NormGradQdRefIdeal.Facts) (hNormGradFfn : Cert.NormGradFfn.Facts) (hNormGradFfnIdeal : Cert.NormGradFfnIdeal.Facts) (hNormGradFfnRefIdeal : Cert.NormGradFfnRefIdeal.Facts) (hWindow : Cert.Window.Facts) (hWindowIdeal : Cert.WindowIdeal.Facts) (hWindowRefIdeal : Cert.WindowRefIdeal.Facts) (hLoss : Cert.Loss.Facts) (hLossIdeal : Cert.LossIdeal.Facts) (hLossRefIdeal : Cert.LossRefIdeal.Facts) (hDwFfnOut : Cert.DwFfnOut.Facts) (hDwFfnOutIdeal : Cert.DwFfnOutIdeal.Facts) (hDwFfnOutRefIdeal : Cert.DwFfnOutRefIdeal.Facts) (hDwFfnIn : Cert.DwFfnIn.Facts) (hDwFfnInIdeal : Cert.DwFfnInIdeal.Facts) (hDwFfnInRefIdeal : Cert.DwFfnInRefIdeal.Facts) (hDwOut : Cert.DwOut.Facts) (hDwOutIdeal : Cert.DwOutIdeal.Facts) (hDwOutRefIdeal : Cert.DwOutRefIdeal.Facts) (hDwInF : Cert.DwInF.Facts) (hDwInFIdeal : Cert.DwInFIdeal.Facts) (hDwInFRefIdeal : Cert.DwInFRefIdeal.Facts) (hDwInQs : Cert.DwInQs.Facts) (hDwInQsIdeal : Cert.DwInQsIdeal.Facts) (hDwInQsRefIdeal : Cert.DwInQsRefIdeal.Facts) (hDwInQd : Cert.DwInQd.Facts) (hDwInQdIdeal : Cert.DwInQdIdeal.Facts) (hDwInQdRefIdeal : Cert.DwInQdRefIdeal.Facts) (hDBranch : Cert.DBranch.Facts) (hDBranchIdeal : Cert.DBranchIdeal.Facts) (hDBranchRefIdeal : Cert.DBranchRefIdeal.Facts) (hDBranchWide : Cert.DBranchWide.Facts) (hDBranchWideIdeal : Cert.DBranchWideIdeal.Facts) (hDBranchWideRefIdeal : Cert.DBranchWideRefIdeal.Facts) (hDxF : Cert.DxF.Facts) (hDxFIdeal : Cert.DxFIdeal.Facts) (hDxFRefIdeal : Cert.DxFRefIdeal.Facts) (hDxQs : Cert.DxQs.Facts) (hDxQsIdeal : Cert.DxQsIdeal.Facts) (hDxQsRefIdeal : Cert.DxQsRefIdeal.Facts) (hDxQd : Cert.DxQd.Facts) (hDxQdIdeal : Cert.DxQdIdeal.Facts) (hDxQdRefIdeal : Cert.DxQdRefIdeal.Facts) (hProjF : Cert.ProjF.Facts) (hProjFIdeal : Cert.ProjFIdeal.Facts) (hProjFRefIdeal : Cert.ProjFRefIdeal.Facts) (hProjQs : Cert.ProjQs.Facts) (hProjQsIdeal : Cert.ProjQsIdeal.Facts) (hProjQsRefIdeal : Cert.ProjQsRefIdeal.Facts) (hProjQd : Cert.ProjQd.Facts) (hProjQdIdeal : Cert.ProjQdIdeal.Facts) (hProjQdRefIdeal : Cert.ProjQdRefIdeal.Facts) (hBranchMerge : Cert.BranchMerge.Facts) (hBranchMergeIdeal : Cert.BranchMergeIdeal.Facts) (hBranchMergeRefIdeal : Cert.BranchMergeRefIdeal.Facts) (hFfnIn : Cert.FfnIn.Facts) (hFfnInIdeal : Cert.FfnInIdeal.Facts) (hFfnInRefIdeal : Cert.FfnInRefIdeal.Facts) (hWOutNorm : Cert.WOutNorm.Facts) (hWOutNormIdeal : Cert.WOutNormIdeal.Facts) (hWOutNormRefIdeal : Cert.WOutNormRefIdeal.Facts) (hFfnOutNorm : Cert.FfnOutNorm.Facts) (hFfnOutNormIdeal : Cert.FfnOutNormIdeal.Facts) (hFfnOutNormRefIdeal : Cert.FfnOutNormRefIdeal.Facts) (hSumWIn : Cert.SumWIn.Facts) (hSumWInIdeal : Cert.SumWInIdeal.Facts) (hSumWInRefIdeal : Cert.SumWInRefIdeal.Facts) (hSumWFfnIn : Cert.SumWFfnIn.Facts) (hSumWFfnInIdeal : Cert.SumWFfnInIdeal.Facts) (hSumWFfnInRefIdeal : Cert.SumWFfnInRefIdeal.Facts) (hSumWRows : Cert.SumWRows.Facts) (hSumWRowsIdeal : Cert.SumWRowsIdeal.Facts) (hSumWRowsRefIdeal : Cert.SumWRowsRefIdeal.Facts) (hSumSmall : Cert.SumSmall.Facts) (hSumSmallIdeal : Cert.SumSmallIdeal.Facts) (hSumSmallRefIdeal : Cert.SumSmallRefIdeal.Facts) (hAdamWIn : Cert.AdamWIn.Facts) (hAdamWInIdeal : Cert.AdamWInIdeal.Facts) (hAdamWInRefIdeal : Cert.AdamWInRefIdeal.Facts) (hAdamWBranch : Cert.AdamWBranch.Facts) (hAdamWBranchIdeal : Cert.AdamWBranchIdeal.Facts) (hAdamWBranchRefIdeal : Cert.AdamWBranchRefIdeal.Facts) (hAdamWOut : Cert.AdamWOut.Facts) (hAdamWOutIdeal : Cert.AdamWOutIdeal.Facts) (hAdamWOutRefIdeal : Cert.AdamWOutRefIdeal.Facts) (hAdamWFfnIn : Cert.AdamWFfnIn.Facts) (hAdamWFfnInIdeal : Cert.AdamWFfnInIdeal.Facts) (hAdamWFfnInRefIdeal : Cert.AdamWFfnInRefIdeal.Facts) (hAdamWFfnOut : Cert.AdamWFfnOut.Facts) (hAdamWFfnOutIdeal : Cert.AdamWFfnOutIdeal.Facts) (hAdamWFfnOutRefIdeal : Cert.AdamWFfnOutRefIdeal.Facts) (hAdamConvW : Cert.AdamConvW.Facts) (hAdamConvWIdeal : Cert.AdamConvWIdeal.Facts) (hAdamConvWRefIdeal : Cert.AdamConvWRefIdeal.Facts) (hAdamSmall : Cert.AdamSmall.Facts) (hAdamSmallIdeal : Cert.AdamSmallIdeal.Facts) (hAdamSmallRefIdeal : Cert.AdamSmallRefIdeal.Facts) (hPre_swiglu_finite : Cert.Pre_swiglu_finite.Facts) (hPre_norm_finite : Cert.Pre_norm_finite.Facts) (hPre_norm_qd_finite : Cert.Pre_norm_qd_finite.Facts) (hPre_norm_ffn_finite : Cert.Pre_norm_ffn_finite.Facts),
    quiescent_Merge (hMerge := hMerge)
    ∧ quiescent_MergeIdeal (hMergeIdeal := hMergeIdeal)
    ∧ quiescent_MergeRefIdeal (hMergeRefIdeal := hMergeRefIdeal)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_NormGrad (hNormGrad := hNormGrad)
    ∧ quiescent_NormGradIdeal (hNormGradIdeal := hNormGradIdeal)
    ∧ quiescent_NormGradIdeal_pre_norm_finite (hNormGradIdeal := hNormGradIdeal) (hPre_norm_finite := hPre_norm_finite)
    ∧ quiescent_NormGradRefIdeal (hNormGradRefIdeal := hNormGradRefIdeal)
    ∧ quiescent_NormGradRefIdeal_pre_norm_finite (hNormGradRefIdeal := hNormGradRefIdeal) (hPre_norm_finite := hPre_norm_finite)
    ∧ quiescent_NormGradQd (hNormGradQd := hNormGradQd)
    ∧ quiescent_NormGradQdIdeal (hNormGradQdIdeal := hNormGradQdIdeal)
    ∧ quiescent_NormGradQdIdeal_pre_norm_qd_finite (hNormGradQdIdeal := hNormGradQdIdeal) (hPre_norm_qd_finite := hPre_norm_qd_finite)
    ∧ quiescent_NormGradQdRefIdeal (hNormGradQdRefIdeal := hNormGradQdRefIdeal)
    ∧ quiescent_NormGradQdRefIdeal_pre_norm_qd_finite (hNormGradQdRefIdeal := hNormGradQdRefIdeal) (hPre_norm_qd_finite := hPre_norm_qd_finite)
    ∧ quiescent_NormGradFfn (hNormGradFfn := hNormGradFfn)
    ∧ quiescent_NormGradFfnIdeal (hNormGradFfnIdeal := hNormGradFfnIdeal)
    ∧ quiescent_NormGradFfnIdeal_pre_norm_ffn_finite (hNormGradFfnIdeal := hNormGradFfnIdeal) (hPre_norm_ffn_finite := hPre_norm_ffn_finite)
    ∧ quiescent_NormGradFfnRefIdeal (hNormGradFfnRefIdeal := hNormGradFfnRefIdeal)
    ∧ quiescent_NormGradFfnRefIdeal_pre_norm_ffn_finite (hNormGradFfnRefIdeal := hNormGradFfnRefIdeal) (hPre_norm_ffn_finite := hPre_norm_ffn_finite)
    ∧ quiescent_Window (hWindow := hWindow)
    ∧ quiescent_WindowIdeal (hWindowIdeal := hWindowIdeal)
    ∧ quiescent_WindowRefIdeal (hWindowRefIdeal := hWindowRefIdeal)
    ∧ quiescent_Loss (hLoss := hLoss)
    ∧ quiescent_LossIdeal (hLossIdeal := hLossIdeal)
    ∧ quiescent_LossRefIdeal (hLossRefIdeal := hLossRefIdeal)
    ∧ quiescent_DwFfnOut (hDwFfnOut := hDwFfnOut)
    ∧ quiescent_DwFfnOutIdeal (hDwFfnOutIdeal := hDwFfnOutIdeal)
    ∧ quiescent_DwFfnOutRefIdeal (hDwFfnOutRefIdeal := hDwFfnOutRefIdeal)
    ∧ quiescent_DwFfnIn (hDwFfnIn := hDwFfnIn)
    ∧ quiescent_DwFfnInIdeal (hDwFfnInIdeal := hDwFfnInIdeal)
    ∧ quiescent_DwFfnInRefIdeal (hDwFfnInRefIdeal := hDwFfnInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwInF (hDwInF := hDwInF)
    ∧ quiescent_DwInFIdeal (hDwInFIdeal := hDwInFIdeal)
    ∧ quiescent_DwInFRefIdeal (hDwInFRefIdeal := hDwInFRefIdeal)
    ∧ quiescent_DwInQs (hDwInQs := hDwInQs)
    ∧ quiescent_DwInQsIdeal (hDwInQsIdeal := hDwInQsIdeal)
    ∧ quiescent_DwInQsRefIdeal (hDwInQsRefIdeal := hDwInQsRefIdeal)
    ∧ quiescent_DwInQd (hDwInQd := hDwInQd)
    ∧ quiescent_DwInQdIdeal (hDwInQdIdeal := hDwInQdIdeal)
    ∧ quiescent_DwInQdRefIdeal (hDwInQdRefIdeal := hDwInQdRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_DBranchWide (hDBranchWide := hDBranchWide)
    ∧ quiescent_DBranchWideIdeal (hDBranchWideIdeal := hDBranchWideIdeal)
    ∧ quiescent_DBranchWideRefIdeal (hDBranchWideRefIdeal := hDBranchWideRefIdeal)
    ∧ quiescent_DxF (hDxF := hDxF)
    ∧ quiescent_DxFIdeal (hDxFIdeal := hDxFIdeal)
    ∧ quiescent_DxFRefIdeal (hDxFRefIdeal := hDxFRefIdeal)
    ∧ quiescent_DxQs (hDxQs := hDxQs)
    ∧ quiescent_DxQsIdeal (hDxQsIdeal := hDxQsIdeal)
    ∧ quiescent_DxQsRefIdeal (hDxQsRefIdeal := hDxQsRefIdeal)
    ∧ quiescent_DxQd (hDxQd := hDxQd)
    ∧ quiescent_DxQdIdeal (hDxQdIdeal := hDxQdIdeal)
    ∧ quiescent_DxQdRefIdeal (hDxQdRefIdeal := hDxQdRefIdeal)
    ∧ quiescent_ProjF (hProjF := hProjF)
    ∧ quiescent_ProjFIdeal (hProjFIdeal := hProjFIdeal)
    ∧ quiescent_ProjFRefIdeal (hProjFRefIdeal := hProjFRefIdeal)
    ∧ quiescent_ProjQs (hProjQs := hProjQs)
    ∧ quiescent_ProjQsIdeal (hProjQsIdeal := hProjQsIdeal)
    ∧ quiescent_ProjQsRefIdeal (hProjQsRefIdeal := hProjQsRefIdeal)
    ∧ quiescent_ProjQd (hProjQd := hProjQd)
    ∧ quiescent_ProjQdIdeal (hProjQdIdeal := hProjQdIdeal)
    ∧ quiescent_ProjQdRefIdeal (hProjQdRefIdeal := hProjQdRefIdeal)
    ∧ quiescent_BranchMerge (hBranchMerge := hBranchMerge)
    ∧ quiescent_BranchMergeIdeal (hBranchMergeIdeal := hBranchMergeIdeal)
    ∧ quiescent_BranchMergeRefIdeal (hBranchMergeRefIdeal := hBranchMergeRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_WOutNorm (hWOutNorm := hWOutNorm)
    ∧ quiescent_WOutNormIdeal (hWOutNormIdeal := hWOutNormIdeal)
    ∧ quiescent_WOutNormRefIdeal (hWOutNormRefIdeal := hWOutNormRefIdeal)
    ∧ quiescent_FfnOutNorm (hFfnOutNorm := hFfnOutNorm)
    ∧ quiescent_FfnOutNormIdeal (hFfnOutNormIdeal := hFfnOutNormIdeal)
    ∧ quiescent_FfnOutNormRefIdeal (hFfnOutNormRefIdeal := hFfnOutNormRefIdeal)
    ∧ quiescent_SumWIn (hSumWIn := hSumWIn)
    ∧ quiescent_SumWInIdeal (hSumWInIdeal := hSumWInIdeal)
    ∧ quiescent_SumWInRefIdeal (hSumWInRefIdeal := hSumWInRefIdeal)
    ∧ quiescent_SumWFfnIn (hSumWFfnIn := hSumWFfnIn)
    ∧ quiescent_SumWFfnInIdeal (hSumWFfnInIdeal := hSumWFfnInIdeal)
    ∧ quiescent_SumWFfnInRefIdeal (hSumWFfnInRefIdeal := hSumWFfnInRefIdeal)
    ∧ quiescent_SumWRows (hSumWRows := hSumWRows)
    ∧ quiescent_SumWRowsIdeal (hSumWRowsIdeal := hSumWRowsIdeal)
    ∧ quiescent_SumWRowsRefIdeal (hSumWRowsRefIdeal := hSumWRowsRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWBranch (hAdamWBranch := hAdamWBranch)
    ∧ quiescent_AdamWBranchIdeal (hAdamWBranchIdeal := hAdamWBranchIdeal)
    ∧ quiescent_AdamWBranchRefIdeal (hAdamWBranchRefIdeal := hAdamWBranchRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWFfnIn (hAdamWFfnIn := hAdamWFfnIn)
    ∧ quiescent_AdamWFfnInIdeal (hAdamWFfnInIdeal := hAdamWFfnInIdeal)
    ∧ quiescent_AdamWFfnInRefIdeal (hAdamWFfnInRefIdeal := hAdamWFfnInRefIdeal)
    ∧ quiescent_AdamWFfnOut (hAdamWFfnOut := hAdamWFfnOut)
    ∧ quiescent_AdamWFfnOutIdeal (hAdamWFfnOutIdeal := hAdamWFfnOutIdeal)
    ∧ quiescent_AdamWFfnOutRefIdeal (hAdamWFfnOutRefIdeal := hAdamWFfnOutRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Merge_MergeIdeal
    ∧ algebraic_MergeIdeal_MergeRefIdeal (hMergeIdeal := hMergeIdeal) (hMergeRefIdeal := hMergeRefIdeal)
    ∧ preserves_Swiglu_SwigluIdeal
    ∧ algebraic_SwigluIdeal_SwigluRefIdeal_pre_swiglu_finite (hSwigluIdeal := hSwigluIdeal) (hSwigluRefIdeal := hSwigluRefIdeal) (hPre_swiglu_finite := hPre_swiglu_finite)
    ∧ preserves_NormGrad_NormGradIdeal
    ∧ algebraic_NormGradIdeal_NormGradRefIdeal_pre_norm_finite (hNormGradIdeal := hNormGradIdeal) (hNormGradRefIdeal := hNormGradRefIdeal) (hPre_norm_finite := hPre_norm_finite)
    ∧ preserves_NormGradQd_NormGradQdIdeal
    ∧ algebraic_NormGradQdIdeal_NormGradQdRefIdeal_pre_norm_qd_finite (hNormGradQdIdeal := hNormGradQdIdeal) (hNormGradQdRefIdeal := hNormGradQdRefIdeal) (hPre_norm_qd_finite := hPre_norm_qd_finite)
    ∧ preserves_NormGradFfn_NormGradFfnIdeal
    ∧ algebraic_NormGradFfnIdeal_NormGradFfnRefIdeal_pre_norm_ffn_finite (hNormGradFfnIdeal := hNormGradFfnIdeal) (hNormGradFfnRefIdeal := hNormGradFfnRefIdeal) (hPre_norm_ffn_finite := hPre_norm_ffn_finite)
    ∧ preserves_Window_WindowIdeal
    ∧ algebraic_WindowIdeal_WindowRefIdeal (hWindowIdeal := hWindowIdeal) (hWindowRefIdeal := hWindowRefIdeal)
    ∧ preserves_Loss_LossIdeal
    ∧ algebraic_LossIdeal_LossRefIdeal (hLossIdeal := hLossIdeal) (hLossRefIdeal := hLossRefIdeal)
    ∧ preserves_DwFfnOut_DwFfnOutIdeal
    ∧ algebraic_DwFfnOutIdeal_DwFfnOutRefIdeal (hDwFfnOutIdeal := hDwFfnOutIdeal) (hDwFfnOutRefIdeal := hDwFfnOutRefIdeal)
    ∧ preserves_DwFfnIn_DwFfnInIdeal
    ∧ algebraic_DwFfnInIdeal_DwFfnInRefIdeal (hDwFfnInIdeal := hDwFfnInIdeal) (hDwFfnInRefIdeal := hDwFfnInRefIdeal)
    ∧ preserves_DwOut_DwOutIdeal
    ∧ algebraic_DwOutIdeal_DwOutRefIdeal (hDwOutIdeal := hDwOutIdeal) (hDwOutRefIdeal := hDwOutRefIdeal)
    ∧ preserves_DwInF_DwInFIdeal
    ∧ algebraic_DwInFIdeal_DwInFRefIdeal (hDwInFIdeal := hDwInFIdeal) (hDwInFRefIdeal := hDwInFRefIdeal)
    ∧ preserves_DwInQs_DwInQsIdeal
    ∧ algebraic_DwInQsIdeal_DwInQsRefIdeal (hDwInQsIdeal := hDwInQsIdeal) (hDwInQsRefIdeal := hDwInQsRefIdeal)
    ∧ preserves_DwInQd_DwInQdIdeal
    ∧ algebraic_DwInQdIdeal_DwInQdRefIdeal (hDwInQdIdeal := hDwInQdIdeal) (hDwInQdRefIdeal := hDwInQdRefIdeal)
    ∧ preserves_DBranch_DBranchIdeal
    ∧ algebraic_DBranchIdeal_DBranchRefIdeal (hDBranchIdeal := hDBranchIdeal) (hDBranchRefIdeal := hDBranchRefIdeal)
    ∧ preserves_DBranchWide_DBranchWideIdeal
    ∧ algebraic_DBranchWideIdeal_DBranchWideRefIdeal (hDBranchWideIdeal := hDBranchWideIdeal) (hDBranchWideRefIdeal := hDBranchWideRefIdeal)
    ∧ preserves_DxF_DxFIdeal
    ∧ algebraic_DxFIdeal_DxFRefIdeal (hDxFIdeal := hDxFIdeal) (hDxFRefIdeal := hDxFRefIdeal)
    ∧ preserves_DxQs_DxQsIdeal
    ∧ algebraic_DxQsIdeal_DxQsRefIdeal (hDxQsIdeal := hDxQsIdeal) (hDxQsRefIdeal := hDxQsRefIdeal)
    ∧ preserves_DxQd_DxQdIdeal
    ∧ algebraic_DxQdIdeal_DxQdRefIdeal (hDxQdIdeal := hDxQdIdeal) (hDxQdRefIdeal := hDxQdRefIdeal)
    ∧ preserves_ProjF_ProjFIdeal
    ∧ algebraic_ProjFIdeal_ProjFRefIdeal (hProjFIdeal := hProjFIdeal) (hProjFRefIdeal := hProjFRefIdeal)
    ∧ preserves_ProjQs_ProjQsIdeal
    ∧ algebraic_ProjQsIdeal_ProjQsRefIdeal (hProjQsIdeal := hProjQsIdeal) (hProjQsRefIdeal := hProjQsRefIdeal)
    ∧ preserves_ProjQd_ProjQdIdeal
    ∧ algebraic_ProjQdIdeal_ProjQdRefIdeal (hProjQdIdeal := hProjQdIdeal) (hProjQdRefIdeal := hProjQdRefIdeal)
    ∧ preserves_BranchMerge_BranchMergeIdeal
    ∧ algebraic_BranchMergeIdeal_BranchMergeRefIdeal (hBranchMergeIdeal := hBranchMergeIdeal) (hBranchMergeRefIdeal := hBranchMergeRefIdeal)
    ∧ preserves_FfnIn_FfnInIdeal
    ∧ algebraic_FfnInIdeal_FfnInRefIdeal (hFfnInIdeal := hFfnInIdeal) (hFfnInRefIdeal := hFfnInRefIdeal)
    ∧ preserves_WOutNorm_WOutNormIdeal
    ∧ algebraic_WOutNormIdeal_WOutNormRefIdeal (hWOutNormIdeal := hWOutNormIdeal) (hWOutNormRefIdeal := hWOutNormRefIdeal)
    ∧ preserves_FfnOutNorm_FfnOutNormIdeal
    ∧ algebraic_FfnOutNormIdeal_FfnOutNormRefIdeal (hFfnOutNormIdeal := hFfnOutNormIdeal) (hFfnOutNormRefIdeal := hFfnOutNormRefIdeal)
    ∧ preserves_SumWIn_SumWInIdeal
    ∧ algebraic_SumWInIdeal_SumWInRefIdeal (hSumWInIdeal := hSumWInIdeal) (hSumWInRefIdeal := hSumWInRefIdeal)
    ∧ preserves_SumWFfnIn_SumWFfnInIdeal
    ∧ algebraic_SumWFfnInIdeal_SumWFfnInRefIdeal (hSumWFfnInIdeal := hSumWFfnInIdeal) (hSumWFfnInRefIdeal := hSumWFfnInRefIdeal)
    ∧ preserves_SumWRows_SumWRowsIdeal
    ∧ algebraic_SumWRowsIdeal_SumWRowsRefIdeal (hSumWRowsIdeal := hSumWRowsIdeal) (hSumWRowsRefIdeal := hSumWRowsRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWBranch_AdamWBranchIdeal
    ∧ algebraic_AdamWBranchIdeal_AdamWBranchRefIdeal (hAdamWBranchIdeal := hAdamWBranchIdeal) (hAdamWBranchRefIdeal := hAdamWBranchRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWFfnIn_AdamWFfnInIdeal
    ∧ algebraic_AdamWFfnInIdeal_AdamWFfnInRefIdeal (hAdamWFfnInIdeal := hAdamWFfnInIdeal) (hAdamWFfnInRefIdeal := hAdamWFfnInRefIdeal)
    ∧ preserves_AdamWFfnOut_AdamWFfnOutIdeal
    ∧ algebraic_AdamWFfnOutIdeal_AdamWFfnOutRefIdeal (hAdamWFfnOutIdeal := hAdamWFfnOutIdeal) (hAdamWFfnOutRefIdeal := hAdamWFfnOutRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_norm_ffn_finite.lean ====
abbrev S4096x1024 : Shape := ⟨2, ![4096, 1024]⟩
abbrev S4096x5632 : Shape := ⟨2, ![4096, 5632]⟩
abbrev S1024x5632 : Shape := ⟨2, ![1024, 5632]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  main_v25

def fn {F : FTy → Type} [FloatOps F] (main_arg0 : FVec F S4096x1024 .f32) (main_arg1 : FVec F S4096x5632 .bf16) (main_arg2 : FVec F S1024x5632 .bf16) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x5632 .f32 := (extf .f32 · bitsLt_bf16_f32) main_arg1
  let main_v5 : FVec F S4096x5632 .f32 := Host.absf main_v4
  let main_cst_0 : FVec F S_ .f32 := constant S_ .f32 0x7F800000#32
  let main_v6 : FVec F S4096x5632 .f32 := broadcastInDim S4096x5632 ![] bcast_S_S4096x5632 main_cst_0
  let main_v7 : IVec S4096x5632 1 := cmpf .olt main_v5 main_v6
  let main_c_1 : IVec S_ 1 := constantI S_ 1 1#1
  let main_v8 : IVec S_ 1 := (fun x v => Host.reduce IntOp.andi x v reducesTo_S4096x5632_S_d0_1 h_S_) main_v7 main_c_1
  let main_v9 : IVec S_ 1 := andi main_v3 main_v8
  let main_v10 : FVec F S1024x5632 .f32 := (extf .f32 · bitsLt_bf16_f32) main_arg2
  let main_v11 : FVec F S1024x5632 .f32 := Host.absf main_v10
  let main_cst_2 : FVec F S_ .f32 := constant S_ .f32 0x7F800000#32
  let main_v12 : FVec F S1024x5632 .f32 := broadcastInDim S1024x5632 ![] bcast_S_S1024x5632 main_cst_2
  let main_v13 : IVec S1024x5632 1 := cmpf .olt main_v11 main_v12
  let main_c_3 : IVec S_ 1 := constantI S_ 1 1#1
  let main_v14 : IVec S_ 1 := (fun x v => Host.reduce IntOp.andi x v reducesTo_S1024x5632_S_d0_1 h_S_) main_v13 main_c_3
  let main_v15 : IVec S_ 1 := andi main_v9 main_v14
  let main_v16 : FVec F S4096x1024 .f32 := Host.absf main_arg3
  let main_cst_4 : FVec F S_ .f32 := constant S_ .f32 0x7F800000#32
  fn_part1 (F := F) main_arg4 main_v15 main_v16 main_cst_4
-- ==== Pre_norm_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_norm_qd_finite.lean ====
abbrev S4096x1024 : Shape := ⟨2, ![4096, 1024]⟩
abbrev S4096x3072 : Shape := ⟨2, ![4096, 3072]⟩
abbrev S1024x3072 : Shape := ⟨2, ![1024, 3072]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  main_v25

def fn {F : FTy → Type} [FloatOps F] (main_arg0 : FVec F S4096x1024 .f32) (main_arg1 : FVec F S4096x3072 .bf16) (main_arg2 : FVec F S1024x3072 .bf16) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x3072 .f32 := (extf .f32 · bitsLt_bf16_f32) main_arg1
  let main_v5 : FVec F S4096x3072 .f32 := Host.absf main_v4
  let main_cst_0 : FVec F S_ .f32 := constant S_ .f32 0x7F800000#32
  let main_v6 : FVec F S4096x3072 .f32 := broadcastInDim S4096x3072 ![] bcast_S_S4096x3072 main_cst_0
  let main_v7 : IVec S4096x3072 1 := cmpf .olt main_v5 main_v6
  let main_c_1 : IVec S_ 1 := constantI S_ 1 1#1
  let main_v8 : IVec S_ 1 := (fun x v => Host.reduce IntOp.andi x v reducesTo_S4096x3072_S_d0_1 h_S_) main_v7 main_c_1
  let main_v9 : IVec S_ 1 := andi main_v3 main_v8
  let main_v10 : FVec F S1024x3072 .f32 := (extf .f32 · bitsLt_bf16_f32) main_arg2
  let main_v11 : FVec F S1024x3072 .f32 := Host.absf main_v10
  let main_cst_2 : FVec F S_ .f32 := constant S_ .f32 0x7F800000#32
  let main_v12 : FVec F S1024x3072 .f32 := broadcastInDim S1024x3072 ![] bcast_S_S1024x3072 main_cst_2
  let main_v13 : IVec S1024x3072 1 := cmpf .olt main_v11 main_v12
  let main_c_3 : IVec S_ 1 := constantI S_ 1 1#1
  let main_v14 : IVec S_ 1 := (fun x v => Host.reduce IntOp.andi x v reducesTo_S1024x3072_S_d0_1 h_S_) main_v13 main_c_3
  let main_v15 : IVec S_ 1 := andi main_v9 main_v14
  let main_v16 : FVec F S4096x1024 .f32 := Host.absf main_arg3
  let main_cst_4 : FVec F S_ .f32 := constant S_ .f32 0x7F800000#32
  fn_part1 (F := F) main_arg4 main_v15 main_v16 main_cst_4
-- ==== Pre_swiglu_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v16 : IVec S_ 1) (main_v17 : FVec F S4096x2816 .f32) : IVec S_ 1 :=
  let main_v18 : FVec F S4096x2816 .f32 := Host.absf main_v17
  let main_cst_4 : FVec F S_ .f32 := constant S_ .f32 0x7F800000#32
  let main_v19 : FVec F S4096x2816 .f32 := broadcastInDim S4096x2816 ![] bcast_S_S4096x2816 main_cst_4
  let main_v20 : IVec S4096x2816 1 := cmpf .olt main_v18 main_v19
  let main_c_5 : IVec S_ 1 := constantI S_ 1 1#1
  let main_v21 : IVec S_ 1 := (fun x v => Host.reduce IntOp.andi x v reducesTo_S4096x2816_S_d0_1 h_S_) main_v20 main_c_5
  let main_v22 : IVec S_ 1 := andi main_v16 main_v21
  main_v22

def fn {F : FTy → Type} [FloatOps F] (main_arg0 : FVec F S4096x1024 .bf16) (main_arg1 : FVec F S2816x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_arg2
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  let main_v17 : FVec F S4096x2816 .f32 := (extf .f32 · bitsLt_bf16_f32) main_arg3
  fn_part1 (F := F) main_v16 main_v17
-- ==== Merge.lean ====
abbrev S4096x1024 : Shape := ⟨2, ![4096, 1024]⟩
abbrev S1024x1024 : Shape := ⟨2, ![1024, 1024]⟩
abbrev S4096x5120 : Shape := ⟨2, ![4096, 5120]⟩
abbrev S4096x3072 : Shape := ⟨2, ![4096, 3072]⟩
abbrev S512x1024 : Shape := ⟨2, ![512, 1024]⟩
abbrev S512x3072 : Shape := ⟨2, ![512, 3072]⟩

abbrev nBuf : Space → Nat
  | .hbm => 10
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4096x1024 : Shape := ⟨2, ![4096, 1024]⟩
abbrev S1024x1024 : Shape := ⟨2, ![1024, 1024]⟩
abbrev S4096x5120 : Shape := ⟨2, ![4096, 5120]⟩
abbrev S4096x3072 : Shape := ⟨2, ![4096, 3072]⟩
abbrev S4096x1x1024 : Shape := ⟨3, ![4096, 1, 1024]⟩
abbrev S4096x3x1024 : Shape := ⟨3, ![4096, 3, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x3072, .bf16⟩
  | .hbm, ⟨7, _⟩ => ⟨S4096x3072, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S4096x1x1024, .f32⟩
  | .hbm, ⟨13, _⟩ => ⟨S4096x1x1024, .f32⟩
  | .hbm, ⟨14, _⟩ => ⟨S4096x1x1024, .f32⟩
  | .hbm, ⟨15, _⟩ => ⟨S4096x3x1024, .f32⟩
  | .hbm, ⟨16, _⟩ => ⟨S4096x3x1024, .f32⟩
  | .hbm, ⟨17, _⟩ => ⟨S4096x3x1024, .f32⟩
  | .hbm, ⟨18, _⟩ => ⟨S4096x3x1024, .f32⟩
  | .hbm, ⟨19, _⟩ => ⟨S_, .f32⟩
  | .hbm, ⟨20, _⟩ => ⟨S4096x3x1024, .f32⟩
  | .hbm, ⟨21, _⟩ => ⟨S4096x3x1024, .f32⟩
  | .hbm, ⟨22, _⟩ => ⟨S_, .f32⟩
  | .hbm, ⟨23, _⟩ => ⟨S4096x3x1024, .f32⟩
  | .hbm, ⟨24, _⟩ => ⟨S4096x3x1024, .f32⟩
  | .hbm, ⟨25, _⟩ => ⟨S_, .f32⟩
  | .hbm, ⟨26, _⟩ => ⟨S4096x3x1024, .f32⟩
  | .hbm, ⟨27, _⟩ => ⟨S4096x3x1024, .f32⟩
  | .hbm, ⟨28, _⟩ => ⟨S4096x3x1024, .f32⟩
  | .hbm, ⟨29, _⟩ => ⟨S4096x3x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x3x1024, .f32⟩
  | .hbm, ⟨36, _⟩ => ⟨S4096x3x1024, .f32⟩
  | .hbm, ⟨37, _⟩ => ⟨S4096x3x1024, .f32⟩
  | .hbm, ⟨38, _⟩ => ⟨S4096x3x1024, .f32⟩
  | .hbm, ⟨39, _⟩ => ⟨S4096x3072, .f32⟩
  | .hbm, ⟨40, _⟩ => ⟨S4096x1x1024, .f32⟩
  | .hbm, ⟨41, _⟩ => ⟨S4096x1024, .f32⟩
  | .hbm, ⟨42, _⟩ => ⟨S4096x1x1024, .f32⟩
  | .hbm, ⟨43, _⟩ => ⟨S4096x1024, .f32⟩
  | .hbm, ⟨44, _⟩ => ⟨S4096x1x1024, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Swiglu.lean ====
abbrev S4096x1024 : Shape := ⟨2, ![4096, 1024]⟩
abbrev S2816x1024 : Shape := ⟨2, ![2816, 1024]⟩
abbrev S4096x2816 : Shape := ⟨2, ![4096, 2816]⟩
abbrev S4096x5632 : Shape := ⟨2, ![4096, 5632]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S4096x5632 : Shape := ⟨2, ![4096, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== NormGrad.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .bf16⟩
  | .hbm, ⟨87, _⟩ => ⟨S1x1024, .f32⟩
  | .hbm, ⟨88, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== NormGradQd.lean ====
abbrev S4096x1024 : Shape := ⟨2, ![4096, 1024]⟩
abbrev S4096x3072 : Shape := ⟨2, ![4096, 3072]⟩
abbrev S1024x3072 : Shape := ⟨2, ![1024, 3072]⟩
abbrev S1024 : Shape := ⟨1, ![1024]⟩
abbrev S1x1024 : Shape := ⟨2, ![1, 1024]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S1024x3072, .bf16⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .bf16⟩
  | .local _ .vmem, ⟨3, _⟩ => ⟨S256x3072, .bf16⟩
  | .local _ .vmem, ⟨4, _⟩ => ⟨S1024x3072, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormGradQdRefIdeal.lean ====
abbrev S4096x1024 : Shape := ⟨2, ![4096, 1024]⟩
abbrev S4096x3072 : Shape := ⟨2, ![4096, 3072]⟩
abbrev S1024x3072 : Shape := ⟨2, ![1024, 3072]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S1024x3072, .bf16⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1024x3072, .f32⟩
  | .hbm, ⟨44, _⟩ => ⟨S4096x3072, .f32⟩
  | .hbm, ⟨45, _⟩ => ⟨S4096x3072, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .bf16⟩
  | .hbm, ⟨94, _⟩ => ⟨S1x1024, .f32⟩
  | .hbm, ⟨95, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== NormGradFfn.lean ====
abbrev S4096x1024 : Shape := ⟨2, ![4096, 1024]⟩
abbrev S4096x5632 : Shape := ⟨2, ![4096, 5632]⟩
abbrev S1024x5632 : Shape := ⟨2, ![1024, 5632]⟩
abbrev S1024 : Shape := ⟨1, ![1024]⟩
abbrev S1x1024 : Shape := ⟨2, ![1, 1024]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormGradFfnRefIdeal.lean ====
abbrev S4096x1024 : Shape := ⟨2, ![4096, 1024]⟩
abbrev S4096x5632 : Shape := ⟨2, ![4096, 5632]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S1024x5632, .f32⟩
  | .hbm, ⟨47, _⟩ => ⟨S4096x5632, .f32⟩
  | .hbm, ⟨48, _⟩ => ⟨S4096x5632, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .bf16⟩
  | .hbm, ⟨99, _⟩ => ⟨S1x1024, .f32⟩
  | .hbm, ⟨100, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Window.lean ====
abbrev S2x2048x1536 : Shape := ⟨3, ![2, 2048, 1536]⟩
abbrev S16 : Shape := ⟨1, ![16]⟩
abbrev S2x2048x1024 : Shape := ⟨3, ![2, 2048, 1024]⟩
abbrev S1x128x1024 : Shape := ⟨3, ![1, 128, 1024]⟩
abbrev S1x128x256 : Shape := ⟨3, ![1, 128, 256]⟩
abbrev S2x256x256 : Shape := ⟨3, ![2, 256, 256]⟩
abbrev S256x256 : Shape := ⟨2, ![256, 256]⟩
abbrev S1x256x256 : Shape := ⟨3, ![1, 256, 256]⟩
abbrev S128x256 : Shape := ⟨2, ![128, 256]⟩
abbrev S256x1 : Shape := ⟨2, ![256, 1]⟩
abbrev S1 : Shape := ⟨1, ![1]⟩
abbrev S1x128x128 : Shape := ⟨3, ![1, 128, 128]⟩
abbrev S128x128 : Shape := ⟨2, ![128, 128]⟩
abbrev S256x128 : Shape := ⟨2, ![256, 128]⟩
abbrev S1x128 : Shape := ⟨2, ![1, 128]⟩
abbrev S256 : Shape := ⟨1, ![256]⟩
abbrev S128x1 : Shape := ⟨2, ![128, 1]⟩

abbrev nBuf : Space → Nat
  | .hbm => 5
  | .vmem => 17
  | .smem => 1
  | _ => 0

abbrev bufTy : (tb : Table) → Fin (tcTables nBuf tb) → BufTy
  | .hbm, ⟨0, _⟩ => ⟨S2x2048x1536, .bf16⟩
  | .hbm, ⟨1, _⟩ => ⟨S16, .f32⟩
  | .hbm, ⟨2, _⟩ => ⟨S2x2048x1024, .f32⟩
  | .hbm, ⟨3, _⟩ => ⟨S2x2048x1024, .f32⟩
  | .hbm, ⟨4, _⟩ => ⟨S2x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .bf16⟩
  | .local _ .vmem, ⟨15, _⟩ => ⟨S1x128x1024, .bf16⟩
  | .local _ .vmem, ⟨16, _⟩ => ⟨S2x256x256, .f32⟩
  | .local _ .smem, ⟨0, _⟩ => ⟨S16, .f32⟩
  | _, _ => ⟨S2x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c1_i32_24 : BitVec 32 := 1#32
  let v74 : BitVec 32 := Scalar.minsi arg1 c1_i32_24
  let v75 : Index := Scalar.indexCast v74
  let c0_25 : Index := 0#32
  let c0_26 : Index := 0#32
  ![v75.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![arg0.toNat, v1.toNat, c4_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![arg0.toNat, v1.toNat, c5_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WindowIdeal.lean ====
variable {F : FTy → Type} [FloatOps F] [Named F]
def κ : String → Option EReal := fun
  | "mask" => some ⊥
  | _ => none
-- ==== WindowRefIdeal.lean ====
abbrev S2x2048x1536 : Shape := ⟨3, ![2, 2048, 1536]⟩
abbrev S16 : Shape := ⟨1, ![16]⟩
abbrev S2x2048x1024 : Shape := ⟨3, ![2, 2048, 1024]⟩
abbrev S2x2048x256 : Shape := ⟨3, ![2, 2048, 256]⟩
abbrev S2x2048x4x4x64 : Shape := ⟨5, ![2, 2048, 4, 4, 64]⟩
abbrev S2x2048x4x64 : Shape := ⟨4, ![2, 2048, 4, 64]⟩
abbrev S2x16x128x4x4x64 : Shape := ⟨6, ![2, 16, 128, 4, 4, 64]⟩
abbrev S2x16x128x4x64 : Shape := ⟨5, ![2, 16, 128, 4, 64]⟩
abbrev S2x15x128x4x64 : Shape := ⟨5, ![2, 15, 128, 4, 64]⟩
abbrev S_ : Shape := ⟨0, ![]⟩
abbrev S2x16x256x4x64 : Shape := ⟨5, ![2, 16, 256, 4, 64]⟩
abbrev S2x4x16x256x128x4 : Shape := ⟨6, ![2, 4, 16, 256, 128, 4]⟩
abbrev S2x4x4x16x128x256 : Shape := ⟨6, ![2, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4x4x16x128 : Shape := ⟨5, ![2, 4, 4, 16, 128]⟩
abbrev S4x4x1x1 : Shape := ⟨4, ![4, 4, 1, 1]⟩
abbrev S1x4x4x1x1 : Shape := ⟨5, ![1, 4, 4, 1, 1]⟩
abbrev S2x4x4x16x128x1 : Shape := ⟨6, ![2, 4, 4, 16, 128, 1]⟩
abbrev S2x16x4x64x4x128 : Shape := ⟨6, ![2, 16, 4, 64, 4, 128]⟩
abbrev S2x16x128x4x4 : Shape := ⟨5, ![2, 16, 128, 4, 4]⟩
abbrev S2x16x128x4x4x1 : Shape := ⟨6, ![2, 16, 128, 4, 4, 1]⟩
abbrev S2x2048x4x4 : Shape := ⟨4, ![2, 2048, 4, 4]⟩
abbrev S2x2048x4x4x1 : Shape := ⟨5, ![2, 2048, 4, 4, 1]⟩

abbrev nBuf : Space → Nat
  | .hbm => 99
  | .vmem => 0
  | .smem => 0
  | _ => 0

abbrev bufTy : (tb : Table) → Fin (tcTables nBuf tb) → BufTy
  | .hbm, ⟨0, _⟩ => ⟨S2x2048x1536, .bf16⟩
  | .hbm, ⟨1, _⟩ => ⟨S16, .f32⟩
  | .hbm, ⟨2, _⟩ => ⟨S2x2048x1536, .f32⟩
  | .hbm, ⟨3, _⟩ => ⟨S2x2048x1024, .f32⟩
  | .hbm, ⟨4, _⟩ => ⟨S2x2048x256, .f32⟩
  | .hbm, ⟨5, _⟩ => ⟨S2x2048x256, .f32⟩
  | .hbm, ⟨6, _⟩ => ⟨S2x2048x4x4x64, .f32⟩
  | .hbm, ⟨7, _⟩ => ⟨S2x2048x4x64, .f32⟩
  | .hbm, ⟨8, _⟩ => ⟨S2x2048x4x64, .f32⟩
  | .hbm, ⟨9, _⟩ => ⟨S2x16x128x4x4x64, .f32⟩
  | .hbm, ⟨10, _⟩ => ⟨S2x16x128x4x64, .f32⟩
  | .hbm, ⟨11, _⟩ => ⟨S2x16x128x4x64, .f32⟩
  | .hbm, ⟨12, _⟩ => ⟨S2x15x128x4x64, .f32⟩
  | .hbm, ⟨13, _⟩ => ⟨S_, .i32⟩
  | .hbm, ⟨14, _⟩ => ⟨S_, .f32⟩
  | .hbm, ⟨15, _⟩ => ⟨S2x16x128x4x64, .f32⟩
  | .hbm, ⟨16, _⟩ => ⟨S2x16x256x4x64, .f32⟩
  | .hbm, ⟨17, _⟩ => ⟨S2x15x128x4x64, .f32⟩
  | .hbm, ⟨18, _⟩ => ⟨S_, .i32⟩
  | .hbm, ⟨19, _⟩ => ⟨S_, .f32⟩
  | .hbm, ⟨20, _⟩ => ⟨S2x16x128x4x64, .f32⟩
  | .hbm, ⟨21, _⟩ => ⟨S2x16x256x4x64, .f32⟩
  | .hbm, ⟨22, _⟩ => ⟨S2x4x16x256x128x4, .f32⟩
  | .hbm, ⟨23, _⟩ => ⟨S2x4x4x16x128x256, .f32⟩
  | .hbm, ⟨24, _⟩ => ⟨S_, .f32⟩
  | .hbm, ⟨25, _⟩ => ⟨S2x4x4x16x128x256, .f32⟩
  | .hbm, ⟨26, _⟩ => ⟨S2x4x4x16x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S16, .i32⟩
  | .hbm, ⟨38, _⟩ => ⟨S16x1x1, .i32⟩
  | .hbm, ⟨39, _⟩ => ⟨S_, .i32⟩
  | .hbm, ⟨40, _⟩ => ⟨S16x1x1, .i32⟩
  | .hbm, ⟨41, _⟩ => ⟨S16x1x1, .i1⟩
  | .hbm, ⟨42, _⟩ => ⟨S1x1x256, .i32⟩
  | .hbm, ⟨43, _⟩ => ⟨S_, .i32⟩
  | .hbm, ⟨44, _⟩ => ⟨S1x1x256, .i32⟩
  | .hbm, ⟨45, _⟩ => ⟨S1x1x256, .i1⟩
  | .hbm, ⟨46, _⟩ => ⟨S16x1x256, .i1⟩
  | .hbm, ⟨47, _⟩ => ⟨S16x1x256, .i1⟩
  | .hbm, ⟨48, _⟩ => ⟨S16x1x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S1x128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S1x128x256, .i1⟩
  | .hbm, ⟨57, _⟩ => ⟨S1x128x256, .i1⟩
  | .hbm, ⟨58, _⟩ => ⟨S16x128x256, .i1⟩
  | .hbm, ⟨59, _⟩ => ⟨S16x128x256, .i1⟩
  | .hbm, ⟨60, _⟩ => ⟨S16x128x256, .i1⟩
  | .hbm, ⟨61, _⟩ => ⟨S_, .f32⟩
  | .hbm, ⟨62, _⟩ => ⟨S_, .f32⟩
  | .hbm, ⟨63, _⟩ => ⟨S2x4x4x16x128x256, .i1⟩
  | .hbm, ⟨64, _⟩ => ⟨S2x4x4x16x128x256, .f32⟩
  | .hbm, ⟨65, _⟩ => ⟨S2x4x4x16x128x256, .f32⟩
  | .hbm, ⟨66, _⟩ => ⟨S_, .f32⟩
  | .hbm, ⟨67, _⟩ => ⟨S2x4x4x16x128, .f32⟩
  | .hbm, ⟨68, _⟩ => ⟨S4x4x1x1, .f32⟩
  | .hbm, ⟨69, _⟩ => ⟨S1x4x4x1x1, .f32⟩
  | .hbm, ⟨70, _⟩ => ⟨S2x4x4x16x128, .f32⟩
  | .hbm, ⟨71, _⟩ => ⟨S2x4x4x16x128, .f32⟩
  | .hbm, ⟨72, _⟩ => ⟨S2x4x4x16x128x1, .f32⟩
  | .hbm, ⟨73, _⟩ => ⟨S2x4x4x16x128x256, .f32⟩
  | .hbm, ⟨74, _⟩ => ⟨S2x4x4x16x128x256, .f32⟩
  | .hbm, ⟨75, _⟩ => ⟨S2x4x4x16x128x256, .f32⟩
  | .hbm, ⟨76, _⟩ => ⟨S_, .f32⟩
  | .hbm, ⟨77, _⟩ => ⟨S2x4x4x16x128, .f32⟩
  | .hbm, ⟨78, _⟩ => ⟨S1x4x4x1x1, .f32⟩
  | .hbm, ⟨79, _⟩ => ⟨S2x4x4x16x128, .f32⟩
  | .hbm, ⟨80, _⟩ => ⟨S2x4x4x16x128, .f32⟩
  | .hbm, ⟨81, _⟩ => ⟨S2x4x4x16x128, .f32⟩
  | .hbm, ⟨82, _⟩ => ⟨S2x4x4x16x128, .f32⟩
  | .hbm, ⟨83, _⟩ => ⟨S2x16x4x64x4x128, .f32⟩
  | .hbm, ⟨84, _⟩ => ⟨S2x16x128x4x4x64, .f32⟩
  | .hbm, ⟨85, _⟩ => ⟨S2x16x128x4x4, .f32⟩
  | .hbm, ⟨86, _⟩ => ⟨S2x4x4x16x128, .f32⟩
  | .hbm, ⟨87, _⟩ => ⟨S2x4x4x16x128, .f32⟩
  | .hbm, ⟨88, _⟩ => ⟨S2x16x128x4x4, .f32⟩
  | .hbm, ⟨89, _⟩ => ⟨S2x16x128x4x4x1, .f32⟩
  | .hbm, ⟨90, _⟩ => ⟨S2x16x128x4x4x64, .f32⟩
  | .hbm, ⟨91, _⟩ => ⟨S2x16x128x4x4x64, .f32⟩
  | .hbm, ⟨92, _⟩ => ⟨S2x2048x4x4x64, .f32⟩
  | .hbm, ⟨93, _⟩ => ⟨S2x2048x4x4, .f32⟩
  | .hbm, ⟨94, _⟩ => ⟨S2x2048x1024, .f32⟩
  | .hbm, ⟨95, _⟩ => ⟨S2x2048x4x4x1, .f32⟩
  | .hbm, ⟨96, _⟩ => ⟨S2x2048x4x4x64, .f32⟩
  | .hbm, ⟨97, _⟩ => ⟨S2x2048x1024, .f32⟩
  | .hbm, ⟨98, _⟩ => ⟨S2x2048x1024, .bf16⟩
  | _, _ => ⟨S2x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]

def κ : String → Option EReal := fun
  | "mask" => some ⊥
  | _ => none
-- ==== Loss.lean ====
abbrev S4096x1024 : Shape := ⟨2, ![4096, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== DwFfnOut.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwFfnIn.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S4096x1408 : Shape := ⟨2, ![4096, 1408]⟩
abbrev S512x1408 : Shape := ⟨2, ![512, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .bf16⟩
  | .local _ .vmem, ⟨5, _⟩ => ⟨S512x1408, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnInRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwInF.lean ====
abbrev S4096x1024 : Shape := ⟨2, ![4096, 1024]⟩
abbrev S4096x5120 : Shape := ⟨2, ![4096, 5120]⟩
abbrev S1024x5120 : Shape := ⟨2, ![1024, 5120]⟩
abbrev S4096x512 : Shape := ⟨2, ![4096, 512]⟩
abbrev S4096x1280 : Shape := ⟨2, ![4096, 1280]⟩
abbrev S512x1280 : Shape := ⟨2, ![512, 1280]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S1024x5120, .bf16⟩
  | .local _ .vmem, ⟨0, _⟩ => ⟨S4096x512, .bf16⟩
  | .local _ .vmem, ⟨1, _⟩ => ⟨S4096x512, .bf16⟩
  | .local _ .vmem, ⟨2, _⟩ => ⟨S4096x1280, .bf16⟩
  | .local _ .vmem, ⟨3, _⟩ => ⟨S4096x1280, .bf16⟩
  | .local _ .vmem, ⟨4, _⟩ => ⟨S512x1280, .bf16⟩
  | .local _ .vmem, ⟨5, _⟩ => ⟨S512x1280, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInFRefIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S_, .f32⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwInQs.lean ====
abbrev S4096x1024 : Shape := ⟨2, ![4096, 1024]⟩
abbrev S4096x1536 : Shape := ⟨2, ![4096, 1536]⟩
abbrev S1024x1536 : Shape := ⟨2, ![1024, 1536]⟩
abbrev S4096x768 : Shape := ⟨2, ![4096, 768]⟩
abbrev S1024x768 : Shape := ⟨2, ![1024, 768]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInQsRefIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwInQd.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInQdRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DBranch.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DBranchWide.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchWideRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxF.lean ====
abbrev S4096x5120 : Shape := ⟨2, ![4096, 5120]⟩
abbrev S1024x5120 : Shape := ⟨2, ![1024, 5120]⟩
abbrev S4096x1024 : Shape := ⟨2, ![4096, 1024]⟩
abbrev S512x5120 : Shape := ⟨2, ![512, 5120]⟩
abbrev S512x1024 : Shape := ⟨2, ![512, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S4096x1024, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxFRefIdeal.lean ====
abbrev S4096x5120 : Shape := ⟨2, ![4096, 5120]⟩
abbrev S1024x5120 : Shape := ⟨2, ![1024, 5120]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x5120, .f32⟩
  | .hbm, ⟨9, _⟩ => ⟨S4096x5120, .f32⟩
  | .hbm, ⟨10, _⟩ => ⟨S4096x5120, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== DxQs.lean ====
abbrev S4096x1536 : Shape := ⟨2, ![4096, 1536]⟩
abbrev S1024x1536 : Shape := ⟨2, ![1024, 1536]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxQsRefIdeal.lean ====
abbrev S4096x1536 : Shape := ⟨2, ![4096, 1536]⟩
abbrev S1024x1536 : Shape := ⟨2, ![1024, 1536]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1536, .f32⟩
  | .hbm, ⟨8, _⟩ => ⟨S4096x1024, .f32⟩
  | .hbm, ⟨9, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DxQd.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxQdRefIdeal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x3072, .f32⟩
  | .hbm, ⟨6, _⟩ => ⟨S4096x3072, .f32⟩
  | .hbm, ⟨7, _⟩ => ⟨S4096x3072, .f32⟩
  | .hbm, ⟨8, _⟩ => ⟨S4096x1024, .f32⟩
  | .hbm, ⟨9, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjF.lean ====
abbrev S4096x1024 : Shape := ⟨2, ![4096, 1024]⟩
abbrev S1024x5120 : Shape := ⟨2, ![1024, 5120]⟩
abbrev S4096x5120 : Shape := ⟨2, ![4096, 5120]⟩
abbrev S1024x1024 : Shape := ⟨2, ![1024, 1024]⟩
abbrev S1024x1280 : Shape := ⟨2, ![1024, 1280]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFRefIdeal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S4096x5120, .f32⟩
  | .hbm, ⟨5, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjQs.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x768 : Shape := ⟨2, ![1024, 768]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQsRefIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjQd.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQdRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchMerge.lean ====
abbrev S4096x1024 : Shape := ⟨2, ![4096, 1024]⟩
abbrev S3x1024x1024 : Shape := ⟨3, ![3, 1024, 1024]⟩
abbrev S4096x5120 : Shape := ⟨2, ![4096, 5120]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x1024, .bf16⟩
  | .hbm, ⟨4, _⟩ => ⟨S4096x5120, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== BranchMergeRefIdeal.lean ====
abbrev S4096x1024 : Shape := ⟨2, ![4096, 1024]⟩
abbrev S3x1024x1024 : Shape := ⟨3, ![3, 1024, 1024]⟩
abbrev S4096x5120 : Shape := ⟨2, ![4096, 5120]⟩
abbrev S4096x1x1024 : Shape := ⟨3, ![4096, 1, 1024]⟩
abbrev S4096x3x1024 : Shape := ⟨3, ![4096, 3, 1024]⟩
abbrev S3x1024x4096 : Shape := ⟨3, ![3, 1024, 4096]⟩
abbrev S4096x3072 : Shape := ⟨2, ![4096, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x1024, .bf16⟩
  | .hbm, ⟨4, _⟩ => ⟨S4096x5120, .bf16⟩
  | .hbm, ⟨5, _⟩ => ⟨S4096x1x1024, .bf16⟩
  | .hbm, ⟨6, _⟩ => ⟨S4096x1x1024, .bf16⟩
  | .hbm, ⟨7, _⟩ => ⟨S4096x1x1024, .bf16⟩
  | .hbm, ⟨8, _⟩ => ⟨S4096x3x1024, .bf16⟩
  | .hbm, ⟨9, _⟩ => ⟨S4096x3x1024, .f32⟩
  | .hbm, ⟨10, _⟩ => ⟨S3x1024x1024, .f32⟩
  | .hbm, ⟨11, _⟩ => ⟨S3x1024x4096, .f32⟩
  | .hbm, ⟨12, _⟩ => ⟨S4096x3x1024, .f32⟩
  | .hbm, ⟨13, _⟩ => ⟨S4096x3072, .bf16⟩
  | .hbm, ⟨14, _⟩ => ⟨S4096x3072, .f32⟩
  | .hbm, ⟨15, _⟩ => ⟨S4096x3x1024, .f32⟩
  | .hbm, ⟨16, _⟩ => ⟨S4096x3x1024, .f32⟩
  | .hbm, ⟨17, _⟩ => ⟨S4096x3x1024, .f32⟩
  | .hbm, ⟨18, _⟩ => ⟨S_, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x3x1024, .f32⟩
  | .hbm, ⟨23, _⟩ => ⟨S4096x3x1024, .f32⟩
  | .hbm, ⟨24, _⟩ => ⟨S4096x3x1024, .f32⟩
  | .hbm, ⟨25, _⟩ => ⟨S_, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x2816 : Shape := ⟨2, ![4096, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | .hbm, ⟨18, _⟩ => ⟨S4096x2816, .bf16⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== WOutNorm.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WOutNormRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== FfnOutNorm.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnOutNormRefIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S2816x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== SumWIn.lean ====
abbrev S8x1024x1216 : Shape := ⟨3, ![8, 1024, 1216]⟩
abbrev S1024x1216 : Shape := ⟨2, ![1024, 1216]⟩
abbrev S8x512x1216 : Shape := ⟨3, ![8, 512, 1216]⟩
abbrev S512x1216 : Shape := ⟨2, ![512, 1216]⟩
abbrev S1x512x1216 : Shape := ⟨3, ![1, 512, 1216]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1216, .bf16⟩
  | .hbm, ⟨1, _⟩ => ⟨S1024x1216, .f32⟩
  | .local _ .vmem, ⟨0, _⟩ => ⟨S8x512x1216, .bf16⟩
  | .local _ .vmem, ⟨1, _⟩ => ⟨S8x512x1216, .bf16⟩
  | .local _ .vmem, ⟨2, _⟩ => ⟨S512x1216, .f32⟩
  | .local _ .vmem, ⟨3, _⟩ => ⟨S512x1216, .f32⟩
  | _, _ => ⟨S8x1024x1216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x1216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWInRefIdeal.lean ====
abbrev S8x1024x1216 : Shape := ⟨3, ![8, 1024, 1216]⟩
abbrev S_ : Shape := ⟨0, ![]⟩
abbrev S1024x1216 : Shape := ⟨2, ![1024, 1216]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x1216, .bf16⟩
  | .hbm, ⟨1, _⟩ => ⟨S8x1024x1216, .f32⟩
  | .hbm, ⟨2, _⟩ => ⟨S_, .f32⟩
  | .hbm, ⟨3, _⟩ => ⟨S1024x1216, .f32⟩
  | _, _ => ⟨S8x1024x1216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumWFfnIn.lean ====
abbrev S8x1024x704 : Shape := ⟨3, ![8, 1024, 704]⟩
abbrev S1024x704 : Shape := ⟨2, ![1024, 704]⟩
abbrev S8x512x704 : Shape := ⟨3, ![8, 512, 704]⟩
abbrev S512x704 : Shape := ⟨2, ![512, 704]⟩
abbrev S1x512x704 : Shape := ⟨3, ![1, 512, 704]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .local _ .vmem, ⟨0, _⟩ => ⟨S8x512x704, .bf16⟩
  | .local _ .vmem, ⟨1, _⟩ => ⟨S8x512x704, .bf16⟩
  | .local _ .vmem, ⟨2, _⟩ => ⟨S512x704, .f32⟩
  | .local _ .vmem, ⟨3, _⟩ => ⟨S512x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWFfnInRefIdeal.lean ====
abbrev S8x1024x704 : Shape := ⟨3, ![8, 1024, 704]⟩
abbrev S_ : Shape := ⟨0, ![]⟩
abbrev S1024x704 : Shape := ⟨2, ![1024, 704]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .f32⟩
  | .hbm, ⟨2, _⟩ => ⟨S_, .f32⟩
  | .hbm, ⟨3, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumWRows.lean ====
abbrev S8x864x1024 : Shape := ⟨3, ![8, 864, 1024]⟩
abbrev S864x1024 : Shape := ⟨2, ![864, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x864x1024, .bf16⟩
  | .hbm, ⟨1, _⟩ => ⟨S864x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | _, _ => ⟨S8x864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWRowsRefIdeal.lean ====
abbrev S8x864x1024 : Shape := ⟨3, ![8, 864, 1024]⟩
abbrev S_ : Shape := ⟨0, ![]⟩
abbrev S864x1024 : Shape := ⟨2, ![864, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x864x1024, .bf16⟩
  | .hbm, ⟨1, _⟩ => ⟨S8x864x1024, .f32⟩
  | .hbm, ⟨2, _⟩ => ⟨S_, .f32⟩
  | .hbm, ⟨3, _⟩ => ⟨S864x1024, .f32⟩
  | _, _ => ⟨S8x864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x4608x128 : Shape := ⟨3, ![8, 4608, 128]⟩
abbrev S4608x128 : Shape := ⟨2, ![4608, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x4608x128, .f32⟩
  | .hbm, ⟨1, _⟩ => ⟨S4608x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x4608x128 : Shape := ⟨3, ![8, 4608, 128]⟩
abbrev S_ : Shape := ⟨0, ![]⟩
abbrev S4608x128 : Shape := ⟨2, ![4608, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4608x128, .f32⟩
  | .hbm, ⟨1, _⟩ => ⟨S_, .f32⟩
  | .hbm, ⟨2, _⟩ => ⟨S4608x128, .f32⟩
  | _, _ => ⟨S8x4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamWIn.lean ====
abbrev S4096x1216 : Shape := ⟨2, ![4096, 1216]⟩
abbrev S256x1216 : Shape := ⟨2, ![256, 1216]⟩

abbrev nBuf : Space → Nat
  | .hbm => 7
  | .vmem => 14
  | .smem => 0
  | _ => 0

abbrev bufTy : (tb : Table) → Fin (tcTables nBuf tb) → BufTy
  | .hbm, ⟨0, _⟩ => ⟨S4096x1216, .f32⟩
  | .hbm, ⟨1, _⟩ => ⟨S4096x1216, .f32⟩
  | .hbm, ⟨2, _⟩ => ⟨S4096x1216, .f32⟩
  | .hbm, ⟨3, _⟩ => ⟨S4096x1216, .f32⟩
  | .hbm, ⟨4, _⟩ => ⟨S4096x1216, .f32⟩
  | .hbm, ⟨5, _⟩ => ⟨S4096x1216, .f32⟩
  | .hbm, ⟨6, _⟩ => ⟨S4096x1216, .f32⟩
  | .local _ .vmem, ⟨0, _⟩ => ⟨S256x1216, .f32⟩
  | .local _ .vmem, ⟨1, _⟩ => ⟨S256x1216, .f32⟩
  | .local _ .vmem, ⟨2, _⟩ => ⟨S256x1216, .f32⟩
  | .local _ .vmem, ⟨3, _⟩ => ⟨S256x1216, .f32⟩
  | .local _ .vmem, ⟨4, _⟩ => ⟨S256x1216, .f32⟩
  | .local _ .vmem, ⟨5, _⟩ => ⟨S256x1216, .f32⟩
  | .local _ .vmem, ⟨6, _⟩ => ⟨S256x1216, .f32⟩
  | .local _ .vmem, ⟨7, _⟩ => ⟨S256x1216, .f32⟩
  | .local _ .vmem, ⟨8, _⟩ => ⟨S256x1216, .f32⟩
  | .local _ .vmem, ⟨9, _⟩ => ⟨S256x1216, .f32⟩
  | .local _ .vmem, ⟨10, _⟩ => ⟨S256x1216, .f32⟩
  | .local _ .vmem, ⟨11, _⟩ => ⟨S256x1216, .f32⟩
  | .local _ .vmem, ⟨12, _⟩ => ⟨S256x1216, .f32⟩
  | .local _ .vmem, ⟨13, _⟩ => ⟨S256x1216, .f32⟩
  | _, _ => ⟨S4096x1216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S4096x1216 : Shape := ⟨2, ![4096, 1216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1216, .f32⟩
  | .hbm, ⟨1, _⟩ => ⟨S4096x1216, .f32⟩
  | .hbm, ⟨2, _⟩ => ⟨S4096x1216, .f32⟩
  | .hbm, ⟨3, _⟩ => ⟨S4096x1216, .f32⟩
  | .hbm, ⟨4, _⟩ => ⟨S_, .f32⟩
  | .hbm, ⟨5, _⟩ => ⟨S4096x1216, .f32⟩
  | .hbm, ⟨6, _⟩ => ⟨S4096x1216, .f32⟩
  | .hbm, ⟨7, _⟩ => ⟨S_, .f32⟩
  | .hbm, ⟨8, _⟩ => ⟨S4096x1216, .f32⟩
  | .hbm, ⟨9, _⟩ => ⟨S4096x1216, .f32⟩
  | .hbm, ⟨10, _⟩ => ⟨S4096x1216, .f32⟩
  | .hbm, ⟨11, _⟩ => ⟨S_, .f32⟩
  | .hbm, ⟨12, _⟩ => ⟨S4096x1216, .f32⟩
  | .hbm, ⟨13, _⟩ => ⟨S4096x1216, .f32⟩
  | .hbm, ⟨14, _⟩ => ⟨S4096x1216, .f32⟩
  | .hbm, ⟨15, _⟩ => ⟨S_, .f32⟩
  | .hbm, ⟨16, _⟩ => ⟨S4096x1216, .f32⟩
  | .hbm, ⟨17, _⟩ => ⟨S4096x1216, .f32⟩
  | .hbm, ⟨18, _⟩ => ⟨S4096x1216, .f32⟩
  | .hbm, ⟨19, _⟩ => ⟨S_, .f32⟩
  | .hbm, ⟨20, _⟩ => ⟨S4096x1216, .f32⟩
  | .hbm, ⟨21, _⟩ => ⟨S4096x1216, .f32⟩
  | .hbm, ⟨22, _⟩ => ⟨S_, .f32⟩
  | .hbm, ⟨23, _⟩ => ⟨S4096x1216, .f32⟩
  | .hbm, ⟨24, _⟩ => ⟨S4096x1216, .f32⟩
  | .hbm, ⟨25, _⟩ => ⟨S4096x1216, .f32⟩
  | .hbm, ⟨26, _⟩ => ⟨S_, .f32⟩
  | .hbm, ⟨27, _⟩ => ⟨S4096x1216, .f32⟩
  | .hbm, ⟨28, _⟩ => ⟨S4096x1216, .f32⟩
  | .hbm, ⟨29, _⟩ => ⟨S4096x1216, .f32⟩
  | .hbm, ⟨30, _⟩ => ⟨S_, .f32⟩
  | .hbm, ⟨31, _⟩ => ⟨S4096x1216, .f32⟩
  | .hbm, ⟨32, _⟩ => ⟨S4096x1216, .f32⟩
  | .hbm, ⟨33, _⟩ => ⟨S4096x1216, .f32⟩
  | .hbm, ⟨34, _⟩ => ⟨S_, .f32⟩
  | .hbm, ⟨35, _⟩ => ⟨S4096x1216, .f32⟩
  | .hbm, ⟨36, _⟩ => ⟨S4096x1216, .f32⟩
  | _, _ => ⟨S4096x1216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWBranch.lean ====
abbrev S1536x1024 : Shape := ⟨2, ![1536, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWBranchRefIdeal.lean ====
abbrev S1536x1024 : Shape := ⟨2, ![1536, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S_, .f32⟩
  | .hbm, ⟨5, _⟩ => ⟨S1536x1024, .f32⟩
  | .hbm, ⟨6, _⟩ => ⟨S1536x1024, .f32⟩
  | .hbm, ⟨7, _⟩ => ⟨S_, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S_, .f32⟩
  | .hbm, ⟨12, _⟩ => ⟨S1536x1024, .f32⟩
  | .hbm, ⟨13, _⟩ => ⟨S1536x1024, .f32⟩
  | .hbm, ⟨14, _⟩ => ⟨S1536x1024, .f32⟩
  | .hbm, ⟨15, _⟩ => ⟨S_, .f32⟩
  | .hbm, ⟨16, _⟩ => ⟨S1536x1024, .f32⟩
  | .hbm, ⟨17, _⟩ => ⟨S1536x1024, .f32⟩
  | .hbm, ⟨18, _⟩ => ⟨S1536x1024, .f32⟩
  | .hbm, ⟨19, _⟩ => ⟨S_, .f32⟩
  | .hbm, ⟨20, _⟩ => ⟨S1536x1024, .f32⟩
  | .hbm, ⟨21, _⟩ => ⟨S1536x1024, .f32⟩
  | .hbm, ⟨22, _⟩ => ⟨S_, .f32⟩
  | .hbm, ⟨23, _⟩ => ⟨S1536x1024, .f32⟩
  | .hbm, ⟨24, _⟩ => ⟨S1536x1024, .f32⟩
  | .hbm, ⟨25, _⟩ => ⟨S1536x1024, .f32⟩
  | .hbm, ⟨26, _⟩ => ⟨S_, .f32⟩
  | .hbm, ⟨27, _⟩ => ⟨S1536x1024, .f32⟩
  | .hbm, ⟨28, _⟩ => ⟨S1536x1024, .f32⟩
  | .hbm, ⟨29, _⟩ => ⟨S1536x1024, .f32⟩
  | .hbm, ⟨30, _⟩ => ⟨S_, .f32⟩
  | .hbm, ⟨31, _⟩ => ⟨S1536x1024, .f32⟩
  | .hbm, ⟨32, _⟩ => ⟨S1536x1024, .f32⟩
  | .hbm, ⟨33, _⟩ => ⟨S1536x1024, .f32⟩
  | .hbm, ⟨34, _⟩ => ⟨S_, .f32⟩
  | .hbm, ⟨35, _⟩ => ⟨S1536x1024, .f32⟩
  | .hbm, ⟨36, _⟩ => ⟨S1536x1024, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWFfnIn.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWFfnInRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWFfnOut.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWFfnOutRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvW.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWRefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S4608x128 : Shape := ⟨2, ![4608, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S4608x128 : Shape := ⟨2, ![4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S4608x128, .f32⟩
  | .hbm, ⟨11, _⟩ => ⟨S_, .f32⟩
  | .hbm, ⟨12, _⟩ => ⟨S4608x128, .f32⟩
  | .hbm, ⟨13, _⟩ => ⟨S4608x128, .f32⟩
  | .hbm, ⟨14, _⟩ => ⟨S4608x128, .f32⟩
  | .hbm, ⟨15, _⟩ => ⟨S_, .f32⟩
  | .hbm, ⟨16, _⟩ => ⟨S4608x128, .f32⟩
  | .hbm, ⟨17, _⟩ => ⟨S4608x128, .f32⟩
  | .hbm, ⟨18, _⟩ => ⟨S4608x128, .f32⟩
  | .hbm, ⟨19, _⟩ => ⟨S_, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S4608x128, .f32⟩
  | .hbm, ⟨26, _⟩ => ⟨S_, .f32⟩
  | .hbm, ⟨27, _⟩ => ⟨S4608x128, .f32⟩
  | .hbm, ⟨28, _⟩ => ⟨S4608x128, .f32⟩
  | .hbm, ⟨29, _⟩ => ⟨S4608x128, .f32⟩
  | .hbm, ⟨30, _⟩ => ⟨S_, .f32⟩
  | .hbm, ⟨31, _⟩ => ⟨S4608x128, .f32⟩
  | .hbm, ⟨32, _⟩ => ⟨S4608x128, .f32⟩
  | .hbm, ⟨33, _⟩ => ⟨S4608x128, .f32⟩
  | .hbm, ⟨34, _⟩ => ⟨S_, .f32⟩
  | .hbm, ⟨35, _⟩ => ⟨S4608x128, .f32⟩
  | .hbm, ⟨36, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Scalars.lean ====
/-
  Facts about extended reals that the value proofs share: the logistic function in its two spellings, and the few
  constants that occur in it.
-/
module

public import Idealize.ShloMosaic.Lib.Pointwise
public import Idealize.ShloMosaic.Lib.IdealHost

@[expose] public section

noncomputable section

namespace Cert.Scalars

open Idealize.ShloMosaic

/-- The pattern of one half. -/
theorem ofBits_half : Ideal.ofBits .f32 0x3F000000#32 = (((1 : ℝ) / 2 : ℝ) : EReal) := by
  simp [Ideal.ofBits, Ideal.ieee, -EReal.coe_mul]; norm_num

/-- A quotient of reals by a real that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem one_eq_coe : (1 : EReal) = ((1 : ℝ) : EReal) := rfl

/-- The logistic function, by the hyperbolic tangent of half the argument. -/
def sg (x : EReal) : EReal :=
  Ideal.ofBits .f32 0x3F000000#32 * Ideal.tanh (Ideal.ofBits .f32 0x3F000000#32 * x) + Ideal.ofBits .f32 0x3F000000#32

theorem real_logistic (r : ℝ) : 1 / 2 * Real.tanh (1 / 2 * r) + 1 / 2 = (1 + Real.exp (-r))⁻¹ := by
  have h1 : Real.exp (1 / 2 * r) ≠ 0 := Real.exp_ne_zero _
  have h2 : Real.exp (-r) = Real.exp (-(1 / 2 * r)) * Real.exp (-(1 / 2 * r)) := by rw [← Real.exp_add]; congr 1; ring
  rw [Real.tanh_eq_sinh_div_cosh, Real.sinh_eq, Real.cosh_eq, h2, Real.exp_neg]
  have h3 : 0 < Real.exp (1 / 2 * r) := Real.exp_pos _
  field_simp
  ring

/-- It is the quotient of one by one plus the exponential of the negated argument, at every extended real. -/
theorem sg_eq_logistic (x : EReal) : sg x = Ideal.logistic x := by
  unfold sg
  rw [ofBits_half]
  induction x using EReal.rec with
  | bot =>
    rw [Ideal.logistic_bot, EReal.coe_mul_bot_of_pos (by norm_num), Ideal.tanh_bot]
    rw [show (-1 : EReal) = ((-1 : ℝ) : EReal) by rfl, ← EReal.coe_mul, ← EReal.coe_add]
    norm_num
  | top =>
    rw [Ideal.logistic_top, EReal.coe_mul_top_of_pos (by norm_num), Ideal.tanh_top, one_eq_coe, ← EReal.coe_mul, ← EReal.coe_add]
    norm_num
  | coe r =>
    rw [Ideal.logistic_coe, ← EReal.coe_mul, Ideal.tanh_coe, ← EReal.coe_mul, ← EReal.coe_add, real_logistic]

theorem logistic_eq (x : EReal) : Ideal.div 1 (1 + Ideal.exp (-x)) = sg x := (sg_eq_logistic x).symm

/-- At a real it is real. -/
theorem sg_coe (r : ℝ) : sg (r : EReal) = (((1 + Real.exp (-r))⁻¹ : ℝ) : EReal) := by
  rw [sg_eq_logistic, Ideal.logistic_coe]

end Cert.Scalars

end
-- ==== Proof.MergeValue.lean ====
/-
  The gradient of the branch merge: what the four result arrays hold after the run, index by index.
-/
module

public import proofs.«01_k».proof.Proof.Scalars
public import proofs.«01_k».proof.Proof.Gen.MergeIdeal.Value
public import proofs.«01_k».proof.Proof.Gen.MergeRefIdeal.Run
public import Idealize.ShloMosaic.Lib.Pipeline.ValueKit
public import Idealize.ShloMosaic.Lib.Tactic.CleanTypes

@[expose] public section

set_option maxRecDepth 16384

noncomputable section

namespace Cert.MergeIdeal.Hand

open Cert.MergeIdeal Cert.MergeIdeal.Gen Cert.Scalars Idealize.ShloMosaic Idealize.ShloMosaic.TcCoe Idealize.SL.Sem
open Idealize.ShloMosaic.Pipeline (Dat)

variable (m : (ℓ : Loc nD τ sig) → Buf (Elt Ideal) ℓ)

/-- The gradient of the merged value: the cotangent times the transposed weight, at row `r`, column `l`. -/
def dm (dz : FVec Ideal S4096x1024 .bf16) (w : FVec Ideal S1024x1024 .bf16) (r : Fin 4096) (l : Fin 1024) : EReal :=
  ∑ k : Fin 1024, dz (ix2 r k) * w (ix2 l k)

/-- The gradient of branch `n`: the merged value's gradient times the gate. -/
def gBranch (n : Nat) (hn : n < 3) (dz : FVec Ideal S4096x1024 .bf16) (w : FVec Ideal S1024x1024 .bf16)
    (g : FVec Ideal S4096x5120 .bf16) : FVec Ideal S4096x1024 .bf16 := fun i =>
  dm dz w (i 0) (i 1) * sg (g (ix2 (i 0) ⟨(2 + n) * 1024 + (i 1).val, by have : (i 1).val < 1024 := (i 1).isLt; omega⟩))

/-- The gradient of the gates' arguments of branch `n`, at row `r`, column `l`. -/
def dgate (n : Nat) (hn : n < 3) (dz : FVec Ideal S4096x1024 .bf16) (w : FVec Ideal S1024x1024 .bf16)
    (g : FVec Ideal S4096x5120 .bf16) (b : FVec Ideal S4096x1024 .bf16) (r : Fin 4096) (l : Fin 1024) : EReal :=
  dm dz w r l * b (ix2 r l) * sg (g (ix2 r ⟨(2 + n) * 1024 + l.val, by omega⟩))
    * (1 - sg (g (ix2 r ⟨(2 + n) * 1024 + l.val, by omega⟩)))

/-- The gradient of all the gates' arguments, the branches side by side. -/
def gGates (dz : FVec Ideal S4096x1024 .bf16) (w : FVec Ideal S1024x1024 .bf16) (g : FVec Ideal S4096x5120 .bf16)
    (b0 b1 b2 : FVec Ideal S4096x1024 .bf16) : FVec Ideal S4096x3072 .bf16 := fun i =>
  if h0 : (i 1).val < 1024 then dgate 0 (by omega) dz w g b0 (i 0) ⟨(i 1).val, h0⟩
  else if h1 : (i 1).val < 2048 then dgate 1 (by omega) dz w g b1 (i 0) ⟨(i 1).val - 1024, by omega⟩
  else dgate 2 (by omega) dz w g b2 (i 0) ⟨(i 1).val - 2048, by have : (i 1).val < 3072 := (i 1).isLt; omega⟩

section
variable (dz : FVec Ideal S4096x1024 .bf16) (w : FVec Ideal S1024x1024 .bf16) (g : FVec Ideal S4096x5120 .bf16)
  (b0 b1 b2 : FVec Ideal S4096x1024 .bf16) (i : S4096x3072.Idx) (l : Fin 1024)

theorem gGates_zero (h : (i 1).val = l.val) : gGates dz w g b0 b1 b2 i = dgate 0 (by omega) dz w g b0 (i 0) l := by
  unfold gGates
  rw [dif_pos (by omega)]
  congr 1; exact Fin.ext h

theorem gGates_one (h : (i 1).val = 1024 + l.val) : gGates dz w g b0 b1 b2 i = dgate 1 (by omega) dz w g b1 (i 0) l := by
  unfold gGates
  rw [dif_neg (by omega), dif_pos (by omega)]
  congr 1; apply Fin.ext; show (i 1).val - 1024 = l.val; omega

theorem gGates_two (h : (i 1).val = 2048 + l.val) : gGates dz w g b0 b1 b2 i = dgate 2 (by omega) dz w g b2 (i 0) l := by
  unfold gGates
  rw [dif_neg (by omega), dif_neg (by omega)]
  congr 1; apply Fin.ext; show (i 1).val - 2048 = l.val; omega

end

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 2] := (by decide +kernel : ∀ t : Fin grid0.N, win0_2.index t = ![t.val, 2])
theorem e3 : ∀ t : Fin cfg0.N, win0_3.index t = ![t.val, 3] := (by decide +kernel : ∀ t : Fin grid0.N, win0_3.index t = ![t.val, 3])
theorem e4 : ∀ t : Fin cfg0.N, win0_4.index t = ![t.val, 4] := (by decide +kernel : ∀ t : Fin grid0.N, win0_4.index t = ![t.val, 4])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e9 : ∀ t : Fin cfg0.N, win0_9.index t = ![t.val, 0] := (by decide +kernel : ∀ t : Fin grid0.N, win0_9.index t = ![t.val, 0])
theorem e10 : ∀ t : Fin cfg0.N, win0_10.index t = ![t.val, 0] := (by decide +kernel : ∀ t : Fin grid0.N, win0_10.index t = ![t.val, 0])
theorem e11 : ∀ t : Fin cfg0.N, win0_11.index t = ![t.val, 0] := (by decide +kernel : ∀ t : Fin grid0.N, win0_11.index t = ![t.val, 0])
theorem e8 : ∀ t : Fin cfg0.N, win0_8.index t = ![t.val, 0] := (by decide +kernel : ∀ t : Fin grid0.N, win0_8.index t = ![t.val, 0])

theorem final8 (c : Dev nD) : (dats m 0 c).arrAt 8 cfg0.N
    = gBranch 0 (by omega) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  unfold_payloads
  pointwise [gBranch, dm, sg]
  blk_point [iblk, V, e0 t, e1 t, e2 t, e8 t]

theorem final9 (c : Dev nD) : (dats m 0 c).arrAt 9 cfg0.N
    = gBranch 1 (by omega) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  unfold_payloads
  pointwise [gBranch, dm, sg]
  blk_point [iblk, V, e0 t, e1 t, e3 t, e9 t]

theorem final10 (c : Dev nD) : (dats m 0 c).arrAt 10 cfg0.N
    = gBranch 2 (by omega) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  frame_out
  unfold_payloads
  pointwise [gBranch, dm, sg]
  blk_point [iblk, V, e0 t, e1 t, e4 t, e10 t]

theorem final11 (c : Dev nD) : (dats m 0 c).arrAt 11 cfg0.N
    = gGates (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  frame_out
  canon_tiles x h
  all_goals unfold_payloads
  · rw [gGates_two _ _ _ _ _ _ _ (x 1) (by blk_simp [e11 t]; omega)]
    pointwise [dgate, dm, sg]
    blk_point [iblk, V, e0 t, e1 t, e4 t, e7 t, e11 t]
  · rw [gGates_one _ _ _ _ _ _ _ (x 1) (by blk_simp [e11 t]; omega)]
    pointwise [dgate, dm, sg]
    blk_point [iblk, V, e0 t, e1 t, e3 t, e6 t, e11 t]
  · rw [gGates_zero _ _ _ _ _ _ _ (x 1) (by blk_simp [e11 t]; omega)]
    pointwise [dgate, dm, sg]
    blk_point [iblk, V, e0 t, e1 t, e2 t, e5 t, e11 t]

end Cert.MergeIdeal.Hand

/-! ## The reference's results are the same functions -/

namespace Cert.MergeRefIdeal.Hand

open Cert.MergeRefIdeal Cert.MergeRefIdeal.Gen Cert.Scalars Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v36) = MergeIdeal.Hand.gBranch 0 (by omega) (m ((c : Thread nD τ).loc main_arg0)) (m ((c : Thread nD τ).loc main_arg1)) (m ((c : Thread nD τ).loc main_arg2))
      ∧ r.2.mem ((c.tc : Thread nD τ).loc main_v37) = MergeIdeal.Hand.gBranch 1 (by omega) (m ((c : Thread nD τ).loc main_arg0)) (m ((c : Thread nD τ).loc main_arg1)) (m ((c : Thread nD τ).loc main_arg2))
      ∧ r.2.mem ((c.tc : Thread nD τ).loc main_v38) = MergeIdeal.Hand.gBranch 2 (by omega) (m ((c : Thread nD τ).loc main_arg0)) (m ((c : Thread nD τ).loc main_arg1)) (m ((c : Thread nD τ).loc main_arg2))
      ∧ r.2.mem ((c.tc : Thread nD τ).loc main_v39) = MergeIdeal.Hand.gGates (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Value.run m ρ)
  obtain ⟨h0, h1, h2, h3, hr⟩ := h c
  refine ⟨h0.trans ?_, h1.trans ?_, h2.trans ?_, h3.trans ?_, hr⟩
  all_goals clear h h0 h1 h2 h3 hr
  · funext i
    clean_types
    pointwise [MergeIdeal.Hand.gBranch, MergeIdeal.Hand.dm]
    rw [logistic_eq, mul_comm]
  · funext i
    clean_types
    pointwise [MergeIdeal.Hand.gBranch, MergeIdeal.Hand.dm]
    rw [logistic_eq, mul_comm]
    blk_point
  · funext i
    clean_types
    pointwise [MergeIdeal.Hand.gBranch, MergeIdeal.Hand.dm]
    rw [logistic_eq, mul_comm]
    blk_point
  · funext i
    clean_types
    have hi : (i 1).val < 3072 := (i 1).isLt
    rcases lt_or_ge (i 1).val 1024 with h | h
    · rw [MergeIdeal.Hand.gGates_zero _ _ _ _ _ _ _ ⟨(i 1).val, h⟩ rfl]
      pointwise [MergeIdeal.Hand.dgate, MergeIdeal.Hand.dm]
      rw [dif_pos (by omega), logistic_eq, ← mul_assoc]
      blk_point
    · rcases lt_or_ge (i 1).val 2048 with h' | h'
      · rw [MergeIdeal.Hand.gGates_one _ _ _ _ _ _ _ ⟨(i 1).val - 1024, by omega⟩ (by show _ = 1024 + ((i 1).val - 1024); omega)]
        pointwise [MergeIdeal.Hand.dgate, MergeIdeal.Hand.dm]
        rw [dif_neg (by omega), dif_pos (by omega), logistic_eq, ← mul_assoc]
        blk_point
      · rw [MergeIdeal.Hand.gGates_two _ _ _ _ _ _ _ ⟨(i 1).val - 2048, by omega⟩ (by show _ = 2048 + ((i 1).val - 2048); omega)]
        pointwise [MergeIdeal.Hand.dgate, MergeIdeal.Hand.dm]
        rw [dif_neg (by omega), dif_neg (by omega), logistic_eq, ← mul_assoc]
        blk_point

end Cert.MergeRefIdeal.Hand

end
-- ==== Proof.MergeClaim.lean ====
/-
  The claims about the gradient of the branch merge.
-/
module

public import proofs.«01_k».proof.Defs
public import proofs.«01_k».proof.Proof.MergeValue
public import proofs.«01_k».proof.Proof.Gen.Merge.Frame
public import Idealize.ShloMosaic.Lib.Quiescent

@[expose] public section

noncomputable section

namespace Cert.Proof

open Idealize.ShloMosaic Idealize.SL.Sem

theorem merge_frame : Cert.quiescent_Merge := fun m ρ _ => Cert.Merge.Gen.frame m ρ
theorem mergeIdeal_frame : Cert.quiescent_MergeIdeal := fun m ρ _ => Cert.MergeIdeal.Gen.frame m ρ
theorem mergeRef_frame : Cert.quiescent_MergeRefIdeal := fun m ρ _ =>
  (θ_run Cert.MergeRefIdeal.defs _ _).mono (fun r h => ⟨fun c => (h c).2.2.2.2, Idealize.ShloMosaic.sem_eq_zero_of_no_sems (by decide) r.2⟩)
    (Cert.MergeRefIdeal.Value.run (F := Ideal) m ρ)

theorem merge_value : Cert.algebraic_MergeIdeal_MergeRefIdeal := fun m g m' g' _ hag =>
  ⟨fun c => _, fun c => _, fun c => _, fun c => _,
    (θ_run _ _ _).mono (fun r h c => by
      obtain ⟨h0, h1, h2, h3, hr⟩ := h c
      exact ⟨h0.trans (Cert.MergeIdeal.Hand.final8 m c), h1.trans (Cert.MergeIdeal.Hand.final9 m c),
        h2.trans (Cert.MergeIdeal.Hand.final10 m c), h3.trans (Cert.MergeIdeal.Hand.final11 m c), hr⟩)
      (Cert.MergeIdeal.Value.run_blocks m g),
    (θ_run _ _ _).mono (fun r h c => by
      obtain ⟨h0, h1, h2, h3, hr⟩ := h c
      obtain ⟨a0, a1, a2, a3, a4, a5⟩ := hag c
      rw [a0, a1, a2] at h0 h1 h2
      rw [a0, a1, a2, a3, a4, a5] at h3
      exact ⟨h0, h1, h2, h3, hr⟩)
      (Cert.MergeRefIdeal.Hand.run m' g')⟩

end Cert.Proof

end
-- ==== Proof.Finite.lean ====
/-
  Arrays of reals: what a precondition "every magnitude is below infinity" gives, and closure of the reals among the
  extended reals under the operations the value proofs use.
-/
module

public import proofs.«01_k».proof.Proof.Scalars
public import Idealize.ShloMosaic.Lib.ReduceAll

@[expose] public section

noncomputable section

namespace Cert.Finite

open Idealize.ShloMosaic

/-- Every element is a real number. -/
def Real' {s : Shape} {φ : FTy} (x : FVec Ideal s φ) : Prop := ∀ i, ∃ r : ℝ, x i = (r : EReal)

theorem ofBits_inf : Ideal.ofBits .f32 0x7F800000#32 = ⊤ := by
  simp [Ideal.ofBits, Ideal.ieee]

theorem coe_of_abs_lt {x : Ideal .f32}
    (h : FloatOps.cmpf .olt (FloatOps.hostAbsf x) (FloatOps.ofBits (F := Ideal) .f32 0x7F800000#32) = 1#1) :
    ∃ r : ℝ, (x : EReal) = (r : EReal) := by
  change Ideal.cmp .olt (max x (-x)) (Ideal.ofBits .f32 0x7F800000#32) = 1#1 at h
  rw [ofBits_inf] at h
  induction x using EReal.rec with
  | bot => simp [Ideal.cmp] at h
  | top => simp [Ideal.cmp] at h
  | coe r => exact ⟨r, rfl⟩

/-- What "all magnitudes are below infinity" gives of a 32-bit array. -/
theorem real_of_all {s u : Shape} {axes : List (Fin s.rank)} [Subsingleton u.Idx] (x : FVec Ideal s .f32) (b : FVec Ideal s .f32)
    (hb : b = fun _ => Ideal.ofBits .f32 0x7F800000#32) (init : u.Idx → BitVec 1) (h : s.ReducesTo axes u) (hu : 0 < u.numel) (j : u.Idx)
    (e : Host.reduce IntOp.andi (cmpf .olt (Host.absf x) b) init h hu j = 1#1) : Real' x := fun i => by
  have := Host.reduce_andi_all _ init h hu j e i
  subst hb
  exact coe_of_abs_lt this

/-- A finite sum of reals is real. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self ..)
    obtain ⟨q, hq⟩ := ih fun i hi => h i (Finset.mem_insert_of_mem hi)
    exact ⟨r + q, by rw [Finset.sum_insert ha, hr, hq, EReal.coe_add]⟩

theorem mul_real {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem add_real {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

end Cert.Finite

end
-- ==== Proof.SwigluValue.lean ====
/-
  The gradient of the gated unit: what the result array holds after the run, index by index, and that the
  reference's result is the same where the arguments are finite.
-/
module

public import proofs.«01_k».proof.Proof.Finite
public import proofs.«01_k».proof.Proof.Gen.SwigluIdeal.Value
public import proofs.«01_k».proof.Proof.Gen.SwigluRefIdeal.Run
public import Idealize.ShloMosaic.Lib.Pipeline.ValueKit
public import Idealize.ShloMosaic.Lib.Tactic.CleanTypes

@[expose] public section

set_option maxRecDepth 16384

noncomputable section

namespace Cert.SwigluIdeal.Hand

open Cert.SwigluIdeal Cert.SwigluIdeal.Gen Cert.Scalars Idealize.ShloMosaic Idealize.ShloMosaic.TcCoe Idealize.SL.Sem
open Idealize.ShloMosaic.Pipeline (Dat)

variable (m : (ℓ : Loc nD τ sig) → Buf (Elt Ideal) ℓ)

/-- The gradient of the gated product: the cotangent times the transposed weight, at row `r`, column `l`. -/
def da (dz : FVec Ideal S4096x1024 .bf16) (w : FVec Ideal S2816x1024 .bf16) (r : Fin 4096) (l : Fin 2816) : EReal :=
  ∑ k : Fin 1024, dz (ix2 r k) * w (ix2 l k)

/-- The gradients of the two halves side by side: the gate's argument, then the factor it gates. -/
def grad (dz : FVec Ideal S4096x1024 .bf16) (w : FVec Ideal S2816x1024 .bf16) (h1 h3 : FVec Ideal S4096x2816 .bf16) :
    FVec Ideal S4096x5632 .bf16 := fun i =>
  if h0 : (i 1).val < 2816 then
    da dz w (i 0) ⟨(i 1).val, h0⟩ * h3 (ix2 (i 0) ⟨(i 1).val, h0⟩) * sg (h1 (ix2 (i 0) ⟨(i 1).val, h0⟩))
      * (1 + h1 (ix2 (i 0) ⟨(i 1).val, h0⟩) * (1 - sg (h1 (ix2 (i 0) ⟨(i 1).val, h0⟩))))
  else
    da dz w (i 0) ⟨(i 1).val - 2816, by have : (i 1).val < 5632 := (i 1).isLt; omega⟩
      * h1 (ix2 (i 0) ⟨(i 1).val - 2816, by have : (i 1).val < 5632 := (i 1).isLt; omega⟩)
      * sg (h1 (ix2 (i 0) ⟨(i 1).val - 2816, by have : (i 1).val < 5632 := (i 1).isLt; omega⟩))

section
variable (dz : FVec Ideal S4096x1024 .bf16) (w : FVec Ideal S2816x1024 .bf16) (h1 h3 : FVec Ideal S4096x2816 .bf16)
  (i : S4096x5632.Idx) (l : Fin 2816)

theorem grad_lo (h : (i 1).val = l.val) : grad dz w h1 h3 i
    = da dz w (i 0) l * h3 (ix2 (i 0) l) * sg (h1 (ix2 (i 0) l)) * (1 + h1 (ix2 (i 0) l) * (1 - sg (h1 (ix2 (i 0) l)))) := by
  have e : (⟨(i 1).val, by omega⟩ : Fin 2816) = l := Fin.ext h
  unfold grad
  rw [dif_pos (by omega), e]

theorem grad_hi (h : (i 1).val = 2816 + l.val) : grad dz w h1 h3 i
    = da dz w (i 0) l * h1 (ix2 (i 0) l) * sg (h1 (ix2 (i 0) l)) := by
  have e : (⟨(i 1).val - 2816, by omega⟩ : Fin 2816) = l := by apply Fin.ext; show (i 1).val - 2816 = l.val; omega
  unfold grad
  rw [dif_neg (by omega), e]

end

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])

theorem final4 (c : Dev nD) : (dats m 0 c).arrAt 4 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  canon_tiles x h
  all_goals unfold_payloads
  · rw [grad_hi _ _ _ _ _ (x 1) (by blk_simp [e4 t]; omega)]
    pointwise [da, sg]
    blk_point [iblk, V, e0 t, e1 t, e2 t, e3 t, e4 t]
  · rw [grad_lo _ _ _ _ _ (x 1) (by blk_simp [e4 t]; omega)]
    pointwise [da, sg]
    blk_point [iblk, V, e0 t, e1 t, e2 t, e3 t, e4 t]

end Cert.SwigluIdeal.Hand

/-! ## The reference's result is the same function of finite arguments -/

namespace Cert.SwigluRefIdeal.Hand

open Cert.SwigluRefIdeal Cert.SwigluRefIdeal.Gen Cert.Scalars Cert.Finite Idealize.ShloMosaic Idealize.ShloMosaic.TcCoe Idealize.SL.Sem

/-- The derivative of the gated unit in its gate, the two forms of it over the reals. -/
theorem silu_grad (x y a : ℝ) : ((x : EReal) * y) * sg a + (a * ((x : EReal) * y)) * (sg a * (1 - sg a))
    = (x : EReal) * y * sg a * (1 + a * (1 - sg a)) := by
  rw [sg_coe, one_eq_coe]
  norm_cast
  ring

variable (m : (ℓ : Loc nD τ sig) → Buf (Elt Ideal) ℓ) (ρ : Dev nD → PrngReg)

theorem run (hx : ∀ c : Dev nD, Real' (φ := .bf16) (m ((c : Thread nD τ).loc main_arg0)) ∧ Real' (φ := .bf16) (m ((c : Thread nD τ).loc main_arg1))
      ∧ Real' (φ := .bf16) (m ((c : Thread nD τ).loc main_arg2)) ∧ Real' (φ := .bf16) (m ((c : Thread nD τ).loc main_arg3))) :
    θ_run defs (onTc (τ := τ) (main (F := Ideal))) ⟨m, fun _ => 0, ρ⟩ fun r => ∀ c : Dev nD,
      r.2.mem ((c.tc : Thread nD τ).loc main_v12) = SwigluIdeal.Hand.grad (m ((c : Thread nD τ).loc main_arg0))
        (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (Value.run m ρ)
  refine ⟨(h c).1.trans ?_, (h c).2⟩
  obtain ⟨f0, f1, f2, f3⟩ := hx c
  clear h
  funext i
  clean_types
  have hi : (i 1).val < 5632 := (i 1).isLt
  rcases lt_or_ge (i 1).val 2816 with h | h
  · rw [SwigluIdeal.Hand.grad_lo _ _ _ _ _ ⟨(i 1).val, h⟩ rfl]
    pointwise [SwigluIdeal.Hand.da]
    rw [dif_pos (by omega), logistic_eq]
    obtain ⟨s, hs⟩ := sum_real Finset.univ _ fun k _ => mul_real (f0 (ix2 (i 0) k)) (f1 (ix2 ⟨(i 1).val, h⟩ k))
    obtain ⟨a, ha⟩ := f2 (ix2 (i 0) ⟨(i 1).val, h⟩)
    obtain ⟨b, hb⟩ := f3 (ix2 (i 0) ⟨(i 1).val, h⟩)
    rw [hs, ha, hb]
    exact silu_grad s b a
  · rw [SwigluIdeal.Hand.grad_hi _ _ _ _ _ ⟨(i 1).val - 2816, by omega⟩ (by show _ = 2816 + ((i 1).val - 2816); omega)]
    pointwise [SwigluIdeal.Hand.da]
    rw [dif_neg (by omega), logistic_eq, mul_comm, ← mul_assoc]

end Cert.SwigluRefIdeal.Hand

end
-- ==== Proof.SwigluClaim.lean ====
/-
  The claims about the gradient of the gated unit.
-/
module

public import proofs.«01_k».proof.Defs
public import proofs.«01_k».proof.Proof.SwigluValue
public import proofs.«01_k».proof.Proof.Gen.Swiglu.Frame
public import proofs.«01_k».proof.Proof.Gen.Pre_swiglu_finite
public import Idealize.ShloMosaic.Lib.Quiescent

@[expose] public section

noncomputable section

namespace Cert.Proof

open Idealize.ShloMosaic Idealize.SL.Sem Cert.Finite

theorem swiglu_frame : Cert.quiescent_Swiglu := fun m ρ _ => Cert.Swiglu.Gen.frame m ρ
theorem swigluIdeal_frame : Cert.quiescent_SwigluIdeal := fun m ρ _ => Cert.SwigluIdeal.Gen.frame m ρ
theorem swigluIdeal_frame_pre : Cert.quiescent_SwigluIdeal_pre_swiglu_finite := fun m ρ _ => Cert.SwigluIdeal.Gen.frame m ρ
theorem swigluRef_frame : Cert.quiescent_SwigluRefIdeal := fun m ρ _ =>
  (θ_run Cert.SwigluRefIdeal.defs _ _).mono (fun r h => ⟨fun c => (h c).2, Idealize.ShloMosaic.sem_eq_zero_of_no_sems (by decide) r.2⟩)
    (Cert.SwigluRefIdeal.Value.run (F := Ideal) m ρ)
theorem swigluRef_frame_pre : Cert.quiescent_SwigluRefIdeal_pre_swiglu_finite := fun m ρ _ => swigluRef_frame m ρ trivial

open Cert.Pre_swiglu_finite Cert.Pre_swiglu_finite.Gen in
/-- What the precondition says of the four arguments. -/
theorem swiglu_finite_real (x0 : FVec Ideal Cert.Pre_swiglu_finite.S4096x1024 .bf16) (x1 : FVec Ideal Cert.Pre_swiglu_finite.S2816x1024 .bf16)
    (x2 x3 : FVec Ideal Cert.Pre_swiglu_finite.S4096x2816 .bf16)
    (h : Cert.Pre_swiglu_finite.fn (F := Ideal) x0 x1 x2 x3 = fun _ => 1#1) :
    Real' x0 ∧ Real' x1 ∧ Real' x2 ∧ Real' x3 := by
  have e := congrFun h (fun a => a.elim0)
  dsimp only [Cert.Pre_swiglu_finite.fn, Cert.Pre_swiglu_finite.fn_part1] at e
  obtain ⟨e, e3⟩ := IntOp.andi_eq_one.1 e
  obtain ⟨e, e2⟩ := IntOp.andi_eq_one.1 e
  obtain ⟨e0, e1⟩ := IntOp.andi_eq_one.1 e
  exact ⟨real_of_all _ _ rfl _ _ _ _ e0, real_of_all _ _ rfl _ _ _ _ e1, real_of_all _ _ rfl _ _ _ _ e2, real_of_all _ _ rfl _ _ _ _ e3⟩

theorem swiglu_value : Cert.algebraic_SwigluIdeal_SwigluRefIdeal_pre_swiglu_finite := fun m g m' g' hp hag =>
  ⟨fun c => _,
    (θ_run _ _ _).mono (fun r h c => ⟨(h c).1.trans (Cert.SwigluIdeal.Hand.final4 m c), (h c).2⟩)
      (Cert.SwigluIdeal.Value.run_blocks m g),
    (θ_run _ _ _).mono (fun r h c => by
      obtain ⟨h0, hr⟩ := h c
      obtain ⟨a0, a1, a2, a3⟩ := hag c
      rw [a0, a1, a2, a3] at h0
      exact ⟨h0, hr⟩)
      (Cert.SwigluRefIdeal.Hand.run m' g' fun c => by
        obtain ⟨a0, a1, a2, a3⟩ := hag c
        rw [a0, a1, a2, a3]
        exact swiglu_finite_real _ _ _ _ (hp c))⟩

end Cert.Proof

end
-- ==== Proof.Products.lean ====
/-
  The three products of two matrices that the step's calls form, as functions of the index.
-/
module

public import Idealize.ShloMosaic.Lib.Pipeline.ValueKit
public import Idealize.ShloMosaic.Lib.Tactic.CleanTypes

@[expose] public section

noncomputable section

namespace Cert.Products

open Idealize.ShloMosaic

/-- The transpose of the first matrix times the second: `∑ k, x[k, r] * y[k, l]`. -/
def tn (ψ : FTy) {K M N : ℕ} (x : FVec Ideal ⟨2, ![K, M]⟩ .bf16) (y : FVec Ideal ⟨2, ![K, N]⟩ .bf16) : FVec Ideal ⟨2, ![M, N]⟩ ψ :=
  fun i => ∑ k : Fin K, x (ix2 k (i 0)) * y (ix2 k (i 1))

/-- The first matrix times the transpose of the second: `∑ k, x[r, k] * y[l, k]`. -/
def nt (ψ : FTy) {K M N : ℕ} (x : FVec Ideal ⟨2, ![M, K]⟩ .bf16) (y : FVec Ideal ⟨2, ![N, K]⟩ .bf16) : FVec Ideal ⟨2, ![M, N]⟩ ψ :=
  fun i => ∑ k : Fin K, x (ix2 (i 0) k) * y (ix2 (i 1) k)

/-- The first matrix times the second: `∑ k, x[r, k] * y[k, l]`. -/
def nn (ψ : FTy) {K M N : ℕ} (x : FVec Ideal ⟨2, ![M, K]⟩ .bf16) (y : FVec Ideal ⟨2, ![K, N]⟩ .bf16) : FVec Ideal ⟨2, ![M, N]⟩ ψ :=
  fun i => ∑ k : Fin K, x (ix2 (i 0) k) * y (ix2 k (i 1))

/-- The first matrix times the transpose of the second, with a multiple of a third matrix added: `∑ k, x[r, k] * y[l, k] + s * z[r, l]`. -/
def ntAdd {K M N : ℕ} (s : EReal) (x : FVec Ideal ⟨2, ![M, K]⟩ .bf16) (y : FVec Ideal ⟨2, ![N, K]⟩ .bf16) (z : FVec Ideal ⟨2, ![M, N]⟩ .f32) :
    FVec Ideal ⟨2, ![M, N]⟩ .f32 :=
  fun i => (∑ k : Fin K, x (ix2 (i 0) k) * y (ix2 (i 1) k)) + s * z i

end Cert.Products
-- ==== Proof.WeightGradients.lean ====
/-
  The gradients of the weights: each call's result array after the run is the product of the transposed input with the
  cotangent, and the reference's result is the same.
-/
module

public import proofs.«01_k».proof.Proof.Products
public import proofs.«01_k».proof.Proof.Gen.DwFfnOutIdeal.Value
public import proofs.«01_k».proof.Proof.Gen.DwFfnOutRefIdeal.Run
public import proofs.«01_k».proof.Proof.Gen.DwFfnInIdeal.Value
public import proofs.«01_k».proof.Proof.Gen.DwFfnInRefIdeal.Run
public import proofs.«01_k».proof.Proof.Gen.DwOutIdeal.Value
public import proofs.«01_k».proof.Proof.Gen.DwOutRefIdeal.Run
public import proofs.«01_k».proof.Proof.Gen.DwInFIdeal.Value
public import proofs.«01_k».proof.Proof.Gen.DwInFRefIdeal.Run
public import proofs.«01_k».proof.Proof.Gen.DwInQsIdeal.Value
public import proofs.«01_k».proof.Proof.Gen.DwInQsRefIdeal.Run
public import proofs.«01_k».proof.Proof.Gen.DwInQdIdeal.Value
public import proofs.«01_k».proof.Proof.Gen.DwInQdRefIdeal.Run

@[expose] public section

set_option maxRecDepth 16384

noncomputable section

open Idealize.ShloMosaic Idealize.ShloMosaic.TcCoe Idealize.SL.Sem Cert.Products

/-! ## DwFfnOut -/

namespace Cert.DwFfnOutIdeal.Hand

open Cert.DwFfnOutIdeal Cert.DwFfnOutIdeal.Gen

variable (m : (ℓ : Loc nD τ sig) → Buf (Elt Ideal) ℓ)

theorem e0 : ∀ t : Fin cfg0.N, win0_0.index t = ![0, t.val] := (by decide +kernel : ∀ t : Fin grid0.N, win0_0.index t = ![0, t.val])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])

theorem final (c : Dev nD) : (dats m 0 c).arrAt 2 cfg0.N = tn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [tn]
  blk_point [iblk, V, e0 t, e1 t, e2 t]

end Cert.DwFfnOutIdeal.Hand

namespace Cert.DwFfnOutRefIdeal.Hand

open Cert.DwFfnOutRefIdeal Cert.DwFfnOutRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = tn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [tn]
  exact Finset.sum_congr rfl fun k _ => mul_comm _ _

end Cert.DwFfnOutRefIdeal.Hand

/-! ## DwFfnIn -/

namespace Cert.DwFfnInIdeal.Hand

open Cert.DwFfnInIdeal Cert.DwFfnInIdeal.Gen

variable (m : (ℓ : Loc nD τ sig) → Buf (Elt Ideal) ℓ)

theorem e0 : ∀ t : Fin cfg0.N, win0_0.index t = ![0, t.val / 4] := (by decide +kernel : ∀ t : Fin grid0.N, win0_0.index t = ![0, t.val / 4])
theorem e1 : ∀ t : Fin cfg0.N, win0_1.index t = ![0, t.val % 4] := (by decide +kernel : ∀ t : Fin grid0.N, win0_1.index t = ![0, t.val % 4])
theorem e2 : ∀ t : Fin cfg0.N, win0_2.index t = ![t.val / 4, t.val % 4] := (by decide +kernel : ∀ t : Fin grid0.N, win0_2.index t = ![t.val / 4, t.val % 4])

theorem final (c : Dev nD) : (dats m 0 c).arrAt 2 cfg0.N = tn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [tn]
  blk_point [iblk, V, e0 t, e1 t, e2 t]

end Cert.DwFfnInIdeal.Hand

namespace Cert.DwFfnInRefIdeal.Hand

open Cert.DwFfnInRefIdeal Cert.DwFfnInRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = tn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [tn]
  exact Finset.sum_congr rfl fun k _ => mul_comm _ _

end Cert.DwFfnInRefIdeal.Hand

/-! ## DwOut -/

namespace Cert.DwOutIdeal.Hand

open Cert.DwOutIdeal Cert.DwOutIdeal.Gen

variable (m : (ℓ : Loc nD τ sig) → Buf (Elt Ideal) ℓ)

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])

theorem final (c : Dev nD) : (dats m 0 c).arrAt 2 cfg0.N = tn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [tn]
  blk_point [iblk, V, e0 t, e1 t, e2 t]

end Cert.DwOutIdeal.Hand

namespace Cert.DwOutRefIdeal.Hand

open Cert.DwOutRefIdeal Cert.DwOutRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = tn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [tn]
  exact Finset.sum_congr rfl fun k _ => mul_comm _ _

end Cert.DwOutRefIdeal.Hand

/-! ## DwInF -/

namespace Cert.DwInFIdeal.Hand

open Cert.DwInFIdeal Cert.DwInFIdeal.Gen

variable (m : (ℓ : Loc nD τ sig) → Buf (Elt Ideal) ℓ)

theorem e0 : ∀ t : Fin cfg0.N, win0_0.index t = ![0, t.val / 4] := (by decide +kernel : ∀ t : Fin grid0.N, win0_0.index t = ![0, t.val / 4])
theorem e1 : ∀ t : Fin cfg0.N, win0_1.index t = ![0, t.val % 4] := (by decide +kernel : ∀ t : Fin grid0.N, win0_1.index t = ![0, t.val % 4])
theorem e2 : ∀ t : Fin cfg0.N, win0_2.index t = ![t.val / 4, t.val % 4] := (by decide +kernel : ∀ t : Fin grid0.N, win0_2.index t = ![t.val / 4, t.val % 4])

theorem final (c : Dev nD) : (dats m 0 c).arrAt 2 cfg0.N = tn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [tn]
  blk_point [iblk, V, e0 t, e1 t, e2 t]

end Cert.DwInFIdeal.Hand

namespace Cert.DwInFRefIdeal.Hand

open Cert.DwInFRefIdeal Cert.DwInFRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = tn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [tn]
  exact Finset.sum_congr rfl fun k _ => mul_comm _ _

end Cert.DwInFRefIdeal.Hand

/-! ## DwInQs -/

namespace Cert.DwInQsIdeal.Hand

open Cert.DwInQsIdeal Cert.DwInQsIdeal.Gen

variable (m : (ℓ : Loc nD τ sig) → Buf (Elt Ideal) ℓ)

theorem e0 : ∀ t : Fin cfg0.N, win0_0.index t = ![0, 0] := (by decide +kernel : ∀ t : Fin grid0.N, win0_0.index t = ![0, 0])
theorem e1 : ∀ t : Fin cfg0.N, win0_1.index t = ![0, t.val] := (by decide +kernel : ∀ t : Fin grid0.N, win0_1.index t = ![0, t.val])
theorem e2 : ∀ t : Fin cfg0.N, win0_2.index t = ![0, t.val] := (by decide +kernel : ∀ t : Fin grid0.N, win0_2.index t = ![0, t.val])

theorem final (c : Dev nD) : (dats m 0 c).arrAt 2 cfg0.N = tn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [tn]
  blk_point [iblk, V, e0 t, e1 t, e2 t]

end Cert.DwInQsIdeal.Hand

namespace Cert.DwInQsRefIdeal.Hand

open Cert.DwInQsRefIdeal Cert.DwInQsRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = tn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [tn]
  exact Finset.sum_congr rfl fun k _ => mul_comm _ _

end Cert.DwInQsRefIdeal.Hand

/-! ## DwInQd -/

namespace Cert.DwInQdIdeal.Hand

open Cert.DwInQdIdeal Cert.DwInQdIdeal.Gen

variable (m : (ℓ : Loc nD τ sig) → Buf (Elt Ideal) ℓ)

theorem e0 : ∀ t : Fin cfg0.N, win0_0.index t = ![0, 0] := (by decide +kernel : ∀ t : Fin grid0.N, win0_0.index t = ![0, 0])
theorem e1 : ∀ t : Fin cfg0.N, win0_1.index t = ![0, t.val] := (by decide +kernel : ∀ t : Fin grid0.N, win0_1.index t = ![0, t.val])
theorem e2 : ∀ t : Fin cfg0.N, win0_2.index t = ![0, t.val] := (by decide +kernel : ∀ t : Fin grid0.N, win0_2.index t = ![0, t.val])

theorem final (c : Dev nD) : (dats m 0 c).arrAt 2 cfg0.N = tn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [tn]
  blk_point [iblk, V, e0 t, e1 t, e2 t]

end Cert.DwInQdIdeal.Hand

namespace Cert.DwInQdRefIdeal.Hand

open Cert.DwInQdRefIdeal Cert.DwInQdRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = tn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [tn]
  exact Finset.sum_congr rfl fun k _ => mul_comm _ _

end Cert.DwInQdRefIdeal.Hand
-- ==== Proof.WeightGradientClaims.lean ====
/-
  The claims about the gradients of the weights.
-/
module

public import proofs.«01_k».proof.Defs
public import proofs.«01_k».proof.Proof.WeightGradients
public import proofs.«01_k».proof.Proof.Gen.DwFfnOut.Frame
public import proofs.«01_k».proof.Proof.Gen.DwFfnIn.Frame
public import proofs.«01_k».proof.Proof.Gen.DwOut.Frame
public import proofs.«01_k».proof.Proof.Gen.DwInF.Frame
public import proofs.«01_k».proof.Proof.Gen.DwInQs.Frame
public import proofs.«01_k».proof.Proof.Gen.DwInQd.Frame
public import Idealize.ShloMosaic.Lib.Quiescent

@[expose] public section

noncomputable section

namespace Cert.Proof

open Idealize.ShloMosaic Idealize.SL.Sem

theorem dwFfnOut_frame : Cert.quiescent_DwFfnOut := fun m ρ _ => Cert.DwFfnOut.Gen.frame m ρ
theorem dwFfnOutIdeal_frame : Cert.quiescent_DwFfnOutIdeal := fun m ρ _ => Cert.DwFfnOutIdeal.Gen.frame m ρ
theorem dwFfnOutRef_frame : Cert.quiescent_DwFfnOutRefIdeal := fun m ρ _ =>
  (θ_run Cert.DwFfnOutRefIdeal.defs _ _).mono (fun r h => ⟨fun c => (h c).2, Idealize.ShloMosaic.sem_eq_zero_of_no_sems (by decide) r.2⟩)
    (Cert.DwFfnOutRefIdeal.Value.run (F := Ideal) m ρ)

theorem dwFfnOut_value : Cert.algebraic_DwFfnOutIdeal_DwFfnOutRefIdeal := fun m g m' g' _ hag =>
  ⟨fun c => _,
    (θ_run _ _ _).mono (fun r h c => ⟨(h c).1.trans (Cert.DwFfnOutIdeal.Hand.final m c), (h c).2⟩) (Cert.DwFfnOutIdeal.Value.run_blocks m g),
    (θ_run _ _ _).mono (fun r h c => by obtain ⟨h0, hr⟩ := h c; obtain ⟨a0, a1⟩ := hag c; rw [a0, a1] at h0; exact ⟨h0, hr⟩) (Cert.DwFfnOutRefIdeal.Hand.run m' g')⟩

theorem dwFfnIn_frame : Cert.quiescent_DwFfnIn := fun m ρ _ => Cert.DwFfnIn.Gen.frame m ρ
theorem dwFfnInIdeal_frame : Cert.quiescent_DwFfnInIdeal := fun m ρ _ => Cert.DwFfnInIdeal.Gen.frame m ρ
theorem dwFfnInRef_frame : Cert.quiescent_DwFfnInRefIdeal := fun m ρ _ =>
  (θ_run Cert.DwFfnInRefIdeal.defs _ _).mono (fun r h => ⟨fun c => (h c).2, Idealize.ShloMosaic.sem_eq_zero_of_no_sems (by decide) r.2⟩)
    (Cert.DwFfnInRefIdeal.Value.run (F := Ideal) m ρ)

theorem dwFfnIn_value : Cert.algebraic_DwFfnInIdeal_DwFfnInRefIdeal := fun m g m' g' _ hag =>
  ⟨fun c => _,
    (θ_run _ _ _).mono (fun r h c => ⟨(h c).1.trans (Cert.DwFfnInIdeal.Hand.final m c), (h c).2⟩) (Cert.DwFfnInIdeal.Value.run_blocks m g),
    (θ_run _ _ _).mono (fun r h c => by obtain ⟨h0, hr⟩ := h c; obtain ⟨a0, a1⟩ := hag c; rw [a0, a1] at h0; exact ⟨h0, hr⟩) (Cert.DwFfnInRefIdeal.Hand.run m' g')⟩

theorem dwOut_frame : Cert.quiescent_DwOut := fun m ρ _ => Cert.DwOut.Gen.frame m ρ
theorem dwOutIdeal_frame : Cert.quiescent_DwOutIdeal := fun m ρ _ => Cert.DwOutIdeal.Gen.frame m ρ
theorem dwOutRef_frame : Cert.quiescent_DwOutRefIdeal := fun m ρ _ =>
  (θ_run Cert.DwOutRefIdeal.defs _ _).mono (fun r h => ⟨fun c => (h c).2, Idealize.ShloMosaic.sem_eq_zero_of_no_sems (by decide) r.2⟩)
    (Cert.DwOutRefIdeal.Value.run (F := Ideal) m ρ)

theorem dwOut_value : Cert.algebraic_DwOutIdeal_DwOutRefIdeal := fun m g m' g' _ hag =>
  ⟨fun c => _,
    (θ_run _ _ _).mono (fun r h c => ⟨(h c).1.trans (Cert.DwOutIdeal.Hand.final m c), (h c).2⟩) (Cert.DwOutIdeal.Value.run_blocks m g),
    (θ_run _ _ _).mono (fun r h c => by obtain ⟨h0, hr⟩ := h c; obtain ⟨a0, a1⟩ := hag c; rw [a0, a1] at h0; exact ⟨h0, hr⟩) (Cert.DwOutRefIdeal.Hand.run m' g')⟩

theorem dwInF_frame : Cert.quiescent_DwInF := fun m ρ _ => Cert.DwInF.Gen.frame m ρ
theorem dwInFIdeal_frame : Cert.quiescent_DwInFIdeal := fun m ρ _ => Cert.DwInFIdeal.Gen.frame m ρ
theorem dwInFRef_frame : Cert.quiescent_DwInFRefIdeal := fun m ρ _ =>
  (θ_run Cert.DwInFRefIdeal.defs _ _).mono (fun r h => ⟨fun c => (h c).2, Idealize.ShloMosaic.sem_eq_zero_of_no_sems (by decide) r.2⟩)
    (Cert.DwInFRefIdeal.Value.run (F := Ideal) m ρ)

theorem dwInF_value : Cert.algebraic_DwInFIdeal_DwInFRefIdeal := fun m g m' g' _ hag =>
  ⟨fun c => _,
    (θ_run _ _ _).mono (fun r h c => ⟨(h c).1.trans (Cert.DwInFIdeal.Hand.final m c), (h c).2⟩) (Cert.DwInFIdeal.Value.run_blocks m g),
    (θ_run _ _ _).mono (fun r h c => by obtain ⟨h0, hr⟩ := h c; obtain ⟨a0, a1⟩ := hag c; rw [a0, a1] at h0; exact ⟨h0, hr⟩) (Cert.DwInFRefIdeal.Hand.run m' g')⟩

theorem dwInQs_frame : Cert.quiescent_DwInQs := fun m ρ _ => Cert.DwInQs.Gen.frame m ρ
theorem dwInQsIdeal_frame : Cert.quiescent_DwInQsIdeal := fun m ρ _ => Cert.DwInQsIdeal.Gen.frame m ρ
theorem dwInQsRef_frame : Cert.quiescent_DwInQsRefIdeal := fun m ρ _ =>
  (θ_run Cert.DwInQsRefIdeal.defs _ _).mono (fun r h => ⟨fun c => (h c).2, Idealize.ShloMosaic.sem_eq_zero_of_no_sems (by decide) r.2⟩)
    (Cert.DwInQsRefIdeal.Value.run (F := Ideal) m ρ)

theorem dwInQs_value : Cert.algebraic_DwInQsIdeal_DwInQsRefIdeal := fun m g m' g' _ hag =>
  ⟨fun c => _,
    (θ_run _ _ _).mono (fun r h c => ⟨(h c).1.trans (Cert.DwInQsIdeal.Hand.final m c), (h c).2⟩) (Cert.DwInQsIdeal.Value.run_blocks m g),
    (θ_run _ _ _).mono (fun r h c => by obtain ⟨h0, hr⟩ := h c; obtain ⟨a0, a1⟩ := hag c; rw [a0, a1] at h0; exact ⟨h0, hr⟩) (Cert.DwInQsRefIdeal.Hand.run m' g')⟩

theorem dwInQd_frame : Cert.quiescent_DwInQd := fun m ρ _ => Cert.DwInQd.Gen.frame m ρ
theorem dwInQdIdeal_frame : Cert.quiescent_DwInQdIdeal := fun m ρ _ => Cert.DwInQdIdeal.Gen.frame m ρ
theorem dwInQdRef_frame : Cert.quiescent_DwInQdRefIdeal := fun m ρ _ =>
  (θ_run Cert.DwInQdRefIdeal.defs _ _).mono (fun r h => ⟨fun c => (h c).2, Idealize.ShloMosaic.sem_eq_zero_of_no_sems (by decide) r.2⟩)
    (Cert.DwInQdRefIdeal.Value.run (F := Ideal) m ρ)

theorem dwInQd_value : Cert.algebraic_DwInQdIdeal_DwInQdRefIdeal := fun m g m' g' _ hag =>
  ⟨fun c => _,
    (θ_run _ _ _).mono (fun r h c => ⟨(h c).1.trans (Cert.DwInQdIdeal.Hand.final m c), (h c).2⟩) (Cert.DwInQdIdeal.Value.run_blocks m g),
    (θ_run _ _ _).mono (fun r h c => by obtain ⟨h0, hr⟩ := h c; obtain ⟨a0, a1⟩ := hag c; rw [a0, a1] at h0; exact ⟨h0, hr⟩) (Cert.DwInQdRefIdeal.Hand.run m' g')⟩

end Cert.Proof

end
-- ==== Proof.InputGradients.lean ====
/-
  The gradients of the products' inputs: each call's result array after the run is the cotangent times the transposed
  weight, plus the gradient carried so far where the call adds it, and the reference's result is the same.
-/
module

public import proofs.«01_k».proof.Proof.Products
public import proofs.«01_k».proof.Proof.Gen.DBranchIdeal.Value
public import proofs.«01_k».proof.Proof.Gen.DBranchRefIdeal.Run
public import proofs.«01_k».proof.Proof.Gen.DBranchWideIdeal.Value
public import proofs.«01_k».proof.Proof.Gen.DBranchWideRefIdeal.Run
public import proofs.«01_k».proof.Proof.Gen.DxFIdeal.Value
public import proofs.«01_k».proof.Proof.Gen.DxFRefIdeal.Run
public import proofs.«01_k».proof.Proof.Gen.DxQsIdeal.Value
public import proofs.«01_k».proof.Proof.Gen.DxQsRefIdeal.Run
public import proofs.«01_k».proof.Proof.Gen.DxQdIdeal.Value
public import proofs.«01_k».proof.Proof.Gen.DxQdRefIdeal.Run

@[expose] public section

set_option maxRecDepth 16384

noncomputable section

open Idealize.ShloMosaic Idealize.ShloMosaic.TcCoe Idealize.SL.Sem Cert.Products

/-! ## DBranch -/

namespace Cert.DBranchIdeal.Hand

open Cert.DBranchIdeal Cert.DBranchIdeal.Gen

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])

theorem final (c : Dev nD) : (dats m 0 c).arrAt 2 cfg0.N = nt .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [nt]
  blk_point [iblk, V, e0 t, e1 t, e2 t]

end Cert.DBranchIdeal.Hand

namespace Cert.DBranchRefIdeal.Hand

open Cert.DBranchRefIdeal Cert.DBranchRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5) = nt .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [nt]

end Cert.DBranchRefIdeal.Hand

/-! ## DBranchWide -/

namespace Cert.DBranchWideIdeal.Hand

open Cert.DBranchWideIdeal Cert.DBranchWideIdeal.Gen

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])

theorem final (c : Dev nD) : (dats m 0 c).arrAt 2 cfg0.N = nt .f32 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [nt]
  blk_point [iblk, V, e0 t, e1 t, e2 t]

end Cert.DBranchWideIdeal.Hand

namespace Cert.DBranchWideRefIdeal.Hand

open Cert.DBranchWideRefIdeal Cert.DBranchWideRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v4) = nt .f32 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [nt]

end Cert.DBranchWideRefIdeal.Hand

/-! ## DxF -/

namespace Cert.DxFIdeal.Hand

open Cert.DxFIdeal Cert.DxFIdeal.Gen

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])

theorem final (c : Dev nD) : (dats m 0 c).arrAt 3 cfg0.N = ntAdd (Ideal.ofBits .f32 0x3FD744FD#32) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outsAt0]
  frame_out
  unfold_payloads
  pointwise [ntAdd]
  blk_point [iblk, V, e0 t, e1 t, e2 t, e3 t]

end Cert.DxFIdeal.Hand

namespace Cert.DxFRefIdeal.Hand

open Cert.DxFRefIdeal Cert.DxFRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v9) = ntAdd (Ideal.ofBits .f32 0x3FD744FD#32) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Value.run m ρ)
  clear h
  funext i
  clean_types
  pointwise [ntAdd]

end Cert.DxFRefIdeal.Hand

/-! ## DxQs -/

namespace Cert.DxQsIdeal.Hand

open Cert.DxQsIdeal Cert.DxQsIdeal.Gen

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])

theorem final (c : Dev nD) : (dats m 0 c).arrAt 3 cfg0.N = ntAdd 1 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outsAt0]
  frame_out
  unfold_payloads
  pointwise [ntAdd]
  blk_point [iblk, V, e0 t, e1 t, e2 t, e3 t]

end Cert.DxQsIdeal.Hand

namespace Cert.DxQsRefIdeal.Hand

open Cert.DxQsRefIdeal Cert.DxQsRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5) = ntAdd 1 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Value.run m ρ)
  clear h
  funext i
  clean_types
  pointwise [ntAdd]
  blk_point

end Cert.DxQsRefIdeal.Hand

/-! ## DxQd -/

namespace Cert.DxQdIdeal.Hand

open Cert.DxQdIdeal Cert.DxQdIdeal.Gen

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])

theorem final (c : Dev nD) : (dats m 0 c).arrAt 3 cfg0.N = ntAdd 1 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outsAt0]
  frame_out
  unfold_payloads
  pointwise [ntAdd]
  blk_point [iblk, V, e0 t, e1 t, e2 t, e3 t]

end Cert.DxQdIdeal.Hand

namespace Cert.DxQdRefIdeal.Hand

open Cert.DxQdRefIdeal Cert.DxQdRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5) = ntAdd 1 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Value.run m ρ)
  clear h
  funext i
  clean_types
  pointwise [ntAdd]
  blk_point

end Cert.DxQdRefIdeal.Hand
-- ==== Proof.InputGradientClaims.lean ====
/-
  The claims about the gradients of the products' inputs.
-/
module

public import proofs.«01_k».proof.Defs
public import proofs.«01_k».proof.Proof.InputGradients
public import proofs.«01_k».proof.Proof.Gen.DBranch.Frame
public import proofs.«01_k».proof.Proof.Gen.DBranchWide.Frame
public import proofs.«01_k».proof.Proof.Gen.DxF.Frame
public import proofs.«01_k».proof.Proof.Gen.DxQs.Frame
public import proofs.«01_k».proof.Proof.Gen.DxQd.Frame
public import Idealize.ShloMosaic.Lib.Quiescent

@[expose] public section

noncomputable section

namespace Cert.Proof

open Idealize.ShloMosaic Idealize.SL.Sem

theorem dBranch_frame : Cert.quiescent_DBranch := fun m ρ _ => Cert.DBranch.Gen.frame m ρ
theorem dBranchIdeal_frame : Cert.quiescent_DBranchIdeal := fun m ρ _ => Cert.DBranchIdeal.Gen.frame m ρ
theorem dBranchRef_frame : Cert.quiescent_DBranchRefIdeal := fun m ρ _ =>
  (θ_run Cert.DBranchRefIdeal.defs _ _).mono (fun r h => ⟨fun c => (h c).2, Idealize.ShloMosaic.sem_eq_zero_of_no_sems (by decide) r.2⟩)
    (Cert.DBranchRefIdeal.Value.run (F := Ideal) m ρ)

theorem dBranch_value : Cert.algebraic_DBranchIdeal_DBranchRefIdeal := fun m g m' g' _ hag =>
  ⟨fun c => _,
    (θ_run _ _ _).mono (fun r h c => ⟨(h c).1.trans (Cert.DBranchIdeal.Hand.final m c), (h c).2⟩) (Cert.DBranchIdeal.Value.run_blocks m g),
    (θ_run _ _ _).mono (fun r h c => by obtain ⟨h0, hr⟩ := h c; obtain ⟨a0, a1⟩ := hag c; rw [a0, a1] at h0; exact ⟨h0, hr⟩) (Cert.DBranchRefIdeal.Hand.run m' g')⟩

theorem dBranchWide_frame : Cert.quiescent_DBranchWide := fun m ρ _ => Cert.DBranchWide.Gen.frame m ρ
theorem dBranchWideIdeal_frame : Cert.quiescent_DBranchWideIdeal := fun m ρ _ => Cert.DBranchWideIdeal.Gen.frame m ρ
theorem dBranchWideRef_frame : Cert.quiescent_DBranchWideRefIdeal := fun m ρ _ =>
  (θ_run Cert.DBranchWideRefIdeal.defs _ _).mono (fun r h => ⟨fun c => (h c).2, Idealize.ShloMosaic.sem_eq_zero_of_no_sems (by decide) r.2⟩)
    (Cert.DBranchWideRefIdeal.Value.run (F := Ideal) m ρ)

theorem dBranchWide_value : Cert.algebraic_DBranchWideIdeal_DBranchWideRefIdeal := fun m g m' g' _ hag =>
  ⟨fun c => _,
    (θ_run _ _ _).mono (fun r h c => ⟨(h c).1.trans (Cert.DBranchWideIdeal.Hand.final m c), (h c).2⟩) (Cert.DBranchWideIdeal.Value.run_blocks m g),
    (θ_run _ _ _).mono (fun r h c => by obtain ⟨h0, hr⟩ := h c; obtain ⟨a0, a1⟩ := hag c; rw [a0, a1] at h0; exact ⟨h0, hr⟩) (Cert.DBranchWideRefIdeal.Hand.run m' g')⟩

theorem dxF_frame : Cert.quiescent_DxF := fun m ρ _ => Cert.DxF.Gen.frame m ρ
theorem dxFIdeal_frame : Cert.quiescent_DxFIdeal := fun m ρ _ => Cert.DxFIdeal.Gen.frame m ρ
theorem dxFRef_frame : Cert.quiescent_DxFRefIdeal := fun m ρ _ =>
  (θ_run Cert.DxFRefIdeal.defs _ _).mono (fun r h => ⟨fun c => (h c).2, Idealize.ShloMosaic.sem_eq_zero_of_no_sems (by decide) r.2⟩)
    (Cert.DxFRefIdeal.Value.run (F := Ideal) m ρ)

theorem dxF_value : Cert.algebraic_DxFIdeal_DxFRefIdeal := fun m g m' g' _ hag =>
  ⟨fun c => _,
    (θ_run _ _ _).mono (fun r h c => ⟨(h c).1.trans (Cert.DxFIdeal.Hand.final m c), (h c).2⟩) (Cert.DxFIdeal.Value.run_blocks m g),
    (θ_run _ _ _).mono (fun r h c => by obtain ⟨h0, hr⟩ := h c; obtain ⟨a0, a1, a2⟩ := hag c; rw [a0, a1, a2] at h0; exact ⟨h0, hr⟩) (Cert.DxFRefIdeal.Hand.run m' g')⟩

theorem dxQs_frame : Cert.quiescent_DxQs := fun m ρ _ => Cert.DxQs.Gen.frame m ρ
theorem dxQsIdeal_frame : Cert.quiescent_DxQsIdeal := fun m ρ _ => Cert.DxQsIdeal.Gen.frame m ρ
theorem dxQsRef_frame : Cert.quiescent_DxQsRefIdeal := fun m ρ _ =>
  (θ_run Cert.DxQsRefIdeal.defs _ _).mono (fun r h => ⟨fun c => (h c).2, Idealize.ShloMosaic.sem_eq_zero_of_no_sems (by decide) r.2⟩)
    (Cert.DxQsRefIdeal.Value.run (F := Ideal) m ρ)

theorem dxQs_value : Cert.algebraic_DxQsIdeal_DxQsRefIdeal := fun m g m' g' _ hag =>
  ⟨fun c => _,
    (θ_run _ _ _).mono (fun r h c => ⟨(h c).1.trans (Cert.DxQsIdeal.Hand.final m c), (h c).2⟩) (Cert.DxQsIdeal.Value.run_blocks m g),
    (θ_run _ _ _).mono (fun r h c => by obtain ⟨h0, hr⟩ := h c; obtain ⟨a0, a1, a2⟩ := hag c; rw [a0, a1, a2] at h0; exact ⟨h0, hr⟩) (Cert.DxQsRefIdeal.Hand.run m' g')⟩

theorem dxQd_frame : Cert.quiescent_DxQd := fun m ρ _ => Cert.DxQd.Gen.frame m ρ
theorem dxQdIdeal_frame : Cert.quiescent_DxQdIdeal := fun m ρ _ => Cert.DxQdIdeal.Gen.frame m ρ
theorem dxQdRef_frame : Cert.quiescent_DxQdRefIdeal := fun m ρ _ =>
  (θ_run Cert.DxQdRefIdeal.defs _ _).mono (fun r h => ⟨fun c => (h c).2, Idealize.ShloMosaic.sem_eq_zero_of_no_sems (by decide) r.2⟩)
    (Cert.DxQdRefIdeal.Value.run (F := Ideal) m ρ)

theorem dxQd_value : Cert.algebraic_DxQdIdeal_DxQdRefIdeal := fun m g m' g' _ hag =>
  ⟨fun c => _,
    (θ_run _ _ _).mono (fun r h c => ⟨(h c).1.trans (Cert.DxQdIdeal.Hand.final m c), (h c).2⟩) (Cert.DxQdIdeal.Value.run_blocks m g),
    (θ_run _ _ _).mono (fun r h c => by obtain ⟨h0, hr⟩ := h c; obtain ⟨a0, a1, a2⟩ := hag c; rw [a0, a1, a2] at h0; exact ⟨h0, hr⟩) (Cert.DxQdRefIdeal.Hand.run m' g')⟩

end Cert.Proof

end
-- ==== Proof.Projections.lean ====
/-
  The projections of the forward pass: each call's result array after the run is the product of the input and the
  weight, and the reference's result is the same.
-/
module

public import proofs.«01_k».proof.Proof.Products
public import proofs.«01_k».proof.Proof.Gen.ProjFIdeal.Value
public import proofs.«01_k».proof.Proof.Gen.ProjFRefIdeal.Run
public import proofs.«01_k».proof.Proof.Gen.ProjQsIdeal.Value
public import proofs.«01_k».proof.Proof.Gen.ProjQsRefIdeal.Run
public import proofs.«01_k».proof.Proof.Gen.ProjQdIdeal.Value
public import proofs.«01_k».proof.Proof.Gen.ProjQdRefIdeal.Run

@[expose] public section

set_option maxRecDepth 16384

noncomputable section

open Idealize.ShloMosaic Idealize.ShloMosaic.TcCoe Idealize.SL.Sem Cert.Products

/-! ## ProjF -/

namespace Cert.ProjFIdeal.Hand

open Cert.ProjFIdeal Cert.ProjFIdeal.Gen

variable (m : (ℓ : Loc nD τ sig) → Buf (Elt Ideal) ℓ)

theorem e0 : ∀ t : Fin cfg0.N, win0_0.index t = ![t.val / 4, 0] := (by decide +kernel : ∀ t : Fin grid0.N, win0_0.index t = ![t.val / 4, 0])
theorem e1 : ∀ t : Fin cfg0.N, win0_1.index t = ![0, t.val % 4] := (by decide +kernel : ∀ t : Fin grid0.N, win0_1.index t = ![0, t.val % 4])
theorem e2 : ∀ t : Fin cfg0.N, win0_2.index t = ![t.val / 4, t.val % 4] := (by decide +kernel : ∀ t : Fin grid0.N, win0_2.index t = ![t.val / 4, t.val % 4])

theorem final (c : Dev nD) : (dats m 0 c).arrAt 2 cfg0.N = nn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [nn]
  blk_point [iblk, V, e0 t, e1 t, e2 t]

end Cert.ProjFIdeal.Hand

namespace Cert.ProjFRefIdeal.Hand

open Cert.ProjFRefIdeal Cert.ProjFRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v3) = nn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [nn]

end Cert.ProjFRefIdeal.Hand

/-! ## ProjQs -/

namespace Cert.ProjQsIdeal.Hand

open Cert.ProjQsIdeal Cert.ProjQsIdeal.Gen

variable (m : (ℓ : Loc nD τ sig) → Buf (Elt Ideal) ℓ)

theorem e0 : ∀ t : Fin cfg0.N, win0_0.index t = ![t.val / 2, 0] := (by decide +kernel : ∀ t : Fin grid0.N, win0_0.index t = ![t.val / 2, 0])
theorem e1 : ∀ t : Fin cfg0.N, win0_1.index t = ![0, t.val % 2] := (by decide +kernel : ∀ t : Fin grid0.N, win0_1.index t = ![0, t.val % 2])
theorem e2 : ∀ t : Fin cfg0.N, win0_2.index t = ![t.val / 2, t.val % 2] := (by decide +kernel : ∀ t : Fin grid0.N, win0_2.index t = ![t.val / 2, t.val % 2])

theorem final (c : Dev nD) : (dats m 0 c).arrAt 2 cfg0.N = nn .bf16 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [nn]
  blk_point [iblk, V, e0 t, e1 t, e2 t]

end Cert.ProjQsIdeal.Hand

namespace Cert.ProjQsRefIdeal.Hand

open Cert.ProjQsRefIdeal Cert.ProjQsRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v3) = nn .bf16 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [nn]

end Cert.ProjQsRefIdeal.Hand

/-! ## ProjQd -/

namespace Cert.ProjQdIdeal.Hand

open Cert.ProjQdIdeal Cert.ProjQdIdeal.Gen

variable (m : (ℓ : Loc nD τ sig) → Buf (Elt Ideal) ℓ)

theorem e0 : ∀ t : Fin cfg0.N, win0_0.index t = ![t.val / 3, 0] := (by decide +kernel : ∀ t : Fin grid0.N, win0_0.index t = ![t.val / 3, 0])
theorem e1 : ∀ t : Fin cfg0.N, win0_1.index t = ![0, t.val % 3] := (by decide +kernel : ∀ t : Fin grid0.N, win0_1.index t = ![0, t.val % 3])
theorem e2 : ∀ t : Fin cfg0.N, win0_2.index t = ![t.val / 3, t.val % 3] := (by decide +kernel : ∀ t : Fin grid0.N, win0_2.index t = ![t.val / 3, t.val % 3])

theorem final (c : Dev nD) : (dats m 0 c).arrAt 2 cfg0.N = nn .f32 (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  unfold_payloads
  pointwise [nn]
  blk_point [iblk, V, e0 t, e1 t, e2 t]

end Cert.ProjQdIdeal.Hand

namespace Cert.ProjQdRefIdeal.Hand

open Cert.ProjQdRefIdeal Cert.ProjQdRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v2) = nn .f32 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  clear h
  funext i
  clean_types
  pointwise [nn]

end Cert.ProjQdRefIdeal.Hand
-- ==== Proof.ProjectionClaims.lean ====
/-
  The claims about the projections of the forward pass.
-/
module

public import proofs.«01_k».proof.Defs
public import proofs.«01_k».proof.Proof.Projections
public import proofs.«01_k».proof.Proof.Gen.ProjF.Frame
public import proofs.«01_k».proof.Proof.Gen.ProjQs.Frame
public import proofs.«01_k».proof.Proof.Gen.ProjQd.Frame
public import Idealize.ShloMosaic.Lib.Quiescent

@[expose] public section

noncomputable section

namespace Cert.Proof

open Idealize.ShloMosaic Idealize.SL.Sem

theorem projF_frame : Cert.quiescent_ProjF := fun m ρ _ => Cert.ProjF.Gen.frame m ρ
theorem projFIdeal_frame : Cert.quiescent_ProjFIdeal := fun m ρ _ => Cert.ProjFIdeal.Gen.frame m ρ
theorem projFRef_frame : Cert.quiescent_ProjFRefIdeal := fun m ρ _ =>
  (θ_run Cert.ProjFRefIdeal.defs _ _).mono (fun r h => ⟨fun c => (h c).2, Idealize.ShloMosaic.sem_eq_zero_of_no_sems (by decide) r.2⟩)
    (Cert.ProjFRefIdeal.Value.run (F := Ideal) m ρ)

theorem projF_value : Cert.algebraic_ProjFIdeal_ProjFRefIdeal := fun m g m' g' _ hag =>
  ⟨fun c => _,
    (θ_run _ _ _).mono (fun r h c => ⟨(h c).1.trans (Cert.ProjFIdeal.Hand.final m c), (h c).2⟩) (Cert.ProjFIdeal.Value.run_blocks m g),
    (θ_run _ _ _).mono (fun r h c => by obtain ⟨h0, hr⟩ := h c; obtain ⟨a0, a1⟩ := hag c; rw [a0, a1] at h0; exact ⟨h0, hr⟩) (Cert.ProjFRefIdeal.Hand.run m' g')⟩

theorem projQs_frame : Cert.quiescent_ProjQs := fun m ρ _ => Cert.ProjQs.Gen.frame m ρ
theorem projQsIdeal_frame : Cert.quiescent_ProjQsIdeal := fun m ρ _ => Cert.ProjQsIdeal.Gen.frame m ρ
theorem projQsRef_frame : Cert.quiescent_ProjQsRefIdeal := fun m ρ _ =>
  (θ_run Cert.ProjQsRefIdeal.defs _ _).mono (fun r h => ⟨fun c => (h c).2, Idealize.ShloMosaic.sem_eq_zero_of_no_sems (by decide) r.2⟩)
    (Cert.ProjQsRefIdeal.Value.run (F := Ideal) m ρ)

theorem projQs_value : Cert.algebraic_ProjQsIdeal_ProjQsRefIdeal := fun m g m' g' _ hag =>
  ⟨fun c => _,
    (θ_run _ _ _).mono (fun r h c => ⟨(h c).1.trans (Cert.ProjQsIdeal.Hand.final m c), (h c).2⟩) (Cert.ProjQsIdeal.Value.run_blocks m g),
    (θ_run _ _ _).mono (fun r h c => by obtain ⟨h0, hr⟩ := h c; obtain ⟨a0, a1⟩ := hag c; rw [a0, a1] at h0; exact ⟨h0, hr⟩) (Cert.ProjQsRefIdeal.Hand.run m' g')⟩

theorem projQd_frame : Cert.quiescent_ProjQd := fun m ρ _ => Cert.ProjQd.Gen.frame m ρ
theorem projQdIdeal_frame : Cert.quiescent_ProjQdIdeal := fun m ρ _ => Cert.ProjQdIdeal.Gen.frame m ρ
theorem projQdRef_frame : Cert.quiescent_ProjQdRefIdeal := fun m ρ _ =>
  (θ_run Cert.ProjQdRefIdeal.defs _ _).mono (fun r h => ⟨fun c => (h c).2, Idealize.ShloMosaic.sem_eq_zero_of_no_sems (by decide) r.2⟩)
    (Cert.ProjQdRefIdeal.Value.run (F := Ideal) m ρ)

theorem projQd_value : Cert.algebraic_ProjQdIdeal_ProjQdRefIdeal := fun m g m' g' _ hag =>
  ⟨fun c => _,
    (θ_run _ _ _).mono (fun r h c => ⟨(h c).1.trans (Cert.ProjQdIdeal.Hand.final m c), (h c).2⟩) (Cert.ProjQdIdeal.Value.run_blocks m g),
    (θ_run _ _ _).mono (fun r h c => by obtain ⟨h0, hr⟩ := h c; obtain ⟨a0, a1⟩ := hag c; rw [a0, a1] at h0; exact ⟨h0, hr⟩) (Cert.ProjQdRefIdeal.Hand.run m' g')⟩

end Cert.Proof

end
-- ==== Proof.Norms.lean ====
/-
  The two normalisations of the forward pass: a product added to a multiple of the carried state, normalised row by
  row. What the three result arrays hold after the run, index by index, and that the reference's results are the same.
-/
module

public import proofs.«01_k».proof.Proof.Gen.WOutNormIdeal.Value
public import proofs.«01_k».proof.Proof.Gen.WOutNormRefIdeal.Run
public import proofs.«01_k».proof.Proof.Gen.FfnOutNormIdeal.Value
public import proofs.«01_k».proof.Proof.Gen.FfnOutNormRefIdeal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Norms

/-- The row to normalise: a multiple of the carried state plus a product. -/
def sumRow {K : ℕ} (x : FVec Ideal ⟨2, ![4096, 1024]⟩ .f32) (a : FVec Ideal ⟨2, ![4096, K]⟩ .bf16) (w : FVec Ideal ⟨2, ![K, 1024]⟩ .bf16)
    (r : Fin 4096) (l : Fin 1024) : EReal :=
  Ideal.ofBits .f32 0x3FD744FD#32 * x (ix2 r l) + ∑ k : Fin K, a (ix2 r k) * w (ix2 k l)

/-- The mean of a row. -/
def rowMean (z : Fin 1024 → EReal) : EReal := Ideal.div (∑ l, z l) (Ideal.ofBits .f32 0x44800000#32)

/-- A row brought to mean zero and to unit variance, then scaled and shifted entry by entry. -/
def normed (z : Fin 1024 → EReal) (g b : FVec Ideal ⟨1, ![1024]⟩ .f32) (l : Fin 1024) : EReal :=
  (z l - rowMean z) * Ideal.rsqrt (rowMean (fun k => (z k - rowMean z) * (z k - rowMean z)) + Ideal.ofBits .f32 0x3727C5AC#32) * g (ix1 l) + b (ix1 l)

end Cert.Norms

/-! ## After the mixing layer -/

namespace Cert.WOutNormIdeal.Hand

open Cert.WOutNormIdeal Cert.WOutNormIdeal.Gen Cert.Norms

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])

/-- The rows the call normalises, of its first three arguments. -/
abbrev z (c : Dev nD) : Fin 4096 → Fin 1024 → EReal :=
  sumRow (m ((c : Thread nD τ).loc main_arg0)) (m ((c : Thread nD τ).loc main_arg1)) (m ((c : Thread nD τ).loc main_arg2))

theorem final7 (c : Dev nD) : (dats m 0 c).arrAt 7 cfg0.N = fun i : S4096x1024.Idx => z m c (i 0) (i 1) := by
  refine (dats m 0 c).arrAt_eq_of_covers 7 _ (by decide +kernel) fun t hf y => ?_
  blk_simp
  rw [after0_7]
  frame_out
  unfold_payloads
  pointwise [z, sumRow]
  blk_point [iblk, V, e0 t, e1 t, e2 t, e7 t]

theorem final5 (c : Dev nD) : (dats m 0 c).arrAt 5 cfg0.N
    = fun i : S4096x1024.Idx => normed (z m c (i 0)) (m ((c : Thread nD τ).loc main_arg3)) (m ((c : Thread nD τ).loc main_arg4)) (i 1) := by
  refine (dats m 0 c).arrAt_eq_of_covers 5 _ (by decide +kernel) fun t hf y => ?_
  blk_simp
  rw [after0_5]
  frame_out
  unfold_payloads
  pointwise [normed, rowMean, z, sumRow]
  blk_point [iblk, V, e0 t, e1 t, e2 t, e3 t, e4 t, e5 t]

theorem final6 (c : Dev nD) : (dats m 0 c).arrAt 6 cfg0.N
    = fun i : S4096x1024.Idx => normed (z m c (i 0)) (m ((c : Thread nD τ).loc main_arg3)) (m ((c : Thread nD τ).loc main_arg4)) (i 1) := by
  refine (dats m 0 c).arrAt_eq_of_covers 6 _ (by decide +kernel) fun t hf y => ?_
  blk_simp
  rw [after0_6]
  frame_out
  unfold_payloads
  pointwise [normed, rowMean, z, sumRow]
  blk_point [iblk, V, e0 t, e1 t, e2 t, e3 t, e4 t, e6 t]

end Cert.WOutNormIdeal.Hand

namespace Cert.WOutNormRefIdeal.Hand

open Cert.WOutNormRefIdeal Cert.WOutNormRefIdeal.Gen Cert.Norms

variable (m : (ℓ : Loc nD τ sig) → Buf (Elt Ideal) ℓ) (ρ : Dev nD → PrngReg)

abbrev z (c : Dev nD) : Fin 4096 → Fin 1024 → EReal :=
  sumRow (m ((c : Thread nD τ).loc main_arg0)) (m ((c : Thread nD τ).loc main_arg1)) (m ((c : Thread nD τ).loc main_arg2))

theorem run : θ_run defs (onTc (τ := τ) (main (F := Ideal))) ⟨m, fun _ => 0, ρ⟩ fun r => ∀ c : Dev nD,
      r.2.mem ((c.tc : Thread nD τ).loc main_v29) = (fun i : S4096x1024.Idx => normed (z m c (i 0)) (m ((c : Thread nD τ).loc main_arg3)) (m ((c : Thread nD τ).loc main_arg4)) (i 1))
      ∧ r.2.mem ((c.tc : Thread nD τ).loc main_v30) = (fun i : S4096x1024.Idx => normed (z m c (i 0)) (m ((c : Thread nD τ).loc main_arg3)) (m ((c : Thread nD τ).loc main_arg4)) (i 1))
      ∧ r.2.mem ((c.tc : Thread nD τ).loc main_v5) = (fun i : S4096x1024.Idx => z m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2.1.trans ?_, (h c).2.2.2⟩) (Value.run m ρ) <;>
  · clear h
    funext i
    clean_types
    pointwise [normed, rowMean, z, sumRow]

end Cert.WOutNormRefIdeal.Hand

/-! ## After the feed-forward layer -/

namespace Cert.FfnOutNormIdeal.Hand

open Cert.FfnOutNormIdeal Cert.FfnOutNormIdeal.Gen Cert.Norms

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])

/-- The rows the call normalises, of its first three arguments. -/
abbrev z (c : Dev nD) : Fin 4096 → Fin 1024 → EReal :=
  sumRow (m ((c : Thread nD τ).loc main_arg0)) (m ((c : Thread nD τ).loc main_arg1)) (m ((c : Thread nD τ).loc main_arg2))

theorem final7 (c : Dev nD) : (dats m 0 c).arrAt 7 cfg0.N = fun i : S4096x1024.Idx => z m c (i 0) (i 1) := by
  refine (dats m 0 c).arrAt_eq_of_covers 7 _ (by decide +kernel) fun t hf y => ?_
  blk_simp
  rw [after0_7]
  frame_out
  unfold_payloads
  pointwise [z, sumRow]
  blk_point [iblk, V, e0 t, e1 t, e2 t, e7 t]

theorem final5 (c : Dev nD) : (dats m 0 c).arrAt 5 cfg0.N
    = fun i : S4096x1024.Idx => normed (z m c (i 0)) (m ((c : Thread nD τ).loc main_arg3)) (m ((c : Thread nD τ).loc main_arg4)) (i 1) := by
  refine (dats m 0 c).arrAt_eq_of_covers 5 _ (by decide +kernel) fun t hf y => ?_
  blk_simp
  rw [after0_5]
  frame_out
  unfold_payloads
  pointwise [normed, rowMean, z, sumRow]
  blk_point [iblk, V, e0 t, e1 t, e2 t, e3 t, e4 t, e5 t]

theorem final6 (c : Dev nD) : (dats m 0 c).arrAt 6 cfg0.N
    = fun i : S4096x1024.Idx => normed (z m c (i 0)) (m ((c : Thread nD τ).loc main_arg3)) (m ((c : Thread nD τ).loc main_arg4)) (i 1) := by
  refine (dats m 0 c).arrAt_eq_of_covers 6 _ (by decide +kernel) fun t hf y => ?_
  blk_simp
  rw [after0_6]
  frame_out
  unfold_payloads
  pointwise [normed, rowMean, z, sumRow]
  blk_point [iblk, V, e0 t, e1 t, e2 t, e3 t, e4 t, e6 t]

end Cert.FfnOutNormIdeal.Hand

namespace Cert.FfnOutNormRefIdeal.Hand

open Cert.FfnOutNormRefIdeal Cert.FfnOutNormRefIdeal.Gen Cert.Norms

variable (m : (ℓ : Loc nD τ sig) → Buf (Elt Ideal) ℓ) (ρ : Dev nD → PrngReg)

abbrev z (c : Dev nD) : Fin 4096 → Fin 1024 → EReal :=
  sumRow (m ((c : Thread nD τ).loc main_arg0)) (m ((c : Thread nD τ).loc main_arg1)) (m ((c : Thread nD τ).loc main_arg2))

theorem run : θ_run defs (onTc (τ := τ) (main (F := Ideal))) ⟨m, fun _ => 0, ρ⟩ fun r => ∀ c : Dev nD,
      r.2.mem ((c.tc : Thread nD τ).loc main_v29) = (fun i : S4096x1024.Idx => normed (z m c (i 0)) (m ((c : Thread nD τ).loc main_arg3)) (m ((c : Thread nD τ).loc main_arg4)) (i 1))
      ∧ r.2.mem ((c.tc : Thread nD τ).loc main_v30) = (fun i : S4096x1024.Idx => normed (z m c (i 0)) (m ((c : Thread nD τ).loc main_arg3)) (m ((c : Thread nD τ).loc main_arg4)) (i 1))
      ∧ r.2.mem ((c.tc : Thread nD τ).loc main_v5) = (fun i : S4096x1024.Idx => z m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2.1.trans ?_, (h c).2.2.2⟩) (Value.run m ρ) <;>
  · clear h
    funext i
    clean_types
    pointwise [normed, rowMean, z, sumRow]

end Cert.FfnOutNormRefIdeal.Hand
-- ==== Proof.NormClaims.lean ====
/-
  The claims about the normalisations of the forward pass.
-/
module

public import proofs.«01_k».proof.Defs
public import proofs.«01_k».proof.Proof.Norms
public import proofs.«01_k».proof.Proof.Gen.WOutNorm.Frame
public import proofs.«01_k».proof.Proof.Gen.FfnOutNorm.Frame
public import Idealize.ShloMosaic.Lib.Quiescent

@[expose] public section

noncomputable section

namespace Cert.Proof

open Idealize.ShloMosaic Idealize.SL.Sem

theorem wOutNorm_frame : Cert.quiescent_WOutNorm := fun m ρ _ => Cert.WOutNorm.Gen.frame m ρ
theorem wOutNormIdeal_frame : Cert.quiescent_WOutNormIdeal := fun m ρ _ => Cert.WOutNormIdeal.Gen.frame m ρ
theorem wOutNormRef_frame : Cert.quiescent_WOutNormRefIdeal := fun m ρ _ =>
  (θ_run Cert.WOutNormRefIdeal.defs _ _).mono (fun r h => ⟨fun c => (h c).2.2.2, Idealize.ShloMosaic.sem_eq_zero_of_no_sems (by decide) r.2⟩)
    (Cert.WOutNormRefIdeal.Value.run (F := Ideal) m ρ)

theorem wOutNorm_value : Cert.algebraic_WOutNormIdeal_WOutNormRefIdeal := fun m g m' g' _ hag =>
  ⟨fun c => _, fun c => _, fun c => _,
    (θ_run _ _ _).mono (fun r h c => by
      obtain ⟨h0, h1, h2, hr⟩ := h c
      exact ⟨h0.trans (Cert.WOutNormIdeal.Hand.final5 m c), h1.trans (Cert.WOutNormIdeal.Hand.final6 m c), h2.trans (Cert.WOutNormIdeal.Hand.final7 m c), hr⟩)
      (Cert.WOutNormIdeal.Value.run_blocks m g),
    (θ_run _ _ _).mono (fun r h c => by
      obtain ⟨h0, h1, h2, hr⟩ := h c
      obtain ⟨a0, a1, a2, a3, a4⟩ := hag c
      unfold Cert.WOutNormRefIdeal.Hand.z at h0 h1 h2
      rw [a0, a1, a2, a3, a4] at h0 h1
      rw [a0, a1, a2] at h2
      exact ⟨h0, h1, h2, hr⟩)
      (Cert.WOutNormRefIdeal.Hand.run m' g')⟩

theorem ffnOutNorm_frame : Cert.quiescent_FfnOutNorm := fun m ρ _ => Cert.FfnOutNorm.Gen.frame m ρ
theorem ffnOutNormIdeal_frame : Cert.quiescent_FfnOutNormIdeal := fun m ρ _ => Cert.FfnOutNormIdeal.Gen.frame m ρ
theorem ffnOutNormRef_frame : Cert.quiescent_FfnOutNormRefIdeal := fun m ρ _ =>
  (θ_run Cert.FfnOutNormRefIdeal.defs _ _).mono (fun r h => ⟨fun c => (h c).2.2.2, Idealize.ShloMosaic.sem_eq_zero_of_no_sems (by decide) r.2⟩)
    (Cert.FfnOutNormRefIdeal.Value.run (F := Ideal) m ρ)

theorem ffnOutNorm_value : Cert.algebraic_FfnOutNormIdeal_FfnOutNormRefIdeal := fun m g m' g' _ hag =>
  ⟨fun c => _, fun c => _, fun c => _,
    (θ_run _ _ _).mono (fun r h c => by
      obtain ⟨h0, h1, h2, hr⟩ := h c
      exact ⟨h0.trans (Cert.FfnOutNormIdeal.Hand.final5 m c), h1.trans (Cert.FfnOutNormIdeal.Hand.final6 m c), h2.trans (Cert.FfnOutNormIdeal.Hand.final7 m c), hr⟩)
      (Cert.FfnOutNormIdeal.Value.run_blocks m g),
    (θ_run _ _ _).mono (fun r h c => by
      obtain ⟨h0, h1, h2, hr⟩ := h c
      obtain ⟨a0, a1, a2, a3, a4⟩ := hag c
      unfold Cert.FfnOutNormRefIdeal.Hand.z at h0 h1 h2
      rw [a0, a1, a2, a3, a4] at h0 h1
      rw [a0, a1, a2] at h2
      exact ⟨h0, h1, h2, hr⟩)
      (Cert.FfnOutNormRefIdeal.Hand.run m' g')⟩

end Cert.Proof

end
-- ==== Proof.Gated.lean ====
/-
  The forward pass of the gated unit's first product and of the merge of the three branches: what the result arrays
  hold after the run, index by index, and that the references' results are the same.
-/
module

public import proofs.«01_k».proof.Proof.Products
public import proofs.«01_k».proof.Proof.Scalars
public import proofs.«01_k».proof.Proof.Gen.FfnInIdeal.Value
public import proofs.«01_k».proof.Proof.Gen.FfnInRefIdeal.Run
public import proofs.«01_k».proof.Proof.Gen.BranchMergeIdeal.Value
public import proofs.«01_k».proof.Proof.Gen.BranchMergeRefIdeal.Run

@[expose] public section

set_option maxRecDepth 16384

noncomputable section

open Idealize.ShloMosaic Idealize.ShloMosaic.TcCoe Idealize.SL.Sem

/-! ## The gated unit's first product -/

namespace Cert.FfnInIdeal.Hand

open Cert.FfnInIdeal Cert.FfnInIdeal.Gen Cert.Scalars

variable (m : (ℓ : Loc nD τ sig) → Buf (Elt Ideal) ℓ)

/-- One half of the product: the columns of the weight from column `o`. -/
def half (o : ℕ) (ho : o ≤ 2816) (x : FVec Ideal S4096x1024 .bf16) (w : FVec Ideal S1024x5632 .bf16) (r : Fin 4096) (l : Fin 2816) : EReal :=
  ∑ k : Fin 1024, x (ix2 r k) * w (ix2 k ⟨o + l.val, by omega⟩)

/-- The gate's argument. -/
def h1 (x : FVec Ideal S4096x1024 .bf16) (w : FVec Ideal S1024x5632 .bf16) : FVec Ideal S4096x2816 .bf16 := fun i => half 0 (by omega) x w (i 0) (i 1)

/-- The factor it gates. -/
def h3 (x : FVec Ideal S4096x1024 .bf16) (w : FVec Ideal S1024x5632 .bf16) : FVec Ideal S4096x2816 .bf16 := fun i => half 2816 le_rfl x w (i 0) (i 1)

/-- The gated unit. -/
def gated (x : FVec Ideal S4096x1024 .bf16) (w : FVec Ideal S1024x5632 .bf16) : FVec Ideal S4096x2816 .bf16 := fun i => h1 x w i * sg (h1 x w i) * h3 x w i

theorem e0 : ∀ t : Fin cfg0.N, win0_0.index t = ![t.val / 2, 0] := (by decide +kernel : ∀ t : Fin grid0.N, win0_0.index t = ![t.val / 2, 0])
theorem e1 : ∀ t : Fin cfg0.N, win0_1.index t = ![0, t.val % 2] := (by decide +kernel : ∀ t : Fin grid0.N, win0_1.index t = ![0, t.val % 2])
theorem e2 : ∀ t : Fin cfg0.N, win0_2.index t = ![0, t.val % 2 + 2] := (by decide +kernel : ∀ t : Fin grid0.N, win0_2.index t = ![0, t.val % 2 + 2])
theorem e3 : ∀ t : Fin cfg0.N, win0_3.index t = ![t.val / 2, t.val % 2] := (by decide +kernel : ∀ t : Fin grid0.N, win0_3.index t = ![t.val / 2, t.val % 2])
theorem e4 : ∀ t : Fin cfg0.N, win0_4.index t = ![t.val / 2, t.val % 2] := (by decide +kernel : ∀ t : Fin grid0.N, win0_4.index t = ![t.val / 2, t.val % 2])
theorem e5 : ∀ t : Fin cfg0.N, win0_5.index t = ![t.val / 2, t.val % 2] := (by decide +kernel : ∀ t : Fin grid0.N, win0_5.index t = ![t.val / 2, t.val % 2])

theorem final3 (c : Dev nD) : (dats m 0 c).arrAt 3 cfg0.N = h1 (m ((c : Thread nD τ).loc main_arg0)) (m ((c : Thread nD τ).loc main_arg1)) := by
  refine (dats m 0 c).arrAt_eq_of_covers 3 _ (by decide +kernel) fun t hf y => ?_
  blk_simp
  rw [after0_3]
  frame_out
  unfold_payloads
  pointwise [h1, half]
  blk_point [iblk, V, e0 t, e1 t, e2 t, e3 t]

theorem final4 (c : Dev nD) : (dats m 0 c).arrAt 4 cfg0.N = h3 (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [h3, half]
  blk_point [iblk, V, e0 t, e1 t, e2 t, e4 t]

theorem final5 (c : Dev nD) : (dats m 0 c).arrAt 5 cfg0.N = gated (m ((c : Thread nD τ).loc main_arg0)) (m ((c : Thread nD τ).loc main_arg1)) := by
  refine (dats m 0 c).arrAt_eq_of_covers 5 _ (by decide +kernel) fun t hf y => ?_
  blk_simp
  rw [after0_5]
  frame_out
  unfold_payloads
  pointwise [gated, h1, h3, half, sg]
  blk_point [iblk, V, e0 t, e1 t, e2 t, e5 t]

end Cert.FfnInIdeal.Hand

namespace Cert.FfnInRefIdeal.Hand

open Cert.FfnInRefIdeal Cert.FfnInRefIdeal.Gen Cert.Scalars

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v7) = FfnInIdeal.Hand.h1 (m ((c : Thread nD τ).loc main_arg0)) (m ((c : Thread nD τ).loc main_arg1))
      ∧ r.2.mem ((c.tc : Thread nD τ).loc main_v8) = FfnInIdeal.Hand.h3 (m ((c : Thread nD τ).loc main_arg0)) (m ((c : Thread nD τ).loc main_arg1))
      ∧ r.2.mem ((c.tc : Thread nD τ).loc main_v9) = FfnInIdeal.Hand.gated (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2.1.trans ?_, (h c).2.2.1.trans ?_, (h c).2.2.2⟩) (Value.run m ρ)
  · clear h
    funext i
    clean_types
    pointwise [FfnInIdeal.Hand.h1, FfnInIdeal.Hand.half]
  · clear h
    funext i
    clean_types
    pointwise [FfnInIdeal.Hand.h3, FfnInIdeal.Hand.half]
  · clear h
    funext i
    clean_types
    pointwise [FfnInIdeal.Hand.gated, FfnInIdeal.Hand.h1, FfnInIdeal.Hand.h3, FfnInIdeal.Hand.half]
    rw [logistic_eq]

end Cert.FfnInRefIdeal.Hand

/-! ## The merge of the branches -/

namespace Cert.BranchMergeIdeal.Hand

open Cert.BranchMergeIdeal Cert.BranchMergeIdeal.Gen Cert.Scalars

variable (m : (ℓ : Loc nD τ sig) → Buf (Elt Ideal) ℓ)

/-- Branch `n`: its input times its own weight. -/
def branch (n : Fin 3) (y : FVec Ideal S4096x1024 .bf16) (w : FVec Ideal S3x1024x1024 .bf16) : FVec Ideal S4096x1024 .bf16 := fun i =>
  ∑ k : Fin 1024, y (ix2 (i 0) k) * w (ix3 n k (i 1))

/-- The gate of branch `n`, which stands in the projection's columns from `2048 + 1024 n` on. -/
def gate (n : Fin 3) (p : FVec Ideal S4096x5120 .bf16) (i : S4096x1024.Idx) : EReal :=
  sg (p (ix2 (i 0) ⟨2048 + 1024 * n.val + (i 1).val, by have : (i 1).val < 1024 := (i 1).isLt; omega⟩))

/-- The merged branches. -/
def merged (y0 y1 y2 : FVec Ideal S4096x1024 .bf16) (w : FVec Ideal S3x1024x1024 .bf16) (p : FVec Ideal S4096x5120 .bf16) : FVec Ideal S4096x1024 .bf16 := fun i =>
  gate 0 p i * branch 0 y0 w i + gate 1 p i * branch 1 y1 w i + gate 2 p i * branch 2 y2 w i

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![0, 0, 0] := (by decide +kernel : ∀ t : Fin grid0.N, win0_3.index t = ![0, 0, 0])
theorem e4 : ∀ t : Fin cfg0.N, win0_4.index t = ![t.val, 2] := (by decide +kernel : ∀ t : Fin grid0.N, win0_4.index t = ![t.val, 2])
theorem e5 : ∀ t : Fin cfg0.N, win0_5.index t = ![t.val, 3] := (by decide +kernel : ∀ t : Fin grid0.N, win0_5.index t = ![t.val, 3])
theorem e6 : ∀ t : Fin cfg0.N, win0_6.index t = ![t.val, 4] := (by decide +kernel : ∀ t : Fin grid0.N, win0_6.index t = ![t.val, 4])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])
theorem e9 : ∀ t : Fin cfg0.N, win0_9.index t = ![t.val, 0] := (by decide +kernel : ∀ t : Fin grid0.N, win0_9.index t = ![t.val, 0])
theorem e10 : ∀ t : Fin cfg0.N, win0_10.index t = ![t.val, 0] := (by decide +kernel : ∀ t : Fin grid0.N, win0_10.index t = ![t.val, 0])

theorem final7 (c : Dev nD) : (dats m 0 c).arrAt 7 cfg0.N = merged (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  unfold_payloads
  pointwise [merged, branch, gate, sg]
  blk_point [iblk, V, e0 t, e1 t, e2 t, e3 t, e4 t, e5 t, e6 t, e7 t]

theorem final8 (c : Dev nD) : (dats m 0 c).arrAt 8 cfg0.N = branch 0 (m ((c : Thread nD τ).loc main_arg0)) (m ((c : Thread nD τ).loc main_arg3)) := by
  refine (dats m 0 c).arrAt_eq_of_covers 8 _ (by decide +kernel) fun t hf y => ?_
  blk_simp
  rw [after0_8]
  frame_out
  unfold_payloads
  pointwise [branch]
  blk_point [iblk, V, e0 t, e3 t, e8 t]

theorem final9 (c : Dev nD) : (dats m 0 c).arrAt 9 cfg0.N = branch 1 (m ((c : Thread nD τ).loc main_arg1)) (m ((c : Thread nD τ).loc main_arg3)) := by
  refine (dats m 0 c).arrAt_eq_of_covers 9 _ (by decide +kernel) fun t hf y => ?_
  blk_simp
  rw [after0_9]
  frame_out
  unfold_payloads
  pointwise [branch]
  blk_point [iblk, V, e1 t, e3 t, e9 t]

theorem final10 (c : Dev nD) : (dats m 0 c).arrAt 10 cfg0.N = branch 2 (m ((c : Thread nD τ).loc main_arg2)) (m ((c : Thread nD τ).loc main_arg3)) := by
  refine (dats m 0 c).arrAt_eq_of_covers 10 _ (by decide +kernel) fun t hf y => ?_
  blk_simp
  rw [after0_10]
  frame_out
  unfold_payloads
  pointwise [branch]
  blk_point [iblk, V, e2 t, e3 t, e10 t]

end Cert.BranchMergeIdeal.Hand

namespace Cert.BranchMergeRefIdeal.Hand

open Cert.BranchMergeRefIdeal Cert.BranchMergeRefIdeal.Gen Cert.Scalars

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v25) = BranchMergeIdeal.Hand.merged (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_v26) = BranchMergeIdeal.Hand.branch 0 (m ((c : Thread nD τ).loc main_arg0)) (m ((c : Thread nD τ).loc main_arg3))
      ∧ r.2.mem ((c.tc : Thread nD τ).loc main_v27) = BranchMergeIdeal.Hand.branch 1 (m ((c : Thread nD τ).loc main_arg1)) (m ((c : Thread nD τ).loc main_arg3))
      ∧ r.2.mem ((c.tc : Thread nD τ).loc main_v28) = BranchMergeIdeal.Hand.branch 2 (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2.1.trans ?_, (h c).2.2.2.1.trans ?_, (h c).2.2.2.2⟩) (Value.run m ρ)
  · clear h
    funext i
    clean_types
    pointwise [BranchMergeIdeal.Hand.merged, BranchMergeIdeal.Hand.branch, BranchMergeIdeal.Hand.gate]
    rw [Fin.sum_univ_three, logistic_eq, logistic_eq, logistic_eq]
    refine congrArg₂ (· + ·) (congrArg₂ (· + ·) ?_ ?_) ?_ <;>
    refine congrArg₂ (· * ·) (congrArg sg (congrArg _ (congrArg (ix2 (i 0)) (Fin.ext ?_)))) (Finset.sum_congr rfl fun k _ => mul_comm _ _)
    · show 2048 + (0 * 1024 + (i 1).val) = 2048 + (i 1).val; omega
    · show 2048 + (1 * 1024 + (i 1).val) = 3072 + (i 1).val; omega
    · show 2048 + (2 * 1024 + (i 1).val) = 4096 + (i 1).val; omega
  · clear h
    funext i
    clean_types
    pointwise [BranchMergeIdeal.Hand.branch]
    exact Finset.sum_congr rfl fun k _ => mul_comm _ _
  · clear h
    funext i
    clean_types
    pointwise [BranchMergeIdeal.Hand.branch]
    exact Finset.sum_congr rfl fun k _ => mul_comm _ _
  · clear h
    funext i
    clean_types
    pointwise [BranchMergeIdeal.Hand.branch]
    exact Finset.sum_congr rfl fun k _ => mul_comm _ _

end Cert.BranchMergeRefIdeal.Hand
-- ==== Proof.GatedClaims.lean ====
/-
  The claims about the gated unit's first product and the merge of the branches.
-/
module

public import proofs.«01_k».proof.Defs
public import proofs.«01_k».proof.Proof.Gated
public import proofs.«01_k».proof.Proof.Gen.FfnIn.Frame
public import proofs.«01_k».proof.Proof.Gen.BranchMerge.Frame
public import Idealize.ShloMosaic.Lib.Quiescent

@[expose] public section

noncomputable section

namespace Cert.Proof

open Idealize.ShloMosaic Idealize.SL.Sem

theorem ffnIn_frame : Cert.quiescent_FfnIn := fun m ρ _ => Cert.FfnIn.Gen.frame m ρ
theorem ffnInIdeal_frame : Cert.quiescent_FfnInIdeal := fun m ρ _ => Cert.FfnInIdeal.Gen.frame m ρ
theorem ffnInRef_frame : Cert.quiescent_FfnInRefIdeal := fun m ρ _ =>
  (θ_run Cert.FfnInRefIdeal.defs _ _).mono (fun r h => ⟨fun c => (h c).2.2.2, Idealize.ShloMosaic.sem_eq_zero_of_no_sems (by decide) r.2⟩)
    (Cert.FfnInRefIdeal.Value.run (F := Ideal) m ρ)

theorem ffnIn_value : Cert.algebraic_FfnInIdeal_FfnInRefIdeal := fun m g m' g' _ hag =>
  ⟨fun c => _, fun c => _, fun c => _,
    (θ_run _ _ _).mono (fun r h c => by
      obtain ⟨h0, h1, h2, hr⟩ := h c
      exact ⟨h0.trans (Cert.FfnInIdeal.Hand.final3 m c), h1.trans (Cert.FfnInIdeal.Hand.final4 m c), h2.trans (Cert.FfnInIdeal.Hand.final5 m c), hr⟩)
      (Cert.FfnInIdeal.Value.run_blocks m g),
    (θ_run _ _ _).mono (fun r h c => by
      obtain ⟨h0, h1, h2, hr⟩ := h c
      obtain ⟨a0, a1⟩ := hag c
      rw [a0, a1] at h0 h1 h2
      exact ⟨h0, h1, h2, hr⟩)
      (Cert.FfnInRefIdeal.Hand.run m' g')⟩

theorem branchMerge_frame : Cert.quiescent_BranchMerge := fun m ρ _ => Cert.BranchMerge.Gen.frame m ρ
theorem branchMergeIdeal_frame : Cert.quiescent_BranchMergeIdeal := fun m ρ _ => Cert.BranchMergeIdeal.Gen.frame m ρ
theorem branchMergeRef_frame : Cert.quiescent_BranchMergeRefIdeal := fun m ρ _ =>
  (θ_run Cert.BranchMergeRefIdeal.defs _ _).mono (fun r h => ⟨fun c => (h c).2.2.2.2, Idealize.ShloMosaic.sem_eq_zero_of_no_sems (by decide) r.2⟩)
    (Cert.BranchMergeRefIdeal.Value.run (F := Ideal) m ρ)

theorem branchMerge_value : Cert.algebraic_BranchMergeIdeal_BranchMergeRefIdeal := fun m g m' g' _ hag =>
  ⟨fun c => _, fun c => _, fun c => _, fun c => _,
    (θ_run _ _ _).mono (fun r h c => by
      obtain ⟨h0, h1, h2, h3, hr⟩ := h c
      exact ⟨h0.trans (Cert.BranchMergeIdeal.Hand.final7 m c), h1.trans (Cert.BranchMergeIdeal.Hand.final8 m c), h2.trans (Cert.BranchMergeIdeal.Hand.final9 m c), h3.trans (Cert.BranchMergeIdeal.Hand.final10 m c), hr⟩)
      (Cert.BranchMergeIdeal.Value.run_blocks m g),
    (θ_run _ _ _).mono (fun r h c => by
      obtain ⟨h0, h1, h2, h3, hr⟩ := h c
      obtain ⟨a0, a1, a2, a3, a4⟩ := hag c
      rw [a0, a1, a2, a3, a4] at h0
      rw [a0, a3] at h1
      rw [a1, a3] at h2
      rw [a2, a3] at h3
      exact ⟨h0, h1, h2, h3, hr⟩)
      (Cert.BranchMergeRefIdeal.Hand.run m' g')⟩

end Cert.Proof

end
-- ==== Proof.Sums.lean ====
/-
  The sums over the devices of the gathered gradients: what each call's result array holds after the run, and that the
  reference's result is the same.
-/
module

public import proofs.«01_k».proof.Proof.Gen.SumWInIdeal.Value
public import proofs.«01_k».proof.Proof.Gen.SumWInRefIdeal.Run
public import proofs.«01_k».proof.Proof.Gen.SumWFfnInIdeal.Value
public import proofs.«01_k».proof.Proof.Gen.SumWFfnInRefIdeal.Run
public import proofs.«01_k».proof.Proof.Gen.SumWRowsIdeal.Value
public import proofs.«01_k».proof.Proof.Gen.SumWRowsRefIdeal.Run
public import proofs.«01_k».proof.Proof.Gen.SumSmallIdeal.Value
public import proofs.«01_k».proof.Proof.Gen.SumSmallRefIdeal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Sums

/-- The sum of eight matrices, entry by entry. -/
def total {φ : FTy} {R C : ℕ} (x : FVec Ideal ⟨3, ![8, R, C]⟩ φ) : FVec Ideal ⟨2, ![R, C]⟩ .f32 := fun i => ∑ k : Fin 8, x (ix3 k (i 0) (i 1))

end Cert.Sums

namespace Cert.SumWInIdeal.Hand

open Cert.SumWInIdeal Cert.SumWInIdeal.Gen Cert.Sums

variable (m : (ℓ : Loc nD τ sig) → Buf (Elt Ideal) ℓ)

theorem e0 : ∀ t : Fin cfg0.N, win0_0.index t = ![0, t.val, 0] := (by decide +kernel : ∀ t : Fin grid0.N, win0_0.index t = ![0, t.val, 0])
theorem e1 : ∀ t : Fin cfg0.N, win0_1.index t = ![t.val, 0] := (by decide +kernel : ∀ t : Fin grid0.N, win0_1.index t = ![t.val, 0])

theorem final (c : Dev nD) : (dats m 0 c).arrAt 1 cfg0.N = total (φ := .bf16) (m ((c : Thread nD τ).loc main_arg0)) := by
  refine (dats m 0 c).arrAt_eq_of_covers 1 _ (by decide +kernel) fun t hf y => ?_
  blk_simp
  rw [after0_1]
  frame_out
  unfold_payloads
  pointwise [total]
  rw [Fin.sum_univ_eight]
  blk_point [iblk, V, e0 t, e1 t]

end Cert.SumWInIdeal.Hand

namespace Cert.SumWInRefIdeal.Hand

open Cert.SumWInRefIdeal Cert.SumWInRefIdeal.Gen Cert.Sums

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v1) = total (φ := .bf16) (m ((c : Thread nD τ).loc main_arg0))
      ∧ r.2.mem ((c.tc : Thread nD τ).loc main_arg0) = m ((c.tc : Thread nD τ).loc main_arg0) := by
  refine (θ_run _ _ _).mono (fun r h c => ⟨(h c).1.trans ?_, (h c).2⟩) (Value.run m ρ)
  clear h
  funext i
  clean_types
  pointwise [total]

end Cert.SumWInRefIdeal.Hand

namespace Cert.SumWFfnInIdeal.Hand

open Cert.SumWFfnInIdeal Cert.SumWFfnInIdeal.Gen Cert.Sums

variable (m : (ℓ : Loc nD τ sig) → Buf (Elt Ideal) ℓ)

theorem e0 : ∀ t : Fin cfg0.N, win0_0.index t = ![0, t.val, 0] := (by decide +kernel : ∀ t : Fin grid0.N, win0_0.index t = ![0, t.val, 0])
theorem e1 : ∀ t : Fin cfg0.N, win0_1.index t = ![t.val, 0] := (by decide +kernel : ∀ t : Fin grid0.N, win0_1.index t = ![t.val, 0])

theorem final (c : Dev nD) : (dats m 0 c).arrAt 1 cfg0.N = total (φ := .bf16) (m ((c : Thread nD τ).loc main_arg0)) := by
  refine (dats m 0 c).arrAt_eq_of_covers 1 _ (by decide +kernel) fun t hf y => ?_
  blk_simp
  rw [after0_1]
  frame_out
  unfold_payloads
  pointwise [total]
  rw [Fin.sum_univ_eight]
  blk_point [iblk, V, e0 t, e1 t]

end Cert.SumWFfnInIdeal.Hand

namespace Cert.SumWFfnInRefIdeal.Hand

open Cert.SumWFfnInRefIdeal Cert.SumWFfnInRefIdeal.Gen Cert.Sums

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v1) = total (φ := .bf16) (m ((c : Thread nD τ).loc main_arg0))
      ∧ r.2.mem ((c.tc : Thread nD τ).loc main_arg0) = m ((c.tc : Thread nD τ).loc main_arg0) := by
  refine (θ_run _ _ _).mono (fun r h c => ⟨(h c).1.trans ?_, (h c).2⟩) (Value.run m ρ)
  clear h
  funext i
  clean_types
  pointwise [total]

end Cert.SumWFfnInRefIdeal.Hand

namespace Cert.SumWRowsIdeal.Hand

open Cert.SumWRowsIdeal Cert.SumWRowsIdeal.Gen Cert.Sums

variable (m : (ℓ : Loc nD τ sig) → Buf (Elt Ideal) ℓ)

theorem e0 : ∀ t : Fin cfg0.N, win0_0.index t = ![0, t.val, 0] := (by decide +kernel : ∀ t : Fin grid0.N, win0_0.index t = ![0, t.val, 0])
theorem e1 : ∀ t : Fin cfg0.N, win0_1.index t = ![t.val, 0] := (by decide +kernel : ∀ t : Fin grid0.N, win0_1.index t = ![t.val, 0])

theorem final (c : Dev nD) : (dats m 0 c).arrAt 1 cfg0.N = total (φ := .bf16) (m ((c : Thread nD τ).loc main_arg0)) := by
  refine (dats m 0 c).arrAt_eq_of_covers 1 _ (by decide +kernel) fun t hf y => ?_
  blk_simp
  rw [after0_1]
  frame_out
  unfold_payloads
  pointwise [total]
  rw [Fin.sum_univ_eight]
  blk_point [iblk, V, e0 t, e1 t]

end Cert.SumWRowsIdeal.Hand

namespace Cert.SumWRowsRefIdeal.Hand

open Cert.SumWRowsRefIdeal Cert.SumWRowsRefIdeal.Gen Cert.Sums

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v1) = total (φ := .bf16) (m ((c : Thread nD τ).loc main_arg0))
      ∧ r.2.mem ((c.tc : Thread nD τ).loc main_arg0) = m ((c.tc : Thread nD τ).loc main_arg0) := by
  refine (θ_run _ _ _).mono (fun r h c => ⟨(h c).1.trans ?_, (h c).2⟩) (Value.run m ρ)
  clear h
  funext i
  clean_types
  pointwise [total]

end Cert.SumWRowsRefIdeal.Hand

namespace Cert.SumSmallIdeal.Hand

open Cert.SumSmallIdeal Cert.SumSmallIdeal.Gen Cert.Sums

variable (m : (ℓ : Loc nD τ sig) → Buf (Elt Ideal) ℓ)

theorem e0 : ∀ t : Fin cfg0.N, win0_0.index t = ![0, t.val, 0] := (by decide +kernel : ∀ t : Fin grid0.N, win0_0.index t = ![0, t.val, 0])
theorem e1 : ∀ t : Fin cfg0.N, win0_1.index t = ![t.val, 0] := (by decide +kernel : ∀ t : Fin grid0.N, win0_1.index t = ![t.val, 0])

theorem final (c : Dev nD) : (dats m 0 c).arrAt 1 cfg0.N = total (φ := .f32) (m ((c : Thread nD τ).loc main_arg0)) := by
  refine (dats m 0 c).arrAt_eq_of_covers 1 _ (by decide +kernel) fun t hf y => ?_
  blk_simp
  rw [after0_1]
  frame_out
  unfold_payloads
  pointwise [total]
  rw [Fin.sum_univ_eight]
  blk_point [iblk, V, e0 t, e1 t]

end Cert.SumSmallIdeal.Hand

namespace Cert.SumSmallRefIdeal.Hand

open Cert.SumSmallRefIdeal Cert.SumSmallRefIdeal.Gen Cert.Sums

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v0) = total (φ := .f32) (m ((c : Thread nD τ).loc main_arg0))
      ∧ r.2.mem ((c.tc : Thread nD τ).loc main_arg0) = m ((c.tc : Thread nD τ).loc main_arg0) := by
  refine (θ_run _ _ _).mono (fun r h c => ⟨(h c).1.trans ?_, (h c).2⟩) (Value.run m ρ)
  clear h
  funext i
  clean_types
  pointwise [total]

end Cert.SumSmallRefIdeal.Hand
-- ==== Proof.SumClaims.lean ====
/-
  The claims about the sums over the devices.
-/
module

public import proofs.«01_k».proof.Defs
public import proofs.«01_k».proof.Proof.Sums
public import proofs.«01_k».proof.Proof.Gen.SumWIn.Frame
public import proofs.«01_k».proof.Proof.Gen.SumWFfnIn.Frame
public import proofs.«01_k».proof.Proof.Gen.SumWRows.Frame
public import proofs.«01_k».proof.Proof.Gen.SumSmall.Frame
public import Idealize.ShloMosaic.Lib.Quiescent

@[expose] public section

noncomputable section

namespace Cert.Proof

open Idealize.ShloMosaic Idealize.SL.Sem

theorem sumWIn_frame : Cert.quiescent_SumWIn := fun m ρ _ => Cert.SumWIn.Gen.frame m ρ
theorem sumWInIdeal_frame : Cert.quiescent_SumWInIdeal := fun m ρ _ => Cert.SumWInIdeal.Gen.frame m ρ
theorem sumWInRef_frame : Cert.quiescent_SumWInRefIdeal := fun m ρ _ =>
  (θ_run Cert.SumWInRefIdeal.defs _ _).mono (fun r h => ⟨fun c => (h c).2, Idealize.ShloMosaic.sem_eq_zero_of_no_sems (by decide) r.2⟩)
    (Cert.SumWInRefIdeal.Value.run (F := Ideal) m ρ)

theorem sumWIn_value : Cert.algebraic_SumWInIdeal_SumWInRefIdeal := fun m g m' g' _ hag =>
  ⟨fun c => _,
    (θ_run _ _ _).mono (fun r h c => ⟨(h c).1.trans (Cert.SumWInIdeal.Hand.final m c), (h c).2⟩) (Cert.SumWInIdeal.Value.run_blocks m g),
    (θ_run _ _ _).mono (fun r h c => by obtain ⟨h0, hr⟩ := h c; rw [hag c] at h0; exact ⟨h0, hr⟩) (Cert.SumWInRefIdeal.Hand.run m' g')⟩

theorem sumWFfnIn_frame : Cert.quiescent_SumWFfnIn := fun m ρ _ => Cert.SumWFfnIn.Gen.frame m ρ
theorem sumWFfnInIdeal_frame : Cert.quiescent_SumWFfnInIdeal := fun m ρ _ => Cert.SumWFfnInIdeal.Gen.frame m ρ
theorem sumWFfnInRef_frame : Cert.quiescent_SumWFfnInRefIdeal := fun m ρ _ =>
  (θ_run Cert.SumWFfnInRefIdeal.defs _ _).mono (fun r h => ⟨fun c => (h c).2, Idealize.ShloMosaic.sem_eq_zero_of_no_sems (by decide) r.2⟩)
    (Cert.SumWFfnInRefIdeal.Value.run (F := Ideal) m ρ)

theorem sumWFfnIn_value : Cert.algebraic_SumWFfnInIdeal_SumWFfnInRefIdeal := fun m g m' g' _ hag =>
  ⟨fun c => _,
    (θ_run _ _ _).mono (fun r h c => ⟨(h c).1.trans (Cert.SumWFfnInIdeal.Hand.final m c), (h c).2⟩) (Cert.SumWFfnInIdeal.Value.run_blocks m g),
    (θ_run _ _ _).mono (fun r h c => by obtain ⟨h0, hr⟩ := h c; rw [hag c] at h0; exact ⟨h0, hr⟩) (Cert.SumWFfnInRefIdeal.Hand.run m' g')⟩

theorem sumWRows_frame : Cert.quiescent_SumWRows := fun m ρ _ => Cert.SumWRows.Gen.frame m ρ
theorem sumWRowsIdeal_frame : Cert.quiescent_SumWRowsIdeal := fun m ρ _ => Cert.SumWRowsIdeal.Gen.frame m ρ
theorem sumWRowsRef_frame : Cert.quiescent_SumWRowsRefIdeal := fun m ρ _ =>
  (θ_run Cert.SumWRowsRefIdeal.defs _ _).mono (fun r h => ⟨fun c => (h c).2, Idealize.ShloMosaic.sem_eq_zero_of_no_sems (by decide) r.2⟩)
    (Cert.SumWRowsRefIdeal.Value.run (F := Ideal) m ρ)

theorem sumWRows_value : Cert.algebraic_SumWRowsIdeal_SumWRowsRefIdeal := fun m g m' g' _ hag =>
  ⟨fun c => _,
    (θ_run _ _ _).mono (fun r h c => ⟨(h c).1.trans (Cert.SumWRowsIdeal.Hand.final m c), (h c).2⟩) (Cert.SumWRowsIdeal.Value.run_blocks m g),
    (θ_run _ _ _).mono (fun r h c => by obtain ⟨h0, hr⟩ := h c; rw [hag c] at h0; exact ⟨h0, hr⟩) (Cert.SumWRowsRefIdeal.Hand.run m' g')⟩

theorem sumSmall_frame : Cert.quiescent_SumSmall := fun m ρ _ => Cert.SumSmall.Gen.frame m ρ
theorem sumSmallIdeal_frame : Cert.quiescent_SumSmallIdeal := fun m ρ _ => Cert.SumSmallIdeal.Gen.frame m ρ
theorem sumSmallRef_frame : Cert.quiescent_SumSmallRefIdeal := fun m ρ _ =>
  (θ_run Cert.SumSmallRefIdeal.defs _ _).mono (fun r h => ⟨fun c => (h c).2, Idealize.ShloMosaic.sem_eq_zero_of_no_sems (by decide) r.2⟩)
    (Cert.SumSmallRefIdeal.Value.run (F := Ideal) m ρ)

theorem sumSmall_value : Cert.algebraic_SumSmallIdeal_SumSmallRefIdeal := fun m g m' g' _ hag =>
  ⟨fun c => _,
    (θ_run _ _ _).mono (fun r h c => ⟨(h c).1.trans (Cert.SumSmallIdeal.Hand.final m c), (h c).2⟩) (Cert.SumSmallIdeal.Value.run_blocks m g),
    (θ_run _ _ _).mono (fun r h c => by obtain ⟨h0, hr⟩ := h c; rw [hag c] at h0; exact ⟨h0, hr⟩) (Cert.SumSmallRefIdeal.Hand.run m' g')⟩

end Cert.Proof

end
-- ==== Proof.Optimiser.lean ====
/-
  The optimiser's step, one call per shape of weight: the reference's three results are the functions of the arguments
  that the call's result arrays hold after the run.
-/
module

public import proofs.«01_k».proof.Proof.Gen.AdamWInIdeal.Value
public import proofs.«01_k».proof.Proof.Gen.AdamWInRefIdeal.Run
public import proofs.«01_k».proof.Proof.Gen.AdamWBranchIdeal.Value
public import proofs.«01_k».proof.Proof.Gen.AdamWBranchRefIdeal.Run
public import proofs.«01_k».proof.Proof.Gen.AdamWOutIdeal.Value
public import proofs.«01_k».proof.Proof.Gen.AdamWOutRefIdeal.Run
public import proofs.«01_k».proof.Proof.Gen.AdamWFfnInIdeal.Value
public import proofs.«01_k».proof.Proof.Gen.AdamWFfnInRefIdeal.Run
public import proofs.«01_k».proof.Proof.Gen.AdamWFfnOutIdeal.Value
public import proofs.«01_k».proof.Proof.Gen.AdamWFfnOutRefIdeal.Run
public import proofs.«01_k».proof.Proof.Gen.AdamConvWIdeal.Value
public import proofs.«01_k».proof.Proof.Gen.AdamConvWRefIdeal.Run
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.AdamWInRefIdeal.Hand

open Cert.AdamWInRefIdeal Cert.AdamWInRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = AdamWInIdeal.Value.G4 (F := Ideal) (m ((c : Thread nD τ).loc main_arg1))
        (m ((c : Thread nD τ).loc main_arg2)) (m ((c : Thread nD τ).loc main_arg3)) (m ((c : Thread nD τ).loc main_arg0))
      ∧ r.2.mem ((c.tc : Thread nD τ).loc main_v4) = AdamWInIdeal.Value.G5 (F := Ideal) (m ((c : Thread nD τ).loc main_arg1)) (m ((c : Thread nD τ).loc main_arg2))
      ∧ r.2.mem ((c.tc : Thread nD τ).loc main_v10) = AdamWInIdeal.Value.G6 (F := Ideal) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (Value.run m ρ) <;>
  · clear h
    funext i
    clean_types
    pointwise

end Cert.AdamWInRefIdeal.Hand

namespace Cert.AdamWBranchRefIdeal.Hand

open Cert.AdamWBranchRefIdeal Cert.AdamWBranchRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = AdamWBranchIdeal.Value.G4 (F := Ideal) (m ((c : Thread nD τ).loc main_arg1))
        (m ((c : Thread nD τ).loc main_arg2)) (m ((c : Thread nD τ).loc main_arg3)) (m ((c : Thread nD τ).loc main_arg0))
      ∧ r.2.mem ((c.tc : Thread nD τ).loc main_v4) = AdamWBranchIdeal.Value.G5 (F := Ideal) (m ((c : Thread nD τ).loc main_arg1)) (m ((c : Thread nD τ).loc main_arg2))
      ∧ r.2.mem ((c.tc : Thread nD τ).loc main_v10) = AdamWBranchIdeal.Value.G6 (F := Ideal) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (Value.run m ρ) <;>
  · clear h
    funext i
    clean_types
    pointwise

end Cert.AdamWBranchRefIdeal.Hand

namespace Cert.AdamWOutRefIdeal.Hand

open Cert.AdamWOutRefIdeal Cert.AdamWOutRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = AdamWOutIdeal.Value.G4 (F := Ideal) (m ((c : Thread nD τ).loc main_arg1))
        (m ((c : Thread nD τ).loc main_arg2)) (m ((c : Thread nD τ).loc main_arg3)) (m ((c : Thread nD τ).loc main_arg0))
      ∧ r.2.mem ((c.tc : Thread nD τ).loc main_v4) = AdamWOutIdeal.Value.G5 (F := Ideal) (m ((c : Thread nD τ).loc main_arg1)) (m ((c : Thread nD τ).loc main_arg2))
      ∧ r.2.mem ((c.tc : Thread nD τ).loc main_v10) = AdamWOutIdeal.Value.G6 (F := Ideal) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (Value.run m ρ) <;>
  · clear h
    funext i
    clean_types
    pointwise

end Cert.AdamWOutRefIdeal.Hand

namespace Cert.AdamWFfnInRefIdeal.Hand

open Cert.AdamWFfnInRefIdeal Cert.AdamWFfnInRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = AdamWFfnInIdeal.Value.G4 (F := Ideal) (m ((c : Thread nD τ).loc main_arg1))
        (m ((c : Thread nD τ).loc main_arg2)) (m ((c : Thread nD τ).loc main_arg3)) (m ((c : Thread nD τ).loc main_arg0))
      ∧ r.2.mem ((c.tc : Thread nD τ).loc main_v4) = AdamWFfnInIdeal.Value.G5 (F := Ideal) (m ((c : Thread nD τ).loc main_arg1)) (m ((c : Thread nD τ).loc main_arg2))
      ∧ r.2.mem ((c.tc : Thread nD τ).loc main_v10) = AdamWFfnInIdeal.Value.G6 (F := Ideal) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (Value.run m ρ) <;>
  · clear h
    funext i
    clean_types
    pointwise

end Cert.AdamWFfnInRefIdeal.Hand

namespace Cert.AdamWFfnOutRefIdeal.Hand

open Cert.AdamWFfnOutRefIdeal Cert.AdamWFfnOutRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = AdamWFfnOutIdeal.Value.G4 (F := Ideal) (m ((c : Thread nD τ).loc main_arg1))
        (m ((c : Thread nD τ).loc main_arg2)) (m ((c : Thread nD τ).loc main_arg3)) (m ((c : Thread nD τ).loc main_arg0))
      ∧ r.2.mem ((c.tc : Thread nD τ).loc main_v4) = AdamWFfnOutIdeal.Value.G5 (F := Ideal) (m ((c : Thread nD τ).loc main_arg1)) (m ((c : Thread nD τ).loc main_arg2))
      ∧ r.2.mem ((c.tc : Thread nD τ).loc main_v10) = AdamWFfnOutIdeal.Value.G6 (F := Ideal) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (Value.run m ρ) <;>
  · clear h
    funext i
    clean_types
    pointwise

end Cert.AdamWFfnOutRefIdeal.Hand

namespace Cert.AdamConvWRefIdeal.Hand

open Cert.AdamConvWRefIdeal Cert.AdamConvWRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = AdamConvWIdeal.Value.G4 (F := Ideal) (m ((c : Thread nD τ).loc main_arg1))
        (m ((c : Thread nD τ).loc main_arg2)) (m ((c : Thread nD τ).loc main_arg3)) (m ((c : Thread nD τ).loc main_arg0))
      ∧ r.2.mem ((c.tc : Thread nD τ).loc main_v4) = AdamConvWIdeal.Value.G5 (F := Ideal) (m ((c : Thread nD τ).loc main_arg1)) (m ((c : Thread nD τ).loc main_arg2))
      ∧ r.2.mem ((c.tc : Thread nD τ).loc main_v10) = AdamConvWIdeal.Value.G6 (F := Ideal) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (Value.run m ρ) <;>
  · clear h
    funext i
    clean_types
    pointwise

end Cert.AdamConvWRefIdeal.Hand

namespace Cert.AdamSmallRefIdeal.Hand

open Cert.AdamSmallRefIdeal Cert.AdamSmallRefIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = AdamSmallIdeal.Value.G4 (F := Ideal) (m ((c : Thread nD τ).loc main_arg1))
        (m ((c : Thread nD τ).loc main_arg2)) (m ((c : Thread nD τ).loc main_arg3)) (m ((c : Thread nD τ).loc main_arg0))
      ∧ r.2.mem ((c.tc : Thread nD τ).loc main_v4) = AdamSmallIdeal.Value.G5 (F := Ideal) (m ((c : Thread nD τ).loc main_arg1)) (m ((c : Thread nD τ).loc main_arg2))
      ∧ r.2.mem ((c.tc : Thread nD τ).loc main_v10) = AdamSmallIdeal.Value.G6 (F := Ideal) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (Value.run m ρ) <;>
  · clear h
    funext i
    clean_types
    pointwise

end Cert.AdamSmallRefIdeal.Hand
-- ==== Proof.OptimiserClaims.lean ====
/-
  The claims about the optimiser's step.
-/
module

public import proofs.«01_k».proof.Defs
public import proofs.«01_k».proof.Proof.Optimiser
public import proofs.«01_k».proof.Proof.Gen.AdamWIn.Frame
public import proofs.«01_k».proof.Proof.Gen.AdamWBranch.Frame
public import proofs.«01_k».proof.Proof.Gen.AdamWOut.Frame
public import proofs.«01_k».proof.Proof.Gen.AdamWFfnIn.Frame
public import proofs.«01_k».proof.Proof.Gen.AdamWFfnOut.Frame
public import proofs.«01_k».proof.Proof.Gen.AdamConvW.Frame
public import proofs.«01_k».proof.Proof.Gen.AdamSmall.Frame
public import Idealize.ShloMosaic.Lib.Quiescent

@[expose] public section

noncomputable section

namespace Cert.Proof

open Idealize.ShloMosaic Idealize.SL.Sem

theorem adamWIn_frame : Cert.quiescent_AdamWIn := fun m ρ _ => Cert.AdamWIn.Gen.frame m ρ
theorem adamWInIdeal_frame : Cert.quiescent_AdamWInIdeal := fun m ρ _ => Cert.AdamWInIdeal.Gen.frame m ρ
theorem adamWInRef_frame : Cert.quiescent_AdamWInRefIdeal := fun m ρ _ =>
  (θ_run Cert.AdamWInRefIdeal.defs _ _).mono (fun r h => ⟨fun c => (h c).2.2.2, Idealize.ShloMosaic.sem_eq_zero_of_no_sems (by decide) r.2⟩)
    (Cert.AdamWInRefIdeal.Value.run (F := Ideal) m ρ)

theorem adamWIn_value : Cert.algebraic_AdamWInIdeal_AdamWInRefIdeal := fun m g m' g' _ hag =>
  ⟨fun c => _, fun c => _, fun c => _,
    Cert.AdamWInIdeal.Value.run m g,
    (θ_run _ _ _).mono (fun r h c => by
      obtain ⟨h0, h1, h2, hr⟩ := h c
      obtain ⟨a0, a1, a2, a3⟩ := hag c
      rw [a0, a1, a2, a3] at h0
      rw [a1, a2] at h1
      rw [a1, a3] at h2
      exact ⟨h0, h1, h2, hr⟩)
      (Cert.AdamWInRefIdeal.Hand.run m' g')⟩

theorem adamWBranch_frame : Cert.quiescent_AdamWBranch := fun m ρ _ => Cert.AdamWBranch.Gen.frame m ρ
theorem adamWBranchIdeal_frame : Cert.quiescent_AdamWBranchIdeal := fun m ρ _ => Cert.AdamWBranchIdeal.Gen.frame m ρ
theorem adamWBranchRef_frame : Cert.quiescent_AdamWBranchRefIdeal := fun m ρ _ =>
  (θ_run Cert.AdamWBranchRefIdeal.defs _ _).mono (fun r h => ⟨fun c => (h c).2.2.2, Idealize.ShloMosaic.sem_eq_zero_of_no_sems (by decide) r.2⟩)
    (Cert.AdamWBranchRefIdeal.Value.run (F := Ideal) m ρ)

theorem adamWBranch_value : Cert.algebraic_AdamWBranchIdeal_AdamWBranchRefIdeal := fun m g m' g' _ hag =>
  ⟨fun c => _, fun c => _, fun c => _,
    Cert.AdamWBranchIdeal.Value.run m g,
    (θ_run _ _ _).mono (fun r h c => by
      obtain ⟨h0, h1, h2, hr⟩ := h c
      obtain ⟨a0, a1, a2, a3⟩ := hag c
      rw [a0, a1, a2, a3] at h0
      rw [a1, a2] at h1
      rw [a1, a3] at h2
      exact ⟨h0, h1, h2, hr⟩)
      (Cert.AdamWBranchRefIdeal.Hand.run m' g')⟩

theorem adamWOut_frame : Cert.quiescent_AdamWOut := fun m ρ _ => Cert.AdamWOut.Gen.frame m ρ
theorem adamWOutIdeal_frame : Cert.quiescent_AdamWOutIdeal := fun m ρ _ => Cert.AdamWOutIdeal.Gen.frame m ρ
theorem adamWOutRef_frame : Cert.quiescent_AdamWOutRefIdeal := fun m ρ _ =>
  (θ_run Cert.AdamWOutRefIdeal.defs _ _).mono (fun r h => ⟨fun c => (h c).2.2.2, Idealize.ShloMosaic.sem_eq_zero_of_no_sems (by decide) r.2⟩)
    (Cert.AdamWOutRefIdeal.Value.run (F := Ideal) m ρ)

theorem adamWOut_value : Cert.algebraic_AdamWOutIdeal_AdamWOutRefIdeal := fun m g m' g' _ hag =>
  ⟨fun c => _, fun c => _, fun c => _,
    Cert.AdamWOutIdeal.Value.run m g,
    (θ_run _ _ _).mono (fun r h c => by
      obtain ⟨h0, h1, h2, hr⟩ := h c
      obtain ⟨a0, a1, a2, a3⟩ := hag c
      rw [a0, a1, a2, a3] at h0
      rw [a1, a2] at h1
      rw [a1, a3] at h2
      exact ⟨h0, h1, h2, hr⟩)
      (Cert.AdamWOutRefIdeal.Hand.run m' g')⟩

theorem adamWFfnIn_frame : Cert.quiescent_AdamWFfnIn := fun m ρ _ => Cert.AdamWFfnIn.Gen.frame m ρ
theorem adamWFfnInIdeal_frame : Cert.quiescent_AdamWFfnInIdeal := fun m ρ _ => Cert.AdamWFfnInIdeal.Gen.frame m ρ
theorem adamWFfnInRef_frame : Cert.quiescent_AdamWFfnInRefIdeal := fun m ρ _ =>
  (θ_run Cert.AdamWFfnInRefIdeal.defs _ _).mono (fun r h => ⟨fun c => (h c).2.2.2, Idealize.ShloMosaic.sem_eq_zero_of_no_sems (by decide) r.2⟩)
    (Cert.AdamWFfnInRefIdeal.Value.run (F := Ideal) m ρ)

theorem adamWFfnIn_value : Cert.algebraic_AdamWFfnInIdeal_AdamWFfnInRefIdeal := fun m g m' g' _ hag =>
  ⟨fun c => _, fun c => _, fun c => _,
    Cert.AdamWFfnInIdeal.Value.run m g,
    (θ_run _ _ _).mono (fun r h c => by
      obtain ⟨h0, h1, h2, hr⟩ := h c
      obtain ⟨a0, a1, a2, a3⟩ := hag c
      rw [a0, a1, a2, a3] at h0
      rw [a1, a2] at h1
      rw [a1, a3] at h2
      exact ⟨h0, h1, h2, hr⟩)
      (Cert.AdamWFfnInRefIdeal.Hand.run m' g')⟩

theorem adamWFfnOut_frame : Cert.quiescent_AdamWFfnOut := fun m ρ _ => Cert.AdamWFfnOut.Gen.frame m ρ
theorem adamWFfnOutIdeal_frame : Cert.quiescent_AdamWFfnOutIdeal := fun m ρ _ => Cert.AdamWFfnOutIdeal.Gen.frame m ρ
theorem adamWFfnOutRef_frame : Cert.quiescent_AdamWFfnOutRefIdeal := fun m ρ _ =>
  (θ_run Cert.AdamWFfnOutRefIdeal.defs _ _).mono (fun r h => ⟨fun c => (h c).2.2.2, Idealize.ShloMosaic.sem_eq_zero_of_no_sems (by decide) r.2⟩)
    (Cert.AdamWFfnOutRefIdeal.Value.run (F := Ideal) m ρ)

theorem adamWFfnOut_value : Cert.algebraic_AdamWFfnOutIdeal_AdamWFfnOutRefIdeal := fun m g m' g' _ hag =>
  ⟨fun c => _, fun c => _, fun c => _,
    Cert.AdamWFfnOutIdeal.Value.run m g,
    (θ_run _ _ _).mono (fun r h c => by
      obtain ⟨h0, h1, h2, hr⟩ := h c
      obtain ⟨a0, a1, a2, a3⟩ := hag c
      rw [a0, a1, a2, a3] at h0
      rw [a1, a2] at h1
      rw [a1, a3] at h2
      exact ⟨h0, h1, h2, hr⟩)
      (Cert.AdamWFfnOutRefIdeal.Hand.run m' g')⟩

theorem adamConvW_frame : Cert.quiescent_AdamConvW := fun m ρ _ => Cert.AdamConvW.Gen.frame m ρ
theorem adamConvWIdeal_frame : Cert.quiescent_AdamConvWIdeal := fun m ρ _ => Cert.AdamConvWIdeal.Gen.frame m ρ
theorem adamConvWRef_frame : Cert.quiescent_AdamConvWRefIdeal := fun m ρ _ =>
  (θ_run Cert.AdamConvWRefIdeal.defs _ _).mono (fun r h => ⟨fun c => (h c).2.2.2, Idealize.ShloMosaic.sem_eq_zero_of_no_sems (by decide) r.2⟩)
    (Cert.AdamConvWRefIdeal.Value.run (F := Ideal) m ρ)

theorem adamConvW_value : Cert.algebraic_AdamConvWIdeal_AdamConvWRefIdeal := fun m g m' g' _ hag =>
  ⟨fun c => _, fun c => _, fun c => _,
    Cert.AdamConvWIdeal.Value.run m g,
    (θ_run _ _ _).mono (fun r h c => by
      obtain ⟨h0, h1, h2, hr⟩ := h c
      obtain ⟨a0, a1, a2, a3⟩ := hag c
      rw [a0, a1, a2, a3] at h0
      rw [a1, a2] at h1
      rw [a1, a3] at h2
      exact ⟨h0, h1, h2, hr⟩)
      (Cert.AdamConvWRefIdeal.Hand.run m' g')⟩

theorem adamSmall_frame : Cert.quiescent_AdamSmall := fun m ρ _ => Cert.AdamSmall.Gen.frame m ρ
theorem adamSmallIdeal_frame : Cert.quiescent_AdamSmallIdeal := fun m ρ _ => Cert.AdamSmallIdeal.Gen.frame m ρ
theorem adamSmallRef_frame : Cert.quiescent_AdamSmallRefIdeal := fun m ρ _ =>
  (θ_run Cert.AdamSmallRefIdeal.defs _ _).mono (fun r h => ⟨fun c => (h c).2.2.2, Idealize.ShloMosaic.sem_eq_zero_of_no_sems (by decide) r.2⟩)
    (Cert.AdamSmallRefIdeal.Value.run (F := Ideal) m ρ)

theorem adamSmall_value : Cert.algebraic_AdamSmallIdeal_AdamSmallRefIdeal := fun m g m' g' _ hag =>
  ⟨fun c => _, fun c => _, fun c => _,
    Cert.AdamSmallIdeal.Value.run m g,
    (θ_run _ _ _).mono (fun r h c => by
      obtain ⟨h0, h1, h2, hr⟩ := h c
      obtain ⟨a0, a1, a2, a3⟩ := hag c
      rw [a0, a1, a2, a3] at h0
      rw [a1, a2] at h1
      rw [a1, a3] at h2
      exact ⟨h0, h1, h2, hr⟩)
      (Cert.AdamSmallRefIdeal.Hand.run m' g')⟩

end Cert.Proof

end
-- ==== Proof.NormGradScalars.lean ====
/-
  The gradient of a normalisation of a row, in the two forms in which it is computed, and that they agree on reals.
-/
module

public import proofs.«01_k».proof.Proof.Finite

@[expose] public section

noncomputable section

namespace Cert.NormGrads

open Idealize.ShloMosaic

/-- The mean of a row. -/
def mean (z : Fin 1024 → EReal) : EReal := Ideal.div (∑ l, z l) (Ideal.ofBits .f32 0x44800000#32)

/-- The variance of a row, kept away from zero. -/
def spread (z : Fin 1024 → EReal) : EReal := mean (fun k => (z k - mean z) * (z k - mean z)) + Ideal.ofBits .f32 0x3727C5AC#32

/-- A row brought to mean zero and to unit variance. -/
def unit (z : Fin 1024 → EReal) (l : Fin 1024) : EReal := (z l - mean z) * Ideal.rsqrt (spread z)

/-- The gradient of the row from the cotangent `d` and the scale `g`, its projections taken off. -/
def rowGrad (z d g : Fin 1024 → EReal) (l : Fin 1024) : EReal :=
  Ideal.rsqrt (spread z) * (d l * g l - mean (fun k => d k * g k) - unit z l * mean (fun k => d k * g k * unit z k))

/-- What reaches the row's variance. -/
def toSpread (z d g : Fin 1024 → EReal) : EReal :=
  Ideal.div ((∑ k, (z k - mean z) * (d k * g k)) * (Ideal.ofBits .f32 0xBF000000#32 * Ideal.div (Ideal.rsqrt (spread z)) (spread z))) (Ideal.ofBits .f32 0x44800000#32)

/-- The gradient of the row by the rule for each operation of the normalisation. -/
def ruleGrad (z d g : Fin 1024 → EReal) (l : Fin 1024) : EReal :=
  d l * g l * Ideal.rsqrt (spread z) + toSpread z d g * (Ideal.ofBits .f32 0x40000000#32 * (z l - mean z))
    + Ideal.div ((∑ k, -(d k * g k * Ideal.rsqrt (spread z))) + ∑ k, -(toSpread z d g * (Ideal.ofBits .f32 0x40000000#32 * (z k - mean z))))
        (Ideal.ofBits .f32 0x44800000#32)

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The constant added to a variance is a positive real. -/
theorem ofBits_small : ∃ e : ℝ, 0 < e ∧ Ideal.ofBits .f32 0x3727C5AC#32 = (e : EReal) := by
  refine ⟨_, ?_, by simp [Ideal.ofBits, Ideal.ieee, -EReal.coe_mul]; rfl⟩
  positivity

theorem coe_sum (f : Fin 1024 → ℝ) : ∑ k, (f k : EReal) = ((∑ k, f k : ℝ) : EReal) := by
  induction (Finset.univ : Finset (Fin 1024)) using Finset.induction_on with
  | empty => simp
  | insert a s ha ih => rw [Finset.sum_insert ha, Finset.sum_insert ha, ih, EReal.coe_add]

theorem mean_coe (f : Fin 1024 → ℝ) : mean (fun k => (f k : EReal)) = (((∑ k, f k) / 1024 : ℝ) : EReal) := by
  unfold mean
  rw [coe_sum, ofBits_1024, Scalars.div_coe _ _ (by norm_num)]

theorem rsqrt_coe {r : ℝ} (h : 0 < r) : Ideal.rsqrt (r : EReal) = (((Real.sqrt r)⁻¹ : ℝ) : EReal) := by
  change (if r < 0 then ⊥ else if r = 0 then ⊤ else (((Real.sqrt r)⁻¹ : ℝ) : EReal)) = _
  rw [if_neg (by linarith), if_neg (by linarith)]

/-- On the reals the two forms agree. -/
theorem real_rule (z d g : Fin 1024 → ℝ) (s v : ℝ) (hs : s * s * v = 1) (l : Fin 1024) :
    let c := fun k => z k - (∑ j, z j) / 1024
    let q := (∑ k, c k * (d k * g k)) * (-(1 / 2) * (s / v)) / 1024
    d l * g l * s + q * (2 * c l) + ((∑ k, -(d k * g k * s)) + ∑ k, -(q * (2 * c k))) / 1024
      = s * (d l * g l - (∑ k, d k * g k) / 1024 - c l * s * ((∑ k, d k * g k * (c k * s)) / 1024)) := by
  intro c q
  have hv : v ≠ 0 := by rintro rfl; simp at hs
  have hc : ∑ k, c k = 0 := by
    simp only [c, Finset.sum_sub_distrib, Finset.sum_const, Finset.card_univ, Fintype.card_fin, nsmul_eq_mul]
    push_cast
    ring
  have h1 : ∑ k, -(q * (2 * c k)) = 0 := by
    rw [Finset.sum_neg_distrib, ← Finset.mul_sum, ← Finset.mul_sum, hc]; ring
  have h2 : ∑ k, -(d k * g k * s) = -(s * ∑ k, d k * g k) := by
    rw [Finset.sum_neg_distrib, ← Finset.sum_mul, mul_comm]
  have h3 : ∑ k, d k * g k * (c k * s) = s * ∑ k, c k * (d k * g k) := by
    rw [Finset.mul_sum]; exact Finset.sum_congr rfl fun k _ => by ring
  have h4 : s / v = s * (s * s) := by rw [div_eq_iff hv]; linear_combination (-s) * hs
  rw [h1, h2, h3]
  simp only [q, h4]
  ring

theorem ruleGrad_eq (z d g : Fin 1024 → EReal) (hz : ∀ k, ∃ r : ℝ, z k = (r : EReal)) (hd : ∀ k, ∃ r : ℝ, d k = (r : EReal))
    (hg : ∀ k, ∃ r : ℝ, g k = (r : EReal)) (l : Fin 1024) : ruleGrad z d g l = rowGrad z d g l := by
  choose z' hz using hz
  choose d' hd using hd
  choose g' hg using hg
  obtain rfl : z = fun k => (z' k : EReal) := funext hz
  obtain rfl : d = fun k => (d' k : EReal) := funext hd
  obtain rfl : g = fun k => (g' k : EReal) := funext hg
  obtain ⟨e, he, hs⟩ := ofBits_small
  have hc : ∀ k, (z' k : EReal) - mean (fun k => (z' k : EReal)) = ((z' k - (∑ j, z' j) / 1024 : ℝ) : EReal) := fun k => by
    rw [mean_coe, EReal.coe_sub]
  have hv : spread (fun k => (z' k : EReal)) = (((∑ k, (z' k - (∑ j, z' j) / 1024) * (z' k - (∑ j, z' j) / 1024)) / 1024 + e : ℝ) : EReal) := by
    unfold spread
    simp only [hc, ← EReal.coe_mul]
    rw [mean_coe, hs, ← EReal.coe_add]
  generalize hV : (∑ k, (z' k - (∑ j, z' j) / 1024) * (z' k - (∑ j, z' j) / 1024)) / 1024 + e = v at hv
  have hpos : 0 < v := by
    rw [← hV]
    have : 0 ≤ ∑ k, (z' k - (∑ j, z' j) / 1024) * (z' k - (∑ j, z' j) / 1024) := Finset.sum_nonneg fun k _ => mul_self_nonneg _
    positivity
  have hroot : (Real.sqrt v)⁻¹ * (Real.sqrt v)⁻¹ * v = 1 := by
    rw [← mul_inv, Real.mul_self_sqrt hpos.le, inv_mul_cancel₀ hpos.ne']
  have key := real_rule z' d' g' _ v hroot l
  unfold ruleGrad rowGrad toSpread unit
  simp only [hc, hv, rsqrt_coe hpos, ← EReal.coe_mul, ← EReal.coe_neg, ofBits_1024, ofBits_two, ofBits_neg_half, coe_sum, mean_coe,
    Scalars.div_coe _ _ (by norm_num : (1024 : ℝ) ≠ 0), Scalars.div_coe _ _ hpos.ne', ← EReal.coe_add, ← EReal.coe_sub]
  exact congrArg _ key

end Cert.NormGrads

end
-- ==== Proof.NormGrad.lean ====
/-
  The gradient of the last normalisation: what the call's four arrays hold after the run, and what the reference's
  results are.
-/
module

public import proofs.«01_k».proof.Proof.NormGradScalars
public import proofs.«01_k».proof.Proof.Gen.NormGradIdeal.Value
public import proofs.«01_k».proof.Proof.Gen.NormGradRefIdeal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.NormGradIdeal.Hand

open Cert.NormGradIdeal Cert.NormGradIdeal.Gen Cert.NormGrads

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])

/-- The rows that were normalised. -/
abbrev z (c : Dev nD) (r : Fin 4096) (l : Fin 1024) : EReal := m ((c : Thread nD τ).loc main_arg1) (ix2 r l)
/-- The cotangent. -/
abbrev d (c : Dev nD) (r : Fin 4096) (l : Fin 1024) : EReal := m ((c : Thread nD τ).loc main_arg0) (ix2 r l)
/-- The scale. -/
abbrev g (c : Dev nD) (l : Fin 1024) : EReal := m ((c : Thread nD τ).loc main_arg2) (ix1 l)

theorem final3 (c : Dev nD) : (dats m 0 c).arrAt 3 cfg0.N = fun i : S4096x1024.Idx => rowGrad (z m c (i 0)) (d m c (i 0)) (g m c) (i 1) := by
  refine (dats m 0 c).arrAt_eq_of_covers 3 _ (by decide +kernel) fun t hf y => ?_
  blk_simp
  rw [after0_3]
  by_cases h : t.val % 16 = 0
  · rw [outsAt0_A m c t h]
    frame_out
    unfold_payloads
    pointwise [rowGrad, unit, spread, mean, z, d, g]
    blk_point [iblk, V, e0 t, e1 t, e2 t, e3 t]
  · rw [outsAt0_B m c t h]
    frame_out
    unfold_payloads
    pointwise [rowGrad, unit, spread, mean, z, d, g]
    blk_point [iblk, V, e0 t, e1 t, e2 t, e3 t]

theorem final4 (c : Dev nD) : (dats m 0 c).arrAt 4 cfg0.N = fun i : S4096x1024.Idx => rowGrad (z m c (i 0)) (d m c (i 0)) (g m c) (i 1) := by
  refine (dats m 0 c).arrAt_eq_of_covers 4 _ (by decide +kernel) fun t hf y => ?_
  blk_simp
  rw [after0_4]
  by_cases h : t.val % 16 = 0
  · rw [outsAt0_A m c t h]
    frame_out
    unfold_payloads
    pointwise [rowGrad, unit, spread, mean, z, d, g]
    blk_point [iblk, V, e0 t, e1 t, e2 t, e4 t]
  · rw [outsAt0_B m c t h]
    frame_out
    unfold_payloads
    pointwise [rowGrad, unit, spread, mean, z, d, g]
    blk_point [iblk, V, e0 t, e1 t, e2 t, e4 t]

/-- The row that a point's block holds at a place. -/
def row (t : Fin cfg0.N) (k : Fin 256) : Fin 4096 := ⟨t.val * 256 + k.val, by have := t.isLt; have : cfg0.N = 16 := rfl; omega⟩

theorem final5 (c : Dev nD) : (dats m 0 c).arrAt 5 cfg0.N = fun i : S1x1024.Idx => ∑ r : Fin 4096, d m c r (i 1) * unit (z m c r) (i 1) := by
  refine (dats m 0 c).arrAt_eq_of_after_last 5 t0_15 (by decide +kernel) _ fun j => ?_
  blk_simp
  rw [after0_5]
  rw [Pipeline.eq_sum_fin_of_reset_step_apply_last (fun n h => (outsAt0 m c n h).2.2.1) 16 (fun _ => (0 : EReal)) (fun t j =>
    ∑ k : Fin 256, d m c (row t k) (j 1) * unit (z m c (row t k)) (j 1)) ?_ ?_ (by decide) t0_15 rfl j]
  · rw [zero_add]
    exact Fin.sum_mul_add_fin 16 256 fun r => d m c r (j 1) * unit (z m c r) (j 1)
  · intro t h j
    rw [outsAt0_A m c t h]
    frame_out
    unfold_payloads
    pointwise [unit, spread, mean, z, d]
    blk_point [iblk, V, row, e0 t, e1 t]
  · intro t h j
    rw [outsAt0_B m c t h]
    frame_out
    unfold_payloads
    pointwise [unit, spread, mean, z, d]
    blk_point [iblk, V, row, e0 t, e1 t]

theorem final6 (c : Dev nD) : (dats m 0 c).arrAt 6 cfg0.N = fun i : S1x1024.Idx => ∑ r : Fin 4096, d m c r (i 1) := by
  refine (dats m 0 c).arrAt_eq_of_after_last 6 t0_15 (by decide +kernel) _ fun j => ?_
  blk_simp
  rw [after0_6]
  rw [Pipeline.eq_sum_fin_of_reset_step_apply_last (fun n h => (outsAt0 m c n h).2.2.2) 16 (fun _ => (0 : EReal)) (fun t j =>
    ∑ k : Fin 256, d m c (row t k) (j 1)) ?_ ?_ (by decide) t0_15 rfl j]
  · rw [zero_add]
    exact Fin.sum_mul_add_fin 16 256 fun r => d m c r (j 1)
  · intro t h j
    rw [outsAt0_A m c t h]
    frame_out
    unfold_payloads
    pointwise [d]
    blk_point [iblk, V, row, e0 t]
  · intro t h j
    rw [outsAt0_B m c t h]
    frame_out
    unfold_payloads
    pointwise [d]
    blk_point [iblk, V, row, e0 t]

end Cert.NormGradIdeal.Hand

namespace Cert.NormGradRefIdeal.Hand

open Cert.NormGradRefIdeal Cert.NormGradRefIdeal.Gen Cert.NormGrads

variable (m : (ℓ : Loc nD τ sig) → Buf (Elt Ideal) ℓ) (ρ : Dev nD → PrngReg)

abbrev z (c : Dev nD) (r : Fin 4096) (l : Fin 1024) : EReal := m ((c : Thread nD τ).loc main_arg1) (ix2 r l)
abbrev d (c : Dev nD) (r : Fin 4096) (l : Fin 1024) : EReal := m ((c : Thread nD τ).loc main_arg0) (ix2 r l)
abbrev g (c : Dev nD) (l : Fin 1024) : EReal := m ((c : Thread nD τ).loc main_arg2) (ix1 l)

theorem run : θ_run defs (onTc (τ := τ) (main (F := Ideal))) ⟨m, fun _ => 0, ρ⟩ fun r => ∀ c : Dev nD,
      r.2.mem ((c.tc : Thread nD τ).loc main_v63) = (fun i : S4096x1024.Idx => ruleGrad (z m c (i 0)) (d m c (i 0)) (g m c) (i 1))
      ∧ r.2.mem ((c.tc : Thread nD τ).loc main_v64) = (fun i : S4096x1024.Idx => ruleGrad (z m c (i 0)) (d m c (i 0)) (g m c) (i 1))
      ∧ r.2.mem ((c.tc : Thread nD τ).loc main_v65) = (fun i : S1x1024.Idx => ∑ r : Fin 4096, d m c r (i 1) * unit (z m c r) (i 1))
      ∧ r.2.mem ((c.tc : Thread nD τ).loc main_v66) = (fun i : S1x1024.Idx => ∑ r : Fin 4096, d m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2.1.trans ?_, (h c).2.2.1.trans ?_, (h c).2.2.2.1.trans ?_, (h c).2.2.2.2⟩) (Value.run m ρ)
  · clear h
    unfold Value.res_main_v63
    funext i
    clean_types
    pointwise [ruleGrad, toSpread, spread, mean, z, d, g]
    simp only [Fin.sum_univ_one]
  · clear h
    unfold Value.res_main_v64
    funext i
    clean_types
    pointwise [ruleGrad, toSpread, spread, mean, z, d, g]
    simp only [Fin.sum_univ_one]
  · clear h
    funext i
    clean_types
    pointwise [unit, spread, mean, z, d]
    simp only [Fin.sum_univ_one]
    exact Finset.sum_congr rfl fun r _ => mul_comm _ _
  · clear h
    funext i
    clean_types
    pointwise [d]
    simp only [Fin.sum_univ_one]

end Cert.NormGradRefIdeal.Hand

end
-- ==== Proof.NormGradQd.lean ====
/-
  The gradient of the projection's input and of the normalisation below it: what the call's four arrays hold after the run, and what the reference's
  results are.
-/
module

public import proofs.«01_k».proof.Proof.NormGradScalars
public import proofs.«01_k».proof.Proof.Gen.NormGradQdIdeal.Value
public import proofs.«01_k».proof.Proof.Gen.NormGradQdRefIdeal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.NormGradQds

/-- The cotangent: what comes down the residual, and what comes through the projection. -/
def cotangent (y : FVec Ideal ⟨2, ![4096, 1024]⟩ .f32) (a : FVec Ideal ⟨2, ![4096, 3072]⟩ .bf16) (w : FVec Ideal ⟨2, ![1024, 3072]⟩ .bf16)
    (r : Fin 4096) (l : Fin 1024) : EReal :=
  y (ix2 r l) + ∑ k : Fin 3072, a (ix2 r k) * w (ix2 l k)

end Cert.NormGradQds

namespace Cert.NormGradQdIdeal.Hand

open Cert.NormGradQdIdeal Cert.NormGradQdIdeal.Gen Cert.NormGrads Cert.NormGradQds

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![0, 0] := (by decide +kernel : ∀ t : Fin grid0.N, win0_4.index t = ![0, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])

/-- The rows that were normalised. -/
abbrev z (c : Dev nD) (r : Fin 4096) (l : Fin 1024) : EReal := m ((c : Thread nD τ).loc main_arg3) (ix2 r l)
/-- The cotangent. -/
abbrev d (c : Dev nD) (r : Fin 4096) (l : Fin 1024) : EReal :=
  cotangent (m ((c : Thread nD τ).loc main_arg0)) (m ((c : Thread nD τ).loc main_arg1)) (m ((c : Thread nD τ).loc main_arg2)) r l
/-- The scale. -/
abbrev g (c : Dev nD) (l : Fin 1024) : EReal := m ((c : Thread nD τ).loc main_arg4) (ix1 l)

theorem final5 (c : Dev nD) : (dats m 0 c).arrAt 5 cfg0.N = fun i : S4096x1024.Idx => rowGrad (z m c (i 0)) (d m c (i 0)) (g m c) (i 1) := by
  refine (dats m 0 c).arrAt_eq_of_covers 5 _ (by decide +kernel) fun t hf y => ?_
  blk_simp
  rw [after0_5]
  by_cases h : t.val % 16 = 0
  · rw [outsAt0_A m c t h]
    frame_out
    unfold_payloads
    pointwise [rowGrad, unit, spread, mean, z, d, cotangent, g]
    blk_point [iblk, V, e0 t, e1 t, e2 t, e3 t, e4 t, e5 t]
  · rw [outsAt0_B m c t h]
    frame_out
    unfold_payloads
    pointwise [rowGrad, unit, spread, mean, z, d, cotangent, g]
    blk_point [iblk, V, e0 t, e1 t, e2 t, e3 t, e4 t, e5 t]

theorem final6 (c : Dev nD) : (dats m 0 c).arrAt 6 cfg0.N = fun i : S4096x1024.Idx => rowGrad (z m c (i 0)) (d m c (i 0)) (g m c) (i 1) := by
  refine (dats m 0 c).arrAt_eq_of_covers 6 _ (by decide +kernel) fun t hf y => ?_
  blk_simp
  rw [after0_6]
  by_cases h : t.val % 16 = 0
  · rw [outsAt0_A m c t h]
    frame_out
    unfold_payloads
    pointwise [rowGrad, unit, spread, mean, z, d, cotangent, g]
    blk_point [iblk, V, e0 t, e1 t, e2 t, e3 t, e4 t, e6 t]
  · rw [outsAt0_B m c t h]
    frame_out
    unfold_payloads
    pointwise [rowGrad, unit, spread, mean, z, d, cotangent, g]
    blk_point [iblk, V, e0 t, e1 t, e2 t, e3 t, e4 t, e6 t]

/-- The row that a point's block holds at a place. -/
def row (t : Fin cfg0.N) (k : Fin 256) : Fin 4096 := ⟨t.val * 256 + k.val, by have := t.isLt; have : cfg0.N = 16 := rfl; omega⟩

theorem final7 (c : Dev nD) : (dats m 0 c).arrAt 7 cfg0.N = fun i : S1x1024.Idx => ∑ r : Fin 4096, d m c r (i 1) * unit (z m c r) (i 1) := by
  refine (dats m 0 c).arrAt_eq_of_after_last 7 t0_15 (by decide +kernel) _ fun j => ?_
  blk_simp
  rw [after0_7]
  rw [Pipeline.eq_sum_fin_of_reset_step_apply_last (fun n h => (outsAt0 m c n h).2.2.1) 16 (fun _ => (0 : EReal)) (fun t j =>
    ∑ k : Fin 256, d m c (row t k) (j 1) * unit (z m c (row t k)) (j 1)) ?_ ?_ (by decide) t0_15 rfl j]
  · rw [zero_add]
    exact Fin.sum_mul_add_fin 16 256 fun r => d m c r (j 1) * unit (z m c r) (j 1)
  · intro t h j
    rw [outsAt0_A m c t h]
    frame_out
    unfold_payloads
    pointwise [unit, spread, mean, z, d, cotangent]
    blk_point [iblk, V, row, e0 t, e1 t, e2 t, e3 t]
  · intro t h j
    rw [outsAt0_B m c t h]
    frame_out
    unfold_payloads
    pointwise [unit, spread, mean, z, d, cotangent]
    blk_point [iblk, V, row, e0 t, e1 t, e2 t, e3 t]

theorem final8 (c : Dev nD) : (dats m 0 c).arrAt 8 cfg0.N = fun i : S1x1024.Idx => ∑ r : Fin 4096, d m c r (i 1) := by
  refine (dats m 0 c).arrAt_eq_of_after_last 8 t0_15 (by decide +kernel) _ fun j => ?_
  blk_simp
  rw [after0_8]
  rw [Pipeline.eq_sum_fin_of_reset_step_apply_last (fun n h => (outsAt0 m c n h).2.2.2) 16 (fun _ => (0 : EReal)) (fun t j =>
    ∑ k : Fin 256, d m c (row t k) (j 1)) ?_ ?_ (by decide) t0_15 rfl j]
  · rw [zero_add]
    exact Fin.sum_mul_add_fin 16 256 fun r => d m c r (j 1)
  · intro t h j
    rw [outsAt0_A m c t h]
    frame_out
    unfold_payloads
    pointwise [d, cotangent]
    blk_point [iblk, V, row, e0 t, e1 t, e2 t]
  · intro t h j
    rw [outsAt0_B m c t h]
    frame_out
    unfold_payloads
    pointwise [d, cotangent]
    blk_point [iblk, V, row, e0 t, e1 t, e2 t]

end Cert.NormGradQdIdeal.Hand

namespace Cert.NormGradQdRefIdeal.Hand

open Cert.NormGradQdRefIdeal Cert.NormGradQdRefIdeal.Gen Cert.NormGrads Cert.NormGradQds

variable (m : (ℓ : Loc nD τ sig) → Buf (Elt Ideal) ℓ) (ρ : Dev nD → PrngReg)

abbrev z (c : Dev nD) (r : Fin 4096) (l : Fin 1024) : EReal := m ((c : Thread nD τ).loc main_arg3) (ix2 r l)
abbrev d (c : Dev nD) (r : Fin 4096) (l : Fin 1024) : EReal :=
  cotangent (m ((c : Thread nD τ).loc main_arg0)) (m ((c : Thread nD τ).loc main_arg1)) (m ((c : Thread nD τ).loc main_arg2)) r l
abbrev g (c : Dev nD) (l : Fin 1024) : EReal := m ((c : Thread nD τ).loc main_arg4) (ix1 l)

theorem run : θ_run defs (onTc (τ := τ) (main (F := Ideal))) ⟨m, fun _ => 0, ρ⟩ fun r => ∀ c : Dev nD,
      r.2.mem ((c.tc : Thread nD τ).loc main_v68) = (fun i : S4096x1024.Idx => ruleGrad (z m c (i 0)) (d m c (i 0)) (g m c) (i 1))
      ∧ r.2.mem ((c.tc : Thread nD τ).loc main_v69) = (fun i : S4096x1024.Idx => ruleGrad (z m c (i 0)) (d m c (i 0)) (g m c) (i 1))
      ∧ r.2.mem ((c.tc : Thread nD τ).loc main_v70) = (fun i : S1x1024.Idx => ∑ r : Fin 4096, d m c r (i 1) * unit (z m c r) (i 1))
      ∧ r.2.mem ((c.tc : Thread nD τ).loc main_v71) = (fun i : S1x1024.Idx => ∑ r : Fin 4096, d m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2.1.trans ?_, (h c).2.2.2.1.trans ?_, (h c).2.2.2.2⟩) (Value.run m ρ)
  · clear h
    unfold Value.res_main_v68
    funext i
    clean_types
    pointwise [ruleGrad, toSpread, spread, mean, z, d, cotangent, g]
    simp only [Fin.sum_univ_one]
  · clear h
    unfold Value.res_main_v69
    funext i
    clean_types
    pointwise [ruleGrad, toSpread, spread, mean, z, d, cotangent, g]
    simp only [Fin.sum_univ_one]
  · clear h
    funext i
    clean_types
    pointwise [unit, spread, mean, z, d, cotangent]
    simp only [Fin.sum_univ_one]
    exact Finset.sum_congr rfl fun r _ => mul_comm _ _
  · clear h
    funext i
    clean_types
    pointwise [d, cotangent]
    simp only [Fin.sum_univ_one]

end Cert.NormGradQdRefIdeal.Hand

end
-- ==== Proof.NormGradFfn.lean ====
/-
  The gradient of the feed-forward input and of the normalisation below it: what the call's four arrays hold after the run, and what the reference's
  results are.
-/
module

public import proofs.«01_k».proof.Proof.NormGradScalars
public import proofs.«01_k».proof.Proof.Gen.NormGradFfnIdeal.Value
public import proofs.«01_k».proof.Proof.Gen.NormGradFfnRefIdeal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.NormGradFfns

/-- The cotangent: what comes down the scaled residual, and what comes through the projection. -/
def cotangent (y : FVec Ideal ⟨2, ![4096, 1024]⟩ .f32) (a : FVec Ideal ⟨2, ![4096, 5632]⟩ .bf16) (w : FVec Ideal ⟨2, ![1024, 5632]⟩ .bf16)
    (r : Fin 4096) (l : Fin 1024) : EReal :=
  Ideal.ofBits .f32 0x3FD744FD#32 * y (ix2 r l) + ∑ k : Fin 5632, a (ix2 r k) * w (ix2 l k)

/-- The same with its two parts in the other order. -/
def gathered (y : FVec Ideal ⟨2, ![4096, 1024]⟩ .f32) (a : FVec Ideal ⟨2, ![4096, 5632]⟩ .bf16) (w : FVec Ideal ⟨2, ![1024, 5632]⟩ .bf16)
    (r : Fin 4096) (l : Fin 1024) : EReal :=
  (∑ k : Fin 5632, a (ix2 r k) * w (ix2 l k)) + Ideal.ofBits .f32 0x3FD744FD#32 * y (ix2 r l)

theorem cotangent_eq (y : FVec Ideal ⟨2, ![4096, 1024]⟩ .f32) (a : FVec Ideal ⟨2, ![4096, 5632]⟩ .bf16)
    (w : FVec Ideal ⟨2, ![1024, 5632]⟩ .bf16) : cotangent y a w = gathered y a w := by
  funext r l
  exact add_comm _ _

end Cert.NormGradFfns

namespace Cert.NormGradFfnIdeal.Hand

open Cert.NormGradFfnIdeal Cert.NormGradFfnIdeal.Gen Cert.NormGrads Cert.NormGradFfns

variable (m : (ℓ : Loc nD τ sig) → Buf (Elt Ideal) ℓ)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![0, 0] := (by decide +kernel : ∀ t : Fin grid0.N, win0_4.index t = ![0, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])

/-- The rows that were normalised. -/
abbrev z (c : Dev nD) (r : Fin 4096) (l : Fin 1024) : EReal := m ((c : Thread nD τ).loc main_arg3) (ix2 r l)
/-- The cotangent. -/
abbrev d (c : Dev nD) (r : Fin 4096) (l : Fin 1024) : EReal :=
  cotangent (m ((c : Thread nD τ).loc main_arg0)) (m ((c : Thread nD τ).loc main_arg1)) (m ((c : Thread nD τ).loc main_arg2)) r l
/-- The scale. -/
abbrev g (c : Dev nD) (l : Fin 1024) : EReal := m ((c : Thread nD τ).loc main_arg4) (ix1 l)

theorem final5 (c : Dev nD) : (dats m 0 c).arrAt 5 cfg0.N = fun i : S4096x1024.Idx => rowGrad (z m c (i 0)) (d m c (i 0)) (g m c) (i 1) := by
  refine (dats m 0 c).arrAt_eq_of_covers 5 _ (by decide +kernel) fun t hf y => ?_
  blk_simp
  rw [after0_5]
  by_cases h : t.val % 16 = 0
  · rw [outsAt0_A m c t h]
    frame_out
    unfold_payloads
    pointwise [rowGrad, unit, spread, mean, z, d, cotangent, g]
    blk_point [iblk, V, e0 t, e1 t, e2 t, e3 t, e4 t, e5 t]
  · rw [outsAt0_B m c t h]
    frame_out
    unfold_payloads
    pointwise [rowGrad, unit, spread, mean, z, d, cotangent, g]
    blk_point [iblk, V, e0 t, e1 t, e2 t, e3 t, e4 t, e5 t]

theorem final6 (c : Dev nD) : (dats m 0 c).arrAt 6 cfg0.N = fun i : S4096x1024.Idx => rowGrad (z m c (i 0)) (d m c (i 0)) (g m c) (i 1) := by
  refine (dats m 0 c).arrAt_eq_of_covers 6 _ (by decide +kernel) fun t hf y => ?_
  blk_simp
  rw [after0_6]
  by_cases h : t.val % 16 = 0
  · rw [outsAt0_A m c t h]
    frame_out
    unfold_payloads
    pointwise [rowGrad, unit, spread, mean, z, d, cotangent, g]
    blk_point [iblk, V, e0 t, e1 t, e2 t, e3 t, e4 t, e6 t]
  · rw [outsAt0_B m c t h]
    frame_out
    unfold_payloads
    pointwise [rowGrad, unit, spread, mean, z, d, cotangent, g]
    blk_point [iblk, V, e0 t, e1 t, e2 t, e3 t, e4 t, e6 t]

/-- The row that a point's block holds at a place. -/
def row (t : Fin cfg0.N) (k : Fin 256) : Fin 4096 := ⟨t.val * 256 + k.val, by have := t.isLt; have : cfg0.N = 16 := rfl; omega⟩

theorem final7 (c : Dev nD) : (dats m 0 c).arrAt 7 cfg0.N = fun i : S1x1024.Idx => ∑ r : Fin 4096, d m c r (i 1) * unit (z m c r) (i 1) := by
  refine (dats m 0 c).arrAt_eq_of_after_last 7 t0_15 (by decide +kernel) _ fun j => ?_
  blk_simp
  rw [after0_7]
  rw [Pipeline.eq_sum_fin_of_reset_step_apply_last (fun n h => (outsAt0 m c n h).2.2.1) 16 (fun _ => (0 : EReal)) (fun t j =>
    ∑ k : Fin 256, d m c (row t k) (j 1) * unit (z m c (row t k)) (j 1)) ?_ ?_ (by decide) t0_15 rfl j]
  · rw [zero_add]
    exact Fin.sum_mul_add_fin 16 256 fun r => d m c r (j 1) * unit (z m c r) (j 1)
  · intro t h j
    rw [outsAt0_A m c t h]
    frame_out
    unfold_payloads
    pointwise [unit, spread, mean, z, d, cotangent]
    blk_point [iblk, V, row, e0 t, e1 t, e2 t, e3 t]
  · intro t h j
    rw [outsAt0_B m c t h]
    frame_out
    unfold_payloads
    pointwise [unit, spread, mean, z, d, cotangent]
    blk_point [iblk, V, row, e0 t, e1 t, e2 t, e3 t]

theorem final8 (c : Dev nD) : (dats m 0 c).arrAt 8 cfg0.N = fun i : S1x1024.Idx => ∑ r : Fin 4096, d m c r (i 1) := by
  refine (dats m 0 c).arrAt_eq_of_after_last 8 t0_15 (by decide +kernel) _ fun j => ?_
  blk_simp
  rw [after0_8]
  rw [Pipeline.eq_sum_fin_of_reset_step_apply_last (fun n h => (outsAt0 m c n h).2.2.2) 16 (fun _ => (0 : EReal)) (fun t j =>
    ∑ k : Fin 256, d m c (row t k) (j 1)) ?_ ?_ (by decide) t0_15 rfl j]
  · rw [zero_add]
    exact Fin.sum_mul_add_fin 16 256 fun r => d m c r (j 1)
  · intro t h j
    rw [outsAt0_A m c t h]
    frame_out
    unfold_payloads
    pointwise [d, cotangent]
    blk_point [iblk, V, row, e0 t, e1 t, e2 t]
  · intro t h j
    rw [outsAt0_B m c t h]
    frame_out
    unfold_payloads
    pointwise [d, cotangent]
    blk_point [iblk, V, row, e0 t, e1 t, e2 t]

end Cert.NormGradFfnIdeal.Hand

namespace Cert.NormGradFfnRefIdeal.Hand

open Cert.NormGradFfnRefIdeal Cert.NormGradFfnRefIdeal.Gen Cert.NormGrads Cert.NormGradFfns

variable (m : (ℓ : Loc nD τ sig) → Buf (Elt Ideal) ℓ) (ρ : Dev nD → PrngReg)

abbrev z (c : Dev nD) (r : Fin 4096) (l : Fin 1024) : EReal := m ((c : Thread nD τ).loc main_arg3) (ix2 r l)
abbrev d (c : Dev nD) (r : Fin 4096) (l : Fin 1024) : EReal :=
  gathered (m ((c : Thread nD τ).loc main_arg0)) (m ((c : Thread nD τ).loc main_arg1)) (m ((c : Thread nD τ).loc main_arg2)) r l
abbrev g (c : Dev nD) (l : Fin 1024) : EReal := m ((c : Thread nD τ).loc main_arg4) (ix1 l)

theorem run : θ_run defs (onTc (τ := τ) (main (F := Ideal))) ⟨m, fun _ => 0, ρ⟩ fun r => ∀ c : Dev nD,
      r.2.mem ((c.tc : Thread nD τ).loc main_v71) = (fun i : S4096x1024.Idx => ruleGrad (z m c (i 0)) (d m c (i 0)) (g m c) (i 1))
      ∧ r.2.mem ((c.tc : Thread nD τ).loc main_v72) = (fun i : S4096x1024.Idx => ruleGrad (z m c (i 0)) (d m c (i 0)) (g m c) (i 1))
      ∧ r.2.mem ((c.tc : Thread nD τ).loc main_v73) = (fun i : S1x1024.Idx => ∑ r : Fin 4096, d m c r (i 1) * unit (z m c r) (i 1))
      ∧ r.2.mem ((c.tc : Thread nD τ).loc main_v74) = (fun i : S1x1024.Idx => ∑ r : Fin 4096, d m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2.1.trans ?_, (h c).2.2.2.1.trans ?_, (h c).2.2.2.2⟩) (Value.run m ρ)
  · clear h
    unfold Value.res_main_v71
    funext i
    clean_types
    pointwise [ruleGrad, toSpread, spread, mean, z, d, gathered, g]
    simp only [Fin.sum_univ_one]
  · clear h
    unfold Value.res_main_v72
    funext i
    clean_types
    pointwise [ruleGrad, toSpread, spread, mean, z, d, gathered, g]
    simp only [Fin.sum_univ_one]
  · clear h
    funext i
    clean_types
    pointwise [unit, spread, mean, z, d, gathered]
    simp only [Fin.sum_univ_one]
    exact Finset.sum_congr rfl fun r _ => mul_comm _ _
  · clear h
    funext i
    clean_types
    pointwise [d, gathered]
    simp only [Fin.sum_univ_one]

end Cert.NormGradFfnRefIdeal.Hand

end
-- ==== Proof.NormGradClaims.lean ====
/-
  The claims about the gradients of the normalisations.
-/
module

public import proofs.«01_k».proof.Defs
public import proofs.«01_k».proof.Proof.NormGrad
public import proofs.«01_k».proof.Proof.NormGradQd
public import proofs.«01_k».proof.Proof.NormGradFfn
public import proofs.«01_k».proof.Proof.Gen.NormGrad.Frame
public import proofs.«01_k».proof.Proof.Gen.NormGradQd.Frame
public import proofs.«01_k».proof.Proof.Gen.NormGradFfn.Frame
public import proofs.«01_k».proof.Proof.Gen.Pre_norm_finite
public import proofs.«01_k».proof.Proof.Gen.Pre_norm_qd_finite
public import proofs.«01_k».proof.Proof.Gen.Pre_norm_ffn_finite
public import Idealize.ShloMosaic.Lib.Quiescent

@[expose] public section

noncomputable section

namespace Cert.Proof

open Idealize.ShloMosaic Idealize.SL.Sem Cert.Finite

/-- A row's two gradients agree in every place where the arrays they are taken of are real. -/
theorem gradients_agree (z d : Fin 4096 → Fin 1024 → EReal) (g : Fin 1024 → EReal) (hz : ∀ r l, ∃ x : ℝ, z r l = (x : EReal))
    (hd : ∀ r l, ∃ x : ℝ, d r l = (x : EReal)) (hg : ∀ l, ∃ x : ℝ, g l = (x : EReal)) :
    (fun i : Shape.Idx ⟨2, ![4096, 1024]⟩ => Cert.NormGrads.ruleGrad (z (i 0)) (d (i 0)) g (i 1))
      = fun i => Cert.NormGrads.rowGrad (z (i 0)) (d (i 0)) g (i 1) :=
  funext fun i => Cert.NormGrads.ruleGrad_eq _ _ _ (hz (i 0)) (hd (i 0)) hg (i 1)

theorem qd_cotangent_real (y : FVec Ideal ⟨2, ![4096, 1024]⟩ .f32) (a : FVec Ideal ⟨2, ![4096, 3072]⟩ .bf16) (w : FVec Ideal ⟨2, ![1024, 3072]⟩ .bf16)
    (hy : Real' y) (ha : Real' a) (hw : Real' w) (r : Fin 4096) (l : Fin 1024) : ∃ x : ℝ, Cert.NormGradQds.cotangent y a w r l = (x : EReal) :=
  add_real (hy _) (sum_real _ _ fun k _ => mul_real (ha _) (hw _))

theorem ffn_cotangent_real (y : FVec Ideal ⟨2, ![4096, 1024]⟩ .f32) (a : FVec Ideal ⟨2, ![4096, 5632]⟩ .bf16) (w : FVec Ideal ⟨2, ![1024, 5632]⟩ .bf16)
    (hy : Real' y) (ha : Real' a) (hw : Real' w) (r : Fin 4096) (l : Fin 1024) : ∃ x : ℝ, Cert.NormGradFfns.cotangent y a w r l = (x : EReal) :=
  add_real (mul_real ⟨_, by simp [Ideal.ofBits, Ideal.ieee, -EReal.coe_mul]; rfl⟩ (hy _)) (sum_real _ _ fun k _ => mul_real (ha _) (hw _))

theorem normGrad_frame : Cert.quiescent_NormGrad := fun m ρ _ => Cert.NormGrad.Gen.frame m ρ
theorem normGradIdeal_frame : Cert.quiescent_NormGradIdeal := fun m ρ _ => Cert.NormGradIdeal.Gen.frame m ρ
theorem normGradIdeal_frame_pre : Cert.quiescent_NormGradIdeal_pre_norm_finite := fun m ρ _ => Cert.NormGradIdeal.Gen.frame m ρ
theorem normGradRef_frame : Cert.quiescent_NormGradRefIdeal := fun m ρ _ =>
  (θ_run Cert.NormGradRefIdeal.defs _ _).mono (fun r h => ⟨fun c => (h c).2.2.2.2, Idealize.ShloMosaic.sem_eq_zero_of_no_sems (by decide) r.2⟩)
    (Cert.NormGradRefIdeal.Value.run (F := Ideal) m ρ)
theorem normGradRef_frame_pre : Cert.quiescent_NormGradRefIdeal_pre_norm_finite := fun m ρ _ => normGradRef_frame m ρ trivial

open Cert.Pre_norm_finite Cert.Pre_norm_finite.Gen in
/-- What the precondition says of the arguments. -/
theorem norm_finite_real (x0 : FVec Ideal Cert.Pre_norm_finite.S4096x1024 .f32) (x1 : FVec Ideal Cert.Pre_norm_finite.S4096x1024 .f32) (x2 : FVec Ideal Cert.Pre_norm_finite.S1024 .f32)
    (h : Cert.Pre_norm_finite.fn (F := Ideal) x0 x1 x2 = fun _ => 1#1) :
    Real' x0 ∧ Real' x1 ∧ Real' x2 := by
  have e := congrFun h (fun a => a.elim0)
  dsimp only [Cert.Pre_norm_finite.fn] at e
  obtain ⟨e, e2⟩ := IntOp.andi_eq_one.1 e
  obtain ⟨e0, e1⟩ := IntOp.andi_eq_one.1 e
  exact ⟨real_of_all _ _ rfl _ _ _ _ e0, real_of_all _ _ rfl _ _ _ _ e1, real_of_all _ _ rfl _ _ _ _ e2⟩

theorem normGrad_value : Cert.algebraic_NormGradIdeal_NormGradRefIdeal_pre_norm_finite := fun m g m' g' hp hag =>
  ⟨fun c => _, fun c => _, fun c => _, fun c => _,
    (θ_run _ _ _).mono (fun r h c => by
      obtain ⟨h0, h1, h2, h3, hr⟩ := h c
      exact ⟨h0.trans (Cert.NormGradIdeal.Hand.final3 m c), h1.trans (Cert.NormGradIdeal.Hand.final4 m c), h2.trans (Cert.NormGradIdeal.Hand.final5 m c), h3.trans (Cert.NormGradIdeal.Hand.final6 m c), hr⟩)
      (Cert.NormGradIdeal.Value.run_blocks m g),
    (θ_run _ _ _).mono (fun r h c => by
      obtain ⟨h0, h1, h2, h3, hr⟩ := h c
      obtain ⟨a0, a1, a2⟩ := hag c
      obtain ⟨r0, r1, r2⟩ := norm_finite_real _ _ _ (hp c)
      unfold Cert.NormGradRefIdeal.Hand.z Cert.NormGradRefIdeal.Hand.d Cert.NormGradRefIdeal.Hand.g at h0 h1
      unfold Cert.NormGradRefIdeal.Hand.z Cert.NormGradRefIdeal.Hand.d at h2
      unfold Cert.NormGradRefIdeal.Hand.d at h3
      rw [a0, a1, a2] at h0 h1
      rw [a0, a1] at h2
      rw [a0] at h3
      have e := gradients_agree _ _ _ (fun r l => r1 (ix2 r l)) (fun r l => r0 (ix2 r l)) (fun l => r2 (ix1 l))
      exact ⟨h0.trans e, h1.trans e, h2, h3, hr⟩)
      (Cert.NormGradRefIdeal.Hand.run m' g')⟩

theorem normGradQd_frame : Cert.quiescent_NormGradQd := fun m ρ _ => Cert.NormGradQd.Gen.frame m ρ
theorem normGradQdIdeal_frame : Cert.quiescent_NormGradQdIdeal := fun m ρ _ => Cert.NormGradQdIdeal.Gen.frame m ρ
theorem normGradQdIdeal_frame_pre : Cert.quiescent_NormGradQdIdeal_pre_norm_qd_finite := fun m ρ _ => Cert.NormGradQdIdeal.Gen.frame m ρ
theorem normGradQdRef_frame : Cert.quiescent_NormGradQdRefIdeal := fun m ρ _ =>
  (θ_run Cert.NormGradQdRefIdeal.defs _ _).mono (fun r h => ⟨fun c => (h c).2.2.2.2, Idealize.ShloMosaic.sem_eq_zero_of_no_sems (by decide) r.2⟩)
    (Cert.NormGradQdRefIdeal.Value.run (F := Ideal) m ρ)
theorem normGradQdRef_frame_pre : Cert.quiescent_NormGradQdRefIdeal_pre_norm_qd_finite := fun m ρ _ => normGradQdRef_frame m ρ trivial

open Cert.Pre_norm_qd_finite Cert.Pre_norm_qd_finite.Gen in
/-- What the precondition says of the arguments. -/
theorem norm_qd_finite_real (x0 : FVec Ideal Cert.Pre_norm_qd_finite.S4096x1024 .f32) (x1 : FVec Ideal Cert.Pre_norm_qd_finite.S4096x3072 .bf16) (x2 : FVec Ideal Cert.Pre_norm_qd_finite.S1024x3072 .bf16) (x3 : FVec Ideal Cert.Pre_norm_qd_finite.S4096x1024 .f32) (x4 : FVec Ideal Cert.Pre_norm_qd_finite.S1024 .f32)
    (h : Cert.Pre_norm_qd_finite.fn (F := Ideal) x0 x1 x2 x3 x4 = fun _ => 1#1) :
    Real' x0 ∧ Real' x1 ∧ Real' x2 ∧ Real' x3 ∧ Real' x4 := by
  have e := congrFun h (fun a => a.elim0)
  dsimp only [Cert.Pre_norm_qd_finite.fn, Cert.Pre_norm_qd_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ rfl _ _ _ _ e0, real_of_all _ _ rfl _ _ _ _ e1, real_of_all _ _ rfl _ _ _ _ e2, real_of_all _ _ rfl _ _ _ _ e3, real_of_all _ _ rfl _ _ _ _ e4⟩

theorem normGradQd_value : Cert.algebraic_NormGradQdIdeal_NormGradQdRefIdeal_pre_norm_qd_finite := fun m g m' g' hp hag =>
  ⟨fun c => _, fun c => _, fun c => _, fun c => _,
    (θ_run _ _ _).mono (fun r h c => by
      obtain ⟨h0, h1, h2, h3, hr⟩ := h c
      exact ⟨h0.trans (Cert.NormGradQdIdeal.Hand.final5 m c), h1.trans (Cert.NormGradQdIdeal.Hand.final6 m c), h2.trans (Cert.NormGradQdIdeal.Hand.final7 m c), h3.trans (Cert.NormGradQdIdeal.Hand.final8 m c), hr⟩)
      (Cert.NormGradQdIdeal.Value.run_blocks m g),
    (θ_run _ _ _).mono (fun r h c => by
      obtain ⟨h0, h1, h2, h3, hr⟩ := h c
      obtain ⟨a0, a1, a2, a3, a4⟩ := hag c
      obtain ⟨r0, r1, r2, r3, r4⟩ := norm_qd_finite_real _ _ _ _ _ (hp c)
      unfold Cert.NormGradQdRefIdeal.Hand.z Cert.NormGradQdRefIdeal.Hand.d Cert.NormGradQdRefIdeal.Hand.g at h0 h1
      unfold Cert.NormGradQdRefIdeal.Hand.z Cert.NormGradQdRefIdeal.Hand.d at h2
      unfold Cert.NormGradQdRefIdeal.Hand.d at h3
      rw [a0, a1, a2, a3, a4] at h0 h1
      rw [a0, a1, a2, a3] at h2
      rw [a0, a1, a2] at h3
      have e := gradients_agree _ _ _ (fun r l => r3 (ix2 r l)) (qd_cotangent_real _ _ _ r0 r1 r2) (fun l => r4 (ix1 l))
      exact ⟨h0.trans e, h1.trans e, h2, h3, hr⟩)
      (Cert.NormGradQdRefIdeal.Hand.run m' g')⟩

theorem normGradFfn_frame : Cert.quiescent_NormGradFfn := fun m ρ _ => Cert.NormGradFfn.Gen.frame m ρ
theorem normGradFfnIdeal_frame : Cert.quiescent_NormGradFfnIdeal := fun m ρ _ => Cert.NormGradFfnIdeal.Gen.frame m ρ
theorem normGradFfnIdeal_frame_pre : Cert.quiescent_NormGradFfnIdeal_pre_norm_ffn_finite := fun m ρ _ => Cert.NormGradFfnIdeal.Gen.frame m ρ
theorem normGradFfnRef_frame : Cert.quiescent_NormGradFfnRefIdeal := fun m ρ _ =>
  (θ_run Cert.NormGradFfnRefIdeal.defs _ _).mono (fun r h => ⟨fun c => (h c).2.2.2.2, Idealize.ShloMosaic.sem_eq_zero_of_no_sems (by decide) r.2⟩)
    (Cert.NormGradFfnRefIdeal.Value.run (F := Ideal) m ρ)
theorem normGradFfnRef_frame_pre : Cert.quiescent_NormGradFfnRefIdeal_pre_norm_ffn_finite := fun m ρ _ => normGradFfnRef_frame m ρ trivial

open Cert.Pre_norm_ffn_finite Cert.Pre_norm_ffn_finite.Gen in
/-- What the precondition says of the arguments. -/
theorem norm_ffn_finite_real (x0 : FVec Ideal Cert.Pre_norm_ffn_finite.S4096x1024 .f32) (x1 : FVec Ideal Cert.Pre_norm_ffn_finite.S4096x5632 .bf16) (x2 : FVec Ideal Cert.Pre_norm_ffn_finite.S1024x5632 .bf16) (x3 : FVec Ideal Cert.Pre_norm_ffn_finite.S4096x1024 .f32) (x4 : FVec Ideal Cert.Pre_norm_ffn_finite.S1024 .f32)
    (h : Cert.Pre_norm_ffn_finite.fn (F := Ideal) x0 x1 x2 x3 x4 = fun _ => 1#1) :
    Real' x0 ∧ Real' x1 ∧ Real' x2 ∧ Real' x3 ∧ Real' x4 := by
  have e := congrFun h (fun a => a.elim0)
  dsimp only [Cert.Pre_norm_ffn_finite.fn, Cert.Pre_norm_ffn_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ rfl _ _ _ _ e0, real_of_all _ _ rfl _ _ _ _ e1, real_of_all _ _ rfl _ _ _ _ e2, real_of_all _ _ rfl _ _ _ _ e3, real_of_all _ _ rfl _ _ _ _ e4⟩

theorem normGradFfn_value : Cert.algebraic_NormGradFfnIdeal_NormGradFfnRefIdeal_pre_norm_ffn_finite := fun m g m' g' hp hag =>
  ⟨fun c => _, fun c => _, fun c => _, fun c => _,
    (θ_run _ _ _).mono (fun r h c => by
      obtain ⟨h0, h1, h2, h3, hr⟩ := h c
      exact ⟨h0.trans (Cert.NormGradFfnIdeal.Hand.final5 m c), h1.trans (Cert.NormGradFfnIdeal.Hand.final6 m c), h2.trans (Cert.NormGradFfnIdeal.Hand.final7 m c), h3.trans (Cert.NormGradFfnIdeal.Hand.final8 m c), hr⟩)
      (Cert.NormGradFfnIdeal.Value.run_blocks m g),
    (θ_run _ _ _).mono (fun r h c => by
      obtain ⟨h0, h1, h2, h3, hr⟩ := h c
      obtain ⟨a0, a1, a2, a3, a4⟩ := hag c
      obtain ⟨r0, r1, r2, r3, r4⟩ := norm_ffn_finite_real _ _ _ _ _ (hp c)
      unfold Cert.NormGradFfnRefIdeal.Hand.z Cert.NormGradFfnRefIdeal.Hand.d Cert.NormGradFfnRefIdeal.Hand.g at h0 h1
      unfold Cert.NormGradFfnRefIdeal.Hand.z Cert.NormGradFfnRefIdeal.Hand.d at h2
      unfold Cert.NormGradFfnRefIdeal.Hand.d at h3
      rw [← Cert.NormGradFfns.cotangent_eq] at h0 h1 h2 h3
      rw [a0, a1, a2, a3, a4] at h0 h1
      rw [a0, a1, a2, a3] at h2
      rw [a0, a1, a2] at h3
      have e := gradients_agree _ _ _ (fun r l => r3 (ix2 r l)) (ffn_cotangent_real _ _ _ r0 r1 r2) (fun l => r4 (ix1 l))
      exact ⟨h0.trans e, h1.trans e, h2, h3, hr⟩)
      (Cert.NormGradFfnRefIdeal.Hand.run m' g')⟩

end Cert.Proof

end
-- ==== Proof.Loss.lean ====
/-
  The loss and its gradient: what the call leaves in its two arrays, the lines after it that add up the squares, and
  that the reference's results are the same.
-/
module

public import proofs.«01_k».proof.Proof.Scalars
public import proofs.«01_k».proof.Proof.Gen.LossIdeal.Frame
public import proofs.«01_k».proof.Proof.Gen.LossRefIdeal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.LossSums

/-- The error of one entry. -/
def err (y t : FVec Ideal ⟨2, ![4096, 1024]⟩ .f32) (r : Fin 4096) (l : Fin 1024) : EReal := y (ix2 r l) - t (ix2 r l)

/-- Half the sum, over the rows, of the mean square of a row. -/
def lossOf (y t : FVec Ideal ⟨2, ![4096, 1024]⟩ .f32) : FVec Ideal ⟨0, ![]⟩ .f32 := fun _ =>
  Ideal.ofBits .f32 0x3F000000#32 * ∑ r : Fin 4096, Ideal.div (∑ l : Fin 1024, err y t r l * err y t r l) (Ideal.ofBits .f32 0x44800000#32)

/-- Its gradient: the error over the length of a row. -/
def lossGrad (y t : FVec Ideal ⟨2, ![4096, 1024]⟩ .f32) : FVec Ideal ⟨2, ![4096, 1024]⟩ .f32 := fun i =>
  Ideal.div (err y t (i 0) (i 1)) (Ideal.ofBits .f32 0x44800000#32)

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem div_1024 (x : EReal) : Ideal.div x (Ideal.ofBits .f32 0x44800000#32) = x * (((1024 : ℝ)⁻¹ : ℝ) : EReal) := by
  rw [ofBits_1024]; unfold Ideal.div
  rw [if_neg (by exact_mod_cast (by norm_num : (1024 : ℝ) ≠ 0)), EReal.coe_inv]

theorem sq_nonneg' (x : EReal) : 0 ≤ x * x := by
  induction x using EReal.rec with
  | bot => simp
  | top => simp
  | coe r => exact_mod_cast mul_self_nonneg r

/-- A factor on the right comes out of a sum without negative terms. -/
theorem sum_mul_of_nonneg {ι : Type} (s : Finset ι) (f : ι → EReal) (hf : ∀ i, 0 ≤ f i) (c : EReal) : ∑ i ∈ s, f i * c = (∑ i ∈ s, f i) * c := by
  classical
  induction s using Finset.induction_on with
  | empty => simp
  | insert a s ha ih => rw [Finset.sum_insert ha, Finset.sum_insert ha, ih, EReal.right_distrib_of_nonneg (hf a) (Finset.sum_nonneg fun i _ => hf i)]

/-- The squares added up by columns give the loss too. -/
theorem by_columns (y t : FVec Ideal ⟨2, ![4096, 1024]⟩ .f32) (i : Shape.Idx ⟨0, ![]⟩) :
    Ideal.div (Ideal.ofBits .f32 0x3F000000#32 * ∑ l : Fin 1024, ∑ r : Fin 4096, err y t r l * err y t r l) (Ideal.ofBits .f32 0x44800000#32)
      = lossOf y t i := by
  unfold lossOf
  simp only [div_1024]
  rw [sum_mul_of_nonneg _ _ (fun r => Finset.sum_nonneg fun l _ => sq_nonneg' _), Finset.sum_comm, mul_assoc]

theorem grad_scaled (x : EReal) : Ideal.div (Ideal.ofBits .f32 0x3F000000#32) (Ideal.ofBits .f32 0x44800000#32)
    * (Ideal.ofBits .f32 0x40000000#32 * x) = Ideal.div x (Ideal.ofBits .f32 0x44800000#32) := by
  rw [div_1024, div_1024, Scalars.ofBits_half, ofBits_two, ← mul_assoc, mul_comm x]
  congr 1
  norm_cast
  norm_num

end Cert.LossSums

namespace Cert.LossIdeal.Hand

open Cert.LossIdeal Cert.LossIdeal.Gen Cert.LossSums

variable (m : (ℓ : Loc nD τ sig) → Buf (Elt Ideal) ℓ) (ρ : Dev nD → PrngReg)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![0, 0] := (by decide +kernel : ∀ t : Fin grid0.N, win0_3.index t = ![0, 0])

theorem final2 (c : Dev nD) : (dats m 0 c).arrAt 2 cfg0.N = lossGrad (m ((c : Thread nD τ).loc main_arg0)) (m ((c : Thread nD τ).loc main_arg1)) := by
  refine (dats m 0 c).arrAt_eq_of_covers 2 _ (by decide +kernel) fun t hf y => ?_
  blk_simp
  rw [after0_2]
  by_cases h : t.val % 16 = 0
  · rw [outsAt0_A m c t h]
    frame_out
    unfold_payloads
    pointwise [lossGrad, err]
    blk_point [iblk, V, e0 t, e1 t, e2 t]
  · rw [outsAt0_B m c t h]
    frame_out
    unfold_payloads
    pointwise [lossGrad, err]
    blk_point [iblk, V, e0 t, e1 t, e2 t]

/-- The row that a point's block holds at a place. -/
def row (t : Fin cfg0.N) (k : Fin 256) : Fin 4096 := ⟨t.val * 256 + k.val, by have := t.isLt; have : cfg0.N = 16 := rfl; omega⟩

theorem final3 (c : Dev nD) : (dats m 0 c).arrAt 3 cfg0.N = fun i : S1x1024.Idx =>
    ∑ r : Fin 4096, err (m ((c : Thread nD τ).loc main_arg0)) (m ((c : Thread nD τ).loc main_arg1)) r (i 1)
      * err (m ((c : Thread nD τ).loc main_arg0)) (m ((c : Thread nD τ).loc main_arg1)) r (i 1) := by
  refine (dats m 0 c).arrAt_eq_of_after_last 3 t0_15 (by decide +kernel) _ fun j => ?_
  blk_simp
  rw [after0_3]
  rw [Pipeline.eq_sum_fin_of_reset_step_apply_last (fun n h => (outsAt0 m c n h).2) 16 (fun _ => (0 : EReal)) (fun t j =>
    ∑ k : Fin 256, err (m ((c : Thread nD τ).loc main_arg0)) (m ((c : Thread nD τ).loc main_arg1)) (row t k) (j 1)
     * err (m ((c : Thread nD τ).loc main_arg0)) (m ((c : Thread nD τ).loc main_arg1)) (row t k) (j 1)) ?_ ?_ (by decide) t0_15 rfl j]
  · rw [zero_add]
    exact Fin.sum_mul_add_fin 16 256 fun r => err (m ((c : Thread nD τ).loc main_arg0)) (m ((c : Thread nD τ).loc main_arg1)) r (j 1)
      * err (m ((c : Thread nD τ).loc main_arg0)) (m ((c : Thread nD τ).loc main_arg1)) r (j 1)
  · intro t h j
    rw [outsAt0_A m c t h]
    frame_out
    unfold_payloads
    pointwise [err]
    blk_point [iblk, V, row, e0 t, e1 t]
  · intro t h j
    rw [outsAt0_B m c t h]
    frame_out
    unfold_payloads
    pointwise [err]
    blk_point [iblk, V, row, e0 t, e1 t]

theorem run : θ_run defs (onTc (τ := τ) (main (F := Ideal))) ⟨m, fun _ => 0, ρ⟩ fun r => ∀ c : Dev nD,
      r.2.mem ((c.tc : Thread nD τ).loc main_v3) = lossOf (m ((c : Thread nD τ).loc main_arg0)) (m ((c : Thread nD τ).loc main_arg1))
      ∧ r.2.mem ((c.tc : Thread nD τ).loc main_v0_0) = lossGrad (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.frame m ρ & Gen.run_main m ρ
  · unfold Pipeline.afterTail₀
    simp only [List.flatten_cons, List.flatten_nil, List.append_nil]
    after_results
    rw [show Pipeline.withArrays (cfgs 0).spec c (V0 m c) (fun w => (dats m 0 c).arrAt w (cfgs 0).N) (Proc.devRef .tc main_v0_1) = (dats m 0 c).arrAt 3 cfg0.N
      from Pipeline.withArrays_arr (cfgs 0).spec (by decide) c _ _ 3, final3 m c]
    funext i
    clean_types
    pointwise
    rw [Fin.sum_univ_one]
    exact by_columns _ _ _
  · exact final2 m c

end Cert.LossIdeal.Hand

namespace Cert.LossRefIdeal.Hand

open Cert.LossRefIdeal Cert.LossRefIdeal.Gen Cert.LossSums

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v8) = lossOf (m ((c : Thread nD τ).loc main_arg0)) (m ((c : Thread nD τ).loc main_arg1))
      ∧ r.2.mem ((c.tc : Thread nD τ).loc main_v14) = lossGrad (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2.1.trans ?_, (h c).2.2⟩) (Value.run m ρ)
  · clear h
    funext i
    clean_types
    pointwise [lossOf, err]
  · clear h
    funext i
    clean_types
    pointwise [lossGrad, err]
    exact grad_scaled _

end Cert.LossRefIdeal.Hand
-- ==== Proof.LossClaims.lean ====
/-
  The claims about the loss and its gradient.
-/
module

public import proofs.«01_k».proof.Defs
public import proofs.«01_k».proof.Proof.Loss
public import proofs.«01_k».proof.Proof.Gen.Loss.Frame
public import Idealize.ShloMosaic.Lib.Quiescent

@[expose] public section

noncomputable section

namespace Cert.Proof

open Idealize.ShloMosaic Idealize.SL.Sem

theorem loss_frame : Cert.quiescent_Loss := fun m ρ _ => Cert.Loss.Gen.frame m ρ
theorem lossIdeal_frame : Cert.quiescent_LossIdeal := fun m ρ _ => Cert.LossIdeal.Gen.frame m ρ
theorem lossRef_frame : Cert.quiescent_LossRefIdeal := fun m ρ _ =>
  (θ_run Cert.LossRefIdeal.defs _ _).mono (fun r h => ⟨fun c => (h c).2.2, Idealize.ShloMosaic.sem_eq_zero_of_no_sems (by decide) r.2⟩)
    (Cert.LossRefIdeal.Value.run (F := Ideal) m ρ)

theorem loss_value : Cert.algebraic_LossIdeal_LossRefIdeal := fun m g m' g' _ hag =>
  ⟨fun c => _, fun c => _, Cert.LossIdeal.Hand.run m g,
    (θ_run _ _ _).mono (fun r h c => by
      obtain ⟨h0, h1, hr⟩ := h c
      obtain ⟨a0, a1⟩ := hag c
      rw [a0, a1] at h0 h1
      exact ⟨h0, h1, hr⟩)
      (Cert.LossRefIdeal.Hand.run m' g')⟩

end Cert.Proof

end
-- ==== Proof.Attention.lean ====
/-
  Attention over a window with a sink, row by row: the largest score, the weights and the two results of a row as
  functions of its scores, and what a masked score changes in them. The two halves of a row of 128 lanes are here as
  well, with the sum over a row that is zero on one half.
-/
module

public import Idealize.ShloMosaic.Lib.Pointwise
public import Idealize.ShloMosaic.Lib.IdealHost

@[expose] public section

noncomputable section

namespace Cert.Attention

open Idealize.ShloMosaic

variable (s t : Fin 256 → EReal) (z : EReal) (v w : Fin 256 → EReal)

/-- The largest of the scores of a row and its sink. -/
def peak : EReal := max ((Finset.univ : Finset (Fin 256)).fold max (Ideal.ofBits .f32 0xFF800000#32) s) z

/-- The sum of the weights of a row, the sink's included. -/
def total : EReal := (∑ j : Fin 256, Ideal.exp (s j - peak s z)) + Ideal.exp (z - peak s z)

/-- One entry of the result: the values under the weights of the row, over their sum. -/
def attend : EReal := Ideal.div (∑ j : Fin 256, Ideal.exp (s j - peak s z) * v j) (total s z)

/-- The logarithm of the sum of the exponentials of the scores and the sink. -/
def logTotal : EReal := peak s z + Ideal.log (total s z)

/-- A value whose score is masked does not count. -/
theorem attend_congr (hs : ∀ j, s j = t j) (hv : ∀ j, t j = ⊥ ∨ v j = w j) : attend s z v = attend t z w := by
  obtain rfl : s = t := funext hs
  unfold attend
  refine congrArg (fun a => Ideal.div a _) (Finset.sum_congr rfl fun j _ => ?_)
  rcases hv j with h | h
  · rw [h, EReal.bot_sub, Ideal.exp_bot, zero_mul, zero_mul]
  · rw [h]

theorem logTotal_congr (hs : ∀ j, s j = t j) : logTotal s z = logTotal t z := by
  obtain rfl : s = t := funext hs
  rfl

/-- The scale of the scores is one eighth, in either format. -/
theorem scale_bf16 : Ideal.ofBits .bf16 0x3E00#16 = (((1 : ℝ) / 8 : ℝ) : EReal) := by
  simp [Ideal.ofBits, Ideal.ieee, -EReal.coe_mul]; norm_num

theorem scale_f32 : Ideal.ofBits .f32 0x3E000000#32 = (((1 : ℝ) / 8 : ℝ) : EReal) := by
  simp [Ideal.ofBits, Ideal.ieee, -EReal.coe_mul]; norm_num

/-- A real that is not negative comes out of a sum. -/
theorem sum_mul_coe {ι : Type} (u : Finset ι) (f : ι → EReal) (r : ℝ) (hr : 0 ≤ r) :
    ∑ d ∈ u, f d * (r : EReal) = (∑ d ∈ u, f d) * (r : EReal) := by
  classical
  induction u using Finset.induction_on with
  | empty => simp
  | insert a u ha ih =>
    rw [Finset.sum_insert ha, Finset.sum_insert ha, ih]
    exact (EReal.right_distrib_of_nonneg_of_ne_top (by exact_mod_cast hr) (EReal.coe_ne_top r) _ _).symm

/-- The product of a key with a scaled query is the scaled product. -/
theorem scaled (q k : Fin 64 → EReal) :
    ∑ d, q d * Ideal.ofBits .bf16 0x3E00#16 * k d = (∑ d, k d * q d) * Ideal.ofBits .f32 0x3E000000#32 := by
  rw [scale_bf16, scale_f32, ← sum_mul_coe _ _ _ (by norm_num)]
  refine Finset.sum_congr rfl fun d _ => ?_
  rw [mul_comm, mul_assoc]

/-- The lanes of a row of 128, by half and by lane of the half. -/
def lane (p : Fin 2) (d : Fin 64) : Fin 128 := ⟨p.val * 64 + d.val, by omega⟩

theorem sum_lanes (f : Fin 128 → EReal) : ∑ l, f l = (∑ d, f (lane 0 d)) + ∑ d, f (lane 1 d) := by
  refine (Fin.sum_univ_add (a := 64) (b := 64) f).trans ?_
  refine congrArg₂ _ (Finset.sum_congr rfl fun d _ => congrArg f (Fin.ext ?_)) (Finset.sum_congr rfl fun d _ => congrArg f (Fin.ext ?_)) <;>
    simp [lane, add_comm]

/-- The score of a row of 128 lanes that holds a scaled query in one half and zero in the other. -/
theorem half_score (p : Fin 2) (a k : Fin 128 → EReal) (q : Fin 64 → EReal)
    (h : ∀ d, a (lane p d) = q d * Ideal.ofBits .bf16 0x3E00#16) (h0 : ∀ d, a (lane (1 - p) d) = 0) :
    ∑ l, a l * k l = (∑ d, k (lane p d) * q d) * Ideal.ofBits .f32 0x3E000000#32 := by
  rw [sum_lanes, ← scaled]
  match p with
  | 0 =>
    have e : ∀ d, a (lane 1 d) = 0 := h0
    simp only [h, e, zero_mul, Finset.sum_const_zero, add_zero]
  | 1 =>
    have e : ∀ d, a (lane 0 d) = 0 := h0
    simp only [h, e, zero_mul, Finset.sum_const_zero, zero_add]

/-- Query `r` of block `n` sees key `j` of its window: the 128 keys before it and itself, from the start of the sequence. -/
def Sees (n : Fin 16) (r : Fin 128) (j : Fin 256) : Prop :=
  (0 < n.val ∨ 128 ≤ j.val) ∧ r.val ≤ j.val ∧ j.val ≤ r.val + 128

instance (n : Fin 16) (r : Fin 128) (j : Fin 256) : Decidable (Sees n r j) := by unfold Sees; infer_instance

/-- The bits of the two bounds of the band. -/
theorem band_bits : ∀ (r : Fin 128) (j : Fin 256),
    IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 128#32)
      = if r.val ≤ j.val ∧ j.val ≤ r.val + 128 then 1#1 else 0#1 := by decide +kernel

/-- The bit of a key in the block of the query, not the one before. -/
theorem own_bits : ∀ j : Fin 256, IntOp.cmpi .sge (BitVec.ofNat 32 j.val) 128#32 = if 128 ≤ j.val then 1#1 else 0#1 := by
  decide +kernel

/-- The bit of a block that has one before it. -/
theorem later_bits : ∀ n : Fin 16, IntOp.cmpi .sgt (BitVec.ofNat 32 n.val) 0#32 = if 0 < n.val then 1#1 else 0#1 := by
  decide +kernel

/-- The bits of the whole mask. -/
theorem sees_bits (n : Fin 16) (r : Fin 128) (j : Fin 256) (e : BitVec 1) (he : e = if 0 < n.val then 1#1 else 0#1) :
    IntOp.andi (IntOp.andi (IntOp.cmpi .sge (IntOp.subi (IntOp.addi (BitVec.ofNat 32 r.val) 128#32) (BitVec.ofNat 32 j.val)) 0#32)
        (IntOp.cmpi .sle (IntOp.subi (IntOp.addi (BitVec.ofNat 32 r.val) 128#32) (BitVec.ofNat 32 j.val)) 128#32))
      (IntOp.ori e (IntOp.cmpi .sge (BitVec.ofNat 32 j.val) 128#32)) = if Sees n r j then 1#1 else 0#1 := by
  rw [band_bits, own_bits, he]
  unfold Sees
  by_cases h1 : r.val ≤ j.val ∧ j.val ≤ r.val + 128 <;> by_cases h2 : 0 < n.val <;> by_cases h3 : 128 ≤ j.val <;>
    simp only [h1, h2, h3, if_true, if_false, and_true, true_and, or_true, true_or, or_false, false_or, and_false, false_and, and_self, or_self] <;> rfl

/-- The row of the sequence key `j` of the window of block `n` lies at. -/
def place (n : Fin 16) (j : Fin 256) : Fin 2048 :=
  ⟨if j.val < 128 then (n.val - 1) * 128 + j.val else n.val * 128 + (j.val - 128), by split <;> omega⟩

variable (x : FVec Ideal ⟨3, ![2, 2048, 1536]⟩ .bf16) (b : Fin 2) (h : Fin 16) (n : Fin 16) (r : Fin 128)

/-- The scores of one query of one head against its window. -/
def scores (j : Fin 256) : EReal :=
  if Sees n r j then
    (∑ d : Fin 64, x (ix3 b (place n j) ⟨1024 + h.val / 4 * 64 + d.val, by omega⟩) * x (ix3 b ⟨n.val * 128 + r.val, by omega⟩ ⟨h.val * 64 + d.val, by omega⟩))
      * Ideal.ofBits .f32 0x3E000000#32
  else ⊥

/-- One lane of the values of the window. -/
def values (d : Fin 64) (j : Fin 256) : EReal := x (ix3 b (place n j) ⟨1280 + h.val / 4 * 64 + d.val, by omega⟩)

variable (sink : FVec Ideal ⟨1, ![16]⟩ .f32)

/-- The attention's result, entry by entry: batch, position, lane of the heads. -/
def out (i : Shape.Idx ⟨3, ![2, 2048, 1024]⟩) : EReal :=
  let h : Fin 16 := ⟨(i 2).val / 64, by have := (i 2).isLt; simp at this; omega⟩
  let n : Fin 16 := ⟨(i 1).val / 128, by have := (i 1).isLt; simp at this; omega⟩
  attend (scores x (i 0) h n ⟨(i 1).val % 128, Nat.mod_lt _ (by norm_num)⟩) (sink (ix1 h)) (values x (i 0) h n ⟨(i 2).val % 64, Nat.mod_lt _ (by norm_num)⟩)

/-- The logarithm of the sum of the exponentials, laid out as the result is. -/
def logSum (i : Shape.Idx ⟨3, ![2, 2048, 1024]⟩) : EReal :=
  let h : Fin 16 := ⟨(i 2).val / 64, by have := (i 2).isLt; simp at this; omega⟩
  let n : Fin 16 := ⟨(i 1).val / 128, by have := (i 1).isLt; simp at this; omega⟩
  logTotal (scores x (i 0) h n ⟨(i 1).val % 128, Nat.mod_lt _ (by norm_num)⟩) (sink (ix1 h))

end Cert.Attention

end
-- ==== Proof.WindowKernel.lean ====
/-
  The body of the sliding-window attention's kernel, for one pair of heads: the stacked queries, the scores, the sums of
  a row and the folded results, each read entry by entry as the attention of one row.
-/
module

public import proofs.«01_k».proof.Proof.Gen.WindowIdeal.Skeleton
public import proofs.«01_k».proof.Proof.Attention
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.WindowIdeal.Hand

open Cert.WindowIdeal Cert.WindowIdeal.Gen Cert.Attention

/-- The first half of the lanes, and its complement. -/
def first : IVec S1x128 1 := cmpi .slt (iota .tc S1x128 32 [1] iota_S1x128_d1_w32) (broadcast S1x128 64#32)
def second : IVec S1x128 1 := xori first (constantI S1x128 1 1#1)

/-- A tile of scaled queries where only some lanes stay. -/
def keep (h : IVec S1x128 1) (q : FVec Ideal S128x128 .bf16) : FVec Ideal S128x128 .bf16 :=
  select (broadcastTo S128x128 (shapeCast S1x128 h shapeCasts_S1x128_S1x128) broadcasts_S1x128_S128x128)
    (mulf q (broadcast S128x128 (Scalar.ofBits .bf16 0x3E00#16))) (broadcast S128x128 (Scalar.ofBits .bf16 0x0000#16))

/-- A tile with its halves of lanes swapped. -/
def turn {φ : FTy} (a : FVec Ideal S128x128 φ) : FVec Ideal S128x128 φ := dynamicRotate 1 64#32 none a rotates_S128x128_d1

def pile (a b : FVec Ideal S128x128 .bf16) : FVec Ideal S256x128 .bf16 :=
  concatenate S256x128 0 [⟨S128x128, a⟩, ⟨S128x128, b⟩] concatenates_S128x128_S128x128_S256x128_d0

/-- The two heads of a pair one over the other, in the lanes of the key head they share. -/
def stack (p : Fin 2) (q : FVec Ideal S128x128 .bf16) : FVec Ideal S256x128 .bf16 :=
  match p with
  | 0 => pile (keep first q) (turn (keep second q))
  | 1 => pile (turn (keep first q)) (keep second q)

def logits (a k : FVec Ideal S256x128 .bf16) (b : FVec Ideal S256x256 .f32) : FVec Ideal S256x256 .f32 :=
  addf (matmul dot_S256x128_S256x128_S256x256_1_1_0_0_n_n none a k (constant S256x256 .f32 0x00000000#32)) b

def sinkColumn (s t : EReal) : FVec Ideal S256x1 .f32 :=
  select (cmpi .slt (iota .tc S256x1 32 [0] iota_S256x1_d0_w32) (broadcast S256x1 128#32)) (broadcast S256x1 s) (broadcast S256x1 t)

def peaks (s : FVec Ideal S256x256 .f32) (c : FVec Ideal S256x1 .f32) : FVec Ideal S256x1 .f32 :=
  maximumf (shapeCast S256x1 (multiReduction .maximumf [1] S256 s 0xFF800000#32 reduces_S256x256_S256 (.inl rfl) rfl) shapeCasts_S256_S256x1) c

def weights (s : FVec Ideal S256x256 .f32) (p : FVec Ideal S256x1 .f32) : FVec Ideal S256x256 .f32 :=
  exp (subf s (broadcastTo S256x256 p broadcasts_S256x1_S256x256))

def totals (w : FVec Ideal S256x256 .f32) (c p : FVec Ideal S256x1 .f32) : FVec Ideal S256x1 .f32 :=
  addf (shapeCast S256x1 (multiReduction .add [1] S256 w 0x00000000#32 reduces_S256x256_S256 (.inl rfl) rfl) shapeCasts_S256_S256x1) (exp (subf c p))

def means (w : FVec Ideal S256x256 .f32) (v : FVec Ideal S256x128 .bf16) (l : FVec Ideal S256x1 .f32) : FVec Ideal S256x128 .f32 :=
  divf (matmul dot_S256x256_S256x128_S256x128_1_0_0_1_n_n none (truncf .bf16 w bitsLt_bf16_f32) v (constant S256x128 .f32 0x00000000#32))
    (broadcastTo S256x128 l broadcasts_S256x1_S256x128)

def halves (a b : FVec Ideal S128x128 .f32) : FVec Ideal S128x128 .f32 :=
  select (broadcastTo S128x128 (shapeCast S1x128 first shapeCasts_S1x128_S1x128) broadcasts_S1x128_S128x128) a b

def upper (t : FVec Ideal S256x128 .f32) : FVec Ideal S128x128 .f32 := extractStridedSlice S128x128 ![0, 0] t slices_S256x128_o0_0_S128x128
def lower (t : FVec Ideal S256x128 .f32) : FVec Ideal S128x128 .f32 := extractStridedSlice S128x128 ![128, 0] t slices_S256x128_o128_0_S128x128

/-- The two heads of a pair side by side again. -/
def fold (p : Fin 2) (t : FVec Ideal S256x128 .f32) : FVec Ideal S128x128 .f32 :=
  match p with
  | 0 => halves (upper t) (turn (lower t))
  | 1 => halves (turn (upper t)) (lower t)

/-- One column of row values, as a tile of the two heads side by side. -/
def spread (t : FVec Ideal S256x1 .f32) : FVec Ideal S128x128 .f32 :=
  halves (broadcastTo S128x128 (shapeCast S128x1 (extractStridedSlice S128x1 ![0, 0] t slices_S256x1_o0_0_S128x1) shapeCasts_S128x1_S128x1) broadcasts_S128x1_S128x128)
    (broadcastTo S128x128 (shapeCast S128x1 (extractStridedSlice S128x1 ![128, 0] t slices_S256x1_o128_0_S128x1) shapeCasts_S128x1_S128x1) broadcasts_S128x1_S128x128)

/-- The key head a pair shares, by the half of the lanes it lies in, the half of a lane, the lane of its half, and the
row of the stacked tile. -/
def half (l : Fin 128) : Fin 2 := ⟨l.val / 64, by omega⟩
def rest (l : Fin 128) : Fin 64 := ⟨l.val % 64, Nat.mod_lt _ (by norm_num)⟩
def piled (a : Fin 2) (r : Fin 128) : Fin 256 := ⟨a.val * 128 + r.val, by omega⟩

theorem lane_half (l : Fin 128) : lane (half l) (rest l) = l := Fin.ext (by simp only [lane, half, rest]; omega)

theorem first_bits : ∀ l : Fin 128, IntOp.cmpi .slt (BitVec.ofNat 32 l.val) 64#32 = if half l = 0 then 1#1 else 0#1 := by decide +kernel

theorem second_bits : ∀ l : Fin 128, IntOp.xori (IntOp.cmpi .slt (BitVec.ofNat 32 l.val) 64#32) 1#1 = if half l = 1 then 1#1 else 0#1 := by decide +kernel

theorem sink_bits : ∀ l : Fin 256, IntOp.cmpi .slt (BitVec.ofNat 32 l.val) 128#32 = if l.val < 128 then 1#1 else 0#1 := by decide +kernel

theorem keep_first_at (q : FVec Ideal S128x128 .bf16) (r l : Fin 128) :
    keep first q (ix2 r l) = if half l = 0 then q (ix2 r l) * Ideal.ofBits .bf16 0x3E00#16 else 0 := by
  unfold keep first
  pointwise
  rw [first_bits]
  by_cases h : half l = 0 <;> simp only [h, if_true, if_false] <;> rfl

theorem keep_second_at (q : FVec Ideal S128x128 .bf16) (r l : Fin 128) :
    keep second q (ix2 r l) = if half l = 1 then q (ix2 r l) * Ideal.ofBits .bf16 0x3E00#16 else 0 := by
  unfold keep second first
  pointwise
  rw [second_bits]
  by_cases h : half l = 1 <;> simp only [h, if_true, if_false] <;> rfl

theorem turn_at {φ : FTy} (a : FVec Ideal S128x128 φ) (r : Fin 128) (p : Fin 2) (d : Fin 64) :
    turn a (ix2 r (lane p d)) = a (ix2 r (lane (1 - p) d)) := by
  unfold turn
  pointwise
  refine congrArg a (congrArg (ix2 r) (Fin.ext ?_))
  match p with
  | 0 => show ((0 * 64 + d.val) + 128 - 64) % 128 = 1 * 64 + d.val; omega
  | 1 => show ((1 * 64 + d.val) + 128 - 64) % 128 = 0 * 64 + d.val; omega

theorem pile_at (a b : FVec Ideal S128x128 .bf16) (c : Fin 2) (r l : Fin 128) :
    pile a b (ix2 (piled c r) l) = if c = 0 then a (ix2 r l) else b (ix2 r l) := by
  unfold pile
  pointwise
  match c with
  | 0 =>
    exact (dif_pos (show (piled 0 r).val < 128 by simp [piled])).trans ((congrArg a (congrArg (fun k => ix2 k l) (Fin.ext (by simp [piled])))).trans (if_pos rfl).symm)
  | 1 =>
    exact (dif_neg (show ¬ (piled 1 r).val < 128 by simp [piled])).trans ((congrArg b (congrArg (fun k => ix2 k l) (Fin.ext (by simp [piled])))).trans (if_neg (by decide)).symm)

theorem logits_at (a k : FVec Ideal S256x128 .bf16) (b : FVec Ideal S256x256 .f32) (R j : Fin 256) :
    logits a k b (ix2 R j) = (∑ l : Fin 128, a (ix2 R l) * k (ix2 j l)) + b (ix2 R j) := by
  unfold logits
  pointwise

theorem sinkColumn_at (s t : EReal) (a : Fin 2) (r : Fin 128) : sinkColumn s t (ix2 (piled a r) 0) = if a = 0 then s else t := by
  unfold sinkColumn
  pointwise
  rw [sink_bits]
  match a with
  | 0 => rw [if_pos (show (piled 0 r).val < 128 by simp [piled]), if_pos rfl]; rfl
  | 1 => rw [if_neg (show ¬ (piled 1 r).val < 128 by simp [piled]), if_neg (by decide)]; rfl

theorem half_lane (p : Fin 2) (d : Fin 64) : half (lane p d) = p := Fin.ext (by simp only [half, lane]; omega)

theorem rest_lane (p : Fin 2) (d : Fin 64) : rest (lane p d) = d := Fin.ext (by simp only [rest, lane]; omega)

/-- A stacked row holds its head's query, scaled, in the lanes of the key head, -/
theorem stack_at (p a : Fin 2) (q : FVec Ideal S128x128 .bf16) (r : Fin 128) (d : Fin 64) :
    stack p q (ix2 (piled a r) (lane p d)) = q (ix2 r (lane a d)) * Ideal.ofBits .bf16 0x3E00#16 := by
  match p, a with
  | 0, 0 => exact (pile_at _ _ 0 r _).trans ((keep_first_at q r _).trans (if_pos (half_lane 0 d)))
  | 0, 1 => exact (pile_at _ _ 1 r _).trans ((turn_at _ r 0 d).trans ((keep_second_at q r _).trans (if_pos (half_lane 1 d))))
  | 1, 0 => exact (pile_at _ _ 0 r _).trans ((turn_at _ r 1 d).trans ((keep_first_at q r _).trans (if_pos (half_lane 0 d))))
  | 1, 1 => exact (pile_at _ _ 1 r _).trans ((keep_second_at q r _).trans (if_pos (half_lane 1 d)))

/-- and zero in the others. -/
theorem stack_zero (p a : Fin 2) (q : FVec Ideal S128x128 .bf16) (r : Fin 128) (d : Fin 64) :
    stack p q (ix2 (piled a r) (lane (1 - p) d)) = 0 := by
  match p, a with
  | 0, 0 => exact (pile_at _ _ 0 r _).trans ((keep_first_at q r _).trans (if_neg (by rw [half_lane]; decide)))
  | 0, 1 => exact (pile_at _ _ 1 r _).trans ((turn_at _ r 1 d).trans ((keep_second_at q r _).trans (if_neg (by rw [half_lane]; decide))))
  | 1, 0 => exact (pile_at _ _ 0 r _).trans ((turn_at _ r 0 d).trans ((keep_first_at q r _).trans (if_neg (by rw [half_lane]; decide))))
  | 1, 1 => exact (pile_at _ _ 1 r _).trans ((keep_second_at q r _).trans (if_neg (by rw [half_lane]; decide)))

variable (L : FVec Ideal S256x256 .f32) (C : FVec Ideal S256x1 .f32) (R : Fin 256)

theorem peaks_at : peaks L C (ix2 R 0) = peak (fun j => L (ix2 R j)) (C (ix2 R 0)) := by
  unfold peaks
  pointwise
  rfl

theorem weights_at (P : FVec Ideal S256x1 .f32) (j : Fin 256) : weights L P (ix2 R j) = Ideal.exp (L (ix2 R j) - P (ix2 R 0)) := by
  unfold weights
  pointwise

theorem totals_at : totals (weights L (peaks L C)) C (peaks L C) (ix2 R 0) = total (fun j => L (ix2 R j)) (C (ix2 R 0)) := by
  unfold totals
  pointwise
  simp only [weights_at, peaks_at]
  rfl

theorem means_at (v : FVec Ideal S256x128 .bf16) (l : Fin 128) :
    means (weights L (peaks L C)) v (totals (weights L (peaks L C)) C (peaks L C)) (ix2 R l)
      = attend (fun j => L (ix2 R j)) (C (ix2 R 0)) (fun j => v (ix2 j l)) := by
  unfold means
  pointwise
  simp only [weights_at, peaks_at, totals_at]
  rfl

theorem halves_at (a b : FVec Ideal S128x128 .f32) (r l : Fin 128) : halves a b (ix2 r l) = if half l = 0 then a (ix2 r l) else b (ix2 r l) := by
  unfold halves first
  pointwise
  rw [first_bits]
  by_cases h : half l = 0 <;> simp only [h, if_true, if_false] <;> rfl

theorem upper_at (t : FVec Ideal S256x128 .f32) (r l : Fin 128) : upper t (ix2 r l) = t (ix2 (piled 0 r) l) := by
  unfold upper
  pointwise
  exact congrArg t (congrArg (fun k => ix2 k l) (Fin.ext (by simp [piled])))

theorem lower_at (t : FVec Ideal S256x128 .f32) (r l : Fin 128) : lower t (ix2 r l) = t (ix2 (piled 1 r) l) := by
  unfold lower
  pointwise
  exact congrArg t (congrArg (fun k => ix2 k l) (Fin.ext (by simp [piled])))

theorem spread_at (t : FVec Ideal S256x1 .f32) (r : Fin 128) (a : Fin 2) (d : Fin 64) : spread t (ix2 r (lane a d)) = t (ix2 (piled a r) 0) := by
  unfold spread
  rw [halves_at, half_lane]
  pointwise
  match a with
  | 0 => exact (if_pos rfl).trans (congrArg t (congrArg (fun k => ix2 k 0) (Fin.ext (by simp [piled]))))
  | 1 => exact (if_neg (by decide)).trans (congrArg t (congrArg (fun k => ix2 k 0) (Fin.ext (by simp [piled]))))

theorem fold_at (p a : Fin 2) (t : FVec Ideal S256x128 .f32) (r : Fin 128) (d : Fin 64) :
    fold p t (ix2 r (lane a d)) = t (ix2 (piled a r) (lane p d)) := by
  match p, a with
  | 0, 0 => exact (halves_at _ _ r _).trans ((if_pos (half_lane 0 d)).trans (upper_at t r _))
  | 0, 1 => exact (halves_at _ _ r _).trans ((if_neg (by rw [half_lane]; decide)).trans ((turn_at _ r 1 d).trans (lower_at t r _)))
  | 1, 0 => exact (halves_at _ _ r _).trans ((if_pos (half_lane 0 d)).trans ((turn_at _ r 0 d).trans (upper_at t r _)))
  | 1, 1 => exact (halves_at _ _ r _).trans ((if_neg (by rw [half_lane]; decide)).trans (lower_at t r _))

/-- The scores of a pair of heads, from the tile of its queries. -/
def pairScores (p : Fin 2) (q : FVec Ideal S1x128x128 .bf16) (k : FVec Ideal S256x128 .bf16) (b : FVec Ideal S256x256 .f32) : FVec Ideal S256x256 .f32 :=
  logits (stack p (shapeCast S128x128 q shapeCasts_S1x128x128_S128x128)) k b

theorem pairScores_at (p a : Fin 2) (q : FVec Ideal S1x128x128 .bf16) (k : FVec Ideal S256x128 .bf16) (b : FVec Ideal S256x256 .f32) (r : Fin 128) (j : Fin 256) :
    pairScores p q k b (ix2 (piled a r) j)
      = (∑ d : Fin 64, k (ix2 j (lane p d)) * q (ix3 0 r (lane a d))) * Ideal.ofBits .f32 0x3E000000#32 + b (ix2 (piled a r) j) := by
  unfold pairScores
  rw [logits_at]
  refine congrArg (fun e : EReal => e + b (ix2 (piled a r) j)) (half_score p _ _ (fun d => q (ix3 0 r (lane a d))) (fun d => ?_) fun d => stack_zero p a _ r d)
  rw [stack_at]
  pointwise

/-- The three tiles a pair of heads writes. -/
def mixed (p : Fin 2) (L : FVec Ideal S256x256 .f32) (C : FVec Ideal S256x1 .f32) (v : FVec Ideal S256x128 .bf16) : FVec Ideal S128x128 .f32 :=
  fold p (means (weights L (peaks L C)) v (totals (weights L (peaks L C)) C (peaks L C)))

def outTile (p : Fin 2) (q : FVec Ideal S1x128x128 .bf16) (k v : FVec Ideal S256x128 .bf16) (b : FVec Ideal S256x256 .f32) (z y : EReal) : FVec Ideal S1x128x128 .f32 :=
  shapeCast S1x128x128 (mixed p (pairScores p q k b) (sinkColumn z y) v) shapeCasts_S128x128_S1x128x128

def narrowTile (p : Fin 2) (q : FVec Ideal S1x128x128 .bf16) (k v : FVec Ideal S256x128 .bf16) (b : FVec Ideal S256x256 .f32) (z y : EReal) : FVec Ideal S1x128x128 .bf16 :=
  shapeCast S1x128x128 (truncf .bf16 (mixed p (pairScores p q k b) (sinkColumn z y) v) bitsLt_bf16_f32) shapeCasts_S128x128_S1x128x128

def logTile (p : Fin 2) (q : FVec Ideal S1x128x128 .bf16) (k : FVec Ideal S256x128 .bf16) (b : FVec Ideal S256x256 .f32) (z y : EReal) : FVec Ideal S1x128x128 .f32 :=
  shapeCast S1x128x128 (spread (addf (peaks (pairScores p q k b) (sinkColumn z y)) (log (totals (weights (pairScores p q k b) (peaks (pairScores p q k b) (sinkColumn z y))) (sinkColumn z y) (peaks (pairScores p q k b) (sinkColumn z y))))))
    shapeCasts_S128x128_S1x128x128

/-- The row of scores those tiles are about, lane by lane. -/
def tileRow (p : Fin 2) (q : FVec Ideal S1x128x128 .bf16) (k : FVec Ideal S256x128 .bf16) (b : FVec Ideal S256x256 .f32) (r : Fin 128) (a : Fin 2) (j : Fin 256) : EReal :=
  (∑ d : Fin 64, k (ix2 j (lane p d)) * q (ix3 0 r (lane a d))) * Ideal.ofBits .f32 0x3E000000#32 + b (ix2 (piled a r) j)

theorem mixed_at (p a : Fin 2) (q : FVec Ideal S1x128x128 .bf16) (k v : FVec Ideal S256x128 .bf16) (b : FVec Ideal S256x256 .f32) (z y : EReal) (r : Fin 128) (d : Fin 64) :
    mixed p (pairScores p q k b) (sinkColumn z y) v (ix2 r (lane a d))
      = attend (tileRow p q k b r a) (if a = 0 then z else y) (fun j => v (ix2 j (lane p d))) := by
  unfold mixed
  rw [fold_at, means_at, sinkColumn_at]
  exact congrArg (fun f => attend f _ _) (funext fun j => pairScores_at p a q k b r j)

theorem outTile_at (p a : Fin 2) (q : FVec Ideal S1x128x128 .bf16) (k v : FVec Ideal S256x128 .bf16) (b : FVec Ideal S256x256 .f32) (z y : EReal) (r : Fin 128) (d : Fin 64) :
    outTile p q k v b z y (ix3 0 r (lane a d)) = attend (tileRow p q k b r a) (if a = 0 then z else y) (fun j => v (ix2 j (lane p d))) := by
  unfold outTile
  pointwise
  exact mixed_at p a q k v b z y r d

theorem narrowTile_at (p a : Fin 2) (q : FVec Ideal S1x128x128 .bf16) (k v : FVec Ideal S256x128 .bf16) (b : FVec Ideal S256x256 .f32) (z y : EReal) (r : Fin 128) (d : Fin 64) :
    narrowTile p q k v b z y (ix3 0 r (lane a d)) = attend (tileRow p q k b r a) (if a = 0 then z else y) (fun j => v (ix2 j (lane p d))) := by
  unfold narrowTile
  pointwise
  exact mixed_at p a q k v b z y r d

theorem column_at (a b : FVec Ideal S256x1 .f32) (R : Fin 256) : addf a (log b) (ix2 R 0) = a (ix2 R 0) + Ideal.log (b (ix2 R 0)) := rfl

theorem logTile_at (p a : Fin 2) (q : FVec Ideal S1x128x128 .bf16) (k : FVec Ideal S256x128 .bf16) (b : FVec Ideal S256x256 .f32) (z y : EReal) (r : Fin 128) (d : Fin 64) :
    logTile p q k b z y (ix3 0 r (lane a d)) = logTotal (tileRow p q k b r a) (if a = 0 then z else y) := by
  have e : (fun j => pairScores p q k b (ix2 (piled a r) j)) = tileRow p q k b r a := funext fun j => pairScores_at p a q k b r j
  unfold logTile
  pointwise
  refine (spread_at _ r a d).trans ?_
  rw [column_at, totals_at, peaks_at, sinkColumn_at, e]
  rfl

/-- The keys, or the values, of a window: the block before and the query's own, in one half of the columns. -/
theorem joined_at (u w : FVec Ideal S1x128x256 .bf16) (j : Fin 256) (l : Fin 256) :
    k0_pay5 (F := Ideal) u w (ix2 j l) = if h : j.val < 128 then u (ix3 0 ⟨j.val, h⟩ l) else w (ix3 0 ⟨j.val - 128, by omega⟩ l) := by
  unfold k0_pay5
  pointwise

/-- The row of a pile a stacked row lies at, by the kernel's remainder. -/
theorem remainder_bits : ∀ x : Fin 256,
    Scalar.select (IntOp.andi (IntOp.xori (IntOp.cmpi .slt (IntOp.remsi .vector (BitVec.ofNat 32 x.val) 128#32) 0#32) (Scalar.cmpi .slt 128#32 0#32))
        (IntOp.cmpi .ne (IntOp.remsi .vector (BitVec.ofNat 32 x.val) 128#32) 0#32))
      (IntOp.addi (IntOp.remsi .vector (BitVec.ofNat 32 x.val) 128#32) 128#32) (IntOp.remsi .vector (BitVec.ofNat 32 x.val) 128#32)
      = BitVec.ofNat 32 (x.val % 128) := by decide +kernel

theorem piled_mod (a : Fin 2) (r : Fin 128) : (piled a r).val % 128 = r.val := by simp only [piled]; omega

theorem divisor : Scalar.select (Scalar.cmpi .eq 128#32 0#32) 1#32 128#32 = (128#32 : BitVec 32) := by decide

theorem masked : (Named.named (F := Ideal) (φ := .f32) κ "mask" 4048155338#32 : EReal) = ⊥ := rfl

theorem bias_later (n : Fin 16) (hn : 0 < n.val) (a : Fin 2) (r : Fin 128) (j : Fin 256) :
    k0_pay3 (F := Ideal) (iota .tc S256x256 32 [0] iota_S256x256_d0_w32) 128#32 0#1 (ix3 0 (piled a r) j) = if Sees n r j then (0 : EReal) else ⊥ := by
  unfold k0_pay3
  pointwise
  rw [remainder_bits, piled_mod, sees_bits n r j 1#1 (if_pos hn).symm, masked]
  by_cases h : Sees n r j <;> simp only [h, if_true, if_false] <;> rfl

theorem bias_first (n : Fin 16) (hn : n.val = 0) (a : Fin 2) (r : Fin 128) (j : Fin 256) :
    k0_pay2 (F := Ideal) (ix3 0 (piled a r) j) = if Sees n r j then (0 : EReal) else ⊥ := by
  unfold k0_pay2
  pointwise
  rw [divisor, remainder_bits, piled_mod, sees_bits n r j 0#1 (if_neg (by omega)).symm, masked]
  by_cases h : Sees n r j <;> simp only [h, if_true, if_false] <;> rfl

/-- A score with the mask's bias. -/
theorem biased (S : Prop) [Decidable S] (e : EReal) : e + (if S then (0 : EReal) else ⊥) = if S then e else ⊥ := by
  by_cases h : S
  · rw [if_pos h, if_pos h, add_zero]
  · rw [if_neg h, if_neg h, EReal.add_bot]

end Cert.WindowIdeal.Hand
-- ==== Proof.WindowValue.lean ====
/-
  What the sliding-window attention's kernel leaves in its three results: the tiles of its pairs of heads, over the grid
  of batches and blocks of queries.
-/
module

public import proofs.«01_k».proof.Proof.Gen.WindowIdeal.Value
public import proofs.«01_k».proof.Proof.WindowKernel

@[expose] public section

set_option maxRecDepth 16384

noncomputable section

open Idealize.ShloMosaic Idealize.ShloMosaic.TcCoe Idealize.SL.Sem

namespace Cert.WindowIdeal.Hand

open Cert.WindowIdeal Cert.WindowIdeal.Gen Cert.Attention

variable (m : (ℓ : Loc nD τ sig) → Buf (Elt Ideal) ℓ)

/-- The blocks a point of the grid reads and writes: the batch, the block of queries, and the block before it. -/
theorem e1 : ∀ t : Fin cfg0.N, win0_1.index t = ![t.val / 16, t.val % 16, 0] := (by decide +kernel : ∀ t : Fin grid0.N, _)
theorem e2 : ∀ t : Fin cfg0.N, win0_2.index t = ![t.val / 16, t.val % 16 - 1, 4] := (by decide +kernel : ∀ t : Fin grid0.N, _)
theorem e3 : ∀ t : Fin cfg0.N, win0_3.index t = ![t.val / 16, t.val % 16, 4] := (by decide +kernel : ∀ t : Fin grid0.N, _)
theorem e4 : ∀ t : Fin cfg0.N, win0_4.index t = ![t.val / 16, t.val % 16 - 1, 5] := (by decide +kernel : ∀ t : Fin grid0.N, _)
theorem e5 : ∀ t : Fin cfg0.N, win0_5.index t = ![t.val / 16, t.val % 16, 5] := (by decide +kernel : ∀ t : Fin grid0.N, _)
theorem e6 : ∀ t : Fin cfg0.N, win0_6.index t = ![t.val / 16, t.val % 16, 0] := (by decide +kernel : ∀ t : Fin grid0.N, _)
theorem e7 : ∀ t : Fin cfg0.N, win0_7.index t = ![t.val / 16, t.val % 16, 0] := (by decide +kernel : ∀ t : Fin grid0.N, _)
theorem e8 : ∀ t : Fin cfg0.N, win0_8.index t = ![t.val / 16, t.val % 16, 0] := (by decide +kernel : ∀ t : Fin grid0.N, _)
theorem offset : ∀ t : Fin cfg0.N, k0_off1 (grid0.coords t) = ![if t.val % 16 = 0 then 0 else 1, 0, 0] := (by decide +kernel : ∀ t : Fin grid0.N, _)

/-- The batch and the block of a point. -/
def batch (t : Fin cfg0.N) : Fin 2 := ⟨t.val / 16, by have : t.val < 32 := t.isLt; omega⟩
def block (t : Fin cfg0.N) : Fin 16 := ⟨t.val % 16, Nat.mod_lt _ (by norm_num)⟩
def before (t : Fin cfg0.N) : Fin 16 := ⟨t.val % 16 - 1, by omega⟩

variable (c : Dev nD) (t : Fin cfg0.N)

theorem e0 : ∀ t : Fin cfg0.N, win0_0.index t = ![0] := (by decide +kernel : ∀ t : Fin grid0.N, _)

/-- The two arguments. -/
abbrev qkv : FVec Ideal S2x2048x1536 .bf16 := m ((c : Thread nD τ).loc main_arg0)
abbrev sinks : FVec Ideal S16 .f32 := m ((c : Thread nD τ).loc main_arg1)

def at_row (n : Fin 16) (r : Fin 128) : Fin 2048 := ⟨n.val * 128 + r.val, by omega⟩

theorem query_at (o : ℕ) (ho : o ≤ 896) (h : ∀ a, (![0, 0, o] : Fin 3 → Nat) a + S1x128x128.size a ≤ S1x128x1024.size a) (r l : Fin 128) :
    (View.ld (X0_1 m c t) (Rect.unit ![0, 0, o] ![1, 128, 128] h) : FVec Ideal S1x128x128 .bf16) (ix3 0 r l)
      = qkv m c (ix3 (batch t) (at_row (block t) r) ⟨o + l.val, by omega⟩) := by
  unfold X0_1 Pipeline.Window.fill
  refine (dif_pos (moved0_1 t _)).trans ?_
  blk_point [iblk, V, e1 t]
  · exact Nat.add_zero _
  · exact congrArg (fun a => t.val % 16 * 128 + a) ((Nat.zero_add _).trans (Nat.one_mul _))
  · exact congrArg (fun a => o + a) (Nat.one_mul _)

theorem keys_before_at (r : Fin 128) (l : Fin 256) :
    (iblk m c 2 t : FVec Ideal S1x128x256 .bf16) (ix3 0 r l) = qkv m c (ix3 (batch t) (at_row (before t) r) ⟨1024 + l.val, by omega⟩) := by
  blk_point [iblk, V, e2 t]
  · exact Nat.add_zero _
  · rfl

theorem keys_own_at (r : Fin 128) (l : Fin 256) :
    (iblk m c 3 t : FVec Ideal S1x128x256 .bf16) (ix3 0 r l) = qkv m c (ix3 (batch t) (at_row (block t) r) ⟨1024 + l.val, by omega⟩) := by
  blk_point [iblk, V, e3 t]
  · exact Nat.add_zero _
  · rfl

theorem values_before_at (r : Fin 128) (l : Fin 256) :
    (iblk m c 4 t : FVec Ideal S1x128x256 .bf16) (ix3 0 r l) = qkv m c (ix3 (batch t) (at_row (before t) r) ⟨1280 + l.val, by omega⟩) := by
  blk_point [iblk, V, e4 t]
  · exact Nat.add_zero _
  · rfl

theorem values_own_at (r : Fin 128) (l : Fin 256) :
    (iblk m c 5 t : FVec Ideal S1x128x256 .bf16) (ix3 0 r l) = qkv m c (ix3 (batch t) (at_row (block t) r) ⟨1280 + l.val, by omega⟩) := by
  blk_point [iblk, V, e5 t]
  · exact Nat.add_zero _
  · rfl

theorem sink_at (o : ℕ) (ho : o < 16) (h : ∀ a, (![o] : Fin 1 → Nat) a + S1.size a ≤ S16.size a) (x : S1.Idx) :
    (View.ld (iblk m c 0 t) (Rect.unit ![o] ![1] h) : FVec Ideal S1 .f32) x = sinks m c (ix1 ⟨o, ho⟩) := by
  obtain rfl : x = ix1 0 := by
    funext a
    fin_cases a
    exact Fin.ext (by have : (x 0).val < 1 := (x 0).isLt; show (x 0).val = 0; omega)
  show (iblk m c 0 t : FVec Ideal S16 .f32) _ = _
  blk_point [iblk, V, e0 t]
  rfl

/-- The two biases, and the one a point adds. -/
def table : Vec Ideal S2x256x256 .f32 :=
  View.canon (Val := Elt Ideal) [⟨Rect.unit ![1, 0, 0] ![1, 256, 256] inb_S2x256x256_S1x256x256_1_0_0, k0_pay3 (F := Ideal) (iota .tc S256x256 32 [0] iota_S256x256_d0_w32) 128#32 0#1⟩,
    ⟨Rect.unit ![0, 0, 0] ![1, 256, 256] inb_S2x256x256_S1x256x256_0_0_0, k0_pay2 (F := Ideal)⟩]

theorem table_later (R j : Fin 256) : table (ix3 1 R j) = k0_pay3 (F := Ideal) (iota .tc S256x256 32 [0] iota_S256x256_d0_w32) 128#32 0#1 (ix3 0 R j) := by
  have e : (Rect.unit (s := S2x256x256) ![1, 0, 0] ![1, 256, 256] inb_S2x256x256_S1x256x256_1_0_0).emb (ix3 0 R j) = ix3 1 R j := by
    funext a
    fin_cases a <;> exact Fin.ext (by simp [Rect.unit, ix3, Rect.emb])
  unfold table
  rw [← e]
  exact View.canon_cons_emb _ _ _ _

theorem table_first (R j : Fin 256) : table (ix3 0 R j) = k0_pay2 (F := Ideal) (ix3 0 R j) := by
  have e : (Rect.unit (s := S2x256x256) ![0, 0, 0] ![1, 256, 256] inb_S2x256x256_S1x256x256_0_0_0).emb (ix3 0 R j) = ix3 0 R j := by
    funext a
    fin_cases a <;> exact Fin.ext (by simp [Rect.unit, ix3, Rect.emb])
  unfold table
  refine (View.canon_cons_of_not_mem _ _ ?_).trans ?_
  · intro h
    have := ((Rect.mem_set_unit (inb := inb_S2x256x256_S1x256x256_1_0_0)).mp h 0).1
    exact absurd this (by show ¬ (1 ≤ 0); decide)
  · exact (congrArg (View.canon _) e.symm).trans (View.canon_cons_emb _ _ _ _)

def bias : FVec Ideal S256x256 .f32 := k0_pay4 (F := Ideal) (View.ld table (Rect.unit (k0_off1 (grid0.coords t)) ![1, 256, 256] (k0_off1_inb _)))

theorem bias_at (a : Fin 2) (r : Fin 128) (j : Fin 256) : bias t (ix2 (piled a r) j) = if Sees (block t) r j then (0 : EReal) else ⊥ := by
  have e : bias t (ix2 (piled a r) j) = table (ix3 (if t.val % 16 = 0 then 0 else 1) (piled a r) j) := by
    unfold bias k0_pay4
    pointwise
    refine congrArg table ?_
    funext b
    have h0 := congrFun (offset t) 0
    have h1 := congrFun (offset t) 1
    have h2 := congrFun (offset t) 2
    by_cases h : t.val % 16 = 0 <;> simp only [h, if_true, if_false] at h0 ⊢ <;> fin_cases b <;> refine Fin.ext ?_
    · exact h0
    · exact (congrArg (fun x => x + (piled a r).val) h1).trans (Nat.zero_add _)
    · exact (congrArg (fun x => x + j.val) h2).trans (Nat.zero_add _)
    · exact h0
    · exact (congrArg (fun x => x + (piled a r).val) h1).trans (Nat.zero_add _)
    · exact (congrArg (fun x => x + j.val) h2).trans (Nat.zero_add _)
  rw [e]
  by_cases h : t.val % 16 = 0
  · rw [if_pos h, table_first, bias_first (block t) h]
  · rw [if_neg h, table_later, bias_later (block t) (by show 0 < t.val % 16; omega)]

/-- The columns of one half of the key heads. -/
def columns (g : Fin 2) (w : FVec Ideal S256x256 .bf16) : FVec Ideal S256x128 .bf16 :=
  match g with
  | 0 => extractStridedSlice S256x128 ![0, 0] w slices_S256x256_o0_0_S256x128
  | 1 => extractStridedSlice S256x128 ![0, 128] w slices_S256x256_o0_128_S256x128

theorem columns_at (g : Fin 2) (w : FVec Ideal S256x256 .bf16) (j : Fin 256) (l : Fin 128) :
    columns g w (ix2 j l) = w (ix2 j ⟨g.val * 128 + l.val, by omega⟩) := by
  match g with
  | 0 =>
    unfold columns
    pointwise
  | 1 =>
    unfold columns
    pointwise

theorem place_of (n : Fin 16) (j : Fin 256) (h : j.val < 128) (n' : Fin 16) (hn : n'.val = n.val - 1) : at_row n' ⟨j.val, h⟩ = place n j :=
  Fin.ext (by simp only [at_row, place, hn, h, if_true])

theorem place_own (n : Fin 16) (j : Fin 256) (h : ¬ j.val < 128) : at_row n ⟨j.val - 128, by omega⟩ = place n j :=
  Fin.ext (by simp only [at_row, place, h, if_false])

theorem keys_at (j l : Fin 256) :
    k0_pay5 (F := Ideal) (iblk m c 2 t) (iblk m c 3 t) (ix2 j l) = qkv m c (ix3 (batch t) (place (block t) j) ⟨1024 + l.val, by omega⟩) := by
  refine (joined_at _ _ j l).trans ?_
  by_cases h : j.val < 128
  · refine (dif_pos h).trans ((keys_before_at m c t _ l).trans ?_)
    rw [place_of (block t) j h (before t) rfl]
  · refine (dif_neg h).trans ((keys_own_at m c t _ l).trans ?_)
    rw [place_own (block t) j h]

theorem values_at (j l : Fin 256) :
    k0_pay6 (F := Ideal) (iblk m c 4 t) (iblk m c 5 t) (ix2 j l) = qkv m c (ix3 (batch t) (place (block t) j) ⟨1280 + l.val, by omega⟩) := by
  refine (joined_at _ _ j l).trans ?_
  by_cases h : j.val < 128
  · refine (dif_pos h).trans ((values_before_at m c t _ l).trans ?_)
    rw [place_of (block t) j h (before t) rfl]
  · refine (dif_neg h).trans ((values_own_at m c t _ l).trans ?_)
    rw [place_own (block t) j h]

/-- The head a row of a pair's tile is about: the half and the quarter its key head lies in, the pair, the row. -/
def head (g p e a : Fin 2) : Fin 16 := ⟨g.val * 8 + p.val * 4 + e.val * 2 + a.val, by omega⟩

/-- The lanes of a pair's tile of queries. -/
abbrev queries (o : ℕ) (h : ∀ a, (![0, 0, o] : Fin 3 → Nat) a + S1x128x128.size a ≤ S1x128x1024.size a) : FVec Ideal S1x128x128 .bf16 :=
  View.ld (X0_1 m c t) (Rect.unit ![0, 0, o] ![1, 128, 128] h)

abbrev keys : FVec Ideal S256x256 .bf16 := k0_pay5 (F := Ideal) (iblk m c 2 t) (iblk m c 3 t)
abbrev vals : FVec Ideal S256x256 .bf16 := k0_pay6 (F := Ideal) (iblk m c 4 t) (iblk m c 5 t)

/-- The attention's result and log-sum at a batch, a block, a row of it, a head and a lane of the head. -/
def position (b : Fin 2) (n : Fin 16) (r : Fin 128) (h : Fin 16) (d : Fin 64) : S2x2048x1024.Idx :=
  ix3 b ⟨n.val * 128 + r.val, by omega⟩ ⟨h.val * 64 + d.val, by omega⟩

section
variable (x : FVec Ideal S2x2048x1536 .bf16) (s : FVec Ideal S16 .f32) (b : Fin 2) (n : Fin 16) (r : Fin 128) (h : Fin 16) (d : Fin 64)

def resultAt : EReal := attend (scores x b h n r) (s (ix1 h)) (values x b h n d)
def logAt : EReal := logTotal (scores x b h n r) (s (ix1 h))

theorem resultAt_congr (n' : Fin 16) (r' : Fin 128) (h' : Fin 16) (d' : Fin 64) (hn : n' = n) (hr : r' = r) (hh : h' = h) (hd : d' = d) :
    resultAt x s b n' r' h' d' = resultAt x s b n r h d := by
  subst hn hr hh hd; rfl

theorem logAt_congr (n' : Fin 16) (r' : Fin 128) (h' : Fin 16) (hn : n' = n) (hr : r' = r) (hh : h' = h) :
    logAt x s b n' r' h' = logAt x s b n r h := by
  subst hn hr hh; rfl

theorem block_eq : (n.val * 128 + r.val) / 128 = n.val := by omega
theorem row_eq : (n.val * 128 + r.val) % 128 = r.val := by omega
theorem head_eq : (h.val * 64 + d.val) / 64 = h.val := by omega
theorem lane_eq : (h.val * 64 + d.val) % 64 = d.val := by omega

theorem out_position : Attention.out x s (position b n r h d) = attend (scores x b h n r) (s (ix1 h)) (values x b h n d) :=
  resultAt_congr x s b n r h d _ _ _ _ (Fin.ext (block_eq n r)) (Fin.ext (row_eq n r)) (Fin.ext (head_eq h d)) (Fin.ext (lane_eq h d))

theorem logSum_position : Attention.logSum x s (position b n r h d) = logTotal (scores x b h n r) (s (ix1 h)) :=
  logAt_congr x s b n r h _ _ _ (Fin.ext (block_eq n r)) (Fin.ext (row_eq n r)) (Fin.ext (head_eq h d))

end

/-- The index of a tile, by row, half and lane of the half. -/
theorem tile_index (x : S1x128x128.Idx) : ∃ (r : Fin 128) (a : Fin 2) (d : Fin 64), x = ix3 0 r (lane a d) := by
  refine ⟨x 1, half (x 2), rest (x 2), ?_⟩
  refine Eq.trans ?_ (congrArg (ix3 (0 : Fin 1) (x 1 : Fin 128)) (lane_half (x 2)).symm)
  funext b
  fin_cases b
  · exact Fin.ext (by have : (x 0).val < 1 := (x 0).isLt; show (x 0).val = 0; omega)
  · rfl
  · rfl

variable (g p e a : Fin 2) (o : ℕ) (h : ∀ a, (![0, 0, o] : Fin 3 → Nat) a + S1x128x128.size a ≤ S1x128x1024.size a)
  (ho : o = g.val * 512 + p.val * 256 + e.val * 128) (r : Fin 128) (d : Fin 64)

include ho

theorem tileRow_eq : tileRow p (queries m c t o h) (columns g (keys m c t)) (bias t) r a = scores (qkv m c) (batch t) (head g p e a) (block t) r := by
  funext j
  unfold tileRow
  rw [bias_at, biased]
  unfold scores
  refine congrArg (fun s => if Sees (block t) r j then s * Ideal.ofBits .f32 0x3E000000#32 else ⊥) (Finset.sum_congr rfl fun d _ => ?_)
  refine congrArg₂ (fun u w : EReal => u * w) ((columns_at g _ j _).trans ((keys_at m c t j _).trans (congrArg (qkv m c) (congrArg (ix3 _ _) (Fin.ext ?_)))))
    ((query_at m c t o (by omega) h r _).trans (congrArg (qkv m c) (congrArg (ix3 _ _) (Fin.ext ?_))))
  · simp only [lane, head]; omega
  · simp only [lane, head]; omega

omit ho in
theorem tile_values : (fun j => columns g (vals m c t) (ix2 j (lane p d))) = values (qkv m c) (batch t) (head g p e a) (block t) d := by
  funext j
  refine (columns_at g _ j _).trans ((values_at m c t j _).trans (congrArg (qkv m c) (congrArg (ix3 _ _) (Fin.ext ?_))))
  simp only [lane, head]; omega

theorem lands (i : S2x2048x1024.Idx) (h0 : (i 0).val = t.val / 16) (h1 : (i 1).val = t.val % 16 * 128 + r.val) (h2 : (i 2).val = o + (lane a d).val) :
    i = position (batch t) (block t) r (head g p e a) d := by
  funext b
  fin_cases b
  · exact Fin.ext h0
  · exact Fin.ext h1
  · exact Fin.ext (h2.trans (by simp only [lane, head, ho]; show _ = (g.val * 8 + p.val * 4 + e.val * 2 + a.val) * 64 + d.val; omega))

omit a r d in
theorem tile (z y : EReal) (hz : z = sinks m c (ix1 (head g p e 0))) (hy : y = sinks m c (ix1 (head g p e 1))) (x : S1x128x128.Idx)
    (i : S2x2048x1024.Idx) (h0 : (i 0).val = t.val / 16) (h1 : (i 1).val = t.val % 16 * 128 + (x 1).val) (h2 : (i 2).val = o + (x 2).val) :
    outTile p (queries m c t o h) (columns g (keys m c t)) (columns g (vals m c t)) (bias t) z y x = Attention.out (qkv m c) (sinks m c) i
      ∧ narrowTile p (queries m c t o h) (columns g (keys m c t)) (columns g (vals m c t)) (bias t) z y x = Attention.out (qkv m c) (sinks m c) i
      ∧ logTile p (queries m c t o h) (columns g (keys m c t)) (bias t) z y x = Attention.logSum (qkv m c) (sinks m c) i := by
  obtain ⟨r, a, d, rfl⟩ := tile_index x
  obtain rfl := lands t g p e a o ho r d i h0 h1 h2
  have hs : (if a = 0 then z else y) = sinks m c (ix1 (head g p e a)) := by
    match a with
    | 0 => exact hz
    | 1 => exact hy
  refine ⟨(outTile_at p a _ _ _ _ z y r d).trans ?_, (narrowTile_at p a _ _ _ _ z y r d).trans ?_, (logTile_at p a _ _ _ z y r d).trans ?_⟩
  · rw [out_position, tileRow_eq m c t g p e a o h ho r, hs, tile_values m c t g p e a d]
  · rw [out_position, tileRow_eq m c t g p e a o h ho r, hs, tile_values m c t g p e a d]
  · rw [logSum_position, tileRow_eq m c t g p e a o h ho r, hs]

end Cert.WindowIdeal.Hand
-- ==== Proof.WindowResults.lean ====
/-
  The three results of the sliding-window attention's kernel, whole: every tile of every point lands where it belongs.
-/
module

public import proofs.«01_k».proof.Proof.WindowValue

@[expose] public section

set_option maxRecDepth 16384

noncomputable section

open Idealize.ShloMosaic Idealize.ShloMosaic.TcCoe Idealize.SL.Sem

namespace Cert.WindowIdeal.Hand

open Cert.WindowIdeal Cert.WindowIdeal.Gen Cert.Attention

variable (m : (ℓ : Loc nD τ sig) → Buf (Elt Ideal) ℓ)

theorem final6 (c : Dev nD) : (dats m 0 c).arrAt 6 cfg0.N = Attention.out (qkv m c) (sinks m c) := by
  refine (dats m 0 c).arrAt_eq_of_covers 6 _ (by decide +kernel) fun t hf y => ?_
  blk_simp
  rw [after0_6]
  unfold outsAt0
  frame_out
  canon_tiles x h
  · refine (tile m c t 1 1 1 896 inb_S1x128x1024_S1x128x128_0_0_896 rfl _ _ (sink_at m c t 14 (by decide) inb_S16_S1_14 _) (sink_at m c t 15 (by decide) inb_S16_S1_15 _) x _ ?_ ?_ ?_).1 <;>
      blk_simp [e6 t] <;> omega
  · refine (tile m c t 1 1 0 768 inb_S1x128x1024_S1x128x128_0_0_768 rfl _ _ (sink_at m c t 12 (by decide) inb_S16_S1_12 _) (sink_at m c t 13 (by decide) inb_S16_S1_13 _) x _ ?_ ?_ ?_).1 <;>
      blk_simp [e6 t] <;> omega
  · refine (tile m c t 1 0 1 640 inb_S1x128x1024_S1x128x128_0_0_640 rfl _ _ (sink_at m c t 10 (by decide) inb_S16_S1_10 _) (sink_at m c t 11 (by decide) inb_S16_S1_11 _) x _ ?_ ?_ ?_).1 <;>
      blk_simp [e6 t] <;> omega
  · refine (tile m c t 1 0 0 512 inb_S1x128x1024_S1x128x128_0_0_512 rfl _ _ (sink_at m c t 8 (by decide) inb_S16_S1_8 _) (sink_at m c t 9 (by decide) inb_S16_S1_9 _) x _ ?_ ?_ ?_).1 <;>
      blk_simp [e6 t] <;> omega
  · refine (tile m c t 0 1 1 384 inb_S1x128x1024_S1x128x128_0_0_384 rfl _ _ (sink_at m c t 6 (by decide) inb_S16_S1_6 _) (sink_at m c t 7 (by decide) inb_S16_S1_7 _) x _ ?_ ?_ ?_).1 <;>
      blk_simp [e6 t] <;> omega
  · refine (tile m c t 0 1 0 256 inb_S1x128x1024_S1x128x128_0_0_256 rfl _ _ (sink_at m c t 4 (by decide) inb_S16_S1_4 _) (sink_at m c t 5 (by decide) inb_S16_S1_5 _) x _ ?_ ?_ ?_).1 <;>
      blk_simp [e6 t] <;> omega
  · refine (tile m c t 0 0 1 128 inb_S1x128x1024_S1x128x128_0_0_128 rfl _ _ (sink_at m c t 2 (by decide) inb_S16_S1_2 _) (sink_at m c t 3 (by decide) inb_S16_S1_3 _) x _ ?_ ?_ ?_).1 <;>
      blk_simp [e6 t] <;> omega
  · refine (tile m c t 0 0 0 0 inb_S1x128x1024_S1x128x128_0_0_0 rfl _ _ (sink_at m c t 0 (by decide) inb_S16_S1_0 _) (sink_at m c t 1 (by decide) inb_S16_S1_1 _) x _ ?_ ?_ ?_).1 <;>
      blk_simp [e6 t] <;> omega

theorem final7 (c : Dev nD) : (dats m 0 c).arrAt 7 cfg0.N = Attention.logSum (qkv m c) (sinks m c) := by
  refine (dats m 0 c).arrAt_eq_of_covers 7 _ (by decide +kernel) fun t hf y => ?_
  blk_simp
  rw [after0_7]
  unfold outsAt0
  frame_out
  canon_tiles x h
  · refine (tile m c t 1 1 1 896 inb_S1x128x1024_S1x128x128_0_0_896 rfl _ _ (sink_at m c t 14 (by decide) inb_S16_S1_14 _) (sink_at m c t 15 (by decide) inb_S16_S1_15 _) x _ ?_ ?_ ?_).2.2 <;>
      blk_simp [e7 t] <;> omega
  · refine (tile m c t 1 1 0 768 inb_S1x128x1024_S1x128x128_0_0_768 rfl _ _ (sink_at m c t 12 (by decide) inb_S16_S1_12 _) (sink_at m c t 13 (by decide) inb_S16_S1_13 _) x _ ?_ ?_ ?_).2.2 <;>
      blk_simp [e7 t] <;> omega
  · refine (tile m c t 1 0 1 640 inb_S1x128x1024_S1x128x128_0_0_640 rfl _ _ (sink_at m c t 10 (by decide) inb_S16_S1_10 _) (sink_at m c t 11 (by decide) inb_S16_S1_11 _) x _ ?_ ?_ ?_).2.2 <;>
      blk_simp [e7 t] <;> omega
  · refine (tile m c t 1 0 0 512 inb_S1x128x1024_S1x128x128_0_0_512 rfl _ _ (sink_at m c t 8 (by decide) inb_S16_S1_8 _) (sink_at m c t 9 (by decide) inb_S16_S1_9 _) x _ ?_ ?_ ?_).2.2 <;>
      blk_simp [e7 t] <;> omega
  · refine (tile m c t 0 1 1 384 inb_S1x128x1024_S1x128x128_0_0_384 rfl _ _ (sink_at m c t 6 (by decide) inb_S16_S1_6 _) (sink_at m c t 7 (by decide) inb_S16_S1_7 _) x _ ?_ ?_ ?_).2.2 <;>
      blk_simp [e7 t] <;> omega
  · refine (tile m c t 0 1 0 256 inb_S1x128x1024_S1x128x128_0_0_256 rfl _ _ (sink_at m c t 4 (by decide) inb_S16_S1_4 _) (sink_at m c t 5 (by decide) inb_S16_S1_5 _) x _ ?_ ?_ ?_).2.2 <;>
      blk_simp [e7 t] <;> omega
  · refine (tile m c t 0 0 1 128 inb_S1x128x1024_S1x128x128_0_0_128 rfl _ _ (sink_at m c t 2 (by decide) inb_S16_S1_2 _) (sink_at m c t 3 (by decide) inb_S16_S1_3 _) x _ ?_ ?_ ?_).2.2 <;>
      blk_simp [e7 t] <;> omega
  · refine (tile m c t 0 0 0 0 inb_S1x128x1024_S1x128x128_0_0_0 rfl _ _ (sink_at m c t 0 (by decide) inb_S16_S1_0 _) (sink_at m c t 1 (by decide) inb_S16_S1_1 _) x _ ?_ ?_ ?_).2.2 <;>
      blk_simp [e7 t] <;> omega

theorem final8 (c : Dev nD) : (dats m 0 c).arrAt 8 cfg0.N = Attention.out (qkv m c) (sinks m c) := by
  refine (dats m 0 c).arrAt_eq_of_covers 8 _ (by decide +kernel) fun t hf y => ?_
  blk_simp
  rw [after0_8]
  unfold outsAt0
  frame_out
  canon_tiles x h
  · refine (tile m c t 1 1 1 896 inb_S1x128x1024_S1x128x128_0_0_896 rfl _ _ (sink_at m c t 14 (by decide) inb_S16_S1_14 _) (sink_at m c t 15 (by decide) inb_S16_S1_15 _) x _ ?_ ?_ ?_).2.1 <;>
      blk_simp [e8 t] <;> omega
  · refine (tile m c t 1 1 0 768 inb_S1x128x1024_S1x128x128_0_0_768 rfl _ _ (sink_at m c t 12 (by decide) inb_S16_S1_12 _) (sink_at m c t 13 (by decide) inb_S16_S1_13 _) x _ ?_ ?_ ?_).2.1 <;>
      blk_simp [e8 t] <;> omega
  · refine (tile m c t 1 0 1 640 inb_S1x128x1024_S1x128x128_0_0_640 rfl _ _ (sink_at m c t 10 (by decide) inb_S16_S1_10 _) (sink_at m c t 11 (by decide) inb_S16_S1_11 _) x _ ?_ ?_ ?_).2.1 <;>
      blk_simp [e8 t] <;> omega
  · refine (tile m c t 1 0 0 512 inb_S1x128x1024_S1x128x128_0_0_512 rfl _ _ (sink_at m c t 8 (by decide) inb_S16_S1_8 _) (sink_at m c t 9 (by decide) inb_S16_S1_9 _) x _ ?_ ?_ ?_).2.1 <;>
      blk_simp [e8 t] <;> omega
  · refine (tile m c t 0 1 1 384 inb_S1x128x1024_S1x128x128_0_0_384 rfl _ _ (sink_at m c t 6 (by decide) inb_S16_S1_6 _) (sink_at m c t 7 (by decide) inb_S16_S1_7 _) x _ ?_ ?_ ?_).2.1 <;>
      blk_simp [e8 t] <;> omega
  · refine (tile m c t 0 1 0 256 inb_S1x128x1024_S1x128x128_0_0_256 rfl _ _ (sink_at m c t 4 (by decide) inb_S16_S1_4 _) (sink_at m c t 5 (by decide) inb_S16_S1_5 _) x _ ?_ ?_ ?_).2.1 <;>
      blk_simp [e8 t] <;> omega
  · refine (tile m c t 0 0 1 128 inb_S1x128x1024_S1x128x128_0_0_128 rfl _ _ (sink_at m c t 2 (by decide) inb_S16_S1_2 _) (sink_at m c t 3 (by decide) inb_S16_S1_3 _) x _ ?_ ?_ ?_).2.1 <;>
      blk_simp [e8 t] <;> omega
  · refine (tile m c t 0 0 0 0 inb_S1x128x1024_S1x128x128_0_0_0 rfl _ _ (sink_at m c t 0 (by decide) inb_S16_S1_0 _) (sink_at m c t 1 (by decide) inb_S16_S1_1 _) x _ ?_ ?_ ?_).2.1 <;>
      blk_simp [e8 t] <;> omega

end Cert.WindowIdeal.Hand
-- ==== Proof.WindowReference.lean ====
/-
  The reference of the sliding-window attention: its stages, each read entry by entry, and its three results.
-/
module

public import proofs.«01_k».proof.Proof.Gen.WindowRefIdeal.Run
public import Idealize.ShloMosaic.Lib.Pipeline.ValueKit
public import Idealize.ShloMosaic.Lib.Tactic.CleanTypes
public import proofs.«01_k».proof.Proof.Attention

@[expose] public section

set_option maxRecDepth 16384

noncomputable section

open Idealize.ShloMosaic Idealize.ShloMosaic.TcCoe Idealize.SL.Sem

namespace Cert.WindowRefIdeal.Hand

open Cert.WindowRefIdeal Cert.WindowRefIdeal.Gen

def queries (x : FVec Ideal S2x2048x1536 .bf16) : FVec Ideal S2x16x128x4x4x64 .f32 :=
  shapeCast _ (shapeCast _ (extractStridedSlice S2x2048x1024 ![0, 0, 0] (extf .f32 x bitsLt_bf16_f32) slices_S2x2048x1536_S2x2048x1024_0_0_0) shapeCasts_S2x2048x1024_S2x2048x4x4x64) shapeCasts_S2x2048x4x4x64_S2x16x128x4x4x64

def blocks (k : FVec Ideal S2x2048x256 .f32) : FVec Ideal S2x16x128x4x64 .f32 :=
  shapeCast _ (shapeCast _ k shapeCasts_S2x2048x256_S2x2048x4x64) shapeCasts_S2x2048x4x64_S2x16x128x4x64

def window (k : FVec Ideal S2x16x128x4x64 .f32) : FVec Ideal S2x16x256x4x64 .f32 :=
  concatenate S2x16x256x4x64 2 [⟨S2x16x128x4x64, (pad S2x16x128x4x64 ![0, 1, 0, 0, 0] ![0, 0, 0, 0, 0] ![0, 0, 0, 0, 0] (extractStridedSlice S2x15x128x4x64 ![0, 0, 0, 0, 0] k slices_S2x16x128x4x64_S2x15x128x4x64_0_0_0_0_0) (sitofp .f32 (constantI S_ 32 0#32)) pads_S2x15x128x4x64_S2x16x128x4x64_000_100_000_000_000 h_S_)⟩, ⟨S2x16x128x4x64, k⟩] concatenates_S2x16x128x4x64_S2x16x128x4x64_S2x16x256x4x64_d2

def products (q : FVec Ideal S2x16x128x4x4x64 .f32) (w : FVec Ideal S2x16x256x4x64 .f32) : FVec Ideal S2x4x4x16x128x256 .f32 :=
  mulf (transpose S2x4x4x16x128x256 [0, 1, 5, 2, 4, 3] (Host.dotGeneral dot_S2x16x256x4x64_S2x16x128x4x4x64_S2x4x16x256x128x4_4_5_2_24_031_031 none w q) transposes_S2x4x16x256x128x4_S2x4x4x16x128x256_0_1_5_2_4_3) (broadcastInDim S2x4x4x16x128x256 ![] bcast_S_S2x4x4x16x128x256 (constant S_ .f32 0x3E000000#32))

def seen : IVec S16x128x256 1 :=
  andi (broadcastInDim S16x128x256 ![0, 1, 2] bcast_S1x128x256_S16x128x256_0_1_2 (andi (broadcastInDim S1x128x256 ![1, 2] bcast_S128x256_S1x128x256_1_2 (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))) (broadcastInDim S1x128x256 ![1, 2] bcast_S128x256_S1x128x256_1_2 (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32))))))

def scores (p : FVec Ideal S2x4x4x16x128x256 .f32) : FVec Ideal S2x4x4x16x128x256 .f32 :=
  select (broadcastInDim S2x4x4x16x128x256 ![3, 4, 5] bcast_S16x128x256_S2x4x4x16x128x256_3_4_5 seen) p (broadcastInDim S2x4x4x16x128x256 ![] bcast_S_S2x4x4x16x128x256 (id (constant S_ .f32 0xFF800000#32)))

def sinks (s : FVec Ideal S16 .f32) : FVec Ideal S2x4x4x16x128 .f32 :=
  broadcastInDim S2x4x4x16x128 ![0, 1, 2, 3, 4] bcast_S1x4x4x1x1_S2x4x4x16x128_0_1_2_3_4 (broadcastInDim S1x4x4x1x1 ![1, 2, 3, 4] bcast_S4x4x1x1_S1x4x4x1x1_1_2_3_4 (shapeCast _ s shapeCasts_S16_S4x4x1x1))

def largest (p : FVec Ideal S2x4x4x16x128x256 .f32) (s : FVec Ideal S2x4x4x16x128 .f32) : FVec Ideal S2x4x4x16x128 .f32 :=
  maximumf (Host.reduce FloatOps.maximumf p (constant S_ .f32 0xFF800000#32) reducesTo_S2x4x4x16x128x256_S2x4x4x16x128_d5 h_S_) s

def weights (p : FVec Ideal S2x4x4x16x128x256 .f32) (t : FVec Ideal S2x4x4x16x128 .f32) : FVec Ideal S2x4x4x16x128x256 .f32 :=
  Host.exp (subf p (broadcastInDim S2x4x4x16x128x256 ![0, 1, 2, 3, 4, 5] bcast_S2x4x4x16x128x1_S2x4x4x16x128x256_0_1_2_3_4_5 (broadcastInDim S2x4x4x16x128x1 ![0, 1, 2, 3, 4] bcast_S2x4x4x16x128_S2x4x4x16x128x1_0_1_2_3_4 t)))

def total (w : FVec Ideal S2x4x4x16x128x256 .f32) (s t : FVec Ideal S2x4x4x16x128 .f32) : FVec Ideal S2x4x4x16x128 .f32 :=
  addf (Host.reduceAdd w (constant S_ .f32 0x00000000#32) reducesTo_S2x4x4x16x128x256_S2x4x4x16x128_d5 h_S_) (Host.exp (subf s t))

def scoresOf (x : FVec Ideal S2x2048x1536 .bf16) : FVec Ideal S2x4x4x16x128x256 .f32 :=
  scores (products (queries x) (window (blocks (extractStridedSlice S2x2048x256 ![0, 0, 1024] (extf .f32 x bitsLt_bf16_f32) slices_S2x2048x1536_S2x2048x256_0_0_1024))))

def largestOf (x : FVec Ideal S2x2048x1536 .bf16) (s : FVec Ideal S16 .f32) : FVec Ideal S2x4x4x16x128 .f32 :=
  largest (scoresOf x) (sinks s)

def weightsOf (x : FVec Ideal S2x2048x1536 .bf16) (s : FVec Ideal S16 .f32) : FVec Ideal S2x4x4x16x128x256 .f32 :=
  weights (scoresOf x) (largestOf x s)

def totalOf (x : FVec Ideal S2x2048x1536 .bf16) (s : FVec Ideal S16 .f32) : FVec Ideal S2x4x4x16x128 .f32 :=
  total (weightsOf x s) (sinks s) (largestOf x s)

def out (x : FVec Ideal S2x2048x1536 .bf16) (s : FVec Ideal S16 .f32) : FVec Ideal S2x2048x1024 .f32 :=
  shapeCast _ (shapeCast _ (Host.divf (transpose S2x16x128x4x4x64 [0, 1, 5, 2, 4, 3] (Host.dotGeneral dot_S2x16x256x4x64_S2x4x4x16x128x256_S2x16x4x64x4x128_2_5_4_24_013_031 none
    (window (blocks (extractStridedSlice S2x2048x256 ![0, 0, 1280] (extf .f32 x bitsLt_bf16_f32) slices_S2x2048x1536_S2x2048x256_0_0_1280)))
    (weightsOf x s)) transposes_S2x16x4x64x4x128_S2x16x128x4x4x64_0_1_5_2_4_3)
    (broadcastInDim S2x16x128x4x4x64 ![0, 1, 2, 3, 4, 5] bcast_S2x16x128x4x4x1_S2x16x128x4x4x64_0_1_2_3_4_5 (broadcastInDim S2x16x128x4x4x1 ![0, 1, 2, 3, 4] bcast_S2x16x128x4x4_S2x16x128x4x4x1_0_1_2_3_4 (transpose S2x16x128x4x4 [0, 3, 4, 1, 2] (totalOf x s) transposes_S2x4x4x16x128_S2x16x128x4x4_0_3_4_1_2)))) shapeCasts_S2x16x128x4x4x64_S2x2048x4x4x64) shapeCasts_S2x2048x4x4x64_S2x2048x1024

variable (x : FVec Ideal S2x2048x1536 .bf16) (s : FVec Ideal S16 .f32)

/-- The bit the reference masks with. -/
theorem seen_bits (n : Fin 16) (r : Fin 128) (j : Fin 256) : seen (ix3 n r j) = if Attention.Sees n r j then 1#1 else 0#1 := by
  unfold seen
  pointwise
  exact Attention.sees_bits n r j _ (Attention.later_bits n)

theorem queries_at (b : Fin 2) (n : Fin 16) (r : Fin 128) (g e : Fin 4) (d : Fin 64) :
    queries x (ix6 b n r g e d) = x (ix3 b ⟨n.val * 128 + r.val, by omega⟩ ⟨(g.val * 4 + e.val) * 64 + d.val, by omega⟩) := by
  unfold queries
  pointwise
  exact congrArg x (congrArg (ix3 b _) (Fin.ext (by show g.val * 256 + e.val * 64 + d.val = (g.val * 4 + e.val) * 64 + d.val; omega)))

/-- A key or a value of the window, where there is one. -/
theorem window_at (k : FVec Ideal S2x2048x256 .f32) (b : Fin 2) (n : Fin 16) (j : Fin 256) (g : Fin 4) (d : Fin 64) (h : 0 < n.val ∨ 128 ≤ j.val) :
    window (blocks k) (ix5 b n j g d) = k (ix3 b (Attention.place n j) ⟨g.val * 64 + d.val, by omega⟩) := by
  unfold window blocks
  pointwise
  by_cases hj : j.val < 128
  · rw [dif_pos hj, dif_pos (by omega)]
    exact congrArg k (congrArg (fun a => ix3 b a _) (Fin.ext (by simp [Attention.place, hj])))
  · rw [dif_neg hj]
    exact congrArg k (congrArg (fun a => ix3 b a _) (Fin.ext (by simp [Attention.place, hj])))

theorem maximumf_at {r : ℕ} {d : Fin r → ℕ} (a b : FVec Ideal ⟨r, d⟩ .f32) (i : Shape.Idx ⟨r, d⟩) : maximumf a b i = max (a i) (b i) := rfl

theorem fold_at (p : FVec Ideal S2x4x4x16x128x256 .f32) (b : FVec Ideal S_ .f32) (i : S2x4x4x16x128.Idx) :
    Host.reduce FloatOps.maximumf p b reducesTo_S2x4x4x16x128x256_S2x4x4x16x128_d5 h_S_ i
      = Finset.univ.fold max (b ix0) fun j : Fin 256 => p (ix6 (i 0) (i 1) (i 2) (i 3) (i 4) j) := by
  refine (Host.reduce_eq_fold_single max p b _ (by decide) h_S_ i).trans ?_
  refine congrArg₂ (fun z f => Finset.fold max z f Finset.univ) (congrArg b (funext fun a => a.elim0)) (funext fun j => congrArg p ?_)
  funext a
  fin_cases a <;> rfl

theorem sum_at (p : FVec Ideal S2x4x4x16x128x256 .f32) (i : S2x4x4x16x128.Idx) :
    Ideal.hostReduceAdd reducesTo_S2x4x4x16x128x256_S2x4x4x16x128_d5 p 0 i
      = ∑ j : Fin 256, p (ix6 (i 0) (i 1) (i 2) (i 3) (i 4) j) := by
  rw [Ideal.hostReduceAdd_single _ (by decide), zero_add]
  refine Finset.sum_congr rfl fun j _ => congrArg p ?_
  funext a
  fin_cases a <;> rfl

theorem scoresOf_at (b : Fin 2) (g e : Fin 4) (n : Fin 16) (r : Fin 128) (j : Fin 256) :
    scoresOf x (ix6 b g e n r j) = Attention.scores x b ⟨g.val * 4 + e.val, by omega⟩ n r j := by
  unfold scoresOf scores products
  pointwise
  rw [seen_bits]
  unfold Attention.scores
  by_cases h : Attention.Sees n r j
  · rw [if_pos h, if_pos h]
    refine congrArg (fun a : EReal => a * Ideal.ofBits .f32 0x3E000000#32) (Finset.sum_congr rfl fun d _ => ?_)
    rw [window_at _ b n j g d h.1, queries_at]
    pointwise
    refine congrArg (fun a => x a * _) (congrArg (ix3 b _) (Fin.ext ?_))
    show 1024 + (g.val * 64 + d.val) = 1024 + (g.val * 4 + e.val) / 4 * 64 + d.val
    omega
  · rw [if_neg h, if_neg h]
    show Ideal.ofBits .f32 0xFF800000#32 = ⊥
    simp [Ideal.ofBits, Ideal.ieee]

variable (i : S2x4x4x16x128.Idx)

/-- The scores of the row an index of the reference's row values names. -/
def row (i : S2x4x4x16x128.Idx) : Fin 256 → EReal := Attention.scores x (i 0) ⟨(i 1).val * 4 + (i 2).val, by have := (i 1).isLt; have := (i 2).isLt; simp at *; omega⟩ (i 3) (i 4)

/-- The sink of that row's head. -/
def sinkAt (i : S2x4x4x16x128.Idx) : EReal := s (ix1 ⟨(i 1).val * 4 + (i 2).val, by have := (i 1).isLt; have := (i 2).isLt; simp at *; omega⟩)

theorem sinks_at : sinks s i = sinkAt s i := by
  unfold sinks
  pointwise
  rfl

theorem largestOf_at : largestOf x s i = Attention.peak (row x i) (sinkAt s i) := by
  have e : (fun j : Fin 256 => scoresOf x (ix6 (i 0) (i 1) (i 2) (i 3) (i 4) j)) = row x i :=
    funext fun j => scoresOf_at x (i 0) (i 1) (i 2) (i 3) (i 4) j
  unfold largestOf largest
  rw [maximumf_at, fold_at, sinks_at, e]
  rfl

theorem weightsOf_at (j : Fin 256) : weightsOf x s (ix6 (i 0) (i 1) (i 2) (i 3) (i 4) j) = Ideal.exp (row x i j - Attention.peak (row x i) (sinkAt s i)) := by
  unfold weightsOf weights
  pointwise
  exact congrArg Ideal.exp (congrArg₂ (fun a b : EReal => a - b) (scoresOf_at x (i 0) (i 1) (i 2) (i 3) (i 4) j) (largestOf_at x s i))

theorem totalOf_at : totalOf x s i = Attention.total (row x i) (sinkAt s i) := by
  unfold totalOf total
  pointwise
  rw [sum_at, largestOf_at, sinks_at]
  unfold Attention.total
  exact congrArg (fun a : EReal => a + _) (Finset.sum_congr rfl fun j _ => weightsOf_at x s i j)

/-- The index of the row values an index of the result lies in. -/
def rowOf (i : S2x2048x1024.Idx) : S2x4x4x16x128.Idx :=
  ix5 (i 0) ⟨(i 2).val / 256, by have := (i 2).isLt; simp at this; omega⟩ ⟨(i 2).val / 64 % 4, Nat.mod_lt _ (by norm_num)⟩
    ⟨(i 1).val / 128, by have := (i 1).isLt; simp at this; omega⟩ ⟨(i 1).val % 128, Nat.mod_lt _ (by norm_num)⟩

theorem head_eq (i : S2x2048x1024.Idx) : (i 2).val / 256 * 4 + (i 2).val / 64 % 4 = (i 2).val / 64 := by omega

theorem row_eq (i : S2x2048x1024.Idx) : row x (rowOf i) =
    Attention.scores x (i 0) ⟨(i 2).val / 64, by have := (i 2).isLt; simp at this; omega⟩ ⟨(i 1).val / 128, by have := (i 1).isLt; simp at this; omega⟩ ⟨(i 1).val % 128, Nat.mod_lt _ (by norm_num)⟩ :=
  congrArg (fun h => Attention.scores x (i 0) h _ _) (Fin.ext (head_eq i))

theorem sink_eq (i : S2x2048x1024.Idx) : sinkAt s (rowOf i) = s (ix1 ⟨(i 2).val / 64, by have := (i 2).isLt; simp at this; omega⟩) :=
  congrArg (fun h => s (ix1 h)) (Fin.ext (head_eq i))

theorem out_at (i : S2x2048x1024.Idx) : out x s i = Attention.out x s i := by
  have e : out x s i = Ideal.div (∑ j : Fin 256, window (blocks (extractStridedSlice S2x2048x256 ![0, 0, 1280] (extf .f32 x bitsLt_bf16_f32) slices_S2x2048x1536_S2x2048x256_0_0_1280))
      (ix5 (i 0) ⟨(i 1).val / 128, by have := (i 1).isLt; simp at this; omega⟩ j ⟨(i 2).val / 256, by have := (i 2).isLt; simp at this; omega⟩ ⟨(i 2).val % 64, Nat.mod_lt _ (by norm_num)⟩)
        * weightsOf x s (ix6 (rowOf i 0) (rowOf i 1) (rowOf i 2) (rowOf i 3) (rowOf i 4) j)) (totalOf x s (rowOf i)) := by
    unfold out
    pointwise
    rfl
  rw [e, totalOf_at]
  simp only [weightsOf_at, row_eq, sink_eq]
  unfold Attention.out Attention.attend Attention.values
  dsimp only
  refine congrArg₂ Ideal.div (Finset.sum_congr rfl fun j _ => ?_) rfl
  rw [mul_comm]
  by_cases h : Attention.Sees ⟨(i 1).val / 128, by have := (i 1).isLt; simp at this; omega⟩ ⟨(i 1).val % 128, Nat.mod_lt _ (by norm_num)⟩ j
  · refine congrArg (fun a : EReal => Ideal.exp _ * a) ((window_at _ _ _ j _ _ h.1).trans ?_)
    pointwise
    refine congrArg x (congrArg (ix3 _ _) (Fin.ext ?_))
    show 1280 + ((i 2).val / 256 * 64 + (i 2).val % 64) = 1280 + (i 2).val / 64 / 4 * 64 + (i 2).val % 64
    omega
  · have z : Attention.scores x (i 0) ⟨(i 2).val / 64, by have := (i 2).isLt; simp at this; omega⟩ ⟨(i 1).val / 128, by have := (i 1).isLt; simp at this; omega⟩ ⟨(i 1).val % 128, Nat.mod_lt _ (by norm_num)⟩ j = ⊥ := if_neg h
    simp only [z, EReal.bot_sub, Ideal.exp_bot, zero_mul]

variable (m : (ℓ : Loc nD τ sig) → Buf (Elt Ideal) ℓ)

theorem lse_eq (c : Dev nD) : Value.res_main_v79 m c =
    shapeCast _ (broadcastInDim S2x2048x4x4x64 ![0, 1, 2, 3, 4] bcast_S2x2048x4x4x1_S2x2048x4x4x64_0_1_2_3_4 (broadcastInDim S2x2048x4x4x1 ![0, 1, 2, 3] bcast_S2x2048x4x4_S2x2048x4x4x1_0_1_2_3 (shapeCast _ (transpose S2x16x128x4x4 [0, 3, 4, 1, 2] (addf (largestOf (m ((c.tc : Thread nD τ).loc main_arg0)) (m ((c.tc : Thread nD τ).loc main_arg1))) (Host.log (totalOf (m ((c.tc : Thread nD τ).loc main_arg0)) (m ((c.tc : Thread nD τ).loc main_arg1))))) transposes_S2x4x4x16x128_S2x16x128x4x4_0_3_4_1_2) shapeCasts_S2x16x128x4x4_S2x2048x4x4))) shapeCasts_S2x2048x4x4x64_S2x2048x1024 := rfl

theorem layout_at (a : FVec Ideal S2x4x4x16x128 .f32) (i : S2x2048x1024.Idx) :
    shapeCast S2x2048x1024 (broadcastInDim S2x2048x4x4x64 ![0, 1, 2, 3, 4] bcast_S2x2048x4x4x1_S2x2048x4x4x64_0_1_2_3_4 (broadcastInDim S2x2048x4x4x1 ![0, 1, 2, 3] bcast_S2x2048x4x4_S2x2048x4x4x1_0_1_2_3 (shapeCast S2x2048x4x4 (transpose S2x16x128x4x4 [0, 3, 4, 1, 2] a transposes_S2x4x4x16x128_S2x16x128x4x4_0_3_4_1_2) shapeCasts_S2x16x128x4x4_S2x2048x4x4))) shapeCasts_S2x2048x4x4x64_S2x2048x1024 i
      = a (rowOf i) := by
  pointwise
  rfl

theorem log_at {r : ℕ} {d : Fin r → ℕ} (a b : FVec Ideal ⟨r, d⟩ .f32) (i : Shape.Idx ⟨r, d⟩) (p q : EReal) (ha : a i = p) (hb : b i = q) :
    addf a (Host.log b) i = p + Ideal.log q := by
  subst ha hb; rfl

theorem lse_at (c : Dev nD) (i : S2x2048x1024.Idx) : Value.res_main_v79 m c i
    = Attention.logSum (m ((c.tc : Thread nD τ).loc main_arg0)) (m ((c.tc : Thread nD τ).loc main_arg1)) i := by
  rw [lse_eq, layout_at]
  refine (log_at _ _ _ _ _ (largestOf_at _ _ (rowOf i)) (totalOf_at _ _ (rowOf i))).trans ?_
  rw [row_eq, sink_eq]
  unfold Attention.logSum Attention.logTotal
  rfl

theorem out_eq (c : Dev nD) : Value.res_main_v76 m c = out (m ((c.tc : Thread nD τ).loc main_arg0)) (m ((c.tc : Thread nD τ).loc main_arg1)) := rfl

theorem out_narrow_eq (c : Dev nD) : Value.res_main_v80 m c = truncf .bf16 (out (m ((c.tc : Thread nD τ).loc main_arg0)) (m ((c.tc : Thread nD τ).loc main_arg1))) bitsLt_bf16_f32 := rfl

theorem run (ρ : Dev nD → PrngReg) : θ_run defs (onTc (τ := τ) (main (F := Ideal))) { mem := m, sem := fun _ => 0, prng := ρ } fun r => ∀ c : Dev nD,
    r.2.mem ((c.tc : Thread nD τ).loc main_v76) = Attention.out (m ((c.tc : Thread nD τ).loc main_arg0)) (m ((c.tc : Thread nD τ).loc main_arg1))
      ∧ r.2.mem ((c.tc : Thread nD τ).loc main_v79) = Attention.logSum (m ((c.tc : Thread nD τ).loc main_arg0)) (m ((c.tc : Thread nD τ).loc main_arg1))
      ∧ r.2.mem ((c.tc : Thread nD τ).loc main_v80) = Attention.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => by
    obtain ⟨h0, h1, h2, hr⟩ := h c
    refine ⟨h0.trans ?_, h1.trans ?_, h2.trans ?_, hr⟩
    · rw [out_eq]
      exact funext fun i => out_at _ _ i
    · exact funext fun i => lse_at m c i
    · rw [out_narrow_eq]
      exact funext fun i => out_at _ _ i) (Value.run (F := Ideal) m ρ)

end Cert.WindowRefIdeal.Hand
-- ==== Proof.WindowClaims.lean ====
/-
  The claims about attention over a sliding window.
-/
module

public import proofs.«01_k».proof.Defs
public import proofs.«01_k».proof.Proof.WindowResults
public import proofs.«01_k».proof.Proof.WindowReference
public import proofs.«01_k».proof.Proof.Gen.Window.Frame
public import Idealize.ShloMosaic.Lib.Quiescent

@[expose] public section

noncomputable section

namespace Cert.Proof

open Idealize.ShloMosaic Idealize.SL.Sem

theorem window_frame : Cert.quiescent_Window := fun m ρ _ => Cert.Window.Gen.frame m ρ
theorem windowIdeal_frame : Cert.quiescent_WindowIdeal := fun m ρ _ => Cert.WindowIdeal.Gen.frame m ρ
theorem windowRef_frame : Cert.quiescent_WindowRefIdeal := fun m ρ _ =>
  (θ_run Cert.WindowRefIdeal.defs _ _).mono (fun r h => ⟨fun c => (h c).2.2.2, Idealize.ShloMosaic.sem_eq_zero_of_no_sems (by decide) r.2⟩)
    (Cert.WindowRefIdeal.Value.run (F := Ideal) m ρ)

/-- The mask's constant is read as minus infinity, as the table of named constants says. -/
theorem window_preserves : Cert.preserves_Window_WindowIdeal :=
  IdealRules.named_const.statement Cert.WindowIdeal.κ "mask" .f32 0xF149F2CA#32 ⊥ rfl

/-- Kernel and reference leave the same weighted means, logarithms of totals and saved weighted means. -/
theorem window_value : Cert.algebraic_WindowIdeal_WindowRefIdeal := fun m g m' g' _ hag =>
  ⟨fun c => _, fun c => _, fun c => _,
    (θ_run _ _ _).mono (fun r h c => by
      obtain ⟨h0, h1, h2, hr⟩ := h c
      exact ⟨h0.trans (Cert.WindowIdeal.Hand.final6 m c), h1.trans (Cert.WindowIdeal.Hand.final7 m c),
        h2.trans (Cert.WindowIdeal.Hand.final8 m c), hr⟩)
      (Cert.WindowIdeal.Value.run_blocks m g),
    (θ_run _ _ _).mono (fun r h c => by
      obtain ⟨h0, h1, h2, hr⟩ := h c
      obtain ⟨a0, a1⟩ := hag c
      rw [a0, a1] at h0 h1 h2
      exact ⟨h0, h1, h2, hr⟩)
      (Cert.WindowRefIdeal.Hand.run m' g')⟩

end Cert.Proof
-- ==== Proof.lean ====
module

public import proofs.«01_k».proof.Defs
public import proofs.«01_k».proof.Proof.Gen.LossIdeal.Frame
public import proofs.«01_k».proof.Proof.Gen.Window.Frame
public import proofs.«01_k».proof.Proof.Gen.WindowIdeal.Value
public import proofs.«01_k».proof.Proof.Gen.WindowRefIdeal.Run
public import proofs.«01_k».proof.Proof.Gen.Loss.Frame
public import proofs.«01_k».proof.Proof.Gen.NormGrad.Frame
public import proofs.«01_k».proof.Proof.Gen.NormGradQd.Frame
public import proofs.«01_k».proof.Proof.Gen.NormGradFfn.Frame
public import proofs.«01_k».proof.Proof.Gen.NormGradFfnRefIdeal.Run
public import proofs.«01_k».proof.Proof.Gen.NormGradFfnIdeal.Value
public import proofs.«01_k».proof.Proof.Gen.NormGradQdRefIdeal.Run
public import proofs.«01_k».proof.Proof.Gen.NormGradQdIdeal.Value
public import proofs.«01_k».proof.Proof.Gen.NormGradRefIdeal.Run
public import proofs.«01_k».proof.Proof.Gen.NormGradIdeal.Value
public import proofs.«01_k».proof.Proof.Gen.LossRefIdeal.Run
public import proofs.«01_k».proof.Proof.Gen.AdamSmallRefIdeal.Run
public import proofs.«01_k».proof.Proof.Gen.AdamSmallIdeal.Value
public import proofs.«01_k».proof.Proof.Gen.AdamConvWRefIdeal.Run
public import proofs.«01_k».proof.Proof.Gen.AdamConvWIdeal.Value
public import proofs.«01_k».proof.Proof.Gen.AdamWFfnOutRefIdeal.Run
public import proofs.«01_k».proof.Proof.Gen.AdamWFfnOutIdeal.Value
public import proofs.«01_k».proof.Proof.Gen.AdamWFfnInRefIdeal.Run
public import proofs.«01_k».proof.Proof.Gen.AdamWFfnInIdeal.Value
public import proofs.«01_k».proof.Proof.Gen.AdamWOutRefIdeal.Run
public import proofs.«01_k».proof.Proof.Gen.AdamWOutIdeal.Value
public import proofs.«01_k».proof.Proof.Gen.AdamWBranchRefIdeal.Run
public import proofs.«01_k».proof.Proof.Gen.AdamWBranchIdeal.Value
public import proofs.«01_k».proof.Proof.Gen.AdamWInRefIdeal.Run
public import proofs.«01_k».proof.Proof.Gen.AdamWInIdeal.Value
public import proofs.«01_k».proof.Proof.Gen.SumSmallRefIdeal.Run
public import proofs.«01_k».proof.Proof.Gen.SumSmallIdeal.Value
public import proofs.«01_k».proof.Proof.Gen.SumWRowsRefIdeal.Run
public import proofs.«01_k».proof.Proof.Gen.SumWRowsIdeal.Value
public import proofs.«01_k».proof.Proof.Gen.SumWFfnInRefIdeal.Run
public import proofs.«01_k».proof.Proof.Gen.SumWFfnInIdeal.Value
public import proofs.«01_k».proof.Proof.Gen.SumWInRefIdeal.Run
public import proofs.«01_k».proof.Proof.Gen.SumWInIdeal.Value
public import proofs.«01_k».proof.Proof.Gen.FfnOutNormRefIdeal.Run
public import proofs.«01_k».proof.Proof.Gen.FfnOutNormIdeal.Value
public import proofs.«01_k».proof.Proof.Gen.WOutNormRefIdeal.Run
public import proofs.«01_k».proof.Proof.Gen.WOutNormIdeal.Value
public import proofs.«01_k».proof.Proof.Gen.FfnInRefIdeal.Run
public import proofs.«01_k».proof.Proof.Gen.FfnInIdeal.Value
public import proofs.«01_k».proof.Proof.Gen.BranchMergeRefIdeal.Run
public import proofs.«01_k».proof.Proof.Gen.BranchMergeIdeal.Value
public import proofs.«01_k».proof.Proof.Gen.ProjQdRefIdeal.Run
public import proofs.«01_k».proof.Proof.Gen.ProjQdIdeal.Value
public import proofs.«01_k».proof.Proof.Gen.ProjQsRefIdeal.Run
public import proofs.«01_k».proof.Proof.Gen.ProjQsIdeal.Value
public import proofs.«01_k».proof.Proof.Gen.ProjFRefIdeal.Run
public import proofs.«01_k».proof.Proof.Gen.ProjFIdeal.Value
public import proofs.«01_k».proof.Proof.Gen.DxQdRefIdeal.Run
public import proofs.«01_k».proof.Proof.Gen.DxQdIdeal.Value
public import proofs.«01_k».proof.Proof.Gen.DxQsRefIdeal.Run
public import proofs.«01_k».proof.Proof.Gen.DxQsIdeal.Value
public import proofs.«01_k».proof.Proof.Gen.DxFRefIdeal.Run
public import proofs.«01_k».proof.Proof.Gen.DxFIdeal.Value
public import proofs.«01_k».proof.Proof.Gen.DBranchWideRefIdeal.Run
public import proofs.«01_k».proof.Proof.Gen.DBranchWideIdeal.Value
public import proofs.«01_k».proof.Proof.Gen.DBranchRefIdeal.Run
public import proofs.«01_k».proof.Proof.Gen.DBranchIdeal.Value
public import proofs.«01_k».proof.Proof.Gen.DwInQdRefIdeal.Run
public import proofs.«01_k».proof.Proof.Gen.DwInQdIdeal.Value
public import proofs.«01_k».proof.Proof.Gen.DwInQsRefIdeal.Run
public import proofs.«01_k».proof.Proof.Gen.DwInQsIdeal.Value
public import proofs.«01_k».proof.Proof.Gen.DwInFRefIdeal.Run
public import proofs.«01_k».proof.Proof.Gen.DwInFIdeal.Value
public import proofs.«01_k».proof.Proof.Gen.DwOutRefIdeal.Run
public import proofs.«01_k».proof.Proof.Gen.DwOutIdeal.Value
public import proofs.«01_k».proof.Proof.Gen.DwFfnInRefIdeal.Run
public import proofs.«01_k».proof.Proof.Gen.DwFfnInIdeal.Value
public import proofs.«01_k».proof.Proof.Gen.DwFfnOutRefIdeal.Run
public import proofs.«01_k».proof.Proof.Gen.DwFfnOutIdeal.Value
public import proofs.«01_k».proof.Proof.Gen.SwigluRefIdeal.Run
public import proofs.«01_k».proof.Proof.Gen.SwigluIdeal.Value
public import proofs.«01_k».proof.Proof.Gen.MergeRefIdeal.Run
public import proofs.«01_k».proof.Proof.Gen.MergeIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.DwFfnOut
public import proofs.«01_k».proof.Proof.Gen.DwFfnOut.Skeleton
public import proofs.«01_k».proof.Proof.Gen.DwFfnOut.Launch
public import proofs.«01_k».proof.Proof.Gen.DwFfnOut.Points
public import proofs.«01_k».proof.Proof.Gen.DwFfnOut.Frame
public import proofs.«01_k».proof.Proof.Gen.DwFfnOutIdeal
public import proofs.«01_k».proof.Proof.Gen.DwFfnOutIdeal.Skeleton
public import proofs.«01_k».proof.Proof.Gen.DwFfnOutIdeal.Launch
public import proofs.«01_k».proof.Proof.Gen.DwFfnOutIdeal.Points
public import proofs.«01_k».proof.Proof.Gen.DwFfnOutIdeal.Frame
public import proofs.«01_k».proof.Proof.Gen.DwFfnOutRefIdeal
public import proofs.«01_k».proof.Proof.Gen.DwFfnIn
public import proofs.«01_k».proof.Proof.Gen.DwFfnIn.Skeleton
public import proofs.«01_k».proof.Proof.Gen.DwFfnIn.Launch
public import proofs.«01_k».proof.Proof.Gen.DwFfnIn.Points
public import proofs.«01_k».proof.Proof.Gen.DwFfnIn.Frame
public import proofs.«01_k».proof.Proof.Gen.DwFfnInIdeal
public import proofs.«01_k».proof.Proof.Gen.DwFfnInIdeal.Skeleton
public import proofs.«01_k».proof.Proof.Gen.DwFfnInIdeal.Launch
public import proofs.«01_k».proof.Proof.Gen.DwFfnInIdeal.Points
public import proofs.«01_k».proof.Proof.Gen.DwFfnInIdeal.Frame
public import proofs.«01_k».proof.Proof.Gen.DwFfnInRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwInF
public import proofs.«01_k».proof.Proof.Gen.DwInF.Skeleton
public import proofs.«01_k».proof.Proof.Gen.DwInF.Launch
public import proofs.«01_k».proof.Proof.Gen.DwInF.Points
public import proofs.«01_k».proof.Proof.Gen.DwInF.Frame
public import proofs.«01_k».proof.Proof.Gen.DwInFIdeal
public import proofs.«01_k».proof.Proof.Gen.DwInFIdeal.Skeleton
public import proofs.«01_k».proof.Proof.Gen.DwInFIdeal.Launch
public import proofs.«01_k».proof.Proof.Gen.DwInFIdeal.Points
public import proofs.«01_k».proof.Proof.Gen.DwInFIdeal.Frame
public import proofs.«01_k».proof.Proof.Gen.DwInFRefIdeal
public import proofs.«01_k».proof.Proof.Gen.DwInQs
public import proofs.«01_k».proof.Proof.Gen.DwInQs.Skeleton
public import proofs.«01_k».proof.Proof.Gen.DwInQs.Launch
public import proofs.«01_k».proof.Proof.Gen.DwInQs.Points
public import proofs.«01_k».proof.Proof.Gen.DwInQs.Frame
public import proofs.«01_k».proof.Proof.Gen.DwInQsIdeal
public import proofs.«01_k».proof.Proof.Gen.DwInQsIdeal.Skeleton
public import proofs.«01_k».proof.Proof.Gen.DwInQsIdeal.Launch
public import proofs.«01_k».proof.Proof.Gen.DwInQsIdeal.Points
public import proofs.«01_k».proof.Proof.Gen.DwInQsIdeal.Frame
public import proofs.«01_k».proof.Proof.Gen.DwInQsRefIdeal
public import proofs.«01_k».proof.Proof.Gen.DwInQd
public import proofs.«01_k».proof.Proof.Gen.DwInQd.Skeleton
public import proofs.«01_k».proof.Proof.Gen.DwInQd.Launch
public import proofs.«01_k».proof.Proof.Gen.DwInQd.Points
public import proofs.«01_k».proof.Proof.Gen.DwInQd.Frame
public import proofs.«01_k».proof.Proof.Gen.DwInQdIdeal
public import proofs.«01_k».proof.Proof.Gen.DwInQdIdeal.Skeleton
public import proofs.«01_k».proof.Proof.Gen.DwInQdIdeal.Launch
public import proofs.«01_k».proof.Proof.Gen.DwInQdIdeal.Points
public import proofs.«01_k».proof.Proof.Gen.DwInQdIdeal.Frame
public import proofs.«01_k».proof.Proof.Gen.DwInQdRefIdeal
public import proofs.«01_k».proof.Proof.Gen.DBranch
public import proofs.«01_k».proof.Proof.Gen.DBranch.Skeleton
public import proofs.«01_k».proof.Proof.Gen.DBranch.Launch
public import proofs.«01_k».proof.Proof.Gen.DBranch.Points
public import proofs.«01_k».proof.Proof.Gen.DBranch.Frame
public import proofs.«01_k».proof.Proof.Gen.DBranchIdeal
public import proofs.«01_k».proof.Proof.Gen.DBranchIdeal.Skeleton
public import proofs.«01_k».proof.Proof.Gen.DBranchIdeal.Launch
public import proofs.«01_k».proof.Proof.Gen.DBranchIdeal.Points
public import proofs.«01_k».proof.Proof.Gen.DBranchIdeal.Frame
public import proofs.«01_k».proof.Proof.Gen.DBranchRefIdeal
public import proofs.«01_k».proof.Proof.Gen.DBranchWide
public import proofs.«01_k».proof.Proof.Gen.DBranchWide.Skeleton
public import proofs.«01_k».proof.Proof.Gen.DBranchWide.Launch
public import proofs.«01_k».proof.Proof.Gen.DBranchWide.Points
public import proofs.«01_k».proof.Proof.Gen.DBranchWide.Frame
public import proofs.«01_k».proof.Proof.Gen.DBranchWideIdeal
public import proofs.«01_k».proof.Proof.Gen.DBranchWideIdeal.Skeleton
public import proofs.«01_k».proof.Proof.Gen.DBranchWideIdeal.Launch
public import proofs.«01_k».proof.Proof.Gen.DBranchWideIdeal.Points
public import proofs.«01_k».proof.Proof.Gen.DBranchWideIdeal.Frame
public import proofs.«01_k».proof.Proof.Gen.DBranchWideRefIdeal
public import proofs.«01_k».proof.Proof.Gen.DxF
public import proofs.«01_k».proof.Proof.Gen.DxF.Skeleton
public import proofs.«01_k».proof.Proof.Gen.DxF.Launch
public import proofs.«01_k».proof.Proof.Gen.DxF.Points
public import proofs.«01_k».proof.Proof.Gen.DxF.Frame
public import proofs.«01_k».proof.Proof.Gen.DxFIdeal
public import proofs.«01_k».proof.Proof.Gen.DxFIdeal.Skeleton
public import proofs.«01_k».proof.Proof.Gen.DxFIdeal.Launch
public import proofs.«01_k».proof.Proof.Gen.DxFIdeal.Points
public import proofs.«01_k».proof.Proof.Gen.DxFIdeal.Frame
public import proofs.«01_k».proof.Proof.Gen.DxFRefIdeal
public import proofs.«01_k».proof.Proof.Gen.DxQs
public import proofs.«01_k».proof.Proof.Gen.DxQs.Skeleton
public import proofs.«01_k».proof.Proof.Gen.DxQs.Launch
public import proofs.«01_k».proof.Proof.Gen.DxQs.Points
public import proofs.«01_k».proof.Proof.Gen.DxQs.Frame
public import proofs.«01_k».proof.Proof.Gen.DxQsIdeal
public import proofs.«01_k».proof.Proof.Gen.DxQsIdeal.Skeleton
public import proofs.«01_k».proof.Proof.Gen.DxQsIdeal.Launch
public import proofs.«01_k».proof.Proof.Gen.DxQsIdeal.Points
public import proofs.«01_k».proof.Proof.Gen.DxQsIdeal.Frame
public import proofs.«01_k».proof.Proof.Gen.DxQsRefIdeal
public import proofs.«01_k».proof.Proof.Gen.DxQd
public import proofs.«01_k».proof.Proof.Gen.DxQd.Skeleton
public import proofs.«01_k».proof.Proof.Gen.DxQd.Launch
public import proofs.«01_k».proof.Proof.Gen.DxQd.Points
public import proofs.«01_k».proof.Proof.Gen.DxQd.Frame
public import proofs.«01_k».proof.Proof.Gen.DxQdIdeal
public import proofs.«01_k».proof.Proof.Gen.DxQdIdeal.Skeleton
public import proofs.«01_k».proof.Proof.Gen.DxQdIdeal.Launch
public import proofs.«01_k».proof.Proof.Gen.DxQdIdeal.Points
public import proofs.«01_k».proof.Proof.Gen.DxQdIdeal.Frame
public import proofs.«01_k».proof.Proof.Gen.DxQdRefIdeal
public import proofs.«01_k».proof.Proof.Gen.ProjF
public import proofs.«01_k».proof.Proof.Gen.ProjF.Skeleton
public import proofs.«01_k».proof.Proof.Gen.ProjF.Launch
public import proofs.«01_k».proof.Proof.Gen.ProjF.Points
public import proofs.«01_k».proof.Proof.Gen.ProjF.Frame
public import proofs.«01_k».proof.Proof.Gen.ProjFIdeal
public import proofs.«01_k».proof.Proof.Gen.ProjFIdeal.Skeleton
public import proofs.«01_k».proof.Proof.Gen.ProjFIdeal.Launch
public import proofs.«01_k».proof.Proof.Gen.ProjFIdeal.Points
public import proofs.«01_k».proof.Proof.Gen.ProjFIdeal.Frame
public import proofs.«01_k».proof.Proof.Gen.ProjFRefIdeal
public import proofs.«01_k».proof.Proof.Gen.ProjQs
public import proofs.«01_k».proof.Proof.Gen.ProjQs.Skeleton
public import proofs.«01_k».proof.Proof.Gen.ProjQs.Launch
public import proofs.«01_k».proof.Proof.Gen.ProjQs.Points
public import proofs.«01_k».proof.Proof.Gen.ProjQs.Frame
public import proofs.«01_k».proof.Proof.Gen.ProjQsIdeal
public import proofs.«01_k».proof.Proof.Gen.ProjQsIdeal.Skeleton
public import proofs.«01_k».proof.Proof.Gen.ProjQsIdeal.Launch
public import proofs.«01_k».proof.Proof.Gen.ProjQsIdeal.Points
public import proofs.«01_k».proof.Proof.Gen.ProjQsIdeal.Frame
public import proofs.«01_k».proof.Proof.Gen.ProjQsRefIdeal
public import proofs.«01_k».proof.Proof.Gen.ProjQd
public import proofs.«01_k».proof.Proof.Gen.ProjQd.Skeleton
public import proofs.«01_k».proof.Proof.Gen.ProjQd.Launch
public import proofs.«01_k».proof.Proof.Gen.ProjQd.Points
public import proofs.«01_k».proof.Proof.Gen.ProjQd.Frame
public import proofs.«01_k».proof.Proof.Gen.ProjQdIdeal
public import proofs.«01_k».proof.Proof.Gen.ProjQdIdeal.Skeleton
public import proofs.«01_k».proof.Proof.Gen.ProjQdIdeal.Launch
public import proofs.«01_k».proof.Proof.Gen.ProjQdIdeal.Points
public import proofs.«01_k».proof.Proof.Gen.ProjQdIdeal.Frame
public import proofs.«01_k».proof.Proof.Gen.ProjQdRefIdeal
public import proofs.«01_k».proof.Proof.Gen.BranchMerge
public import proofs.«01_k».proof.Proof.Gen.BranchMerge.Skeleton
public import proofs.«01_k».proof.Proof.Gen.BranchMerge.Launch
public import proofs.«01_k».proof.Proof.Gen.BranchMerge.Points
public import proofs.«01_k».proof.Proof.Gen.BranchMerge.Frame
public import proofs.«01_k».proof.Proof.Gen.BranchMergeIdeal
public import proofs.«01_k».proof.Proof.Gen.BranchMergeIdeal.Skeleton
public import proofs.«01_k».proof.Proof.Gen.BranchMergeIdeal.Launch
public import proofs.«01_k».proof.Proof.Gen.BranchMergeIdeal.Points
public import proofs.«01_k».proof.Proof.Gen.BranchMergeIdeal.Frame
public import proofs.«01_k».proof.Proof.Gen.BranchMergeRefIdeal
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.WOutNorm
public import proofs.«01_k».proof.Proof.Gen.WOutNorm.Skeleton
public import proofs.«01_k».proof.Proof.Gen.WOutNorm.Launch
public import proofs.«01_k».proof.Proof.Gen.WOutNorm.Points
public import proofs.«01_k».proof.Proof.Gen.WOutNorm.Frame
public import proofs.«01_k».proof.Proof.Gen.WOutNormIdeal
public import proofs.«01_k».proof.Proof.Gen.WOutNormIdeal.Skeleton
public import proofs.«01_k».proof.Proof.Gen.WOutNormIdeal.Launch
public import proofs.«01_k».proof.Proof.Gen.WOutNormIdeal.Points
public import proofs.«01_k».proof.Proof.Gen.WOutNormIdeal.Frame
public import proofs.«01_k».proof.Proof.Gen.WOutNormRefIdeal
public import proofs.«01_k».proof.Proof.Gen.FfnOutNorm
public import proofs.«01_k».proof.Proof.Gen.FfnOutNorm.Skeleton
public import proofs.«01_k».proof.Proof.Gen.FfnOutNorm.Launch
public import proofs.«01_k».proof.Proof.Gen.FfnOutNorm.Points
public import proofs.«01_k».proof.Proof.Gen.FfnOutNorm.Frame
public import proofs.«01_k».proof.Proof.Gen.FfnOutNormIdeal
public import proofs.«01_k».proof.Proof.Gen.FfnOutNormIdeal.Skeleton
public import proofs.«01_k».proof.Proof.Gen.FfnOutNormIdeal.Launch
public import proofs.«01_k».proof.Proof.Gen.FfnOutNormIdeal.Points
public import proofs.«01_k».proof.Proof.Gen.FfnOutNormIdeal.Frame
public import proofs.«01_k».proof.Proof.Gen.FfnOutNormRefIdeal
public import proofs.«01_k».proof.Proof.Gen.SumWIn
public import proofs.«01_k».proof.Proof.Gen.SumWIn.Skeleton
public import proofs.«01_k».proof.Proof.Gen.SumWIn.Launch
public import proofs.«01_k».proof.Proof.Gen.SumWIn.Points
public import proofs.«01_k».proof.Proof.Gen.SumWIn.Frame
public import proofs.«01_k».proof.Proof.Gen.SumWInIdeal
public import proofs.«01_k».proof.Proof.Gen.SumWInIdeal.Skeleton
public import proofs.«01_k».proof.Proof.Gen.SumWInIdeal.Launch
public import proofs.«01_k».proof.Proof.Gen.SumWInIdeal.Points
public import proofs.«01_k».proof.Proof.Gen.SumWInIdeal.Frame
public import proofs.«01_k».proof.Proof.Gen.SumWInRefIdeal
public import proofs.«01_k».proof.Proof.Gen.SumWFfnIn
public import proofs.«01_k».proof.Proof.Gen.SumWFfnIn.Skeleton
public import proofs.«01_k».proof.Proof.Gen.SumWFfnIn.Launch
public import proofs.«01_k».proof.Proof.Gen.SumWFfnIn.Points
public import proofs.«01_k».proof.Proof.Gen.SumWFfnIn.Frame
public import proofs.«01_k».proof.Proof.Gen.SumWFfnInIdeal
public import proofs.«01_k».proof.Proof.Gen.SumWFfnInIdeal.Skeleton
public import proofs.«01_k».proof.Proof.Gen.SumWFfnInIdeal.Launch
public import proofs.«01_k».proof.Proof.Gen.SumWFfnInIdeal.Points
public import proofs.«01_k».proof.Proof.Gen.SumWFfnInIdeal.Frame
public import proofs.«01_k».proof.Proof.Gen.SumWFfnInRefIdeal
public import proofs.«01_k».proof.Proof.Gen.SumWRows
public import proofs.«01_k».proof.Proof.Gen.SumWRows.Skeleton
public import proofs.«01_k».proof.Proof.Gen.SumWRows.Launch
public import proofs.«01_k».proof.Proof.Gen.SumWRows.Points
public import proofs.«01_k».proof.Proof.Gen.SumWRows.Frame
public import proofs.«01_k».proof.Proof.Gen.SumWRowsIdeal
public import proofs.«01_k».proof.Proof.Gen.SumWRowsIdeal.Skeleton
public import proofs.«01_k».proof.Proof.Gen.SumWRowsIdeal.Launch
public import proofs.«01_k».proof.Proof.Gen.SumWRowsIdeal.Points
public import proofs.«01_k».proof.Proof.Gen.SumWRowsIdeal.Frame
public import proofs.«01_k».proof.Proof.Gen.SumWRowsRefIdeal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInRefIdeal
public import proofs.«01_k».proof.Proof.Gen.AdamWBranch
public import proofs.«01_k».proof.Proof.Gen.AdamWBranch.Skeleton
public import proofs.«01_k».proof.Proof.Gen.AdamWBranch.Launch
public import proofs.«01_k».proof.Proof.Gen.AdamWBranch.Points
public import proofs.«01_k».proof.Proof.Gen.AdamWBranch.Frame
public import proofs.«01_k».proof.Proof.Gen.AdamWBranchIdeal
public import proofs.«01_k».proof.Proof.Gen.AdamWBranchIdeal.Skeleton
public import proofs.«01_k».proof.Proof.Gen.AdamWBranchIdeal.Launch
public import proofs.«01_k».proof.Proof.Gen.AdamWBranchIdeal.Points
public import proofs.«01_k».proof.Proof.Gen.AdamWBranchIdeal.Frame
public import proofs.«01_k».proof.Proof.Gen.AdamWBranchRefIdeal
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutRefIdeal
public import proofs.«01_k».proof.Proof.Gen.AdamWFfnIn
public import proofs.«01_k».proof.Proof.Gen.AdamWFfnIn.Skeleton
public import proofs.«01_k».proof.Proof.Gen.AdamWFfnIn.Launch
public import proofs.«01_k».proof.Proof.Gen.AdamWFfnIn.Points
public import proofs.«01_k».proof.Proof.Gen.AdamWFfnIn.Frame
public import proofs.«01_k».proof.Proof.Gen.AdamWFfnInIdeal
public import proofs.«01_k».proof.Proof.Gen.AdamWFfnInIdeal.Skeleton
public import proofs.«01_k».proof.Proof.Gen.AdamWFfnInIdeal.Launch
public import proofs.«01_k».proof.Proof.Gen.AdamWFfnInIdeal.Points
public import proofs.«01_k».proof.Proof.Gen.AdamWFfnInIdeal.Frame
public import proofs.«01_k».proof.Proof.Gen.AdamWFfnInRefIdeal
public import proofs.«01_k».proof.Proof.Gen.AdamWFfnOut
public import proofs.«01_k».proof.Proof.Gen.AdamWFfnOut.Skeleton
public import proofs.«01_k».proof.Proof.Gen.AdamWFfnOut.Launch
public import proofs.«01_k».proof.Proof.Gen.AdamWFfnOut.Points
public import proofs.«01_k».proof.Proof.Gen.AdamWFfnOut.Frame
public import proofs.«01_k».proof.Proof.Gen.AdamWFfnOutIdeal
public import proofs.«01_k».proof.Proof.Gen.AdamWFfnOutIdeal.Skeleton
public import proofs.«01_k».proof.Proof.Gen.AdamWFfnOutIdeal.Launch
public import proofs.«01_k».proof.Proof.Gen.AdamWFfnOutIdeal.Points
public import proofs.«01_k».proof.Proof.Gen.AdamWFfnOutIdeal.Frame
public import proofs.«01_k».proof.Proof.Gen.AdamWFfnOutRefIdeal
public import proofs.«01_k».proof.Proof.Gen.AdamConvW
public import proofs.«01_k».proof.Proof.Gen.AdamConvW.Skeleton
public import proofs.«01_k».proof.Proof.Gen.AdamConvW.Launch
public import proofs.«01_k».proof.Proof.Gen.AdamConvW.Points
public import proofs.«01_k».proof.Proof.Gen.AdamConvW.Frame
public import proofs.«01_k».proof.Proof.Gen.AdamConvWIdeal
public import proofs.«01_k».proof.Proof.Gen.AdamConvWIdeal.Skeleton
public import proofs.«01_k».proof.Proof.Gen.AdamConvWIdeal.Launch
public import proofs.«01_k».proof.Proof.Gen.AdamConvWIdeal.Points
public import proofs.«01_k».proof.Proof.Gen.AdamConvWIdeal.Frame
public import proofs.«01_k».proof.Proof.Gen.AdamConvWRefIdeal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.Pre_swiglu_finite
public import proofs.«01_k».proof.Proof.Gen.Pre_norm_finite
public import proofs.«01_k».proof.Proof.Gen.Pre_norm_qd_finite
public import proofs.«01_k».proof.Proof.Gen.Pre_norm_ffn_finite
public import proofs.«01_k».proof.Proof.MergeClaim
public import proofs.«01_k».proof.Proof.SwigluClaim
public import proofs.«01_k».proof.Proof.WeightGradientClaims
public import proofs.«01_k».proof.Proof.InputGradientClaims
public import proofs.«01_k».proof.Proof.ProjectionClaims
public import proofs.«01_k».proof.Proof.NormClaims
public import proofs.«01_k».proof.Proof.GatedClaims
public import proofs.«01_k».proof.Proof.SumClaims
public import proofs.«01_k».proof.Proof.OptimiserClaims
public import proofs.«01_k».proof.Proof.NormGradClaims
public import proofs.«01_k».proof.Proof.LossClaims
public import proofs.«01_k».proof.Proof.WindowClaims
public import Idealize.ShloMosaic.Adequacy
public import Idealize.ShloMosaic.Init

@[expose] public section

noncomputable section

namespace Cert.Proof

open Idealize.ShloMosaic Idealize.SL.Sem Cert.Merge

theorem claim : Cert.Claim := ⟨
  Cert.Merge.Gen.facts, Cert.MergeIdeal.Gen.facts, Cert.MergeRefIdeal.Gen.facts, Cert.Swiglu.Gen.facts, Cert.SwigluIdeal.Gen.facts,
  Cert.SwigluRefIdeal.Gen.facts, Cert.NormGrad.Gen.facts, Cert.NormGradIdeal.Gen.facts, Cert.NormGradRefIdeal.Gen.facts, Cert.NormGradQd.Gen.facts,
  Cert.NormGradQdIdeal.Gen.facts, Cert.NormGradQdRefIdeal.Gen.facts, Cert.NormGradFfn.Gen.facts, Cert.NormGradFfnIdeal.Gen.facts,
  Cert.NormGradFfnRefIdeal.Gen.facts, Cert.Window.Gen.facts, Cert.WindowIdeal.Gen.facts, Cert.WindowRefIdeal.Gen.facts, Cert.Loss.Gen.facts,
  Cert.LossIdeal.Gen.facts, Cert.LossRefIdeal.Gen.facts, Cert.DwFfnOut.Gen.facts, Cert.DwFfnOutIdeal.Gen.facts, Cert.DwFfnOutRefIdeal.Gen.facts,
  Cert.DwFfnIn.Gen.facts, Cert.DwFfnInIdeal.Gen.facts, Cert.DwFfnInRefIdeal.Gen.facts, Cert.DwOut.Gen.facts, Cert.DwOutIdeal.Gen.facts,
  Cert.DwOutRefIdeal.Gen.facts, Cert.DwInF.Gen.facts, Cert.DwInFIdeal.Gen.facts, Cert.DwInFRefIdeal.Gen.facts, Cert.DwInQs.Gen.facts,
  Cert.DwInQsIdeal.Gen.facts, Cert.DwInQsRefIdeal.Gen.facts, Cert.DwInQd.Gen.facts, Cert.DwInQdIdeal.Gen.facts, Cert.DwInQdRefIdeal.Gen.facts,
  Cert.DBranch.Gen.facts, Cert.DBranchIdeal.Gen.facts, Cert.DBranchRefIdeal.Gen.facts, Cert.DBranchWide.Gen.facts, Cert.DBranchWideIdeal.Gen.facts,
  Cert.DBranchWideRefIdeal.Gen.facts, Cert.DxF.Gen.facts, Cert.DxFIdeal.Gen.facts, Cert.DxFRefIdeal.Gen.facts, Cert.DxQs.Gen.facts,
  Cert.DxQsIdeal.Gen.facts, Cert.DxQsRefIdeal.Gen.facts, Cert.DxQd.Gen.facts, Cert.DxQdIdeal.Gen.facts, Cert.DxQdRefIdeal.Gen.facts,
  Cert.ProjF.Gen.facts, Cert.ProjFIdeal.Gen.facts, Cert.ProjFRefIdeal.Gen.facts, Cert.ProjQs.Gen.facts, Cert.ProjQsIdeal.Gen.facts,
  Cert.ProjQsRefIdeal.Gen.facts, Cert.ProjQd.Gen.facts, Cert.ProjQdIdeal.Gen.facts, Cert.ProjQdRefIdeal.Gen.facts, Cert.BranchMerge.Gen.facts,
  Cert.BranchMergeIdeal.Gen.facts, Cert.BranchMergeRefIdeal.Gen.facts, Cert.FfnIn.Gen.facts, Cert.FfnInIdeal.Gen.facts, Cert.FfnInRefIdeal.Gen.facts,
  Cert.WOutNorm.Gen.facts, Cert.WOutNormIdeal.Gen.facts, Cert.WOutNormRefIdeal.Gen.facts, Cert.FfnOutNorm.Gen.facts, Cert.FfnOutNormIdeal.Gen.facts,
  Cert.FfnOutNormRefIdeal.Gen.facts, Cert.SumWIn.Gen.facts, Cert.SumWInIdeal.Gen.facts, Cert.SumWInRefIdeal.Gen.facts, Cert.SumWFfnIn.Gen.facts,
  Cert.SumWFfnInIdeal.Gen.facts, Cert.SumWFfnInRefIdeal.Gen.facts, Cert.SumWRows.Gen.facts, Cert.SumWRowsIdeal.Gen.facts,
  Cert.SumWRowsRefIdeal.Gen.facts, Cert.SumSmall.Gen.facts, Cert.SumSmallIdeal.Gen.facts, Cert.SumSmallRefIdeal.Gen.facts, Cert.AdamWIn.Gen.facts,
  Cert.AdamWInIdeal.Gen.facts, Cert.AdamWInRefIdeal.Gen.facts, Cert.AdamWBranch.Gen.facts, Cert.AdamWBranchIdeal.Gen.facts,
  Cert.AdamWBranchRefIdeal.Gen.facts, Cert.AdamWOut.Gen.facts, Cert.AdamWOutIdeal.Gen.facts, Cert.AdamWOutRefIdeal.Gen.facts,
  Cert.AdamWFfnIn.Gen.facts, Cert.AdamWFfnInIdeal.Gen.facts, Cert.AdamWFfnInRefIdeal.Gen.facts, Cert.AdamWFfnOut.Gen.facts,
  Cert.AdamWFfnOutIdeal.Gen.facts, Cert.AdamWFfnOutRefIdeal.Gen.facts, Cert.AdamConvW.Gen.facts, Cert.AdamConvWIdeal.Gen.facts,
  Cert.AdamConvWRefIdeal.Gen.facts, Cert.AdamSmall.Gen.facts, Cert.AdamSmallIdeal.Gen.facts, Cert.AdamSmallRefIdeal.Gen.facts,
  Cert.Pre_swiglu_finite.Gen.facts, Cert.Pre_norm_finite.Gen.facts, Cert.Pre_norm_qd_finite.Gen.facts, Cert.Pre_norm_ffn_finite.Gen.facts,
  merge_frame, mergeIdeal_frame, mergeRef_frame, swiglu_frame, swigluIdeal_frame, swigluIdeal_frame_pre, swigluRef_frame, swigluRef_frame_pre,
  normGrad_frame, normGradIdeal_frame, normGradIdeal_frame_pre, normGradRef_frame, normGradRef_frame_pre, normGradQd_frame, normGradQdIdeal_frame,
  normGradQdIdeal_frame_pre, normGradQdRef_frame, normGradQdRef_frame_pre, normGradFfn_frame, normGradFfnIdeal_frame, normGradFfnIdeal_frame_pre,
  normGradFfnRef_frame, normGradFfnRef_frame_pre, window_frame, windowIdeal_frame, windowRef_frame, loss_frame, lossIdeal_frame, lossRef_frame,
  dwFfnOut_frame, dwFfnOutIdeal_frame, dwFfnOutRef_frame, dwFfnIn_frame, dwFfnInIdeal_frame, dwFfnInRef_frame, dwOut_frame, dwOutIdeal_frame,
  dwOutRef_frame, dwInF_frame, dwInFIdeal_frame, dwInFRef_frame, dwInQs_frame, dwInQsIdeal_frame, dwInQsRef_frame, dwInQd_frame, dwInQdIdeal_frame,
  dwInQdRef_frame, dBranch_frame, dBranchIdeal_frame, dBranchRef_frame, dBranchWide_frame, dBranchWideIdeal_frame, dBranchWideRef_frame, dxF_frame,
  dxFIdeal_frame, dxFRef_frame, dxQs_frame, dxQsIdeal_frame, dxQsRef_frame, dxQd_frame, dxQdIdeal_frame, dxQdRef_frame, projF_frame, projFIdeal_frame,
  projFRef_frame, projQs_frame, projQsIdeal_frame, projQsRef_frame, projQd_frame, projQdIdeal_frame, projQdRef_frame, branchMerge_frame,
  branchMergeIdeal_frame, branchMergeRef_frame, ffnIn_frame, ffnInIdeal_frame, ffnInRef_frame, wOutNorm_frame, wOutNormIdeal_frame, wOutNormRef_frame,
  ffnOutNorm_frame, ffnOutNormIdeal_frame, ffnOutNormRef_frame, sumWIn_frame, sumWInIdeal_frame, sumWInRef_frame, sumWFfnIn_frame,
  sumWFfnInIdeal_frame, sumWFfnInRef_frame, sumWRows_frame, sumWRowsIdeal_frame, sumWRowsRef_frame, sumSmall_frame, sumSmallIdeal_frame,
  sumSmallRef_frame, adamWIn_frame, adamWInIdeal_frame, adamWInRef_frame, adamWBranch_frame, adamWBranchIdeal_frame, adamWBranchRef_frame,
  adamWOut_frame, adamWOutIdeal_frame, adamWOutRef_frame, adamWFfnIn_frame, adamWFfnInIdeal_frame, adamWFfnInRef_frame, adamWFfnOut_frame,
  adamWFfnOutIdeal_frame, adamWFfnOutRef_frame, adamConvW_frame, adamConvWIdeal_frame, adamConvWRef_frame, adamSmall_frame, adamSmallIdeal_frame,
  adamSmallRef_frame,
  trivial, merge_value, trivial, swiglu_value, trivial, normGrad_value, trivial, normGradQd_value, trivial, normGradFfn_value, window_preserves,
  window_value, trivial, loss_value, trivial, dwFfnOut_value, trivial, dwFfnIn_value, trivial, dwOut_value, trivial, dwInF_value, trivial,
  dwInQs_value, trivial, dwInQd_value, trivial, dBranch_value, trivial, dBranchWide_value, trivial, dxF_value, trivial, dxQs_value, trivial,
  dxQd_value, trivial, projF_value, trivial, projQs_value, trivial, projQd_value, trivial, branchMerge_value, trivial, ffnIn_value, trivial,
  wOutNorm_value, trivial, ffnOutNorm_value, trivial, sumWIn_value, trivial, sumWFfnIn_value, trivial, sumWRows_value, trivial, sumSmall_value,
  trivial, adamWIn_value, trivial, adamWBranch_value, trivial, adamWOut_value, trivial, adamWFfnIn_value, trivial, adamWFfnOut_value, trivial,
  adamConvW_value, trivial, adamSmall_value⟩

end Cert.Proof

end
